-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite7 [hPre_finite7 : Cert.Pre_finite7.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite7.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite7.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite7.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite7.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.1 = (fun _ => 1#1)
    ∧ (Cert.Pre_finite7.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite7 [hPre_finite7 : Cert.Pre_finite7.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite7.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite7.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite7.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite7.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.1 = (fun _ => 1#1)
    ∧ (Cert.Pre_finite7.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2.1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2.2.1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2.2.2.1 = (fun _ => 1#1)
    ∧ (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2.2.2.2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2.1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2.2.1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2.2.2.1 = (fun _ => 1#1)
    ∧ (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite7 [hKernel8Ideal : Cert.Kernel8Ideal.Facts] [hPre_finite7 : Cert.Pre_finite7.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite7 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite7 [hReference8Ideal : Cert.Reference8Ideal.Facts] [hPre_finite7 : Cert.Pre_finite7.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite7 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)) (v4 : (c : Dev Cert.KernelIdeal.nD) → Buf (Elt Ideal) ((c.tc : Thread Cert.KernelIdeal.nD Cert.KernelIdeal.τ).loc Cert.KernelIdeal.main_v36_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_v36_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite7 [hKernel8Ideal : Cert.Kernel8Ideal.Facts] [hReference8Ideal : Cert.Reference8Ideal.Facts] [hPre_finite7 : Cert.Pre_finite7.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite7 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v24) = v2 c
          ∧ r.2.mem ((c.tc : Thread Cert.Reference8Ideal.nD Cert.Reference8Ideal.τ).loc Cert.Reference8Ideal.main_v43) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v38) = v0 c
          ∧ r.2.mem ((c.tc : Thread Cert.Reference23Ideal.nD Cert.Reference23Ideal.τ).loc Cert.Reference23Ideal.main_v39) = v1 c
          ∧ r.2.mem ((c.tc : Thread Cert.Reference23Ideal.nD Cert.Reference23Ideal.τ).loc Cert.Reference23Ideal.main_v21) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite7 : Cert.Pre_finite7.Facts) (hPre_finite23 : Cert.Pre_finite23.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite7 (hKernel8Ideal := hKernel8Ideal) (hPre_finite7 := hPre_finite7)
    ∧ quiescent_Reference8Ideal (hReference8Ideal := hReference8Ideal)
    ∧ quiescent_Reference8Ideal_pre_finite7 (hReference8Ideal := hReference8Ideal) (hPre_finite7 := hPre_finite7)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite7 (hKernel8Ideal := hKernel8Ideal) (hReference8Ideal := hReference8Ideal) (hPre_finite7 := hPre_finite7)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite23 (hKernel23Ideal := hKernel23Ideal) (hReference23Ideal := hReference23Ideal) (hPre_finite23 := hPre_finite23)
-- ==== Pre_finite.lean ====
abbrev S8192x1024 : Shape := ⟨2, ![8192, 1024]⟩
abbrev S8192x2048 : Shape := ⟨2, ![8192, 2048]⟩
abbrev S8192x16 : Shape := ⟨2, ![8192, 16]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S8192x16 : S_.BroadcastsInDim S8192x16 (![] : Fin 0 → Fin S8192x16.rank)

variable [Facts]

def fn {F : FTy → Type} [FloatOps F] (main_arg0 : FVec F S8192x1024 .bf16) (main_arg1 : FVec F S8192x2048 .bf16) (main_arg2 : FVec F S8192x16 .f32) (main_arg3 : FVec F S8192x1024 .bf16) : IVec S8192x1024 1 × IVec S8192x2048 1 × IVec S8192x16 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S8192x16 .f32 := Host.absf main_arg2
  let main_cst_1 : FVec F S_ .f32 := constant S_ .f32 0x7F800000#32
  let main_v9 : FVec F S8192x16 .f32 := broadcastInDim S8192x16 ![] bcast_S_S8192x16 main_cst_1
  let main_v10 : IVec S8192x16 1 := cmpf .olt main_v8 main_v9
  let main_v11 : FVec F S8192x1024 .f32 := (extf .f32 · bitsLt_bf16_f32) main_arg3
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  (main_v3, main_v7, main_v10, main_v14)
-- ==== Pre_finite23.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S1024x1024 .bf16) (main_arg2 : FVec F S8192x1024 .f32) (main_arg3 : FVec F S8192x1024 .f32) (main_arg4 : FVec F S1x1024 .f32) : IVec S8192x1024 1 × IVec S1024x1024 1 × IVec S8192x1024 1 × IVec S8192x1024 1 × IVec S1x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite7.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S1024x4096 : S_.BroadcastsInDim S1024x4096 (![] : Fin 0 → Fin S1024x4096.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x4096 .bf16) (main_arg1 : FVec F S1024x4096 .bf16) (main_arg2 : FVec F S8192x1024 .f32) (main_arg3 : FVec F S8192x1024 .f32) (main_arg4 : FVec F S1x1024 .f32) : IVec S8192x4096 1 × IVec S1024x4096 1 × IVec S8192x1024 1 × IVec S8192x1024 1 × IVec S1x1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Kernel.lean ====
abbrev S8192x1024 : Shape := ⟨2, ![8192, 1024]⟩
abbrev S8192x2048 : Shape := ⟨2, ![8192, 2048]⟩
abbrev S8192x16 : Shape := ⟨2, ![8192, 16]⟩
abbrev S40 : Shape := ⟨1, ![40]⟩
abbrev S8192x16x64 : Shape := ⟨3, ![8192, 16, 64]⟩
abbrev S16x8192x8192 : Shape := ⟨3, ![16, 8192, 8192]⟩
abbrev S16x8192 : Shape := ⟨2, ![16, 8192]⟩
abbrev S16x1x8192 : Shape := ⟨3, ![16, 1, 8192]⟩
abbrev S8192x8192 : Shape := ⟨2, ![8192, 8192]⟩
abbrev S1x8192x8192 : Shape := ⟨3, ![1, 8192, 8192]⟩
abbrev S_ : Shape := ⟨0, ![]⟩
abbrev S16x8192x1 : Shape := ⟨3, ![16, 8192, 1]⟩
abbrev S16x64x8192 : Shape := ⟨3, ![16, 64, 8192]⟩
abbrev S16x8192x128 : Shape := ⟨3, ![16, 8192, 128]⟩
abbrev S8x2x8192 : Shape := ⟨3, ![8, 2, 8192]⟩
abbrev S8x8x8192 : Shape := ⟨3, ![8, 8, 8192]⟩
abbrev S2048x128 : Shape := ⟨2, ![2048, 128]⟩
abbrev S1 : Shape := ⟨1, ![1]⟩
abbrev S512x128 : Shape := ⟨2, ![512, 128]⟩
abbrev S2x2048x128 : Shape := ⟨3, ![2, 2048, 128]⟩
abbrev S1x8x512 : Shape := ⟨3, ![1, 8, 512]⟩
abbrev S8192x128 : Shape := ⟨2, ![8192, 128]⟩
abbrev S512x512 : Shape := ⟨2, ![512, 512]⟩
abbrev S1x1x512 : Shape := ⟨3, ![1, 1, 512]⟩
abbrev S1x512 : Shape := ⟨2, ![1, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 53
  | .vmem => 24
  | .smem => 2
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x16, .f32⟩
  | .hbm, ⟨3, _⟩ => ⟨S8192x1024, .bf16⟩
  | .hbm, ⟨4, _⟩ => ⟨S8192x1024, .f32⟩
  | .hbm, ⟨5, _⟩ => ⟨S8192x16x64, .f32⟩
  | .hbm, ⟨6, _⟩ => ⟨S8192x1024, .bf16⟩
  | .hbm, ⟨7, _⟩ => ⟨S8192x1024, .f32⟩
  | .hbm, ⟨8, _⟩ => ⟨S8192x16x64, .f32⟩
  | .hbm, ⟨9, _⟩ => ⟨S8192x1024, .bf16⟩
  | .hbm, ⟨10, _⟩ => ⟨S8192x1024, .f32⟩
  | .hbm, ⟨11, _⟩ => ⟨S8192x16x64, .f32⟩
  | .hbm, ⟨12, _⟩ => ⟨S16x8192x8192, .f32⟩
  | .hbm, ⟨13, _⟩ => ⟨S16x8192, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192, .f32⟩
  | .hbm, ⟨28, _⟩ => ⟨S16x8192x1, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .f32⟩
  | .hbm, ⟨37, _⟩ => ⟨S16x64x8192, .f32⟩
  | .hbm, ⟨38, _⟩ => ⟨S8192x16x64, .f32⟩
  | .hbm, ⟨39, _⟩ => ⟨S8192x1024, .f32⟩
  | .hbm, ⟨40, _⟩ => ⟨S16x8192x1, .f32⟩
  | .hbm, ⟨41, _⟩ => ⟨S16x8192x1, .f32⟩
  | .hbm, ⟨42, _⟩ => ⟨S16x8192x128, .f32⟩
  | .hbm, ⟨43, _⟩ => ⟨S16x8192, .f32⟩
  | .hbm, ⟨44, _⟩ => ⟨S8x2x8192, .f32⟩
  | .hbm, ⟨45, _⟩ => ⟨S_, .i32⟩
  | .hbm, ⟨46, _⟩ => ⟨S_, .f32⟩
  | .hbm, ⟨47, _⟩ => ⟨S8x8x8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2x2048x128, .f32⟩
  | .local _ .vmem, ⟨11, _⟩ => ⟨S2x2048x128, .f32⟩
  | .local _ .vmem, ⟨12, _⟩ => ⟨S1x8x512, .f32⟩
  | .local _ .vmem, ⟨13, _⟩ => ⟨S1x8x512, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .smem, ⟨0, _⟩ => ⟨S40, .i32⟩
  | .local _ .smem, ⟨1, _⟩ => ⟨S40, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_call1_v0 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev main_v36_3 : Ref sig .tc := ⟨.hbm, 51, rfl⟩
abbrev main_v36_4 : Ref sig .tc := ⟨.hbm, 52, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c2048_i32 : BitVec 32 := 2048#32
  let v265 : BitVec 32 := Scalar.muli v1 c2048_i32
  let c0_i32_129 : BitVec 32 := 0#32
  let v266 : BitVec 32 := Scalar.addi v265 c0_i32_129
  v266
def k0_cond3 (v1 : BitVec 32) (v3 : BitVec 32) : BitVec 1 :=
  let c4_i32 : BitVec 32 := 4#32
  let v4 : BitVec 32 := Scalar.muli c4_i32 v1
  let v5 : BitVec 32 := Scalar.subi v3 v4
  let c0_i32_3 : BitVec 32 := 0#32
  let v16 : BitVec 1 := Scalar.cmpi .slt v5 c0_i32_3
  let v17 : BitVec 32 := Scalar.extui v16
  let c0_i32_4 : BitVec 32 := 0#32
  let v18 : BitVec 1 := Scalar.cmpi .ne v17 c0_i32_4
  v18

def k0_off2 (v1 : BitVec 32) (c0_i32_129 : BitVec 32) : Fin 2 → Nat :=
  let c2048_i32 : BitVec 32 := 2048#32
  let v265 : BitVec 32 := Scalar.muli v1 c2048_i32
  let v266 : BitVec 32 := Scalar.addi v265 c0_i32_129
  let v267 : BitVec 32 := v266
  let v268 : Index := Scalar.indexCast v267
  let c0_130 : Index := 0#32
  ![v268.toNat, 0]
def k0_mult2 (v1 : BitVec 32) : BitVec 32 :=
  let c2048_i32_140 : BitVec 32 := 2048#32
  let v300 : BitVec 32 := Scalar.muli v1 c2048_i32_140
  let c512_i32 : BitVec 32 := 512#32
  let v301 : BitVec 32 := Scalar.addi v300 c512_i32
  v301
def k0_mult3 (v1 : BitVec 32) : BitVec 32 :=
  let c2048_i32_151 : BitVec 32 := 2048#32
  let v335 : BitVec 32 := Scalar.muli v1 c2048_i32_151
  let c1024_i32 : BitVec 32 := 1024#32
  let v336 : BitVec 32 := Scalar.addi v335 c1024_i32
  v336
def k0_mult4 (v1 : BitVec 32) : BitVec 32 :=
  let c2048_i32_162 : BitVec 32 := 2048#32
  let v370 : BitVec 32 := Scalar.muli v1 c2048_i32_162
  let c1536_i32 : BitVec 32 := 1536#32
  let v371 : BitVec 32 := Scalar.addi v370 c1536_i32
  v371
def k0_mult5 (v1 : BitVec 32) : BitVec 32 :=
  let c2048_i32 : BitVec 32 := 2048#32
  let v275 : BitVec 32 := Scalar.muli v1 c2048_i32
  let c0_i32_131 : BitVec 32 := 0#32
  let v276 : BitVec 32 := Scalar.addi v275 c0_i32_131
  v276
def k0_cond4 (v1 : BitVec 32) (v3 : BitVec 32) : BitVec 1 :=
  let c4_i32 : BitVec 32 := 4#32
  let v4 : BitVec 32 := Scalar.muli c4_i32 v1
  let v5 : BitVec 32 := Scalar.subi v3 v4
  let c0_i32_5 : BitVec 32 := 0#32
  let v19 : BitVec 1 := Scalar.cmpi .eq v5 c0_i32_5
  let v20 : BitVec 32 := Scalar.extui v19
  let c0_i32_6 : BitVec 32 := 0#32
  let v21 : BitVec 1 := Scalar.cmpi .ne v20 c0_i32_6
  v21

def k0_off3 (v1 : BitVec 32) (c0_i32_131 : BitVec 32) : Fin 2 → Nat :=
  let c2048_i32 : BitVec 32 := 2048#32
  let v275 : BitVec 32 := Scalar.muli v1 c2048_i32
  let v276 : BitVec 32 := Scalar.addi v275 c0_i32_131
  let v277 : BitVec 32 := v276
  let v278 : Index := Scalar.indexCast v277
  let c0_132 : Index := 0#32
  ![v278.toNat, 0]
def k0_mult6 (v1 : BitVec 32) : BitVec 32 :=
  let c2048_i32_142 : BitVec 32 := 2048#32
  let v310 : BitVec 32 := Scalar.muli v1 c2048_i32_142
  let c512_i32 : BitVec 32 := 512#32
  let v311 : BitVec 32 := Scalar.addi v310 c512_i32
  v311
def k0_mult7 (v1 : BitVec 32) : BitVec 32 :=
  let c2048_i32_153 : BitVec 32 := 2048#32
  let v345 : BitVec 32 := Scalar.muli v1 c2048_i32_153
  let c1024_i32 : BitVec 32 := 1024#32
  let v346 : BitVec 32 := Scalar.addi v345 c1024_i32
  v346
def k0_mult8 (v1 : BitVec 32) : BitVec 32 :=
  let c2048_i32_164 : BitVec 32 := 2048#32
  let v380 : BitVec 32 := Scalar.muli v1 c2048_i32_164
  let c1536_i32 : BitVec 32 := 1536#32
  let v381 : BitVec 32 := Scalar.addi v380 c1536_i32
  v381
def k0_mult9 (v1 : BitVec 32) : BitVec 32 :=
  let c2048_i32 : BitVec 32 := 2048#32
  let v221 : BitVec 32 := Scalar.muli v1 c2048_i32
  let c512_i32 : BitVec 32 := 512#32
  let v222 : BitVec 32 := Scalar.addi v221 c512_i32
  v222
def k0_cond5 (v1 : BitVec 32) (v3 : BitVec 32) : BitVec 1 :=
  let c4_i32 : BitVec 32 := 4#32
  let v4 : BitVec 32 := Scalar.muli c4_i32 v1
  let v5 : BitVec 32 := Scalar.subi v3 v4
  let c1_i32 : BitVec 32 := 1#32
  let v22 : BitVec 1 := Scalar.cmpi .eq v5 c1_i32
  let v23 : BitVec 32 := Scalar.extui v22
  let c0_i32_7 : BitVec 32 := 0#32
  let v24 : BitVec 1 := Scalar.cmpi .ne v23 c0_i32_7
  v24

def k0_off4 (v1 : BitVec 32) (c512_i32 : BitVec 32) : Fin 2 → Nat :=
  let c2048_i32 : BitVec 32 := 2048#32
  let v221 : BitVec 32 := Scalar.muli v1 c2048_i32
  let v222 : BitVec 32 := Scalar.addi v221 c512_i32
  let v223 : BitVec 32 := v222
  let v224 : Index := Scalar.indexCast v223
  let c0_103 : Index := 0#32
  ![v224.toNat, 0]
def k0_mult10 (v1 : BitVec 32) : BitVec 32 :=
  let c2048_i32_113 : BitVec 32 := 2048#32
  let v256 : BitVec 32 := Scalar.muli v1 c2048_i32_113
  let c1024_i32 : BitVec 32 := 1024#32
  let v257 : BitVec 32 := Scalar.addi v256 c1024_i32
  v257
def k0_mult11 (v1 : BitVec 32) : BitVec 32 :=
  let c2048_i32_124 : BitVec 32 := 2048#32
  let v291 : BitVec 32 := Scalar.muli v1 c2048_i32_124
  let c1536_i32 : BitVec 32 := 1536#32
  let v292 : BitVec 32 := Scalar.addi v291 c1536_i32
  v292
def k0_mult12 (v1 : BitVec 32) : BitVec 32 :=
  let c2048_i32 : BitVec 32 := 2048#32
  let v167 : BitVec 32 := Scalar.muli v1 c2048_i32
  let c1024_i32 : BitVec 32 := 1024#32
  let v168 : BitVec 32 := Scalar.addi v167 c1024_i32
  v168
def k0_cond6 (v1 : BitVec 32) (v3 : BitVec 32) : BitVec 1 :=
  let c4_i32 : BitVec 32 := 4#32
  let v4 : BitVec 32 := Scalar.muli c4_i32 v1
  let v5 : BitVec 32 := Scalar.subi v3 v4
  let c2_i32 : BitVec 32 := 2#32
  let v25 : BitVec 1 := Scalar.cmpi .eq v5 c2_i32
  let v26 : BitVec 32 := Scalar.extui v25
  let c0_i32_8 : BitVec 32 := 0#32
  let v27 : BitVec 1 := Scalar.cmpi .ne v26 c0_i32_8
  v27

def k0_off5 (v1 : BitVec 32) (c1024_i32 : BitVec 32) : Fin 2 → Nat :=
  let c2048_i32 : BitVec 32 := 2048#32
  let v167 : BitVec 32 := Scalar.muli v1 c2048_i32
  let v168 : BitVec 32 := Scalar.addi v167 c1024_i32
  let v169 : BitVec 32 := v168
  let v170 : Index := Scalar.indexCast v169
  let c0_76 : Index := 0#32
  ![v170.toNat, 0]
def k0_mult13 (v1 : BitVec 32) : BitVec 32 :=
  let c2048_i32_86 : BitVec 32 := 2048#32
  let v202 : BitVec 32 := Scalar.muli v1 c2048_i32_86
  let c1536_i32 : BitVec 32 := 1536#32
  let v203 : BitVec 32 := Scalar.addi v202 c1536_i32
  v203
def k0_mult14 (v1 : BitVec 32) : BitVec 32 :=
  let c2048_i32 : BitVec 32 := 2048#32
  let v113 : BitVec 32 := Scalar.muli v1 c2048_i32
  let c1536_i32 : BitVec 32 := 1536#32
  let v114 : BitVec 32 := Scalar.addi v113 c1536_i32
  v114
def k0_cond7 (v1 : BitVec 32) (v3 : BitVec 32) : BitVec 1 :=
  let c4_i32 : BitVec 32 := 4#32
  let v4 : BitVec 32 := Scalar.muli c4_i32 v1
  let v5 : BitVec 32 := Scalar.subi v3 v4
  let c3_i32 : BitVec 32 := 3#32
  let v28 : BitVec 1 := Scalar.cmpi .eq v5 c3_i32
  let v29 : BitVec 32 := Scalar.extui v28
  let c0_i32_9 : BitVec 32 := 0#32
  let v30 : BitVec 1 := Scalar.cmpi .ne v29 c0_i32_9
  v30

def k0_off6 (v1 : BitVec 32) : Fin 2 → Nat :=
  let c2048_i32 : BitVec 32 := 2048#32
  let v113 : BitVec 32 := Scalar.muli v1 c2048_i32
  let c1536_i32 : BitVec 32 := 1536#32
  let v114 : BitVec 32 := Scalar.addi v113 c1536_i32
  let v115 : BitVec 32 := v114
  let v116 : Index := Scalar.indexCast v115
  let c0_49 : Index := 0#32
  ![v116.toNat, 0]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ (r : Fin 4), ∀ a, (k0_off2 v1 (BitVec.ofNat 32 (512 * r.val))) a + S512x128.size a ≤ S8192x128.size a) ∧
  (∀ (k0_h3 : k0_cond3 v1 v3 = 1#1), 512 ∣ (k0_mult2 v1).toNat) ∧
  (∀ (k0_h3 : k0_cond3 v1 v3 = 1#1), 512 ∣ (k0_mult3 v1).toNat) ∧
  (∀ (k0_h3 : k0_cond3 v1 v3 = 1#1), 512 ∣ (k0_mult4 v1).toNat) ∧
  (∀ (k0_h4 : k0_cond4 v1 v3 = 1#1), 512 ∣ (k0_mult5 v1).toNat) ∧
  (∀ (k0_h4 : k0_cond4 v1 v3 = 1#1), ∀ (r : Fin 4), ∀ a, (k0_off3 v1 (BitVec.ofNat 32 (512 * r.val))) a + S512x128.size a ≤ S8192x128.size a) ∧
  (∀ (k0_h4 : k0_cond4 v1 v3 = 1#1), 512 ∣ (k0_mult6 v1).toNat) ∧
  (∀ (k0_h4 : k0_cond4 v1 v3 = 1#1), 512 ∣ (k0_mult7 v1).toNat) ∧
  (∀ (k0_h4 : k0_cond4 v1 v3 = 1#1), 512 ∣ (k0_mult8 v1).toNat) ∧
  (∀ (k0_h5 : k0_cond5 v1 v3 = 1#1), 512 ∣ (k0_mult9 v1).toNat) ∧
  (∀ (k0_h5 : k0_cond5 v1 v3 = 1#1), ∀ (r : Fin 3), ∀ a, (k0_off4 v1 (BitVec.ofNat 32 (512 + 512 * r.val))) a + S512x128.size a ≤ S8192x128.size a) ∧
  (∀ (k0_h5 : k0_cond5 v1 v3 = 1#1), 512 ∣ (k0_mult10 v1).toNat) ∧
  (∀ (k0_h5 : k0_cond5 v1 v3 = 1#1), 512 ∣ (k0_mult11 v1).toNat) ∧
  (∀ (k0_h6 : k0_cond6 v1 v3 = 1#1), 512 ∣ (k0_mult12 v1).toNat) ∧
  (∀ (k0_h6 : k0_cond6 v1 v3 = 1#1), ∀ (r : Fin 2), ∀ a, (k0_off5 v1 (BitVec.ofNat 32 (1024 + 512 * r.val))) a + S512x128.size a ≤ S8192x128.size a) ∧
  (∀ (k0_h6 : k0_cond6 v1 v3 = 1#1), 512 ∣ (k0_mult13 v1).toNat) ∧
  (∀ (k0_h7 : k0_cond7 v1 v3 = 1#1), 512 ∣ (k0_mult14 v1).toNat) ∧
  (∀ (k0_h7 : k0_cond7 v1 v3 = 1#1), ∀ a, (k0_off6 v1) a + S512x128.size a ≤ S8192x128.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ (r : Fin 4), ∀ a, (k0_off2 v1 (BitVec.ofNat 32 (512 * r.val))) a + S512x128.size a ≤ S8192x128.size a := fun v1 v3 k0_hw1 k0_h3 r => k0_hw1.2.1 k0_h3 r
theorem k0_mult2_dvd : ∀ (v1 : BitVec 32) (v3 : BitVec 32) (k0_hw1 : k0_chk1 v1 v3), ∀ (k0_h3 : k0_cond3 v1 v3 = 1#1), 512 ∣ (k0_mult2 v1).toNat := fun v1 v3 k0_hw1 k0_h3 => k0_hw1.2.2.1 k0_h3
theorem k0_mult3_dvd : ∀ (v1 : BitVec 32) (v3 : BitVec 32) (k0_hw1 : k0_chk1 v1 v3), ∀ (k0_h3 : k0_cond3 v1 v3 = 1#1), 512 ∣ (k0_mult3 v1).toNat := fun v1 v3 k0_hw1 k0_h3 => k0_hw1.2.2.2.1 k0_h3
theorem k0_mult4_dvd : ∀ (v1 : BitVec 32) (v3 : BitVec 32) (k0_hw1 : k0_chk1 v1 v3), ∀ (k0_h3 : k0_cond3 v1 v3 = 1#1), 512 ∣ (k0_mult4 v1).toNat := fun v1 v3 k0_hw1 k0_h3 => k0_hw1.2.2.2.2.1 k0_h3
theorem k0_mult5_dvd : ∀ (v1 : BitVec 32) (v3 : BitVec 32) (k0_hw1 : k0_chk1 v1 v3), ∀ (k0_h4 : k0_cond4 v1 v3 = 1#1), 512 ∣ (k0_mult5 v1).toNat := fun v1 v3 k0_hw1 k0_h4 => k0_hw1.2.2.2.2.2.1 k0_h4
theorem k0_off3_inb : ∀ (v1 : BitVec 32) (v3 : BitVec 32) (k0_hw1 : k0_chk1 v1 v3), ∀ (k0_h4 : k0_cond4 v1 v3 = 1#1), ∀ (r : Fin 4), ∀ a, (k0_off3 v1 (BitVec.ofNat 32 (512 * r.val))) a + S512x128.size a ≤ S8192x128.size a := fun v1 v3 k0_hw1 k0_h4 r => k0_hw1.2.2.2.2.2.2.1 k0_h4 r
theorem k0_mult6_dvd : ∀ (v1 : BitVec 32) (v3 : BitVec 32) (k0_hw1 : k0_chk1 v1 v3), ∀ (k0_h4 : k0_cond4 v1 v3 = 1#1), 512 ∣ (k0_mult6 v1).toNat := fun v1 v3 k0_hw1 k0_h4 => k0_hw1.2.2.2.2.2.2.2.1 k0_h4
theorem k0_mult7_dvd : ∀ (v1 : BitVec 32) (v3 : BitVec 32) (k0_hw1 : k0_chk1 v1 v3), ∀ (k0_h4 : k0_cond4 v1 v3 = 1#1), 512 ∣ (k0_mult7 v1).toNat := fun v1 v3 k0_hw1 k0_h4 => k0_hw1.2.2.2.2.2.2.2.2.1 k0_h4
theorem k0_mult8_dvd : ∀ (v1 : BitVec 32) (v3 : BitVec 32) (k0_hw1 : k0_chk1 v1 v3), ∀ (k0_h4 : k0_cond4 v1 v3 = 1#1), 512 ∣ (k0_mult8 v1).toNat := fun v1 v3 k0_hw1 k0_h4 => k0_hw1.2.2.2.2.2.2.2.2.2.1 k0_h4
theorem k0_mult9_dvd : ∀ (v1 : BitVec 32) (v3 : BitVec 32) (k0_hw1 : k0_chk1 v1 v3), ∀ (k0_h5 : k0_cond5 v1 v3 = 1#1), 512 ∣ (k0_mult9 v1).toNat := fun v1 v3 k0_hw1 k0_h5 => k0_hw1.2.2.2.2.2.2.2.2.2.2.1 k0_h5
theorem k0_off4_inb : ∀ (v1 : BitVec 32) (v3 : BitVec 32) (k0_hw1 : k0_chk1 v1 v3), ∀ (k0_h5 : k0_cond5 v1 v3 = 1#1), ∀ (r : Fin 3), ∀ a, (k0_off4 v1 (BitVec.ofNat 32 (512 + 512 * r.val))) a + S512x128.size a ≤ S8192x128.size a := fun v1 v3 k0_hw1 k0_h5 r => k0_hw1.2.2.2.2.2.2.2.2.2.2.2.1 k0_h5 r
theorem k0_mult10_dvd : ∀ (v1 : BitVec 32) (v3 : BitVec 32) (k0_hw1 : k0_chk1 v1 v3), ∀ (k0_h5 : k0_cond5 v1 v3 = 1#1), 512 ∣ (k0_mult10 v1).toNat := fun v1 v3 k0_hw1 k0_h5 => k0_hw1.2.2.2.2.2.2.2.2.2.2.2.2.1 k0_h5
theorem k0_mult11_dvd : ∀ (v1 : BitVec 32) (v3 : BitVec 32) (k0_hw1 : k0_chk1 v1 v3), ∀ (k0_h5 : k0_cond5 v1 v3 = 1#1), 512 ∣ (k0_mult11 v1).toNat := fun v1 v3 k0_hw1 k0_h5 => k0_hw1.2.2.2.2.2.2.2.2.2.2.2.2.2.1 k0_h5
theorem k0_mult12_dvd : ∀ (v1 : BitVec 32) (v3 : BitVec 32) (k0_hw1 : k0_chk1 v1 v3), ∀ (k0_h6 : k0_cond6 v1 v3 = 1#1), 512 ∣ (k0_mult12 v1).toNat := fun v1 v3 k0_hw1 k0_h6 => k0_hw1.2.2.2.2.2.2.2.2.2.2.2.2.2.2.1 k0_h6
theorem k0_off5_inb : ∀ (v1 : BitVec 32) (v3 : BitVec 32) (k0_hw1 : k0_chk1 v1 v3), ∀ (k0_h6 : k0_cond6 v1 v3 = 1#1), ∀ (r : Fin 2), ∀ a, (k0_off5 v1 (BitVec.ofNat 32 (1024 + 512 * r.val))) a + S512x128.size a ≤ S8192x128.size a := fun v1 v3 k0_hw1 k0_h6 r => k0_hw1.2.2.2.2.2.2.2.2.2.2.2.2.2.2.2.1 k0_h6 r
theorem k0_mult13_dvd : ∀ (v1 : BitVec 32) (v3 : BitVec 32) (k0_hw1 : k0_chk1 v1 v3), ∀ (k0_h6 : k0_cond6 v1 v3 = 1#1), 512 ∣ (k0_mult13 v1).toNat := fun v1 v3 k0_hw1 k0_h6 => k0_hw1.2.2.2.2.2.2.2.2.2.2.2.2.2.2.2.2.1 k0_h6
theorem k0_mult14_dvd : ∀ (v1 : BitVec 32) (v3 : BitVec 32) (k0_hw1 : k0_chk1 v1 v3), ∀ (k0_h7 : k0_cond7 v1 v3 = 1#1), 512 ∣ (k0_mult14 v1).toNat := fun v1 v3 k0_hw1 k0_h7 => k0_hw1.2.2.2.2.2.2.2.2.2.2.2.2.2.2.2.2.2.1 k0_h7
theorem k0_off6_inb : ∀ (v1 : BitVec 32) (v3 : BitVec 32) (k0_hw1 : k0_chk1 v1 v3), ∀ (k0_h7 : k0_cond7 v1 v3 = 1#1), ∀ a, (k0_off6 v1) a + S512x128.size a ≤ S8192x128.size a := fun v1 v3 k0_hw1 k0_h7 => k0_hw1.2.2.2.2.2.2.2.2.2.2.2.2.2.2.2.2.2.2 k0_h7

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_0 : BitVec 32 := 0#32
  let v12 : BitVec 1 := Scalar.cmpi .ne v11 c0_i32_0
  v12

def k0_cond2 (v1 : BitVec 32) (v3 : BitVec 32) : BitVec 1 :=
  let c4_i32 : BitVec 32 := 4#32
  let v4 : BitVec 32 := Scalar.muli c4_i32 v1
  let v5 : BitVec 32 := Scalar.subi v3 v4
  let c0_i32_1 : BitVec 32 := 0#32
  let v13 : BitVec 1 := Scalar.cmpi .sge v5 c0_i32_1
  let v14 : BitVec 32 := Scalar.extui v13
  let c0_i32_2 : BitVec 32 := 0#32
  let v15 : BitVec 1 := Scalar.cmpi .ne v14 c0_i32_2
  v15

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c8_i32 : BitVec 32 := 8#32
  let v2 : BitVec 32 := Scalar.addi c8_i32 arg0
  let c0_i32 : BitVec 32 := 0#32
  ![v1.toNat, v2.toNat]

def cc0_transform_3 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  ![v1.toNat, arg0.toNat]

def cc0_transform_11 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  ![v1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x2048 : Shape := ⟨2, ![8192, 2048]⟩
abbrev S8192x16 : Shape := ⟨2, ![8192, 16]⟩
abbrev S8192x16x64 : Shape := ⟨3, ![8192, 16, 64]⟩
abbrev S16x8192x8192 : Shape := ⟨3, ![16, 8192, 8192]⟩
abbrev S16x8192 : Shape := ⟨2, ![16, 8192]⟩
abbrev S16x8192x1 : Shape := ⟨3, ![16, 8192, 1]⟩
abbrev S16x1x8192 : Shape := ⟨3, ![16, 1, 8192]⟩
abbrev S8192x8192 : Shape := ⟨2, ![8192, 8192]⟩
abbrev S1x8192x8192 : Shape := ⟨3, ![1, 8192, 8192]⟩
abbrev S_ : Shape := ⟨0, ![]⟩
abbrev S16x64x8192 : Shape := ⟨3, ![16, 64, 8192]⟩
abbrev S16x8192x64 : Shape := ⟨3, ![16, 8192, 64]⟩
abbrev S8192x8x2x1 : Shape := ⟨4, ![8192, 8, 2, 1]⟩
abbrev S8192x8x2x64 : Shape := ⟨4, ![8192, 8, 2, 64]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x16, .f32⟩
  | .hbm, ⟨3, _⟩ => ⟨S8192x1024, .bf16⟩
  | .hbm, ⟨4, _⟩ => ⟨S8192x1024, .f32⟩
  | .hbm, ⟨5, _⟩ => ⟨S8192x16x64, .f32⟩
  | .hbm, ⟨6, _⟩ => ⟨S8192x1024, .bf16⟩
  | .hbm, ⟨7, _⟩ => ⟨S8192x1024, .f32⟩
  | .hbm, ⟨8, _⟩ => ⟨S8192x16x64, .f32⟩
  | .hbm, ⟨9, _⟩ => ⟨S8192x1024, .bf16⟩
  | .hbm, ⟨10, _⟩ => ⟨S8192x1024, .f32⟩
  | .hbm, ⟨11, _⟩ => ⟨S8192x16x64, .f32⟩
  | .hbm, ⟨12, _⟩ => ⟨S16x8192x8192, .f32⟩
  | .hbm, ⟨13, _⟩ => ⟨S16x8192, .f32⟩
  | .hbm, ⟨14, _⟩ => ⟨S16x8192x1, .f32⟩
  | .hbm, ⟨15, _⟩ => ⟨S16x8192, .f32⟩
  | .hbm, ⟨16, _⟩ => ⟨S16x1x8192, .f32⟩
  | .hbm, ⟨17, _⟩ => ⟨S16x8192x8192, .f32⟩
  | .hbm, ⟨18, _⟩ => ⟨S16x8192x8192, .f32⟩
  | .hbm, ⟨19, _⟩ => ⟨S16x8192x8192, .f32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S16x8192x8192, .f32⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .i1⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x1, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S16x64x8192, .f32⟩
  | .hbm, ⟨71, _⟩ => ⟨S8192x16x64, .f32⟩
  | .hbm, ⟨72, _⟩ => ⟨S8192x1024, .f32⟩
  | .hbm, ⟨73, _⟩ => ⟨S8192x16x64, .f32⟩
  | .hbm, ⟨74, _⟩ => ⟨S16x64x8192, .f32⟩
  | .hbm, ⟨75, _⟩ => ⟨S16x8192x8192, .f32⟩
  | .hbm, ⟨76, _⟩ => ⟨S16x64x8192, .f32⟩
  | .hbm, ⟨77, _⟩ => ⟨S8192x16x64, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x1, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192, .f32⟩
  | .hbm, ⟨97, _⟩ => ⟨S16x8192x1, .f32⟩
  | .hbm, ⟨98, _⟩ => ⟨S16x8192x8192, .f32⟩
  | .hbm, ⟨99, _⟩ => ⟨S_, .f32⟩
  | .hbm, ⟨100, _⟩ => ⟨S16x8192, .f32⟩
  | .hbm, ⟨101, _⟩ => ⟨S16x1x8192, .f32⟩
  | .hbm, ⟨102, _⟩ => ⟨S_, .f32⟩
  | .hbm, ⟨103, _⟩ => ⟨S16x8192, .f32⟩
  | .hbm, ⟨104, _⟩ => ⟨S8192x16, .f32⟩
  | .hbm, ⟨105, _⟩ => ⟨S_, .f32⟩
  | .hbm, ⟨106, _⟩ => ⟨S16x8192, .f32⟩
  | .hbm, ⟨107, _⟩ => ⟨S8192x16, .f32⟩
  | .hbm, ⟨108, _⟩ => ⟨S16x8192x64, .f32⟩
  | .hbm, ⟨109, _⟩ => ⟨S8192x16x64, .f32⟩
  | .hbm, ⟨110, _⟩ => ⟨S16x8192x64, .f32⟩
  | .hbm, ⟨111, _⟩ => ⟨S8192x16x64, .f32⟩
  | .hbm, ⟨112, _⟩ => ⟨S8192x1024, .f32⟩
  | .hbm, ⟨113, _⟩ => ⟨S8192x8x2x1, .f32⟩
  | .hbm, ⟨114, _⟩ => ⟨S8192x8x2x1, .f32⟩
  | .hbm, ⟨115, _⟩ => ⟨S8192x8x2x64, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x16, .f32⟩
  | .hbm, ⟨120, _⟩ => ⟨S8192x8x2x1, .f32⟩
  | .hbm, ⟨121, _⟩ => ⟨S8192x8x2x1, .f32⟩
  | .hbm, ⟨122, _⟩ => ⟨S8192x8x2x64, .f32⟩
  | .hbm, ⟨123, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]
-- ==== Kernel2.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S4x13312x1024 : Shape := ⟨3, ![4, 13312, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x13312x1024, .bf16⟩
  | .hbm, ⟨3, _⟩ => ⟨S4x13312x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  let c0_i32_0 : BitVec 32 := 0#32
  ![arg0.toNat, c7_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S8192x4096 : Shape := ⟨2, ![8192, 4096]⟩
abbrev S8192x1024 : Shape := ⟨2, ![8192, 1024]⟩
abbrev S4x13312x1024 : Shape := ⟨3, ![4, 13312, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x13312x1024, .bf16⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x13312x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S4x13312x1024 : Shape := ⟨3, ![4, 13312, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x13312x1024, .bf16⟩
  | .hbm, ⟨3, _⟩ => ⟨S4x13312x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  let c0_i32_0 : BitVec 32 := 0#32
  ![arg1.toNat, v0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x4096 : Shape := ⟨2, ![8192, 4096]⟩
abbrev S4x13312x1024 : Shape := ⟨3, ![4, 13312, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x13312x1024, .bf16⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x13312x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel7.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32_20 : BitVec 32 := 0#32
  let v38 : BitVec 1 := Scalar.cmpi .sgt arg0 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference7Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_20 : BitVec 32 := 0#32
  let v39 : BitVec 1 := Scalar.cmpi .ne v38 c0_i32_20
  v39

def k0_cond2 (i : grid0.Coords) : BitVec 1 :=
  let arg0 : BitVec 32 := BitVec.ofNat 32 (i 0).val
  let c0_i32_21 : BitVec 32 := 0#32
  let v40 : BitVec 1 := Scalar.cmpi .sgt arg0 c0_i32_21
  let v41 : BitVec 32 := Scalar.extui v40
  let c0_i32_22 : BitVec 32 := 0#32
  let v42 : BitVec 1 := Scalar.cmpi .ne v41 c0_i32_22
  v42

def k0_cond3 (i : grid0.Coords) : BitVec 1 :=
  let arg0 : BitVec 32 := BitVec.ofNat 32 (i 0).val
  let c0_i32_23 : BitVec 32 := 0#32
  let v43 : BitVec 1 := Scalar.cmpi .eq arg0 c0_i32_23
  let v44 : BitVec 32 := Scalar.extui v43
  let c0_i32_24 : BitVec 32 := 0#32
  let v45 : BitVec 1 := Scalar.cmpi .ne v44 c0_i32_24
  v45

def k0_cond4 (i : grid0.Coords) : BitVec 1 :=
  let arg0 : BitVec 32 := BitVec.ofNat 32 (i 0).val
  let c0_i32_25 : BitVec 32 := 0#32
  let v46 : BitVec 1 := Scalar.cmpi .sgt arg0 c0_i32_25
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference8Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel9.lean ====
abbrev S8192x4096 : Shape := ⟨2, ![8192, 4096]⟩
abbrev S8192x1024 : Shape := ⟨2, ![8192, 1024]⟩
abbrev S4x13312x1024 : Shape := ⟨3, ![4, 13312, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x13312x1024, .bf16⟩
  | .hbm, ⟨3, _⟩ => ⟨S4x13312x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  ![arg0.toNat, c6_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference9Ideal.lean ====
abbrev S8192x4096 : Shape := ⟨2, ![8192, 4096]⟩
abbrev S8192x1024 : Shape := ⟨2, ![8192, 1024]⟩
abbrev S4x13312x1024 : Shape := ⟨3, ![4, 13312, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x13312x1024, .bf16⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x13312x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel10.lean ====
abbrev S8192x1024 : Shape := ⟨2, ![8192, 1024]⟩
abbrev S8192x4096 : Shape := ⟨2, ![8192, 4096]⟩
abbrev S4x13312x1024 : Shape := ⟨3, ![4, 13312, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x13312x1024, .bf16⟩
  | .hbm, ⟨3, _⟩ => ⟨S4x13312x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, v0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x4096 : Shape := ⟨2, ![8192, 4096]⟩
abbrev S4x13312x1024 : Shape := ⟨3, ![4, 13312, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x13312x1024, .bf16⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x13312x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel11.lean ====
abbrev S8192x4096 : Shape := ⟨2, ![8192, 4096]⟩
abbrev S8192x1024 : Shape := ⟨2, ![8192, 1024]⟩
abbrev S4x13312x1024 : Shape := ⟨3, ![4, 13312, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x13312x1024, .bf16⟩
  | .hbm, ⟨3, _⟩ => ⟨S4x13312x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  ![arg0.toNat, c5_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S8192x4096 : Shape := ⟨2, ![8192, 4096]⟩
abbrev S8192x1024 : Shape := ⟨2, ![8192, 1024]⟩
abbrev S4x13312x1024 : Shape := ⟨3, ![4, 13312, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x13312x1024, .bf16⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x13312x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel12.lean ====
abbrev S8192x1024 : Shape := ⟨2, ![8192, 1024]⟩
abbrev S8192x4096 : Shape := ⟨2, ![8192, 4096]⟩
abbrev S4x13312x1024 : Shape := ⟨3, ![4, 13312, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x13312x1024, .bf16⟩
  | .hbm, ⟨3, _⟩ => ⟨S4x13312x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![arg1.toNat, v0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x4096 : Shape := ⟨2, ![8192, 4096]⟩
abbrev S4x13312x1024 : Shape := ⟨3, ![4, 13312, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x13312x1024, .bf16⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x13312x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel13.lean ====
abbrev S8192x4096 : Shape := ⟨2, ![8192, 4096]⟩
abbrev S8192x1024 : Shape := ⟨2, ![8192, 1024]⟩
abbrev S4x13312x1024 : Shape := ⟨3, ![4, 13312, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x13312x1024, .bf16⟩
  | .hbm, ⟨3, _⟩ => ⟨S4x13312x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  ![arg0.toNat, c4_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference13Ideal.lean ====
abbrev S8192x4096 : Shape := ⟨2, ![8192, 4096]⟩
abbrev S8192x1024 : Shape := ⟨2, ![8192, 1024]⟩
abbrev S4x13312x1024 : Shape := ⟨3, ![4, 13312, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x13312x1024, .bf16⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x13312x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel14.lean ====
abbrev S8192x1024 : Shape := ⟨2, ![8192, 1024]⟩
abbrev S8192x4096 : Shape := ⟨2, ![8192, 4096]⟩
abbrev S4x13312x1024 : Shape := ⟨3, ![4, 13312, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x13312x1024, .bf16⟩
  | .hbm, ⟨3, _⟩ => ⟨S4x13312x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x4096 : Shape := ⟨2, ![8192, 4096]⟩
abbrev S4x13312x1024 : Shape := ⟨3, ![4, 13312, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x13312x1024, .bf16⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x13312x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x2048, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32_20 : BitVec 32 := 0#32
  let v38 : BitVec 1 := Scalar.cmpi .sgt arg0 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference23Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.RefFrame.lean ====
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead
public import Idealize.ShloMosaic.Lib.StableHlo.ReadAt

/-! The reference runs to its end with its arguments unchanged: it is a sequence of host operations. -/

@[expose] public section

namespace Cert.ReferenceIdeal.Att

open Idealize.ShloMosaic Idealize.SL.Sem Cert.ReferenceIdeal Cert.ReferenceIdeal.Gen

set_option maxHeartbeats 4000000 in
theorem args_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run

/-- The reference's frame: no operation writes an argument, and the program declares no counter. -/
theorem frame_ref : Cert.quiescent_ReferenceIdeal := by
  intro m g _
  exact (θ_run (defs (F := Ideal)) _ _).mono (fun r h => ⟨h, sem_eq_zero_of_no_sems (by decide) r.2⟩) (args_ref m g)

end Cert.ReferenceIdeal.Att

end
-- ==== Proof.Base.lean ====
module

public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The two tables, in scalar memory. -/
abbrev tabI : Memref sig .tc .smem S40 .i32 := Memref.whole main_c
abbrev tabJ : Memref sig .tc .smem S40 .i32 := Memref.whole main_c_0

/-- The query-block word the body reads at a grid point. -/
abbrev wI (F : FTy → Type) [FloatOps F] [Named F] (i : grid0.Coords) (T : S40.Idx → Elt F .i32) : Elt F .i32 :=
  View.readAt (Elt F) tabI.view (Rect.unit (s := S40) (k0_off1 i) S1.size (k0_off1_inb i)).toLoadRect T (Shape.Idx.first (numel1_S1.symm ▸ Nat.one_pos))
/-- The key-block word the body reads at a grid point. -/
abbrev wJ (F : FTy → Type) [FloatOps F] [Named F] (i : grid0.Coords) (T : S40.Idx → Elt F .i32) : Elt F .i32 :=
  View.readAt (Elt F) tabJ.view (Rect.unit (s := S40) (k0_off1 i) S1.size (k0_off1_inb i)).toLoadRect T (Shape.Idx.first (numel1_S1.symm ▸ Nat.one_pos))

/-- One run of the body at grid point `i`: from the seven inputs' blocks, the two tables and the five outputs at the
    contents given, to the same with the outputs at `o7` … `o11`. -/
abbrev Runs (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (o7 : Buf (Elt F) (arg11.view.loc (c : Thread nD τ))) (o8 : Buf (Elt F) (arg12.view.loc (c : Thread nD τ))) (o9 : Buf (Elt F) (arg13.view.loc (c : Thread nD τ)))
    (o10 : Buf (Elt F) (arg14.view.loc (c : Thread nD τ))) (o11 : Buf (Elt F) (arg15.view.loc (c : Thread nD τ))) : Prop :=
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (tabI.view.loc (c : Thread nD τ) ↦{fullShare.right} T0)
          ∗ (tabJ.view.loc (c : Thread nD τ) ↦{fullShare.right} T1)
          ∗ (arg11.view.loc (c : Thread nD τ) ↦[arg11.view.set]{fullShare} arg11.view.rep y7)
          ∗ (arg12.view.loc (c : Thread nD τ) ↦[arg12.view.set]{fullShare} arg12.view.rep y8)
          ∗ (arg13.view.loc (c : Thread nD τ) ↦[arg13.view.set]{fullShare} arg13.view.rep y9)
          ∗ (arg14.view.loc (c : Thread nD τ) ↦[arg14.view.set]{fullShare} arg14.view.rep y10)
          ∗ (arg15.view.loc (c : Thread nD τ) ↦[arg15.view.set]{fullShare} arg15.view.rep y11)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (tabI.view.loc (c : Thread nD τ) ↦{fullShare.right} T0)
              ∗ (tabJ.view.loc (c : Thread nD τ) ↦{fullShare.right} T1)
              ∗ (arg11.view.loc (c : Thread nD τ) ↦[arg11.view.set]{fullShare} o7)
              ∗ (arg12.view.loc (c : Thread nD τ) ↦[arg12.view.set]{fullShare} o8)
              ∗ (arg13.view.loc (c : Thread nD τ) ↦[arg13.view.set]{fullShare} o9)
              ∗ (arg14.view.loc (c : Thread nD τ) ↦[arg14.view.set]{fullShare} o10)
              ∗ (arg15.view.loc (c : Thread nD τ) ↦[arg15.view.set]{fullShare} o11)) -∗ K ⟨⟩))
          ⊢ wp frame (wpE (defs₀ (F := F)) Variants.none c none) Set.univ (cc0_attn_bwd i tabI (Memref.isWhole_whole _) tabJ (Memref.isWhole_whole _) arg4 harg4 arg5 harg5 arg6 harg6 arg7 harg7 arg8 harg8 arg9 harg9 arg10 harg10 arg11 harg11 arg12 harg12 arg13 harg13 arg14 harg14 arg15 harg15) K

end Cert.KernelIdeal.Att

end
-- ==== Proof.Tab.lean ====
module

public import proofs.«01_k».proof.Proof.Base

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The query-block table, as the host constant holds it. -/
def pinI : S40.Idx → BitVec 32 := fun x => lit0 (S40.rowMajor x)
/-- The key-block table, as the host constant holds it. -/
def pinJ : S40.Idx → BitVec 32 := fun x => lit1 (S40.rowMajor x)

/-- The contents of the two tables. -/
def pfN (F : FTy → Type) [FloatOps F] [Named F] : pre0.Contents (Elt F) := fun | ⟨0, _⟩ => pinI | ⟨1, _⟩ => pinJ | ⟨_ + 2, h⟩ => absurd h (by simp)

theorem off1_val : ∀ i : grid0.Coords,
    (S40.rowMajor ((Rect.unit (s := S40) (k0_off1 i) S1.size (k0_off1_inb i)).toLoadRect.idx (Shape.Idx.first (numel1_S1.symm ▸ Nat.one_pos)))).val = (i 1).val := by
  decide +kernel

theorem off1_eq (i : grid0.Coords) :
    S40.rowMajor ((Rect.unit (s := S40) (k0_off1 i) S1.size (k0_off1_inb i)).toLoadRect.idx (Shape.Idx.first (numel1_S1.symm ▸ Nat.one_pos))) = i 1 :=
  Fin.ext (off1_val i)

/-- The word read from the query-block table at a grid point is the table's entry at the point's step. -/
theorem wI_eq (i : grid0.Coords) : wI F i pinI = lit0 (i 1) := congrArg lit0 (off1_eq i)
theorem wJ_eq (i : grid0.Coords) : wJ F i pinJ = lit1 (i 1) := congrArg lit1 (off1_eq i)

theorem off1_le : ∀ i : grid0.Coords, ∀ a : Fin 1, k0_off1 i a + 1 ≤ S40.size a := by decide +kernel
theorem atD_pos {pf : pre0.Contents (Elt F)} {k : Fin pre0.K} [Inhabited (Elt F (pre0.ref k).ty.elt)] {off : Fin (pre0.ref k).ty.shape.rank → ℕ}
    (h : ∀ a, off a + 1 ≤ (pre0.ref k).ty.shape.size a) : pf.atD k off = pf k (fun a => ⟨off a, h a⟩) := dif_pos h
theorem at0_eq (i : grid0.Coords) : (pfN F).atD 0 (k0_off1 i) = lit0 (i 1) :=
  (atD_pos (F := F) (pf := pfN F) (k := 0) (off := k0_off1 i) (off1_le i)).trans (congrArg lit0 (off1_eq i))
theorem at1_eq (i : grid0.Coords) : (pfN F).atD 1 (k0_off1 i) = lit1 (i 1) :=
  (atD_pos (F := F) (pf := pfN F) (k := 1) (off := k0_off1 i) (off1_le i)).trans (congrArg lit1 (off1_eq i))
theorem t0_eq (i : grid0.Coords) : cc0_transform_0 k0_off1_inb numel1_S1 (pfN F) i = ![(lit0 (i 1)).toNat, (BitVec.ofNat 32 (i 0).val).toNat] := by
  rw [← wI_eq (F := F)]; rfl
theorem t1_eq (i : grid0.Coords) : cc0_transform_1 k0_off1_inb numel1_S1 (pfN F) i = ![(lit1 (i 1)).toNat, (BitVec.ofNat 32 (i 0).val).toNat] := by
  rw [← wJ_eq (F := F)]; rfl
theorem t2_eq (i : grid0.Coords) : cc0_transform_2 k0_off1_inb numel1_S1 (pfN F) i = ![(lit1 (i 1)).toNat, (Scalar.addi 8#32 (BitVec.ofNat 32 (i 0).val)).toNat] := by
  rw [← wJ_eq (F := F)]; rfl
theorem t3_eq (i : grid0.Coords) : cc0_transform_3 k0_off1_inb numel1_S1 (pfN F) i = ![(lit0 (i 1)).toNat, (BitVec.ofNat 32 (i 0).val).toNat] := by
  rw [← wI_eq (F := F)]; rfl
theorem t4_eq (i : grid0.Coords) : cc0_transform_4 k0_off1_inb numel1_S1 (pfN F) i = ![(lit0 (i 1)).toNat, (BitVec.ofNat 32 (i 0).val).toNat] := by
  rw [← wI_eq (F := F)]; rfl
theorem t5_eq (i : grid0.Coords) : cc0_transform_5 k0_off1_inb numel1_S1 (pfN F) i = ![(BitVec.ofNat 32 (i 0).val).toNat, (lit0 (i 1)).toNat, 0] := by
  rw [← wI_eq (F := F)]; rfl
theorem t6_eq (i : grid0.Coords) : cc0_transform_6 k0_off1_inb numel1_S1 (pfN F) i = ![(BitVec.ofNat 32 (i 0).val).toNat, 0, (lit1 (i 1)).toNat] := by
  rw [← wJ_eq (F := F)]; rfl
theorem t9_eq (i : grid0.Coords) : cc0_transform_9 k0_off1_inb numel1_S1 (pfN F) i = ![(lit1 (i 1)).toNat, (BitVec.ofNat 32 (i 0).val).toNat] := by
  rw [← wJ_eq (F := F)]; rfl
theorem t10_eq (i : grid0.Coords) : cc0_transform_10 k0_off1_inb numel1_S1 (pfN F) i = ![(lit1 (i 1)).toNat, (BitVec.ofNat 32 (i 0).val).toNat] := by
  rw [← wJ_eq (F := F)]; rfl
theorem t11_eq (i : grid0.Coords) : cc0_transform_11 k0_off1_inb numel1_S1 (pfN F) i = ![(lit1 (i 1)).toNat, (BitVec.ofNat 32 (i 0).val).toNat] := by
  rw [← wJ_eq (F := F)]; rfl
theorem ok0_inb (i : grid0.Coords) : ∀ a, (cc0_transform_0 k0_off1_inb numel1_S1 (pfN F) i a + 1) * S2048x128.size a ≤ S8192x1024.size a := by
  rw [t0_eq]; revert i; decide +kernel
theorem okW0 (i : grid0.Coords) : ∃ h : (∀ a, (cc0_transform_0 k0_off1_inb numel1_S1 (pfN F) i a + 1) * S2048x128.size a ≤ S8192x1024.size a),
    EltTy.bits .bf16 = 32 ∨ (Rect.block (s := S8192x1024) S2048x128.size (cc0_transform_0 k0_off1_inb numel1_S1 (pfN F) i) h).WholeWords (EltTy.packing .bf16) :=
  ⟨ok0_inb i, .inr (Affine.block_words_dvd (s := S8192x1024) (p := EltTy.packing .bf16) (by decide) (by decide))⟩
theorem ok1_inb (i : grid0.Coords) : ∀ a, (cc0_transform_1 k0_off1_inb numel1_S1 (pfN F) i a + 1) * S512x128.size a ≤ S8192x2048.size a := by
  rw [t1_eq]; revert i; decide +kernel
theorem okW1 (i : grid0.Coords) : ∃ h : (∀ a, (cc0_transform_1 k0_off1_inb numel1_S1 (pfN F) i a + 1) * S512x128.size a ≤ S8192x2048.size a),
    EltTy.bits .bf16 = 32 ∨ (Rect.block (s := S8192x2048) S512x128.size (cc0_transform_1 k0_off1_inb numel1_S1 (pfN F) i) h).WholeWords (EltTy.packing .bf16) :=
  ⟨ok1_inb i, .inr (Affine.block_words_dvd (s := S8192x2048) (p := EltTy.packing .bf16) (by decide) (by decide))⟩
theorem ok2_inb (i : grid0.Coords) : ∀ a, (cc0_transform_2 k0_off1_inb numel1_S1 (pfN F) i a + 1) * S512x128.size a ≤ S8192x2048.size a := by
  rw [t2_eq]; revert i; decide +kernel
theorem okW2 (i : grid0.Coords) : ∃ h : (∀ a, (cc0_transform_2 k0_off1_inb numel1_S1 (pfN F) i a + 1) * S512x128.size a ≤ S8192x2048.size a),
    EltTy.bits .bf16 = 32 ∨ (Rect.block (s := S8192x2048) S512x128.size (cc0_transform_2 k0_off1_inb numel1_S1 (pfN F) i) h).WholeWords (EltTy.packing .bf16) :=
  ⟨ok2_inb i, .inr (Affine.block_words_dvd (s := S8192x2048) (p := EltTy.packing .bf16) (by decide) (by decide))⟩
theorem ok3_inb (i : grid0.Coords) : ∀ a, (cc0_transform_3 k0_off1_inb numel1_S1 (pfN F) i a + 1) * S2048x128.size a ≤ S8192x1024.size a := by
  rw [t3_eq]; revert i; decide +kernel
theorem okW3 (i : grid0.Coords) : ∃ h : (∀ a, (cc0_transform_3 k0_off1_inb numel1_S1 (pfN F) i a + 1) * S2048x128.size a ≤ S8192x1024.size a),
    EltTy.bits .f32 = 32 ∨ (Rect.block (s := S8192x1024) S2048x128.size (cc0_transform_3 k0_off1_inb numel1_S1 (pfN F) i) h).WholeWords (EltTy.packing .f32) :=
  ⟨ok3_inb i, .inl rfl⟩
theorem ok4_inb (i : grid0.Coords) : ∀ a, (cc0_transform_4 k0_off1_inb numel1_S1 (pfN F) i a + 1) * S2048x128.size a ≤ S8192x1024.size a := by
  rw [t4_eq]; revert i; decide +kernel
theorem okW4 (i : grid0.Coords) : ∃ h : (∀ a, (cc0_transform_4 k0_off1_inb numel1_S1 (pfN F) i a + 1) * S2048x128.size a ≤ S8192x1024.size a),
    EltTy.bits .bf16 = 32 ∨ (Rect.block (s := S8192x1024) S2048x128.size (cc0_transform_4 k0_off1_inb numel1_S1 (pfN F) i) h).WholeWords (EltTy.packing .bf16) :=
  ⟨ok4_inb i, .inr (Affine.block_words_dvd (s := S8192x1024) (p := EltTy.packing .bf16) (by decide) (by decide))⟩
theorem ok5_inb (i : grid0.Coords) : ∀ a, (cc0_transform_5 k0_off1_inb numel1_S1 (pfN F) i a + 1) * S2x2048x128.size a ≤ S16x8192x128.size a := by
  rw [t5_eq]; revert i; decide +kernel
theorem okW5 (i : grid0.Coords) : ∃ h : (∀ a, (cc0_transform_5 k0_off1_inb numel1_S1 (pfN F) i a + 1) * S2x2048x128.size a ≤ S16x8192x128.size a),
    EltTy.bits .f32 = 32 ∨ (Rect.block (s := S16x8192x128) S2x2048x128.size (cc0_transform_5 k0_off1_inb numel1_S1 (pfN F) i) h).WholeWords (EltTy.packing .f32) :=
  ⟨ok5_inb i, .inl rfl⟩
theorem ok6_inb (i : grid0.Coords) : ∀ a, (cc0_transform_6 k0_off1_inb numel1_S1 (pfN F) i a + 1) * S1x8x512.size a ≤ S8x8x8192.size a := by
  rw [t6_eq]; revert i; decide +kernel
theorem okW6 (i : grid0.Coords) : ∃ h : (∀ a, (cc0_transform_6 k0_off1_inb numel1_S1 (pfN F) i a + 1) * S1x8x512.size a ≤ S8x8x8192.size a),
    EltTy.bits .f32 = 32 ∨ (Rect.block (s := S8x8x8192) S1x8x512.size (cc0_transform_6 k0_off1_inb numel1_S1 (pfN F) i) h).WholeWords (EltTy.packing .f32) :=
  ⟨ok6_inb i, .inl rfl⟩
theorem ok9_inb (i : grid0.Coords) : ∀ a, (cc0_transform_9 k0_off1_inb numel1_S1 (pfN F) i a + 1) * S512x128.size a ≤ S8192x1024.size a := by
  rw [t9_eq]; revert i; decide +kernel
theorem okW9 (i : grid0.Coords) : ∃ h : (∀ a, (cc0_transform_9 k0_off1_inb numel1_S1 (pfN F) i a + 1) * S512x128.size a ≤ S8192x1024.size a),
    EltTy.bits .f32 = 32 ∨ (Rect.block (s := S8192x1024) S512x128.size (cc0_transform_9 k0_off1_inb numel1_S1 (pfN F) i) h).WholeWords (EltTy.packing .f32) :=
  ⟨ok9_inb i, .inl rfl⟩
theorem ok10_inb (i : grid0.Coords) : ∀ a, (cc0_transform_10 k0_off1_inb numel1_S1 (pfN F) i a + 1) * S512x128.size a ≤ S8192x1024.size a := by
  rw [t10_eq]; revert i; decide +kernel
theorem okW10 (i : grid0.Coords) : ∃ h : (∀ a, (cc0_transform_10 k0_off1_inb numel1_S1 (pfN F) i a + 1) * S512x128.size a ≤ S8192x1024.size a),
    EltTy.bits .f32 = 32 ∨ (Rect.block (s := S8192x1024) S512x128.size (cc0_transform_10 k0_off1_inb numel1_S1 (pfN F) i) h).WholeWords (EltTy.packing .f32) :=
  ⟨ok10_inb i, .inl rfl⟩
theorem ok11_inb (i : grid0.Coords) : ∀ a, (cc0_transform_11 k0_off1_inb numel1_S1 (pfN F) i a + 1) * S512x128.size a ≤ S8192x1024.size a := by
  rw [t11_eq]; revert i; decide +kernel
theorem okW11 (i : grid0.Coords) : ∃ h : (∀ a, (cc0_transform_11 k0_off1_inb numel1_S1 (pfN F) i a + 1) * S512x128.size a ≤ S8192x1024.size a),
    EltTy.bits .f32 = 32 ∨ (Rect.block (s := S8192x1024) S512x128.size (cc0_transform_11 k0_off1_inb numel1_S1 (pfN F) i) h).WholeWords (EltTy.packing .f32) :=
  ⟨ok11_inb i, .inl rfl⟩

/-- At the two tables every block lies inside its array. -/
theorem ok_pfN : ok0 (F := F) (pfN F) := ⟨okW0, okW1, okW2, okW3, okW4, okW5, okW6, okW9, okW10, okW11⟩

theorem chk_tab : ∀ s : Fin 40, k0_chk1 (lit0 s) (lit1 s) := by decide +kernel

/-- Which of the body's branches run at a step, from the two words read there. -/
abbrev Sel (v1 v3 : BitVec 32) (d : Fin 5) : Prop :=
  (k0_cond2 v1 v3 = 1#1 ↔ d ≠ 4) ∧ (k0_cond3 v1 v3 = 1#1 ↔ d = 4) ∧ (k0_cond4 v1 v3 = 1#1 ↔ d = 0) ∧ (k0_cond5 v1 v3 = 1#1 ↔ d = 1) ∧ (k0_cond6 v1 v3 = 1#1 ↔ d = 2) ∧ (k0_cond7 v1 v3 = 1#1 ↔ d = 3)

/-- The branch of a step: the key block's place within the query block, or 4 where it lies before it. -/
def sel (s : Fin 40) : Fin 5 := if h : (lit1 s).toNat < 4 * (lit0 s).toNat then 4 else Fin.ofNat 5 ((lit1 s).toNat - 4 * (lit0 s).toNat)

theorem sel_tab : ∀ s : Fin 40, Sel (lit0 s) (lit1 s) (sel s) := by decide +kernel
theorem cond1_tab : ∀ i : grid0.Coords, (k0_cond1 i = 1#1 ↔ (i 1).val = 0) := by decide +kernel
theorem sel_zero : ∀ s : Fin 40, s.val = 0 → sel s = 0 := by decide +kernel

theorem chk_at (i : grid0.Coords) : k0_chk1 (wI F i pinI) (wJ F i pinJ) := by rw [wI_eq, wJ_eq]; exact chk_tab (i 1)
theorem sel_at (i : grid0.Coords) : Sel (wI F i pinI) (wJ F i pinJ) (sel (i 1)) := by rw [wI_eq, wJ_eq]; exact sel_tab (i 1)

/-- The admissible contents, and the pipeline at them. -/
def adm (F : FTy → Type) [FloatOps F] [Named F] : (pcfg0 (F := F)).Adm := ⟨pfN F, ok_pfN⟩
abbrev cfgA (F : FTy → Type) [FloatOps F] [Named F] : Pipeline.Cfg sig Λ₀ := cfg0 (F := F) (adm F)
abbrev pcs (F : FTy → Type) [FloatOps F] [Named F] : Fin 1 → Pipeline.Cfg sig Λ₀ := Pipeline.pin (pcfgs (F := F)) fun _ => adm F
abbrev crd (F : FTy → Type) [FloatOps F] [Named F] (t : Fin (cfgA F).N) : (cfgA F).grid.Coords := (cfgA F).grid.coords t

end Cert.KernelIdeal.Att

end
-- ==== Proof.RunA0.lean ====
module

public import proofs.«01_k».proof.Proof.Base

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- One run of the body where the first step of a pair of heads: the two query gradients start at zero, with the five contents it leaves. -/
noncomputable def runA0 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    Σ' (o7 : Buf (Elt F) (arg11.view.loc (c : Thread nD τ))) (o8 : Buf (Elt F) (arg12.view.loc (c : Thread nD τ))) (o9 : Buf (Elt F) (arg13.view.loc (c : Thread nD τ)))
      (o10 : Buf (Elt F) (arg14.view.loc (c : Thread nD τ))), { o11 : Buf (Elt F) (arg15.view.loc (c : Thread nD τ)) //
        Runs c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 o7 o8 o9 o10 o11 } :=
  ⟨_, _, _, _, _, fun K => by
    rw [cc0_attn_bwd_eq_skeleton]; unfold cc0_attn_bwd_skel
    iintro ⟨H0, H1, H2, H3, H4, H5, H6, HT0, HT1, HO7, HO8, HO9, HO10, HO11, Hk⟩
    have hT0 : tabI.IsWhole := Memref.isWhole_whole _
    have hT1 : tabJ.IsWhole := Memref.isWhole_whole _
    sl_exec! (disch := first | (guard_target = k0_chk1 _ _; exact k0_hw1) | (guard_target = k0_cond1 _ = _; exact k0_h1) | (guard_target = k0_cond2 _ _ = _; exact k0_h2) | (guard_target = ¬(k0_cond3 _ _ = _); exact k0_h3) | (guard_target = k0_cond4 _ _ = _; exact k0_h4) | (guard_target = ¬(k0_cond5 _ _ = _); exact k0_h5) | (guard_target = ¬(k0_cond6 _ _ = _); exact k0_h6) | (guard_target = ¬(k0_cond7 _ _ = _); exact k0_h7))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]; · iexact HO7
    isplitl [HO8]; · iexact HO8
    isplitl [HO9]; · iexact HO9
    isplitl [HO10]; · iexact HO10
    iexact HO11⟩

end Cert.KernelIdeal.Att

end
-- ==== Proof.RunA.lean ====
module

public import proofs.«01_k».proof.Proof.Base

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- One run of the body where the key block is the first of the query block, with the five contents it leaves. -/
noncomputable def runA (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    Σ' (o7 : Buf (Elt F) (arg11.view.loc (c : Thread nD τ))) (o8 : Buf (Elt F) (arg12.view.loc (c : Thread nD τ))) (o9 : Buf (Elt F) (arg13.view.loc (c : Thread nD τ)))
      (o10 : Buf (Elt F) (arg14.view.loc (c : Thread nD τ))), { o11 : Buf (Elt F) (arg15.view.loc (c : Thread nD τ)) //
        Runs c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 o7 o8 o9 o10 o11 } :=
  ⟨_, _, _, _, _, fun K => by
    rw [cc0_attn_bwd_eq_skeleton]; unfold cc0_attn_bwd_skel
    iintro ⟨H0, H1, H2, H3, H4, H5, H6, HT0, HT1, HO7, HO8, HO9, HO10, HO11, Hk⟩
    have hT0 : tabI.IsWhole := Memref.isWhole_whole _
    have hT1 : tabJ.IsWhole := Memref.isWhole_whole _
    sl_exec! (disch := first | (guard_target = k0_chk1 _ _; exact k0_hw1) | (guard_target = ¬(k0_cond1 _ = _); exact k0_h1) | (guard_target = k0_cond2 _ _ = _; exact k0_h2) | (guard_target = ¬(k0_cond3 _ _ = _); exact k0_h3) | (guard_target = k0_cond4 _ _ = _; exact k0_h4) | (guard_target = ¬(k0_cond5 _ _ = _); exact k0_h5) | (guard_target = ¬(k0_cond6 _ _ = _); exact k0_h6) | (guard_target = ¬(k0_cond7 _ _ = _); exact k0_h7))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]; · iexact HO7
    isplitl [HO8]; · iexact HO8
    isplitl [HO9]; · iexact HO9
    isplitl [HO10]; · iexact HO10
    iexact HO11⟩

end Cert.KernelIdeal.Att

end
-- ==== Proof.RunB.lean ====
module

public import proofs.«01_k».proof.Proof.Base

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- One run of the body where every key lies before the query block, with the five contents it leaves. -/
noncomputable def runB (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : ¬k0_cond2 (wI F i T0) (wJ F i T1) = 1#1) (k0_h3 : k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    Σ' (o7 : Buf (Elt F) (arg11.view.loc (c : Thread nD τ))) (o8 : Buf (Elt F) (arg12.view.loc (c : Thread nD τ))) (o9 : Buf (Elt F) (arg13.view.loc (c : Thread nD τ)))
      (o10 : Buf (Elt F) (arg14.view.loc (c : Thread nD τ))), { o11 : Buf (Elt F) (arg15.view.loc (c : Thread nD τ)) //
        Runs c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 o7 o8 o9 o10 o11 } :=
  ⟨_, _, _, _, _, fun K => by
    rw [cc0_attn_bwd_eq_skeleton]; unfold cc0_attn_bwd_skel
    iintro ⟨H0, H1, H2, H3, H4, H5, H6, HT0, HT1, HO7, HO8, HO9, HO10, HO11, Hk⟩
    have hT0 : tabI.IsWhole := Memref.isWhole_whole _
    have hT1 : tabJ.IsWhole := Memref.isWhole_whole _
    sl_exec! (disch := first | (guard_target = k0_chk1 _ _; exact k0_hw1) | (guard_target = ¬(k0_cond1 _ = _); exact k0_h1) | (guard_target = ¬(k0_cond2 _ _ = _); exact k0_h2) | (guard_target = k0_cond3 _ _ = _; exact k0_h3) | (guard_target = ¬(k0_cond4 _ _ = _); exact k0_h4) | (guard_target = ¬(k0_cond5 _ _ = _); exact k0_h5) | (guard_target = ¬(k0_cond6 _ _ = _); exact k0_h6) | (guard_target = ¬(k0_cond7 _ _ = _); exact k0_h7))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]; · iexact HO7
    isplitl [HO8]; · iexact HO8
    isplitl [HO9]; · iexact HO9
    isplitl [HO10]; · iexact HO10
    iexact HO11⟩

end Cert.KernelIdeal.Att

end
-- ==== Proof.RunC.lean ====
module

public import proofs.«01_k».proof.Proof.Base

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- One run of the body where the key block is the second of the query block, with the five contents it leaves. -/
noncomputable def runC (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : k0_cond5 (wI F i T0) (wJ F i T1) = 1#1) (k0_h6 : ¬k0_cond6 (wI F i T0) (wJ F i T1) = 1#1) (k0_h7 : ¬k0_cond7 (wI F i T0) (wJ F i T1) = 1#1) :
    Σ' (o7 : Buf (Elt F) (arg11.view.loc (c : Thread nD τ))) (o8 : Buf (Elt F) (arg12.view.loc (c : Thread nD τ))) (o9 : Buf (Elt F) (arg13.view.loc (c : Thread nD τ)))
      (o10 : Buf (Elt F) (arg14.view.loc (c : Thread nD τ))), { o11 : Buf (Elt F) (arg15.view.loc (c : Thread nD τ)) //
        Runs c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 o7 o8 o9 o10 o11 } :=
  ⟨_, _, _, _, _, fun K => by
    rw [cc0_attn_bwd_eq_skeleton]; unfold cc0_attn_bwd_skel
    iintro ⟨H0, H1, H2, H3, H4, H5, H6, HT0, HT1, HO7, HO8, HO9, HO10, HO11, Hk⟩
    have hT0 : tabI.IsWhole := Memref.isWhole_whole _
    have hT1 : tabJ.IsWhole := Memref.isWhole_whole _
    sl_exec! (disch := first | (guard_target = k0_chk1 _ _; exact k0_hw1) | (guard_target = ¬(k0_cond1 _ = _); exact k0_h1) | (guard_target = k0_cond2 _ _ = _; exact k0_h2) | (guard_target = ¬(k0_cond3 _ _ = _); exact k0_h3) | (guard_target = ¬(k0_cond4 _ _ = _); exact k0_h4) | (guard_target = k0_cond5 _ _ = _; exact k0_h5) | (guard_target = ¬(k0_cond6 _ _ = _); exact k0_h6) | (guard_target = ¬(k0_cond7 _ _ = _); exact k0_h7))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]; · iexact HO7
    isplitl [HO8]; · iexact HO8
    isplitl [HO9]; · iexact HO9
    isplitl [HO10]; · iexact HO10
    iexact HO11⟩

end Cert.KernelIdeal.Att

end
-- ==== Proof.RunD.lean ====
module

public import proofs.«01_k».proof.Proof.Base

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- One run of the body where the key block is the third of the query block, with the five contents it leaves. -/
noncomputable def runD (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : k0_cond6 (wI F i T0) (wJ F i T1) = 1#1) (k0_h7 : ¬k0_cond7 (wI F i T0) (wJ F i T1) = 1#1) :
    Σ' (o7 : Buf (Elt F) (arg11.view.loc (c : Thread nD τ))) (o8 : Buf (Elt F) (arg12.view.loc (c : Thread nD τ))) (o9 : Buf (Elt F) (arg13.view.loc (c : Thread nD τ)))
      (o10 : Buf (Elt F) (arg14.view.loc (c : Thread nD τ))), { o11 : Buf (Elt F) (arg15.view.loc (c : Thread nD τ)) //
        Runs c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 o7 o8 o9 o10 o11 } :=
  ⟨_, _, _, _, _, fun K => by
    rw [cc0_attn_bwd_eq_skeleton]; unfold cc0_attn_bwd_skel
    iintro ⟨H0, H1, H2, H3, H4, H5, H6, HT0, HT1, HO7, HO8, HO9, HO10, HO11, Hk⟩
    have hT0 : tabI.IsWhole := Memref.isWhole_whole _
    have hT1 : tabJ.IsWhole := Memref.isWhole_whole _
    sl_exec! (disch := first | (guard_target = k0_chk1 _ _; exact k0_hw1) | (guard_target = ¬(k0_cond1 _ = _); exact k0_h1) | (guard_target = k0_cond2 _ _ = _; exact k0_h2) | (guard_target = ¬(k0_cond3 _ _ = _); exact k0_h3) | (guard_target = ¬(k0_cond4 _ _ = _); exact k0_h4) | (guard_target = ¬(k0_cond5 _ _ = _); exact k0_h5) | (guard_target = k0_cond6 _ _ = _; exact k0_h6) | (guard_target = ¬(k0_cond7 _ _ = _); exact k0_h7))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]; · iexact HO7
    isplitl [HO8]; · iexact HO8
    isplitl [HO9]; · iexact HO9
    isplitl [HO10]; · iexact HO10
    iexact HO11⟩

end Cert.KernelIdeal.Att

end
-- ==== Proof.RunE.lean ====
module

public import proofs.«01_k».proof.Proof.Base

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- One run of the body where the key block is the fourth of the query block, with the five contents it leaves. -/
noncomputable def runE (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : k0_cond7 (wI F i T0) (wJ F i T1) = 1#1) :
    Σ' (o7 : Buf (Elt F) (arg11.view.loc (c : Thread nD τ))) (o8 : Buf (Elt F) (arg12.view.loc (c : Thread nD τ))) (o9 : Buf (Elt F) (arg13.view.loc (c : Thread nD τ)))
      (o10 : Buf (Elt F) (arg14.view.loc (c : Thread nD τ))), { o11 : Buf (Elt F) (arg15.view.loc (c : Thread nD τ)) //
        Runs c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 o7 o8 o9 o10 o11 } :=
  ⟨_, _, _, _, _, fun K => by
    rw [cc0_attn_bwd_eq_skeleton]; unfold cc0_attn_bwd_skel
    iintro ⟨H0, H1, H2, H3, H4, H5, H6, HT0, HT1, HO7, HO8, HO9, HO10, HO11, Hk⟩
    have hT0 : tabI.IsWhole := Memref.isWhole_whole _
    have hT1 : tabJ.IsWhole := Memref.isWhole_whole _
    sl_exec! (disch := first | (guard_target = k0_chk1 _ _; exact k0_hw1) | (guard_target = ¬(k0_cond1 _ = _); exact k0_h1) | (guard_target = k0_cond2 _ _ = _; exact k0_h2) | (guard_target = ¬(k0_cond3 _ _ = _); exact k0_h3) | (guard_target = ¬(k0_cond4 _ _ = _); exact k0_h4) | (guard_target = ¬(k0_cond5 _ _ = _); exact k0_h5) | (guard_target = ¬(k0_cond6 _ _ = _); exact k0_h6) | (guard_target = k0_cond7 _ _ = _; exact k0_h7))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HO7]; · iexact HO7
    isplitl [HO8]; · iexact HO8
    isplitl [HO9]; · iexact HO9
    isplitl [HO10]; · iexact HO10
    iexact HO11⟩

end Cert.KernelIdeal.Att

end
-- ==== Proof.Frame.lean ====
module

public import proofs.«01_k».proof.Proof.Tab
public import Idealize.ShloMosaic.Lib.StableHlo.ReadAt
public import Idealize.ShloMosaic.Lib.StableHlo.RunRead
public import proofs.«01_k».proof.Proof.RunA0
public import proofs.«01_k».proof.Proof.RunA
public import proofs.«01_k».proof.Proof.RunB
public import proofs.«01_k».proof.Proof.RunC
public import proofs.«01_k».proof.Proof.RunD
public import proofs.«01_k».proof.Proof.RunE

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- At every grid point the body runs. -/
theorem runs_any (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32) :
    ∃ o7 o8 o9 o10 o11, Runs c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 o7 o8 o9 o10 o11 := by
  obtain ⟨e2, e3, e4, e5, e6, e7⟩ := sel_at (F := F) i
  have e1 := cond1_tab i
  have hz := sel_zero (i 1)
  by_cases h0 : (i 1).val = 0
  · have hd := hz h0
    have r := runA0 (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2, hd] <;> decide) (by rw [e3, hd] <;> decide) (by rw [e4, hd] <;> decide) (by rw [e5, hd] <;> decide) (by rw [e6, hd] <;> decide) (by rw [e7, hd] <;> decide)
    exact ⟨_, _, _, _, _, r.2.2.2.2.2⟩
  · generalize hd : sel (i 1) = d at e2 e3 e4 e5 e6 e7
    match d, hd with
    | 0, hd =>
      have r := runA (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r.2.2.2.2.2⟩
    | 1, hd =>
      have r := runC (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r.2.2.2.2.2⟩
    | 2, hd =>
      have r := runD (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r.2.2.2.2.2⟩
    | 3, hd =>
      have r := runE (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r.2.2.2.2.2⟩
    | 4, hd =>
      have r := runB (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r.2.2.2.2.2⟩

/-- The host operations before the pipeline, stretch by stretch. -/
abbrev hostRun (F : FTy → Type) [FloatOps F] [Named F] : List (List (HloOp τ sig (Elt F))) := [hostOps0, hostOps0_1, hostOps0_2, hostOps0_3]

/-- The buffers' contents where the pipeline begins: the host operations have run. -/
abbrev Vh (m : (ℓ : Loc nD τ sig) → Buf (Elt F) ℓ) (c : Dev nD) (b : Ref sig .tc) : Buf (Elt F) ((c.tc : Thread nD τ).loc b) :=
  StableHlo.after (hostRun F).flatten (fun b => m (c, b)) b

theorem V_c (m : (ℓ : Loc nD τ sig) → Buf (Elt F) ℓ) (c : Dev nD) : Vh m c main_c = (pinI : S40.Idx → BitVec 32) := by
  after_reads_simp
  first | done | rfl
theorem V_c0 (m : (ℓ : Loc nD τ sig) → Buf (Elt F) ℓ) (c : Dev nD) : Vh m c main_c_0 = (pinJ : S40.Idx → BitVec 32) := by
  after_reads_simp
  first | done | rfl

/-- The pipeline's data for the frame: nothing is said of what the staging buffers hold. -/
def datF (m : (ℓ : Loc nD τ sig) → Buf (Elt F) ℓ) (_ : Fin 1) (c : Dev nD) : Pipeline.Dat τ (Elt F) Unit ℕ (UR sig nD τ) ℕ (cfgA F) c where
  A w := Vh m c (Pipeline.arrRef (cfgA F).spec w)
  after w t := (Classical.arbitrary _)
  Φ t := iprop(Pipeline.ΦA (cfgA F).spec c ∗ Pipeline.ΦT pre0 (adm F).1 c)
  q w := Pipeline.shareOf (cfgA F).spec w
  owed _ := 0

/-- The two tables as the region hands them to the body. -/
theorem tables_eq (c : Dev nD) :
    (Pipeline.ΦT (U := UR sig nD τ) pre0 (adm F).1 c : sProp 𝕄)
      = iprop((tabI.view.loc (c : Thread nD τ) ↦{fullShare.right} pinI) ∗ (tabJ.view.loc (c : Thread nD τ) ↦{fullShare.right} pinJ)) := by
  unfold Pipeline.ΦT Pipeline.prefHeld
  rw [show (Finset.univ : Finset (Fin 2)) = insert (0 : Fin 2) {(1 : Fin 2)} from by decide,
    bigSep_insert (by decide), bigSep_singleton]
  rfl

set_option maxHeartbeats 4000000 in
/-- One step of the grid, over the twelve staging buffers with any contents. -/
theorem stepF (m : (ℓ : Loc nD τ sig) → Buf (Elt F) ℓ) (c : Dev nD) (t : Fin (cfgA F).N) :
    iprop((Pipeline.ΦA (cfgA F).spec c ∗ Pipeline.ΦT pre0 (adm F).1 c) ∗ (datF m 0 c).owesAt () t.castSucc ∗ (∃ X, owns (c : Thread nD τ) (spec0_0.stage ((cfgA F).slots t (0 : Fin 12))) fullShare X) ∗ (∃ X, owns (c : Thread nD τ) (spec0_1.stage ((cfgA F).slots t (1 : Fin 12))) fullShare X) ∗ (∃ X, owns (c : Thread nD τ) (spec0_2.stage ((cfgA F).slots t (2 : Fin 12))) fullShare X) ∗ (∃ X, owns (c : Thread nD τ) (spec0_3.stage ((cfgA F).slots t (3 : Fin 12))) fullShare X) ∗ (∃ X, owns (c : Thread nD τ) (spec0_4.stage ((cfgA F).slots t (4 : Fin 12))) fullShare X) ∗ (∃ X, owns (c : Thread nD τ) (spec0_5.stage ((cfgA F).slots t (5 : Fin 12))) fullShare X) ∗ (∃ X, owns (c : Thread nD τ) (spec0_6.stage ((cfgA F).slots t (6 : Fin 12))) fullShare X) ∗ (∃ X, owns (c : Thread nD τ) (spec0_7.stage ((cfgA F).slots t (7 : Fin 12))) fullShare X) ∗ (∃ X, owns (c : Thread nD τ) (spec0_8.stage ((cfgA F).slots t (8 : Fin 12))) fullShare X) ∗ (∃ X, owns (c : Thread nD τ) (spec0_9.stage ((cfgA F).slots t (9 : Fin 12))) fullShare X) ∗ (∃ X, owns (c : Thread nD τ) (spec0_10.stage ((cfgA F).slots t (10 : Fin 12))) fullShare X) ∗ (∃ X, owns (c : Thread nD τ) (spec0_11.stage ((cfgA F).slots t (11 : Fin 12))) fullShare X))
      ⊢ wp frame (wpE (defs₀ (F := F)) Variants.none c.tc none) Set.univ ((defs₀ (F := F)) Proc.tc (cfgA F).body ((cfgA F).bodyArgs t ((cfgA F).slots t)))
        fun _ => iprop((Pipeline.ΦA (cfgA F).spec c ∗ Pipeline.ΦT pre0 (adm F).1 c) ∗ (datF m 0 c).owesAt () t.castSucc ∗ (∃ X, owns (c : Thread nD τ) (spec0_0.stage ((cfgA F).slots t (0 : Fin 12))) fullShare X) ∗ (∃ X, owns (c : Thread nD τ) (spec0_1.stage ((cfgA F).slots t (1 : Fin 12))) fullShare X) ∗ (∃ X, owns (c : Thread nD τ) (spec0_2.stage ((cfgA F).slots t (2 : Fin 12))) fullShare X) ∗ (∃ X, owns (c : Thread nD τ) (spec0_3.stage ((cfgA F).slots t (3 : Fin 12))) fullShare X) ∗ (∃ X, owns (c : Thread nD τ) (spec0_4.stage ((cfgA F).slots t (4 : Fin 12))) fullShare X) ∗ (∃ X, owns (c : Thread nD τ) (spec0_5.stage ((cfgA F).slots t (5 : Fin 12))) fullShare X) ∗ (∃ X, owns (c : Thread nD τ) (spec0_6.stage ((cfgA F).slots t (6 : Fin 12))) fullShare X) ∗ (∃ X, owns (c : Thread nD τ) (spec0_7.stage ((cfgA F).slots t (7 : Fin 12))) fullShare X) ∗ (∃ X, owns (c : Thread nD τ) (spec0_8.stage ((cfgA F).slots t (8 : Fin 12))) fullShare X) ∗ (∃ X, owns (c : Thread nD τ) (spec0_9.stage ((cfgA F).slots t (9 : Fin 12))) fullShare X) ∗ (∃ X, owns (c : Thread nD τ) (spec0_10.stage ((cfgA F).slots t (10 : Fin 12))) fullShare X) ∗ (∃ X, owns (c : Thread nD τ) (spec0_11.stage ((cfgA F).slots t (11 : Fin 12))) fullShare X)) := by
  rw [tables_eq]
  iintro ⟨⟨HA, HT0, HT1⟩, Ho, ⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩⟩
  obtain ⟨o7, o8, o9, o10, o11, hr⟩ := runs_any (F := F) c (crd F t) (spec0_0.stage ((cfgA F).slots t (0 : Fin 12))) (hstage0_0 (((cfgA F).slots t (0 : Fin 12)).cast nbuf0_0)) (spec0_1.stage ((cfgA F).slots t (1 : Fin 12))) (hstage0_1 (((cfgA F).slots t (1 : Fin 12)).cast nbuf0_1)) (spec0_2.stage ((cfgA F).slots t (2 : Fin 12))) (hstage0_2 (((cfgA F).slots t (2 : Fin 12)).cast nbuf0_2)) (spec0_3.stage ((cfgA F).slots t (3 : Fin 12))) (hstage0_3 (((cfgA F).slots t (3 : Fin 12)).cast nbuf0_3)) (spec0_4.stage ((cfgA F).slots t (4 : Fin 12))) (hstage0_4 (((cfgA F).slots t (4 : Fin 12)).cast nbuf0_4)) (spec0_5.stage ((cfgA F).slots t (5 : Fin 12))) (hstage0_5 (((cfgA F).slots t (5 : Fin 12)).cast nbuf0_5)) (spec0_6.stage ((cfgA F).slots t (6 : Fin 12))) (hstage0_6 (((cfgA F).slots t (6 : Fin 12)).cast nbuf0_6)) (spec0_7.stage ((cfgA F).slots t (7 : Fin 12))) (hstage0_7 (((cfgA F).slots t (7 : Fin 12)).cast nbuf0_7)) (spec0_8.stage ((cfgA F).slots t (8 : Fin 12))) (hstage0_8 (((cfgA F).slots t (8 : Fin 12)).cast nbuf0_8)) (spec0_9.stage ((cfgA F).slots t (9 : Fin 12))) (hstage0_9 (((cfgA F).slots t (9 : Fin 12)).cast nbuf0_9)) (spec0_10.stage ((cfgA F).slots t (10 : Fin 12))) (hstage0_10 (((cfgA F).slots t (10 : Fin 12)).cast nbuf0_10)) (spec0_11.stage ((cfgA F).slots t (11 : Fin 12))) (hstage0_11 (((cfgA F).slots t (11 : Fin 12)).cast nbuf0_11)) X0 X1 X2 X3 X4 X5 X6 X7 X8 X9 X10 X11
  iapply (hr _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  iintro ⟨H0, H1, H2, H3, H4, H5, H6, HT0, HT1, H7, H8, H9, H10, H11⟩
  isplitl [HA HT0 HT1]
  · isplitl [HA]; · iexact HA
    isplitl [HT0]; · iexact HT0
    iexact HT1
  isplitl [Ho]; · iexact Ho
  isplitl [H0]; · iexists _; iapply owns_of_rep; iexact H0
  isplitl [H1]; · iexists _; iapply owns_of_rep; iexact H1
  isplitl [H2]; · iexists _; iapply owns_of_rep; iexact H2
  isplitl [H3]; · iexists _; iapply owns_of_rep; iexact H3
  isplitl [H4]; · iexists _; iapply owns_of_rep; iexact H4
  isplitl [H5]; · iexists _; iapply owns_of_rep; iexact H5
  isplitl [H6]; · iexists _; iapply owns_of_rep; iexact H6
  isplitl [H7]
  · iexists ((spec0_7.stage ((cfgA F).slots t (7 : Fin 12))).view.read (Elt F) o7); unfold owns; iexists o7; isplitr
    · ipureintro; rfl
    iexact H7
  isplitl [H8]
  · iexists ((spec0_8.stage ((cfgA F).slots t (8 : Fin 12))).view.read (Elt F) o8); unfold owns; iexists o8; isplitr
    · ipureintro; rfl
    iexact H8
  isplitl [H9]
  · iexists ((spec0_9.stage ((cfgA F).slots t (9 : Fin 12))).view.read (Elt F) o9); unfold owns; iexists o9; isplitr
    · ipureintro; rfl
    iexact H9
  isplitl [H10]
  · iexists ((spec0_10.stage ((cfgA F).slots t (10 : Fin 12))).view.read (Elt F) o10); unfold owns; iexists o10; isplitr
    · ipureintro; rfl
    iexact H10
  iexists ((spec0_11.stage ((cfgA F).slots t (11 : Fin 12))).view.read (Elt F) o11); unfold owns; iexists o11; isplitr
  · ipureintro; rfl
  iexact H11

set_option maxHeartbeats 4000000 in
theorem bodyF (m : (ℓ : Loc nD τ sig) → Buf (Elt F) ℓ) (c : Dev nD) :
    Pipeline.BodyObligation (datF m 0 c) (defs₀ (F := F)) Variants.none () Set.univ (fun _ => true) := by
  unfold Pipeline.BodyObligation; intro t
  rw [bigSep_W0]
  exact stepF m c t
theorem V_arg0 (m : (ℓ : Loc nD τ sig) → Buf (Elt F) ℓ) (c : Dev nD) : Vh m c main_arg0 = m ((c.tc : Thread nD τ).loc main_arg0) := by
  after_reads_simp
  try rfl
theorem V_arg1 (m : (ℓ : Loc nD τ sig) → Buf (Elt F) ℓ) (c : Dev nD) : Vh m c main_arg1 = m ((c.tc : Thread nD τ).loc main_arg1) := by
  after_reads_simp
  try rfl
theorem V_arg2 (m : (ℓ : Loc nD τ sig) → Buf (Elt F) ℓ) (c : Dev nD) : Vh m c main_arg2 = m ((c.tc : Thread nD τ).loc main_arg2) := by
  after_reads_simp
  try rfl
theorem V_arg3 (m : (ℓ : Loc nD τ sig) → Buf (Elt F) ℓ) (c : Dev nD) : Vh m c main_arg3 = m ((c.tc : Thread nD τ).loc main_arg3) := by
  after_reads_simp
  try rfl

set_option maxHeartbeats 4000000 in
/-- The whole program runs to its end with the argument arrays unchanged and every counter at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_frameP_forget_shared (pcfgs (F := F)) (fun _ => adm F) (datF m) (0 : Fin 1) launch₀0 defs₀ Variants.none (fun _ => true)
    m g main (hbody := fun c => (bodyF m c).loose) (hq := fun _ _ _ => rfl) (howed := fun _ _ => rfl) (V := fun c b => Vh m c b)
    (hmain := Pipeline.hmainP_prefixes pcfgs 0 defs₀ Variants.none m main (hostRun F) ⟨hostOps0_sub, hostOps0_1_sub, hostOps0_2_sub, hostOps0_3_sub⟩ ?_ (fun c => main_chain c))
    (hA := fun _ _ => rfl) (hpf := ?_) (hΦ := fun _ _ => rfl) _ ?_
  · simp only [hostRun, hostOps0, hostOps0_1, hostOps0_2, hostOps0_3, List.forall_cons]; trivial
  · intro c k
    fin_cases k
    · exact V_c m c
    · exact V_c0 m c
  · rintro r ⟨h, hz⟩
    refine ⟨fun c => ⟨?_, ?_, ?_, ?_⟩, hz⟩
    · exact (h.arr_in c 0 rfl).trans (V_arg0 m c)
    · exact (h.arr_in c 1 rfl).trans (V_arg1 m c)
    · exact ((h c).2 main_arg2 (Pipeline.mem_restRefs_of (win := spec0) main_arg2 (by decide) (by decide))).trans (V_arg2 m c)
    · exact (h.arr_in c 4 rfl).trans (V_arg3 m c)

end Cert.KernelIdeal.Att

end
-- ==== Proof.K.Tab.lean ====
module

public import proofs.«01_k».proof.Proof.K.Base

@[expose] public section

set_option maxRecDepth 16384
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The query-block table, as the host constant holds it. -/
def pinI : S40.Idx → BitVec 32 := fun x => lit0 (S40.rowMajor x)
/-- The key-block table, as the host constant holds it. -/
def pinJ : S40.Idx → BitVec 32 := fun x => lit1 (S40.rowMajor x)

/-- The contents of the two tables. -/
def pfN (F : FTy → Type) [FloatOps F] : pre0.Contents (Elt F) := fun | ⟨0, _⟩ => pinI | ⟨1, _⟩ => pinJ | ⟨_ + 2, h⟩ => absurd h (by simp)

theorem off1_val : ∀ i : grid0.Coords,
    (S40.rowMajor ((Rect.unit (s := S40) (k0_off1 i) S1.size (k0_off1_inb i)).toLoadRect.idx (Shape.Idx.first (numel1_S1.symm ▸ Nat.one_pos)))).val = (i 1).val := by
  decide +kernel

theorem off1_eq (i : grid0.Coords) :
    S40.rowMajor ((Rect.unit (s := S40) (k0_off1 i) S1.size (k0_off1_inb i)).toLoadRect.idx (Shape.Idx.first (numel1_S1.symm ▸ Nat.one_pos))) = i 1 :=
  Fin.ext (off1_val i)

/-- The word read from the query-block table at a grid point is the table's entry at the point's step. -/
theorem wI_eq (i : grid0.Coords) : wI F i pinI = lit0 (i 1) := congrArg lit0 (off1_eq i)
theorem wJ_eq (i : grid0.Coords) : wJ F i pinJ = lit1 (i 1) := congrArg lit1 (off1_eq i)

theorem blkI (i : grid0.Coords) : (![(wI F i pinI).toNat, (BitVec.ofNat 32 (i 0).val).toNat] : Fin 2 → ℕ) = ![(lit0 (i 1)).toNat, (BitVec.ofNat 32 (i 0).val).toNat] := by rw [wI_eq]
theorem blkJ (i : grid0.Coords) : (![(wJ F i pinJ).toNat, (BitVec.ofNat 32 (i 0).val).toNat] : Fin 2 → ℕ) = ![(lit1 (i 1)).toNat, (BitVec.ofNat 32 (i 0).val).toNat] := by rw [wJ_eq]
theorem t2_eq (i : grid0.Coords) : cc0_transform_2 k0_off1_inb numel1_S1 (pfN F) i = ![(lit1 (i 1)).toNat, (Scalar.addi 8#32 (BitVec.ofNat 32 (i 0).val)).toNat] := by
  rw [← wJ_eq (F := F)]; rfl
theorem t5_eq (i : grid0.Coords) : cc0_transform_5 k0_off1_inb numel1_S1 (pfN F) i = ![(BitVec.ofNat 32 (i 0).val).toNat, (lit0 (i 1)).toNat, 0] := by
  rw [← wI_eq (F := F)]; rfl
theorem t6_eq (i : grid0.Coords) : cc0_transform_6 k0_off1_inb numel1_S1 (pfN F) i = ![(BitVec.ofNat 32 (i 0).val).toNat, 0, (lit1 (i 1)).toNat] := by
  rw [← wJ_eq (F := F)]; rfl
theorem inb_of {n : ℕ} {f g p q : Fin n → ℕ} (e : f = g) (h : ∀ a, (g a + 1) * p a ≤ q a) : ∀ a, (f a + 1) * p a ≤ q a := e ▸ h

/-- At the two tables every block lies inside its array. -/
theorem ok_pfN : ok0 (F := F) (pfN F) :=
  ⟨fun i => ⟨inb_of (blkI (F := F) i) (by revert i; decide +kernel), .inr (Affine.block_words_dvd (by decide) (by decide))⟩,
    fun i => ⟨inb_of (blkJ (F := F) i) (by revert i; decide +kernel), .inr (Affine.block_words_dvd (by decide) (by decide))⟩,
    fun i => ⟨inb_of (t2_eq i) (by revert i; decide +kernel), .inr (Affine.block_words_dvd (by decide) (by decide))⟩,
    fun i => ⟨inb_of (blkI (F := F) i) (by revert i; decide +kernel), .inl rfl⟩,
    fun i => ⟨inb_of (blkI (F := F) i) (by revert i; decide +kernel), .inr (Affine.block_words_dvd (by decide) (by decide))⟩,
    fun i => ⟨inb_of (t5_eq i) (by revert i; decide +kernel), .inl rfl⟩,
    fun i => ⟨inb_of (t6_eq i) (by revert i; decide +kernel), .inl rfl⟩,
    fun i => ⟨inb_of (blkJ (F := F) i) (by revert i; decide +kernel), .inl rfl⟩,
    fun i => ⟨inb_of (blkJ (F := F) i) (by revert i; decide +kernel), .inl rfl⟩,
    fun i => ⟨inb_of (blkJ (F := F) i) (by revert i; decide +kernel), .inl rfl⟩⟩

theorem chk_tab : ∀ s : Fin 40, k0_chk1 (lit0 s) (lit1 s) := by decide +kernel

/-- Which of the body's branches run at a step, from the two words read there. -/
abbrev Sel (v1 v3 : BitVec 32) (d : Fin 5) : Prop :=
  (k0_cond2 v1 v3 = 1#1 ↔ d ≠ 4) ∧ (k0_cond3 v1 v3 = 1#1 ↔ d = 4) ∧ (k0_cond4 v1 v3 = 1#1 ↔ d = 0) ∧ (k0_cond5 v1 v3 = 1#1 ↔ d = 1) ∧ (k0_cond6 v1 v3 = 1#1 ↔ d = 2) ∧ (k0_cond7 v1 v3 = 1#1 ↔ d = 3)

/-- The branch of a step: the key block's place within the query block, or 4 where it lies before it. -/
def sel (s : Fin 40) : Fin 5 := if h : (lit1 s).toNat < 4 * (lit0 s).toNat then 4 else Fin.ofNat 5 ((lit1 s).toNat - 4 * (lit0 s).toNat)

theorem sel_tab : ∀ s : Fin 40, Sel (lit0 s) (lit1 s) (sel s) := by decide +kernel
theorem cond1_tab : ∀ i : grid0.Coords, (k0_cond1 i = 1#1 ↔ (i 1).val = 0) := by decide +kernel
theorem sel_zero : ∀ s : Fin 40, s.val = 0 → sel s = 0 := by decide +kernel

theorem chk_at (i : grid0.Coords) : k0_chk1 (wI F i pinI) (wJ F i pinJ) := by rw [wI_eq, wJ_eq]; exact chk_tab (i 1)
theorem sel_at (i : grid0.Coords) : Sel (wI F i pinI) (wJ F i pinJ) (sel (i 1)) := by rw [wI_eq, wJ_eq]; exact sel_tab (i 1)

/-- The admissible contents, and the pipeline at them. -/
def adm (F : FTy → Type) [FloatOps F] : (pcfg0 (F := F)).Adm := ⟨pfN F, ok_pfN⟩
abbrev cfgA (F : FTy → Type) [FloatOps F] : Pipeline.Cfg sig Λ₀ := cfg0 (F := F) (adm F)
abbrev pcs (F : FTy → Type) [FloatOps F] : Fin 1 → Pipeline.Cfg sig Λ₀ := Pipeline.pin (pcfgs (F := F)) fun _ => adm F
abbrev crd (F : FTy → Type) [FloatOps F] (t : Fin (cfgA F).N) : (cfgA F).grid.Coords := (cfgA F).grid.coords t

end Cert.Kernel.Att

end
-- ==== Proof.Frames.lean ====
module

public import proofs.«01_k».proof.Proof.RefFrame
public import proofs.«01_k».proof.Proof.Frame
public import proofs.«01_k».proof.Proof.K.Frame
public import proofs.«01_k».proof.Proof.Gen.Kernel
public import proofs.«01_k».proof.Proof.Gen.KernelIdeal
public import proofs.«01_k».proof.Proof.Gen.ReferenceIdeal

/-! The claims that say no value: the three frames, and that the idealization changes the mask's constant alone. -/

@[expose] public section

namespace Cert.Att

open Idealize.ShloMosaic Idealize.SL.Sem

theorem frame_kernel : Cert.quiescent_Kernel := fun m g _ => Cert.Kernel.Att.frame (F := Bits) m g

theorem frame_ideal : Cert.quiescent_KernelIdeal := fun m g _ => Cert.KernelIdeal.Att.frame (F := Ideal) m g

theorem frame_reference : Cert.quiescent_ReferenceIdeal := Cert.ReferenceIdeal.Att.frame_ref

/-- The one constant that is named: the finite mask value of the kernel is minus infinity in the idealization. -/
theorem preserves : Cert.preserves_Kernel_KernelIdeal := IdealRules.named_const.statement _ _ _ _ _ rfl

end Cert.Att

end
-- ==== Proof.Chain.lean ====
module

public import proofs.«01_k».proof.Proof.Base
public import Idealize.ShloMosaic.Lib.VecWindow

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The scores' product of two blocks of rows: one head's lanes of `a` against the lanes of `b`, for every pair of rows. -/
def prodM (m : IVec S512x128 1) (a b : FVec F S512x128 .bf16) : FVec F S512x512 .f32 :=
  matmul dot_S512x128_S512x128_S512x512_1_1_0_0_n_n none (select m a (broadcast S512x128 (Scalar.ofBits .bf16 0x0000#16))) b (constant S512x512 .f32 0x00000000#32)

/-- The scores less the keys' gate sums. -/
def lessC (s : FVec F S512x512 .f32) (ck : FVec F S1x1x512 .f32) : FVec F S512x512 .f32 :=
  subf s (broadcastTo S512x512 (shapeCast S1x512 ck shapeCasts_S1x1x512_S1x512) broadcasts_S1x512_S512x512)

/-- The mask of a chunk on the diagonal: a key after the query has the named constant for a score. -/
def diagM (s : FVec F S512x512 .f32) : FVec F S512x512 .f32 :=
  select (cmpi .sge (iota .tc S512x512 32 [0] iota_S512x512_d0_w32) (iota .tc S512x512 32 [1] iota_S512x512_d1_w32)) s (broadcast S512x512 (Named.named κ "mask" 0xF149F2CA#32 : F .f32))

/-- The probabilities: the exponential of the scores less the queries' log sums. -/
def probM (s : FVec F S512x512 .f32) (l : FVec F S1x512x128 .f32) : FVec F S512x512 .f32 :=
  exp (subf s (concatenate S512x512 1 [⟨S512x128, shapeCast S512x128 l shapeCasts_S1x512x128_S512x128⟩, ⟨S512x128, shapeCast S512x128 l shapeCasts_S1x512x128_S512x128⟩, ⟨S512x128, shapeCast S512x128 l shapeCasts_S1x512x128_S512x128⟩, ⟨S512x128, shapeCast S512x128 l shapeCasts_S1x512x128_S512x128⟩] concatenates_S512x128_S512x128_S512x128_S512x128_S512x512_d1))

/-- A query's sum over a head's lanes of the output times its gradient, at every key. -/
def deltaM (m : IVec S512x128 1) (d : FVec F S512x128 .bf16) (o : FVec F S512x128 .f32) : FVec F S512x512 .f32 :=
  broadcastTo S512x512 (shapeCast S512x1 (multiReduction .add [1] S512 (select m (mulf (extf .f32 d bitsLt_bf16_f32) (shapeCast S512x128 o shapeCasts_S512x128_S512x128)) (broadcast S512x128 (Scalar.ofBits .f32 0x00000000#32))) 0x00000000#32 reduces_S512x128_S512 (.inl rfl) rfl) shapeCasts_S512_S512x1) broadcasts_S512x1_S512x512

/-- The blocks of the keys at a step: keys, values and the two heads' gate sums. -/
structure Keys (F : FTy → Type) where
  k : FVec F S512x128 .bf16
  v : FVec F S512x128 .bf16
  c0 : FVec F S1x1x512 .f32
  c1 : FVec F S1x1x512 .f32

/-- A chunk of 512 queries at a step: whether it lies on the diagonal, its queries, outputs, output gradients and the two heads' log sums. -/
structure Chunk (F : FTy → Type) where
  diag : Bool
  q : FVec F S512x128 .bf16
  o : FVec F S512x128 .f32
  d : FVec F S512x128 .bf16
  l0 : FVec F S1x512x128 .f32
  l1 : FVec F S1x512x128 .f32

/-- The mask of the lanes of head `h` of a pair. -/
def laneM (h : Bool) : IVec S512x128 1 := cond h k0_pay2 k0_pay1

/-- The probabilities of a chunk under a head. -/
def pCh (x : Keys F) (u : Chunk F) (h : Bool) : FVec F S512x512 .f32 :=
  probM (cond u.diag (diagM (lessC (prodM (laneM h) u.q x.k) (cond h x.c1 x.c0))) (lessC (prodM (laneM h) u.q x.k) (cond h x.c1 x.c0))) (cond h u.l1 u.l0)
/-- The gradients of a chunk's scores under a head. -/
def dsCh (x : Keys F) (u : Chunk F) (h : Bool) : FVec F S512x512 .bf16 :=
  truncf .bf16 (mulf (pCh x u h) (subf (prodM (laneM h) u.d x.v) (deltaM (laneM h) u.d u.o))) bitsLt_bf16_f32

/-- A chunk's rows of the query gradient on a head's own lanes, of the row sums on the other's. -/
def dqCh (x : Keys F) (u : Chunk F) (h : Bool) : FVec F S512x128 .f32 :=
  matmul dot_S512x512_S512x128_S512x128_1_0_0_1_n_n none (dsCh x u h) (select (laneM h) x.k (broadcast S512x128 (Scalar.ofBits .bf16 0x3F80#16))) (constant S512x128 .f32 0x00000000#32)
/-- What a chunk adds to the keys' rows of the value gradient. -/
def dvCh (x : Keys F) (u : Chunk F) (h : Bool) : FVec F S512x128 .f32 :=
  matmul dot_S512x512_S512x128_S512x128_1_0_0_1_n_n none (transpose S512x512 [1, 0] (truncf .bf16 (pCh x u h) bitsLt_bf16_f32) transposes_S512x512_p1_0_S512x512) u.d (constant S512x128 .f32 0x00000000#32)
/-- What a chunk adds to the keys' rows of the key gradient on a head's own lanes, to the column sums on the other's. -/
def dkCh (x : Keys F) (u : Chunk F) (h : Bool) : FVec F S512x128 .f32 :=
  matmul dot_S512x512_S512x128_S512x128_1_0_0_1_n_n none (transpose S512x512 [1, 0] (dsCh x u h) transposes_S512x512_p1_0_S512x512) (select (laneM h) u.q (broadcast S512x128 (Scalar.ofBits .bf16 0x3F80#16))) (constant S512x128 .f32 0x00000000#32)

/-- The first head's lanes of one array, the second head's of another. -/
def mix (a b : FVec F S512x128 .f32) : FVec F S512x128 .f32 := select k0_pay1 a b

/-- The sum of a function over a list of chunks, from the first. -/
def sumCh (f : Chunk F → FVec F S512x128 .f32) : List (Chunk F) → FVec F S512x128 .f32
  | [] => constant S512x128 .f32 0x00000000#32
  | u :: l => l.foldl (fun s w => addf s (f w)) (f u)

/-- An array with another added to it. -/
def plus (y m : FVec F S512x128 .f32) : FVec F S512x128 .f32 := addf (shapeCast S512x128 y shapeCasts_S512x128_S512x128) m

/-- Rows of an array of 8192 rows, and what is added to them. -/
structure RowAdd (F : FTy → Type) where
  off : Fin 2 → ℕ
  inb : ∀ a, off a + S512x128.size a ≤ S8192x128.size a
  m : FVec F S512x128 .f32

/-- The stores of a list of additions, the last made first, over earlier stores. -/
def pieces (v : View sig .tc .vmem S8192x128 .f32) (f : v.ty.Contents (Elt F)) (L : List (View.Piece (Elt F) S8192x128 .f32)) :
    List (RowAdd F) → List (View.Piece (Elt F) S8192x128 .f32)
  | [] => L
  | p :: l => ⟨Rect.unit p.off S512x128.size p.inb, plus (v.readAt (Elt F) (Rect.unit (s := S8192x128) p.off S512x128.size p.inb).toLoadRect (v.writes (Elt F) f (pieces v f L l))) p.m⟩ :: pieces v f L l

/-- An array with a list of additions made to it, the last made first. -/
def addRows (y : S8192x128.Idx → Elt F .f32) : List (RowAdd F) → (S8192x128.Idx → Elt F .f32)
  | [] => y
  | p :: l => VecWindow.put (addRows y l) p.off S512x128.size (plus (VecWindow.window (addRows y l) p.off S512x128.size p.inb) p.m)

theorem read_pieces (v : View sig .tc .vmem S8192x128 .f32) (f : v.ty.Contents (Elt F)) (L : List (View.Piece (Elt F) S8192x128 .f32)) (l : List (RowAdd F)) :
    v.read (Elt F) (v.writes (Elt F) f (pieces v f L l)) = addRows (v.read (Elt F) (v.writes (Elt F) f L)) l := by
  induction l with
  | nil => rfl
  | cons p l ih =>
    show v.read (Elt F) (v.writes (Elt F) f (⟨Rect.unit p.off S512x128.size p.inb, _⟩ :: pieces v f L l)) = _
    rw [View.read_writes_cons_put v f p.inb _ _ rfl, View.readAt_unit v _ p.inb rfl p.inb, ih]
    rfl

/-- The keys' blocks as the body loads them. -/
def ldKeys (arg5 arg6 : Memref sig .tc .vmem S512x128 .bf16) (arg10 : Memref sig .tc .vmem S1x8x512 .f32) (x1 x2 : S512x128.Idx → Elt F .bf16) (x6 : S1x8x512.Idx → Elt F .f32) : Keys F :=
  ⟨arg5.view.readAt (Elt F) (Rect.unit (s := S512x128) ![0, 0] S512x128.size inb_S512x128_S512x128_0_0).toLoadRect (arg5.view.rep x1),
   arg6.view.readAt (Elt F) (Rect.unit (s := S512x128) ![0, 0] S512x128.size inb_S512x128_S512x128_0_0).toLoadRect (arg6.view.rep x2),
   arg10.view.readAt (Elt F) (Rect.unit (s := S1x8x512) ![0, 0, 0] S1x1x512.size (by decide)).toLoadRect (arg10.view.rep x6),
   arg10.view.readAt (Elt F) (Rect.unit (s := S1x8x512) ![0, 1, 0] S1x1x512.size (by decide)).toLoadRect (arg10.view.rep x6)⟩

/-- A chunk of queries, from row `n` of the query block, as the body loads it. -/
def ldChunk (arg4 : Memref sig .tc .vmem S2048x128 .bf16) (arg7 : Memref sig .tc .vmem S2048x128 .f32) (arg8 : Memref sig .tc .vmem S2048x128 .bf16) (arg9 : Memref sig .tc .vmem S2x2048x128 .f32)
    (x0 : S2048x128.Idx → Elt F .bf16) (x3 : S2048x128.Idx → Elt F .f32) (x4 : S2048x128.Idx → Elt F .bf16) (x5 : S2x2048x128.Idx → Elt F .f32)
    (dg : Bool) (n : ℕ) (hn : ∀ a, (![n, 0] : Fin 2 → ℕ) a + S512x128.size a ≤ S2048x128.size a)
    (h0 : ∀ a, (![0, n, 0] : Fin 3 → ℕ) a + S1x512x128.size a ≤ S2x2048x128.size a) (h1 : ∀ a, (![1, n, 0] : Fin 3 → ℕ) a + S1x512x128.size a ≤ S2x2048x128.size a) : Chunk F :=
  ⟨dg,
   arg4.view.readAt (Elt F) (Rect.unit (s := S2048x128) ![n, 0] S512x128.size hn).toLoadRect (arg4.view.rep x0),
   arg7.view.readAt (Elt F) (Rect.unit (s := S2048x128) ![n, 0] S512x128.size hn).toLoadRect (arg7.view.rep x3),
   arg8.view.readAt (Elt F) (Rect.unit (s := S2048x128) ![n, 0] S512x128.size hn).toLoadRect (arg8.view.rep x4),
   arg9.view.readAt (Elt F) (Rect.unit (s := S2x2048x128) ![0, n, 0] S1x512x128.size h0).toLoadRect (arg9.view.rep x5),
   arg9.view.readAt (Elt F) (Rect.unit (s := S2x2048x128) ![1, n, 0] S1x512x128.size h1).toLoadRect (arg9.view.rep x5)⟩

/-- The keys' blocks, from the windows' contents. -/
def keysOf (x1 x2 : S512x128.Idx → Elt F .bf16) (x6 : S1x8x512.Idx → Elt F .f32) : Keys F :=
  ⟨x1, x2, VecWindow.window (s := S1x8x512) x6 ![0, 0, 0] S1x1x512.size (by decide), VecWindow.window (s := S1x8x512) x6 ![0, 1, 0] S1x1x512.size (by decide)⟩

/-- A chunk of queries, from the windows' contents. -/
def chunkOf (x0 : S2048x128.Idx → Elt F .bf16) (x3 : S2048x128.Idx → Elt F .f32) (x4 : S2048x128.Idx → Elt F .bf16) (x5 : S2x2048x128.Idx → Elt F .f32)
    (dg : Bool) (n : ℕ) (hn : ∀ a, (![n, 0] : Fin 2 → ℕ) a + S512x128.size a ≤ S2048x128.size a)
    (h0 : ∀ a, (![0, n, 0] : Fin 3 → ℕ) a + S1x512x128.size a ≤ S2x2048x128.size a) (h1 : ∀ a, (![1, n, 0] : Fin 3 → ℕ) a + S1x512x128.size a ≤ S2x2048x128.size a) : Chunk F :=
  ⟨dg, VecWindow.window (s := S2048x128) x0 ![n, 0] S512x128.size hn, VecWindow.window (s := S2048x128) x3 ![n, 0] S512x128.size hn, VecWindow.window (s := S2048x128) x4 ![n, 0] S512x128.size hn,
   VecWindow.window (s := S2x2048x128) x5 ![0, n, 0] S1x512x128.size h0, VecWindow.window (s := S2x2048x128) x5 ![1, n, 0] S1x512x128.size h1⟩

theorem ldKeys_eq (arg5 arg6 : Memref sig .tc .vmem S512x128 .bf16) (arg10 : Memref sig .tc .vmem S1x8x512 .f32) (x1 x2 : S512x128.Idx → Elt F .bf16) (x6 : S1x8x512.Idx → Elt F .f32) :
    ldKeys arg5 arg6 arg10 x1 x2 x6 = keysOf x1 x2 x6 := by
  unfold ldKeys keysOf
  rw [View.readAt_rep_full arg5.view x1, View.readAt_rep_full arg6.view x2, View.readAt_rep_unit arg10.view x6 (size := S1x1x512.size) (by decide) rfl (by decide),
    View.readAt_rep_unit arg10.view x6 (off := ![0, 1, 0]) (size := S1x1x512.size) (by decide) rfl (by decide)]

theorem ldChunk_eq (arg4 : Memref sig .tc .vmem S2048x128 .bf16) (arg7 : Memref sig .tc .vmem S2048x128 .f32) (arg8 : Memref sig .tc .vmem S2048x128 .bf16) (arg9 : Memref sig .tc .vmem S2x2048x128 .f32)
    (x0 : S2048x128.Idx → Elt F .bf16) (x3 : S2048x128.Idx → Elt F .f32) (x4 : S2048x128.Idx → Elt F .bf16) (x5 : S2x2048x128.Idx → Elt F .f32) (dg : Bool) (n : ℕ) (hn) (h0) (h1) :
    ldChunk arg4 arg7 arg8 arg9 x0 x3 x4 x5 dg n hn h0 h1 = chunkOf x0 x3 x4 x5 dg n hn h0 h1 := by
  unfold ldChunk chunkOf
  rw [View.readAt_rep_unit arg4.view x0 hn rfl hn, View.readAt_rep_unit arg7.view x3 hn rfl hn, View.readAt_rep_unit arg8.view x4 hn rfl hn,
    View.readAt_rep_unit arg9.view x5 h0 rfl h0, View.readAt_rep_unit arg9.view x5 h1 rfl h1]

end Cert.KernelIdeal.Att

end
-- ==== Proof.Step.lean ====
module

public import proofs.«01_k».proof.Proof.Tab
public import proofs.«01_k».proof.Proof.Chain

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of the seven input windows at a step. -/
structure Win (F : FTy → Type) where
  x0 : S2048x128.Idx → Elt F .bf16
  x1 : S512x128.Idx → Elt F .bf16
  x2 : S512x128.Idx → Elt F .bf16
  x3 : S2048x128.Idx → Elt F .f32
  x4 : S2048x128.Idx → Elt F .bf16
  x5 : S2x2048x128.Idx → Elt F .f32
  x6 : S1x8x512.Idx → Elt F .f32

theorem inb_rows (r : Fin 4) : ∀ a, (![512 * r.val, 0] : Fin 2 → ℕ) a + S512x128.size a ≤ S2048x128.size a := by revert r; decide
theorem inb_l0 (r : Fin 4) : ∀ a, (![0, 512 * r.val, 0] : Fin 3 → ℕ) a + S1x512x128.size a ≤ S2x2048x128.size a := by revert r; decide
theorem inb_l1 (r : Fin 4) : ∀ a, (![1, 512 * r.val, 0] : Fin 3 → ℕ) a + S1x512x128.size a ≤ S2x2048x128.size a := by revert r; decide
theorem inb_all (i r : Fin 4) : ∀ a, (![2048 * i.val + 512 * r.val, 0] : Fin 2 → ℕ) a + S512x128.size a ≤ S8192x128.size a := by revert i r; decide

/-- The keys' blocks of the windows. -/
def Win.keys (w : Win F) : Keys F := keysOf w.x1 w.x2 w.x6
/-- A chunk of the windows' queries; `e` is the chunk the key block lies at (4 where it lies before them all). -/
def Win.chunk (w : Win F) (e : Fin 5) (r : Fin 4) : Chunk F := chunkOf w.x0 w.x3 w.x4 w.x5 (decide (e.val = r.val)) (512 * r.val) (inb_rows r) (inb_l0 r) (inb_l1 r)
/-- The chunks a step works on: those no query of which lies before every key. -/
def live (e : Fin 5) : List (Fin 4) := (List.finRange 4).filter fun r => decide (e.val = 4 ∨ e.val ≤ r.val)

/-- The rows of chunk `r` of query block `i`, and what a step adds to them; `h` tells the row sums' lanes from the gradient's. -/
def Win.row (w : Win F) (i : Fin 4) (e : Fin 5) (h : Bool) (r : Fin 4) : RowAdd F :=
  ⟨![2048 * i.val + 512 * r.val, 0], inb_all i r, mix (dqCh w.keys (w.chunk e r) h) (dqCh w.keys (w.chunk e r) (!h))⟩
/-- What a step leaves in an array of the queries' rows. -/
def Win.outQ (w : Win F) (i : Fin 4) (e : Fin 5) (h : Bool) (y : S8192x128.Idx → Elt F .f32) : S8192x128.Idx → Elt F .f32 :=
  addRows y ((live e).reverse.map (w.row i e h))
/-- An array of zeros. -/
def zeroK : FVec F S512x128 .f32 := broadcast S512x128 (Scalar.ofBits .f32 0x00000000#32)
/-- What a step leaves in an array of the keys' rows: a sum over its chunks of a function of each, the first head's lanes and the second's. -/
def Win.outK (w : Win F) (e : Fin 5) (f : Keys F → Chunk F → Bool → FVec F S512x128 .f32) (h : Bool) (y : S512x128.Idx → Elt F .f32) : S512x128.Idx → Elt F .f32 :=
  plus (if e = 4 then y else zeroK) (mix (sumCh (fun u => f w.keys u h) ((live e).map (w.chunk e))) (sumCh (fun u => f w.keys u (!h)) ((live e).map (w.chunk e))))

theorem live_0 : live 0 = [0, 1, 2, 3] := by decide
theorem live_1 : live 1 = [1, 2, 3] := by decide
theorem live_2 : live 2 = [2, 3] := by decide
theorem live_3 : live 3 = [3] := by decide
theorem live_4 : live 4 = [0, 1, 2, 3] := by decide

theorem rowAdd_eq {off off' : Fin 2 → ℕ} (inb : ∀ a, off a + S512x128.size a ≤ S8192x128.size a) (inb' : ∀ a, off' a + S512x128.size a ≤ S8192x128.size a) (m : FVec F S512x128 .f32) (h : off = off') :
    (⟨off, inb, m⟩ : RowAdd F) = ⟨off', inb', m⟩ := by subst h; rfl

/-- An output of the keys' rows as stored: the stores after the zeros. -/
theorem read_fresh (v : View sig .tc .vmem S512x128 .f32) (z m : FVec F S512x128 .f32) (inb : ∀ a, (![0, 0] : Fin 2 → ℕ) a + S512x128.size a ≤ S512x128.size a) :
    v.read (Elt F) (v.writes (Elt F) v.junk (⟨Rect.unit (s := S512x128) ![0, 0] S512x128.size inb, plus (v.readAt (Elt F) (Rect.unit (s := S512x128) ![0, 0] S512x128.size inb).toLoadRect (v.writes (Elt F) v.junk [⟨Rect.unit (s := S512x128) ![0, 0] S512x128.size inb, z⟩])) m⟩ :: [⟨Rect.unit (s := S512x128) ![0, 0] S512x128.size inb, z⟩]))
      = plus z m := by
  rw [View.read_writes_full v v.junk inb, View.readAt_writes_full v v.junk inb inb]
/-- An output of the keys' rows as stored: over what an earlier step left. -/
theorem read_onto (v : View sig .tc .vmem S512x128 .f32) (y : S512x128.Idx → Elt F .f32) (m : FVec F S512x128 .f32) (inb : ∀ a, (![0, 0] : Fin 2 → ℕ) a + S512x128.size a ≤ S512x128.size a) :
    v.read (Elt F) (v.writes (Elt F) v.junk [⟨Rect.unit (s := S512x128) ![0, 0] S512x128.size inb, plus (v.readAt (Elt F) (Rect.unit (s := S512x128) ![0, 0] S512x128.size inb).toLoadRect (v.rep y)) m⟩])
      = plus y m := by
  rw [View.read_writes_full v v.junk inb, View.readAt_rep_full v y inb]

/-- The offsets of a step's rows. -/
theorem off2_tab : ∀ s : Fin 40, ∀ r : Fin 4, k0_off2 (lit0 s) (BitVec.ofNat 32 (512 * r.val)) = ![2048 * (lit0 s).toNat + 512 * r.val, 0] := by decide +kernel
theorem off3_tab : ∀ s : Fin 40, ∀ r : Fin 4, k0_off3 (lit0 s) (BitVec.ofNat 32 (512 * r.val)) = ![2048 * (lit0 s).toNat + 512 * r.val, 0] := by decide +kernel
theorem off4_tab : ∀ s : Fin 40, ∀ r : Fin 4, k0_off4 (lit0 s) (BitVec.ofNat 32 (512 * r.val)) = ![2048 * (lit0 s).toNat + 512 * r.val, 0] := by decide +kernel
theorem off5_tab : ∀ s : Fin 40, ∀ r : Fin 4, k0_off5 (lit0 s) (BitVec.ofNat 32 (512 * r.val)) = ![2048 * (lit0 s).toNat + 512 * r.val, 0] := by decide +kernel
theorem off6_tab : ∀ s : Fin 40, k0_off6 (lit0 s) = ![2048 * (lit0 s).toNat + 1536, 0] := by decide +kernel
theorem blk_tab : ∀ s : Fin 40, (lit0 s).toNat < 4 := by decide +kernel
theorem key_tab : ∀ s : Fin 40, (lit1 s).toNat < 16 := by decide +kernel

/-- The query block and the key block of a step. -/
def blkI (s : Fin 40) : Fin 4 := ⟨(lit0 s).toNat, blk_tab s⟩
def blkJ (s : Fin 40) : Fin 16 := ⟨(lit1 s).toNat, key_tab s⟩

end Cert.KernelIdeal.Att

end
-- ==== Proof.Eval.lean ====
module

public import proofs.«01_k».proof.Proof.Step
public import Idealize.ShloMosaic.Lib.Pointwise
public import Idealize.ShloMosaic.Lib.ValueIdx

/-! The chunk's terms over the extended reals, element by element. -/

@[expose] public section

noncomputable section

namespace Cert.KernelIdeal.Att

open Cert.KernelIdeal Cert.KernelIdeal.Gen
open Idealize.ShloMosaic

/-- The head of a pair a lane belongs to. -/
def hd (l : Fin 128) : Bool := decide (64 ≤ l.val)

theorem pay1_apply (x : Fin 512) (l : Fin 128) : k0_pay1 (ix2 x l) = if hd l = false then 1#1 else 0#1 := by
  pointwise [k0_pay1]
  revert l; decide
theorem pay2_apply (x : Fin 512) (l : Fin 128) : k0_pay2 (ix2 x l) = if hd l = true then 1#1 else 0#1 := by
  pointwise [k0_pay2, k0_pay1]
  revert l; decide
theorem laneM_apply (h : Bool) (x : Fin 512) (l : Fin 128) : laneM h (ix2 x l) = if hd l = h then 1#1 else 0#1 := by
  cases h
  · exact pay1_apply x l
  · exact pay2_apply x l
theorem lane_select (h : Bool) (x : Fin 512) (l : Fin 128) (a b : EReal) : Scalar.select (laneM h (ix2 x l)) a b = if hd l = h then a else b := by
  rw [laneM_apply]
  by_cases g : hd l = h
  · rw [if_pos g, if_pos g]; rfl
  · rw [if_neg g, if_neg g]; rfl

theorem prodM_apply (h : Bool) (a b : FVec Ideal S512x128 .bf16) (r k : Fin 512) :
    prodM (laneM h) a b (ix2 r k) = ∑ x, if hd x = h then a (ix2 r x) * b (ix2 k x) else 0 := by
  pointwise [prodM]
  simp only [lane_select]
theorem lessC_apply (s : FVec Ideal S512x512 .f32) (ck : FVec Ideal S1x1x512 .f32) (r k : Fin 512) : lessC s ck (ix2 r k) = s (ix2 r k) - ck (ix3 0 0 k) := by
  pointwise [lessC]
theorem sge_select (r k : Fin 512) (a b : EReal) : Scalar.select (IntOp.cmpi .sge (BitVec.ofNat 32 r.val) (BitVec.ofNat 32 k.val)) a b = if k ≤ r then a else b := by
  have e : IntOp.cmpi .sge (BitVec.ofNat 32 r.val) (BitVec.ofNat 32 k.val) = if k ≤ r then 1#1 else 0#1 := by
    have hr := r.isLt
    have hk := k.isLt
    have hd : (BitVec.ofNat 32 k.val).toInt = k.val := by rw [BitVec.toInt_eq_toNat_of_lt (by simp; omega)]; simp; omega
    have hs : (BitVec.ofNat 32 r.val).toInt = r.val := by rw [BitVec.toInt_eq_toNat_of_lt (by simp; omega)]; simp; omega
    unfold IntOp.cmpi
    simp [BitVec.sle, hd, hs]
    by_cases g : k ≤ r <;> simp [g]
  rw [e]
  by_cases g : k ≤ r
  · rw [if_pos g, if_pos g]; rfl
  · rw [if_neg g, if_neg g]; rfl
theorem named_mask : (Named.named κ "mask" 0xF149F2CA#32 : Ideal .f32) = (⊥ : EReal) := by
  rfl
theorem diagM_apply (s : FVec Ideal S512x512 .f32) (r k : Fin 512) : diagM s (ix2 r k) = if k ≤ r then s (ix2 r k) else ⊥ := by
  pointwise [diagM]
  rw [sge_select, named_mask]
theorem probM_apply (s : FVec Ideal S512x512 .f32) (l : FVec Ideal S1x512x128 .f32) (r k : Fin 512) : probM s l (ix2 r k) = Ideal.exp (s (ix2 r k) - l (ix3 0 r ⟨k.val % 128, Nat.mod_lt _ (by decide)⟩)) := by
  pointwise [probM]
  congr 2
  split_ifs <;> congr 2 <;> apply Fin.ext <;> dsimp only <;> omega
theorem deltaM_apply (h : Bool) (d : FVec Ideal S512x128 .bf16) (o : FVec Ideal S512x128 .f32) (r k : Fin 512) :
    deltaM (laneM h) d o (ix2 r k) = ∑ x, if hd x = h then d (ix2 r x) * o (ix2 r x) else 0 := by
  pointwise [deltaM]
  simp only [lane_select]
theorem dqCh_apply (x : Keys Ideal) (u : Chunk Ideal) (h : Bool) (r : Fin 512) (l : Fin 128) :
    dqCh x u h (ix2 r l) = ∑ k, dsCh x u h (ix2 r k) * if hd l = h then x.k (ix2 k l) else 1 := by
  pointwise [dqCh]
  simp only [lane_select]
theorem dvCh_apply (x : Keys Ideal) (u : Chunk Ideal) (h : Bool) (k : Fin 512) (l : Fin 128) :
    dvCh x u h (ix2 k l) = ∑ r, pCh x u h (ix2 r k) * u.d (ix2 r l) := by
  pointwise [dvCh]
theorem dkCh_apply (x : Keys Ideal) (u : Chunk Ideal) (h : Bool) (k : Fin 512) (l : Fin 128) :
    dkCh x u h (ix2 k l) = ∑ r, dsCh x u h (ix2 r k) * if hd l = h then u.q (ix2 r l) else 1 := by
  pointwise [dkCh]
  simp only [lane_select]
theorem dsCh_apply (x : Keys Ideal) (u : Chunk Ideal) (h : Bool) (r k : Fin 512) :
    dsCh x u h (ix2 r k) = pCh x u h (ix2 r k) * (prodM (laneM h) u.d x.v (ix2 r k) - deltaM (laneM h) u.d u.o (ix2 r k)) := by
  pointwise [dsCh]
theorem mix_apply (a b : FVec Ideal S512x128 .f32) (x : Fin 512) (l : Fin 128) : mix a b (ix2 x l) = if hd l = false then a (ix2 x l) else b (ix2 x l) := lane_select false x l _ _
theorem plus_apply (y m : FVec Ideal S512x128 .f32) (x : Fin 512) (l : Fin 128) : plus y m (ix2 x l) = y (ix2 x l) + m (ix2 x l) := by
  pointwise [plus]
theorem zeroK_apply (x : Fin 512) (l : Fin 128) : (zeroK : FVec Ideal S512x128 .f32) (ix2 x l) = 0 := by
  pointwise [zeroK]
theorem pay3_apply (x : Fin 8192) (l : Fin 128) : (k0_pay3 : FVec Ideal S8192x128 .f32) (ix2 x l) = 0 := by
  pointwise [k0_pay3]
theorem sumCh_apply (f : Chunk Ideal → FVec Ideal S512x128 .f32) (L : List (Chunk Ideal)) (x : Fin 512) (l : Fin 128) : sumCh f L (ix2 x l) = (L.map fun u => f u (ix2 x l)).sum := by
  cases L with
  | nil =>
    show (constant S512x128 .f32 0x00000000#32 : FVec Ideal S512x128 .f32) (ix2 x l) = 0
    pointwise
  | cons u L =>
    have key : ∀ s : FVec Ideal S512x128 .f32, (L.foldl (fun s w => addf s (f w)) s) (ix2 x l) = s (ix2 x l) + (L.map fun u => f u (ix2 x l)).sum := by
      induction L with
      | nil => intro s; simp
      | cons v L ih =>
        intro s
        rw [List.foldl_cons, ih, List.map_cons, List.sum_cons, ← add_assoc]
        congr 1
    exact (key (f u)).trans (by rw [List.map_cons, List.sum_cons])

/-- A block of rows of an array, element by element. -/
theorem window_rows {α : Type} (x : S2048x128.Idx → α) (n : ℕ) (inb : ∀ a, (![n, 0] : Fin 2 → ℕ) a + S512x128.size a ≤ S2048x128.size a) (a : Fin 512) (l : Fin 128) (h : n + a.val < 2048) :
    VecWindow.window (s := S2048x128) x ![n, 0] S512x128.size inb (ix2 a l) = x (ix2 ⟨n + a.val, h⟩ l) := by
  unfold VecWindow.window
  refine congrArg x (funext fun z => Fin.ext ?_)
  match z with
  | ⟨0, _⟩ => show n + 1 * a.val = n + a.val; rw [one_mul]
  | ⟨1, _⟩ => show 0 + 1 * l.val = l.val; rw [one_mul, zero_add]
theorem window_heads {α : Type} (x : S2x2048x128.Idx → α) (b : Fin 2) (n : ℕ) (inb : ∀ a, (![b.val, n, 0] : Fin 3 → ℕ) a + S1x512x128.size a ≤ S2x2048x128.size a) (a : Fin 512) (l : Fin 128) (h : n + a.val < 2048) :
    VecWindow.window (s := S2x2048x128) x ![b.val, n, 0] S1x512x128.size inb (ix3 0 a l) = x (ix3 b ⟨n + a.val, h⟩ l) := by
  unfold VecWindow.window
  refine congrArg x (funext fun z => Fin.ext ?_)
  match z with
  | ⟨0, _⟩ => show b.val + 1 * 0 = b.val; rw [mul_zero, add_zero]
  | ⟨1, _⟩ => show n + 1 * a.val = n + a.val; rw [one_mul]
  | ⟨2, _⟩ => show 0 + 1 * l.val = l.val; rw [one_mul, zero_add]
theorem window_gates {α : Type} (x : S1x8x512.Idx → α) (b : Fin 8) (inb : ∀ a, (![0, b.val, 0] : Fin 3 → ℕ) a + S1x1x512.size a ≤ S1x8x512.size a) (k : Fin 512) :
    VecWindow.window (s := S1x8x512) x ![0, b.val, 0] S1x1x512.size inb (ix3 0 0 k) = x (ix3 0 b k) := by
  unfold VecWindow.window
  refine congrArg x (funext fun z => Fin.ext ?_)
  match z with
  | ⟨0, _⟩ => show 0 + 1 * 0 = 0; rfl
  | ⟨1, _⟩ => show b.val + 1 * 0 = b.val; rw [mul_zero, add_zero]
  | ⟨2, _⟩ => show 0 + 1 * k.val = k.val; rw [one_mul, zero_add]

/-- A store of rows read back: what was added to the rows stored, and the rest as it was. -/
theorem addRows_cons (y : S8192x128.Idx → EReal) (p : RowAdd Ideal) (L : List (RowAdd Ideal)) (n : ℕ) (hn : p.off = ![n, 0]) (R : Fin 8192) (l : Fin 128) :
    addRows y (p :: L) (ix2 R l) = if h : n ≤ R.val ∧ R.val < n + 512 then addRows y L (ix2 R l) + p.m (ix2 ⟨R.val - n, by omega⟩ l) else addRows y L (ix2 R l) := by
  obtain ⟨off, inb, m⟩ := p
  simp only at hn
  subst hn
  show VecWindow.put (addRows y L) ![n, 0] S512x128.size (plus (VecWindow.window (addRows y L) ![n, 0] S512x128.size inb) m) (ix2 R l) = _
  unfold VecWindow.put
  by_cases h : n ≤ R.val ∧ R.val < n + 512
  · have h' : ∀ a, (![n, 0] : Fin 2 → ℕ) a ≤ ((ix2 R l : S8192x128.Idx) a).val ∧ ((ix2 R l : S8192x128.Idx) a).val < (![n, 0] : Fin 2 → ℕ) a + S512x128.size a := fun z =>
      match z with
      | ⟨0, _⟩ => h
      | ⟨1, _⟩ => ⟨Nat.zero_le _, (Nat.zero_add 128).symm ▸ l.isLt⟩
    rw [dif_pos h', dif_pos h]
    have e : Rect.unitLocal (s := S8192x128) (off := ![n, 0]) (size := S512x128.size) (ix2 R l) h' = ix2 (⟨R.val - n, by omega⟩ : Fin 512) l := by
      refine funext fun z => Fin.ext ?_
      match z with
      | ⟨0, _⟩ => rfl
      | ⟨1, _⟩ => rfl
    rw [e, plus_apply]
    congr 1
    unfold VecWindow.window
    refine congrArg _ (funext fun z => Fin.ext ?_)
    match z with
    | ⟨0, _⟩ => show n + 1 * (R.val - n) = R.val; omega
    | ⟨1, _⟩ => show 0 + 1 * l.val = l.val; rw [one_mul, zero_add]
  · rw [dif_neg (fun h' => h (h' (0 : Fin 2))), dif_neg h]

end Cert.KernelIdeal.Att

end
-- ==== Proof.Spec.lean ====
module

public import Idealize.ShloMosaic.PureOps.Ideal
public import Mathlib.Analysis.SpecialFunctions.Log.Basic

/-! The plain mathematics: causal attention with a gate on the keys, and the gradients of its inputs, over the reals. -/

@[expose] public section

noncomputable section

namespace Cert.Att

open scoped BigOperators

/-- The inputs: queries, keys, values, gate sums and the output's gradient, a head's 64 lanes side by side. -/
structure Inp where
  q : Fin 8192 → Fin 1024 → ℝ
  k : Fin 8192 → Fin 1024 → ℝ
  v : Fin 8192 → Fin 1024 → ℝ
  c : Fin 8192 → Fin 16 → ℝ
  d : Fin 8192 → Fin 1024 → ℝ

/-- Lane `d` of head `h`. -/
def col (h : Fin 16) (d : Fin 64) : Fin 1024 := ⟨64 * h.val + d.val, by omega⟩
/-- The head of a lane. -/
def headOf (n : Fin 1024) : Fin 16 := ⟨n.val / 64, by omega⟩
/-- The other head of a pair. -/
def other (h : Fin 16) : Fin 16 := ⟨2 * (h.val / 2) + (1 - h.val % 2), by omega⟩

variable (X : Inp)

/-- A score. -/
def score (h : Fin 16) (a b : Fin 8192) : ℝ := (∑ d, X.q a (col h d) * X.k b (col h d)) - X.c b h
/-- The sum of the exponentials of a query's scores. -/
def total (h : Fin 16) (a : Fin 8192) : ℝ := ∑ b, if b ≤ a then Real.exp (score X h a b) else 0
/-- A probability: the softmax of the scores, zero for a key after the query. -/
def prob (h : Fin 16) (a b : Fin 8192) : ℝ := if b ≤ a then Real.exp (score X h a b) / total X h a else 0
/-- The attention's output. -/
def outp (h : Fin 16) (a : Fin 8192) (d : Fin 64) : ℝ := ∑ b, prob X h a b * X.v b (col h d)
/-- The gradient of a probability. -/
def dprob (h : Fin 16) (a b : Fin 8192) : ℝ := ∑ d, X.d a (col h d) * X.v b (col h d)
/-- The gradient of a score. -/
def dscore (h : Fin 16) (a b : Fin 8192) : ℝ := prob X h a b * (dprob X h a b - ∑ e, prob X h a e * dprob X h a e)

/-- The gradients of the queries, keys and values; the sums of the scores' gradients over a query's keys, and over a key's queries, at the lanes of the pair's other head. -/
def gradQ (a : Fin 8192) (n : Fin 1024) : ℝ := ∑ b, dscore X (headOf n) a b * X.k b n
def gradR (a : Fin 8192) (n : Fin 1024) : ℝ := ∑ b, dscore X (other (headOf n)) a b
def gradK (b : Fin 8192) (n : Fin 1024) : ℝ := ∑ a, dscore X (headOf n) a b * X.q a n
def gradV (b : Fin 8192) (n : Fin 1024) : ℝ := ∑ a, prob X (headOf n) a b * X.d a n
def gradC (b : Fin 8192) (n : Fin 1024) : ℝ := ∑ a, dscore X (other (headOf n)) a b

theorem total_pos (h : Fin 16) (a : Fin 8192) : 0 < total X h a := by
  unfold total
  refine Finset.sum_pos' (fun b _ => ?_) ⟨a, Finset.mem_univ _, ?_⟩
  · split_ifs; exacts [(Real.exp_pos _).le, le_rfl]
  · rw [if_pos le_rfl]; exact Real.exp_pos _

theorem prob_late (h : Fin 16) {a b : Fin 8192} (hab : ¬ b ≤ a) : prob X h a b = 0 := if_neg hab
theorem dscore_late (h : Fin 16) {a b : Fin 8192} (hab : ¬ b ≤ a) : dscore X h a b = 0 := by
  unfold dscore; rw [prob_late X h hab, zero_mul]

/-- A probability from the logarithm of the total. -/
theorem prob_log (h : Fin 16) {a b : Fin 8192} (hab : b ≤ a) : Real.exp (score X h a b - Real.log (total X h a)) = prob X h a b := by
  unfold prob; rw [if_pos hab, Real.exp_sub, Real.exp_log (total_pos X h a)]

/-- A softmax is the same whatever is taken from the scores of a query. -/
theorem prob_shift (h : Fin 16) (a : Fin 8192) (m : ℝ) (b : Fin 8192) :
    (if b ≤ a then Real.exp (score X h a b - m) else 0) / (∑ e, if e ≤ a then Real.exp (score X h a e - m) else 0) = prob X h a b := by
  have hs : (∑ e, if e ≤ a then Real.exp (score X h a e - m) else 0) = total X h a * Real.exp (-m) := by
    unfold total; rw [Finset.sum_mul]
    refine Finset.sum_congr rfl fun e _ => ?_
    split_ifs
    · rw [sub_eq_add_neg, Real.exp_add]
    · rw [zero_mul]
  rw [hs]; unfold prob
  split_ifs
  · rw [sub_eq_add_neg, Real.exp_add]
    exact mul_div_mul_right _ _ (Real.exp_pos _).ne'
  · rw [zero_div]
theorem total_shift (h : Fin 16) (a : Fin 8192) (m : ℝ) :
    (∑ e, if e ≤ a then Real.exp (score X h a e - m) else 0) = total X h a * Real.exp (-m) := by
  unfold total; rw [Finset.sum_mul]
  refine Finset.sum_congr rfl fun e _ => ?_
  split_ifs
  · rw [sub_eq_add_neg, Real.exp_add]
  · rw [zero_mul]

/-- A query's sum of outputs times their gradients is its sum of probabilities times theirs. -/
theorem delta_eq (h : Fin 16) (a : Fin 8192) : (∑ d, X.d a (col h d) * outp X h a d) = ∑ e, prob X h a e * dprob X h a e := by
  unfold outp dprob
  simp only [Finset.mul_sum]
  rw [Finset.sum_comm]
  exact Finset.sum_congr rfl fun e _ => Finset.sum_congr rfl fun d _ => by ring

/-- A sum of reals among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem coe_ite (p : Prop) [Decidable p] (a b : ℝ) : ((if p then a else b : ℝ) : EReal) = if p then (a : EReal) else (b : EReal) := by
  split_ifs <;> rfl
theorem div_coe (x y : ℝ) (hy : y ≠ 0) : Idealize.ShloMosaic.Ideal.div (x : EReal) (y : EReal) = ((x / y : ℝ) : EReal) := by
  unfold Idealize.ShloMosaic.Ideal.div
  rw [if_neg (by exact_mod_cast hy), ← EReal.coe_inv, ← EReal.coe_mul, div_eq_mul_inv]

end Cert.Att

end
-- ==== Proof.Fits.lean ====
module

public import proofs.«01_k».proof.Proof.Eval
public import proofs.«01_k».proof.Proof.Spec

/-! A step of the kernel over real inputs: what it adds to the rows of its outputs. -/

@[expose] public section

noncomputable section

namespace Cert.KernelIdeal.Att

open Cert.KernelIdeal Cert.KernelIdeal.Gen Cert.Att
open Idealize.ShloMosaic
open scoped BigOperators

/-- The heads of pair `p`, and its lanes. -/
def hp (p : Fin 8) (b : Bool) : Fin 16 := ⟨2 * p.val + b.toNat, by have := b.toNat_le; omega⟩
def lane (p : Fin 8) (l : Fin 128) : Fin 1024 := ⟨128 * p.val + l.val, by omega⟩
/-- The rows of a query block, of a key block, of a chunk. -/
def rowQ (i : Fin 4) (a : Fin 2048) : Fin 8192 := ⟨2048 * i.val + a.val, by omega⟩
def rowK (j : Fin 16) (k : Fin 512) : Fin 8192 := ⟨512 * j.val + k.val, by omega⟩
def rowC (r : Fin 4) (a : Fin 512) : Fin 2048 := ⟨512 * r.val + a.val, by omega⟩

theorem sum_lanes {M : Type} [AddCommMonoid M] (p : Fin 8) (b : Bool) (f : Fin 1024 → M) : (∑ l, if hd l = b then f (lane p l) else 0) = ∑ d, f (col (hp p b) d) := by
  rw [← Finset.sum_filter]; symm
  have hb := b.toNat_le
  refine Finset.sum_bij (fun d _ => (⟨64 * b.toNat + d.val, by omega⟩ : Fin 128)) ?_ ?_ ?_ ?_
  · intro d _
    rw [Finset.mem_filter]; refine ⟨Finset.mem_univ _, ?_⟩
    cases b <;> simp [hd] <;> omega
  · intro d _ d' _ h
    have := congrArg Fin.val h
    exact Fin.ext (by simpa using this)
  · intro l hl
    have hl := (Finset.mem_filter.mp hl).2
    refine ⟨⟨l.val - 64 * b.toNat, ?_⟩, Finset.mem_univ _, Fin.ext ?_⟩
    · cases b <;> simp [hd] at hl ⊢ <;> omega
    · cases b <;> simp [hd] at hl ⊢; omega
  · intro d _
    congr 1; apply Fin.ext; simp only [col, lane, hp]; omega

/-- The windows hold the blocks of the inputs, of their output and of the logarithms of their totals, for query block `i` and key block `j` of pair `p`. -/
structure Fits (X : Inp) (p : Fin 8) (i : Fin 4) (j : Fin 16) (w : Win Ideal) : Prop where
  x0 : ∀ a l, w.x0 (ix2 a l) = (X.q (rowQ i a) (lane p l) : EReal)
  x1 : ∀ k l, w.x1 (ix2 k l) = (X.k (rowK j k) (lane p l) : EReal)
  x2 : ∀ k l, w.x2 (ix2 k l) = (X.v (rowK j k) (lane p l) : EReal)
  x3 : ∀ a l, w.x3 (ix2 a l) = (∑ b, prob X (headOf (lane p l)) (rowQ i a) b * X.v b (lane p l) : ℝ)
  x4 : ∀ a l, w.x4 (ix2 a l) = (X.d (rowQ i a) (lane p l) : EReal)
  x5 : ∀ (b : Bool) a l, w.x5 (ix3 (cond b 1 0) a l) = (Real.log (total X (hp p b) (rowQ i a)) : EReal)
  x6 : ∀ (b : Bool) k, w.x6 (ix3 0 (cond b 1 0) k) = (X.c (rowK j k) (hp p b) : EReal)

/-- Where the key block lies among the chunks of the query block. -/
def Lies (i : Fin 4) (j : Fin 16) (e : Fin 5) : Prop := j.val < 4 * i.val + 4 ∧ (4 * i.val ≤ j.val → e.val = j.val - 4 * i.val) ∧ (j.val < 4 * i.val → e.val = 4)

theorem mem_live (e : Fin 5) (r : Fin 4) : r ∈ live e ↔ e.val = 4 ∨ e.val ≤ r.val := by
  unfold live; rw [List.mem_filter]; simp

variable {X : Inp} {p : Fin 8} {i : Fin 4} {j : Fin 16} {w : Win Ideal} {e : Fin 5}

theorem keys_c (w : Win Ideal) (b : Bool) (k : Fin 512) : (cond b w.keys.c1 w.keys.c0) (ix3 0 0 k) = w.x6 (ix3 0 (cond b 1 0) k) := by
  cases b
  · exact window_gates w.x6 0 _ k
  · exact window_gates w.x6 1 _ k
theorem chunk_q (w : Win Ideal) (e : Fin 5) (r : Fin 4) (a : Fin 512) (l : Fin 128) : (w.chunk e r).q (ix2 a l) = w.x0 (ix2 (rowC r a) l) := window_rows w.x0 _ _ a l _
theorem chunk_o (w : Win Ideal) (e : Fin 5) (r : Fin 4) (a : Fin 512) (l : Fin 128) : (w.chunk e r).o (ix2 a l) = w.x3 (ix2 (rowC r a) l) := window_rows w.x3 _ _ a l _
theorem chunk_d (w : Win Ideal) (e : Fin 5) (r : Fin 4) (a : Fin 512) (l : Fin 128) : (w.chunk e r).d (ix2 a l) = w.x4 (ix2 (rowC r a) l) := window_rows w.x4 _ _ a l _
theorem chunk_l (w : Win Ideal) (e : Fin 5) (r : Fin 4) (b : Bool) (a : Fin 512) (l : Fin 128) : (cond b (w.chunk e r).l1 (w.chunk e r).l0) (ix3 0 a l) = w.x5 (ix3 (cond b 1 0) (rowC r a) l) := by
  cases b
  · exact window_heads w.x5 0 _ _ a l _
  · exact window_heads w.x5 1 _ _ a l _

theorem head_lane (p : Fin 8) (l : Fin 128) : headOf (lane p l) = hp p (hd l) := by
  apply Fin.ext
  by_cases h : 64 ≤ l.val <;> simp [headOf, lane, hp, hd, h] <;> omega
theorem head_col (h : Fin 16) (d : Fin 64) : headOf (col h d) = h := Fin.ext (by simp only [headOf, col]; omega)

/-- The scores of a chunk. -/
theorem score_apply (f : Fits X p i j w) (b : Bool) (r : Fin 4) (a k : Fin 512) :
    lessC (prodM (laneM b) (w.chunk e r).q w.keys.k) (cond b w.keys.c1 w.keys.c0) (ix2 a k) = (score X (hp p b) (rowQ i (rowC r a)) (rowK j k) : EReal) := by
  rw [lessC_apply, prodM_apply, keys_c, f.x6]
  have : ∀ x, (if hd x = b then (w.chunk e r).q (ix2 a x) * w.keys.k (ix2 k x) else 0) = ((if hd x = b then (fun n => X.q (rowQ i (rowC r a)) n * X.k (rowK j k) n) (lane p x) else 0 : ℝ) : EReal) := fun x => by
    rw [chunk_q, f.x0, show w.keys.k (ix2 k x) = _ from f.x1 k x]
    split_ifs
    · rw [EReal.coe_mul]
    · rfl
  simp only [this]
  rw [← coe_sum, sum_lanes p b (fun n => X.q (rowQ i (rowC r a)) n * X.k (rowK j k) n), ← EReal.coe_sub]
  rfl

/-- The probabilities of a chunk. -/
theorem pCh_apply (f : Fits X p i j w) (he : Lies i j e) (b : Bool) (r : Fin 4) (hr : r ∈ live e) (a k : Fin 512) :
    pCh w.keys (w.chunk e r) b (ix2 a k) = (prob X (hp p b) (rowQ i (rowC r a)) (rowK j k) : EReal) := by
  obtain ⟨h1, h2, h3⟩ := he
  rw [mem_live] at hr
  unfold pCh
  rw [probM_apply, chunk_l, f.x5]
  by_cases hd : e.val = r.val
  · rw [show (w.chunk e r).diag = true from decide_eq_true hd, cond_true, diagM_apply, score_apply f]
    by_cases hk : k ≤ a
    · rw [if_pos hk, ← EReal.coe_sub, Ideal.exp_coe, prob_log]
      show 512 * j.val + k.val ≤ 2048 * i.val + (512 * r.val + a.val)
      have : k.val ≤ a.val := hk
      omega
    · rw [if_neg hk, prob_late X _ (fun h => hk _), EReal.bot_sub, Ideal.exp_bot, EReal.coe_zero]
      intro h
      have h : 512 * j.val + k.val ≤ 2048 * i.val + (512 * r.val + a.val) := h
      show k.val ≤ a.val
      omega
  · rw [show (w.chunk e r).diag = false from decide_eq_false hd, cond_false, score_apply f, ← EReal.coe_sub, Ideal.exp_coe, prob_log]
    show 512 * j.val + k.val ≤ 2048 * i.val + (512 * r.val + a.val)
    omega

theorem sum_heads {p : Fin 8} (b : Bool) (f g : Fin 128 → EReal) (F : Fin 1024 → ℝ) (h : ∀ x, f x * g x = (F (lane p x) : EReal)) :
    (∑ x, if hd x = b then f x * g x else 0) = ((∑ d, F (col (hp p b) d) : ℝ) : EReal) := by
  rw [← sum_lanes p b F, coe_sum]
  refine Finset.sum_congr rfl fun x _ => ?_
  rw [coe_ite, EReal.coe_zero, h]

/-- The gradients of a chunk's scores. -/
theorem dsCh_val (f : Fits X p i j w) (he : Lies i j e) (b : Bool) (r : Fin 4) (hr : r ∈ live e) (a k : Fin 512) :
    dsCh w.keys (w.chunk e r) b (ix2 a k) = (dscore X (hp p b) (rowQ i (rowC r a)) (rowK j k) : EReal) := by
  rw [dsCh_apply, pCh_apply f he b r hr, prodM_apply, deltaM_apply,
    sum_heads (p := p) b _ _ (fun n => X.d (rowQ i (rowC r a)) n * X.v (rowK j k) n) (fun x => by rw [chunk_d, f.x4, show w.keys.v (ix2 k x) = _ from f.x2 k x, EReal.coe_mul]),
    sum_heads (p := p) b _ _ (fun n => X.d (rowQ i (rowC r a)) n * ∑ e, prob X (headOf n) (rowQ i (rowC r a)) e * X.v e n) (fun x => by rw [chunk_d, f.x4, chunk_o, f.x3, EReal.coe_mul]),
    ← EReal.coe_sub, ← EReal.coe_mul]
  unfold dscore
  rw [← delta_eq]
  simp only [head_col]
  rfl

/-- What a key block adds to a row of the query gradient, or of the row sums. -/
def addQ (X : Inp) (p : Fin 8) (h : Bool) (R : Fin 8192) (l : Fin 128) (j : Fin 16) : ℝ :=
  ∑ k, dscore X (hp p (xor h (hd l))) R (rowK j k) * (if h then 1 else X.k (rowK j k) (lane p l))

theorem mix_heads (f : Bool → FVec Ideal S512x128 .f32) (h : Bool) (a : Fin 512) (l : Fin 128) : mix (f h) (f !h) (ix2 a l) = f (xor h (hd l)) (ix2 a l) := by
  rw [mix_apply]
  cases hd l <;> simp
theorem own_lane (h : Bool) (l : Fin 128) (x y : EReal) : (if hd l = xor h (hd l) then x else y) = if h then y else x := by
  cases h <;> cases hd l <;> rfl

theorem row_val (f : Fits X p i j w) (he : Lies i j e) (h : Bool) (r : Fin 4) (hr : r ∈ live e) (a : Fin 512) (l : Fin 128) :
    (w.row i e h r).m (ix2 a l) = (addQ X p h (rowQ i (rowC r a)) l j : EReal) := by
  show mix (dqCh w.keys (w.chunk e r) h) (dqCh w.keys (w.chunk e r) !h) (ix2 a l) = _
  rw [mix_heads (fun b => dqCh w.keys (w.chunk e r) b), dqCh_apply]
  unfold addQ
  rw [coe_sum]
  refine Finset.sum_congr rfl fun k _ => ?_
  rw [dsCh_val f he _ r hr, own_lane, show w.keys.k (ix2 k l) = _ from f.x1 k l, EReal.coe_mul]
  congr 1
  cases h <;> rfl

theorem addQ_late (he : Lies i j e) (h : Bool) (r : Fin 4) (hr : r ∉ live e) (a : Fin 512) (l : Fin 128) : addQ X p h (rowQ i (rowC r a)) l j = 0 := by
  obtain ⟨h1, h2, h3⟩ := he
  rw [mem_live] at hr
  refine Finset.sum_eq_zero fun k _ => ?_
  rw [dscore_late, zero_mul]
  intro hh
  have hh : 512 * j.val + k.val ≤ 2048 * i.val + (512 * r.val + a.val) := hh
  omega

/-- A step's stores to the rows of its query block. -/
theorem addRows_val (f : Fits X p i j w) (he : Lies i j e) (h : Bool) (y : S8192x128.Idx → EReal) (R : Fin 8192) (l : Fin 128) (L : List (Fin 4)) (hn : L.Nodup) (hL : ∀ r ∈ L, r ∈ live e) :
    addRows y (L.map (w.row i e h)) (ix2 R l) = y (ix2 R l) + (if ∃ r ∈ L, 2048 * i.val + 512 * r.val ≤ R.val ∧ R.val < 2048 * i.val + 512 * r.val + 512 then addQ X p h R l j else 0 : ℝ) := by
  induction L with
  | nil =>
    show y (ix2 R l) = _
    rw [if_neg (by simp), EReal.coe_zero, add_zero]
  | cons r L ih =>
    have ih := ih (List.nodup_cons.mp hn).2 (fun s hs => hL s (List.mem_cons_of_mem _ hs))
    rw [List.map_cons, addRows_cons y _ _ (2048 * i.val + 512 * r.val) rfl, ih]
    by_cases hR : 2048 * i.val + 512 * r.val ≤ R.val ∧ R.val < 2048 * i.val + 512 * r.val + 512
    · have hno : ¬ ∃ s ∈ L, 2048 * i.val + 512 * s.val ≤ R.val ∧ R.val < 2048 * i.val + 512 * s.val + 512 := by
        rintro ⟨s, hs, h1, h2⟩
        have : s = r := Fin.ext (by omega)
        exact (List.nodup_cons.mp hn).1 (this ▸ hs)
      rw [dif_pos hR, if_neg hno, if_pos ⟨r, List.mem_cons_self, hR⟩, EReal.coe_zero, add_zero, row_val f he h r (hL r List.mem_cons_self)]
      congr 3
      apply Fin.ext
      show 2048 * i.val + (512 * r.val + (R.val - (2048 * i.val + 512 * r.val))) = R.val
      omega
    · rw [dif_neg hR]
      congr 2
      refine if_congr ?_ rfl rfl
      constructor
      · rintro ⟨s, hs, h1⟩; exact ⟨s, List.mem_cons_of_mem _ hs, h1⟩
      · rintro ⟨s, hs, h1⟩
        rcases List.mem_cons.mp hs with rfl | hs
        · exact absurd h1 hR
        · exact ⟨s, hs, h1⟩

theorem live_nodup (e : Fin 5) : (live e).reverse.Nodup := List.nodup_reverse.mpr ((List.nodup_finRange 4).filter _)

/-- What a step leaves in an array of the queries' rows. -/
theorem outQ_val (f : Fits X p i j w) (he : Lies i j e) (h : Bool) (y : S8192x128.Idx → EReal) (R : Fin 8192) (l : Fin 128) :
    w.outQ i e h y (ix2 R l) = y (ix2 R l) + (if R.val / 2048 = i.val then addQ X p h R l j else 0 : ℝ) := by
  unfold Win.outQ
  rw [addRows_val f he h y R l _ (live_nodup e) (fun r hr => List.mem_reverse.mp hr)]
  congr 2
  by_cases hR : R.val / 2048 = i.val
  · rw [if_pos hR]
    have hlt : (R.val - 2048 * i.val) / 512 < 4 := by omega
    by_cases hr : (⟨(R.val - 2048 * i.val) / 512, hlt⟩ : Fin 4) ∈ live e
    · rw [if_pos ⟨_, List.mem_reverse.mpr hr, by simp only; omega⟩]
    · have := addQ_late (X := X) (p := p) he h _ hr ⟨(R.val - 2048 * i.val) % 512, Nat.mod_lt _ (by decide)⟩ l
      have hRR : rowQ i (rowC ⟨(R.val - 2048 * i.val) / 512, hlt⟩ ⟨(R.val - 2048 * i.val) % 512, Nat.mod_lt _ (by decide)⟩) = R := Fin.ext (by simp only [rowQ, rowC]; omega)
      rw [hRR] at this
      rw [this, ite_self]
  · rw [if_neg hR, if_neg]
    rintro ⟨r, _, h1, h2⟩
    omega

/-- A sum over a query block is the sum over its chunks. -/
theorem sum_chunks (T : Fin 2048 → ℝ) : (∑ r, ∑ a, T (rowC r a)) = ∑ a, T a := by
  rw [← Finset.sum_product']
  refine Finset.sum_bij (fun x _ => rowC x.1 x.2) (fun _ _ => Finset.mem_univ _) ?_ ?_ (fun _ _ => rfl)
  · rintro ⟨r, a⟩ _ ⟨r', a'⟩ _ h
    have := congrArg Fin.val h
    simp only [rowC] at this
    exact Prod.ext (Fin.ext (by simp only; omega)) (Fin.ext (by simp only; omega))
  · intro b _
    exact ⟨(⟨b.val / 512, by omega⟩, ⟨b.val % 512, Nat.mod_lt _ (by decide)⟩), Finset.mem_univ _, Fin.ext (by simp only [rowC]; omega)⟩

/-- What a step leaves in an array of the keys' rows, from what each of its chunks adds. -/
theorem outK_val (he : Lies i j e) (φ : Keys Ideal → Chunk Ideal → Bool → FVec Ideal S512x128 .f32) (h : Bool) (y : S512x128.Idx → EReal) (k : Fin 512) (l : Fin 128) (T : Fin 8192 → ℝ)
    (hφ : ∀ r ∈ live e, φ w.keys (w.chunk e r) (xor h (hd l)) (ix2 k l) = ((∑ a, T (rowQ i (rowC r a)) : ℝ) : EReal))
    (hT : ∀ R : Fin 8192, ¬ rowK j k ≤ R → T R = 0) :
    w.outK e φ h y (ix2 k l) = (if e = 4 then y (ix2 k l) else 0) + ((∑ a, T (rowQ i a) : ℝ) : EReal) := by
  unfold Win.outK
  rw [plus_apply, mix_heads (fun b => sumCh (fun u => φ w.keys u b) ((live e).map (w.chunk e))), sumCh_apply]
  congr 1
  · split_ifs
    · rfl
    · exact zeroK_apply k l
  · rw [List.map_map, List.map_congr_left (f := (fun u => φ w.keys u (xor h (hd l)) (ix2 k l)) ∘ w.chunk e) (g := fun r => ((∑ a, T (rowQ i (rowC r a)) : ℝ) : EReal)) (fun r hr => hφ r hr)]
    rw [← sum_chunks (fun a => T (rowQ i a))]
    have key : ∀ L : List (Fin 4), (L.map fun r => ((∑ a, T (rowQ i (rowC r a)) : ℝ) : EReal)).sum = (((L.map fun r => ∑ a, T (rowQ i (rowC r a))).sum : ℝ) : EReal) := by
      intro L
      induction L with
      | nil => rfl
      | cons r L ih => rw [List.map_cons, List.sum_cons, ih, List.map_cons, List.sum_cons, EReal.coe_add]
    rw [key]
    congr 1
    have hz : ∀ r : Fin 4, r ∉ live e → (∑ a, T (rowQ i (rowC r a))) = 0 := fun r hr => Finset.sum_eq_zero fun a _ => hT _ fun hh => by
      obtain ⟨h1, h2, h3⟩ := he
      rw [mem_live] at hr
      have hh : 512 * j.val + k.val ≤ 2048 * i.val + (512 * r.val + a.val) := hh
      omega
    have hnd : (live e).Nodup := (List.nodup_finRange 4).filter _
    rw [← List.sum_toFinset _ hnd]
    exact Finset.sum_subset (Finset.subset_univ _) fun r _ hr => hz r fun h => hr (List.mem_toFinset.mpr h)

/-- What a query adds to a key's row of the key gradient, or of the column sums; and of the value gradient. -/
def addK (X : Inp) (p : Fin 8) (h : Bool) (b : Fin 8192) (l : Fin 128) (R : Fin 8192) : ℝ :=
  dscore X (hp p (xor h (hd l))) R b * (if h then 1 else X.q R (lane p l))
def addV (X : Inp) (p : Fin 8) (b : Fin 8192) (l : Fin 128) (R : Fin 8192) : ℝ := prob X (hp p (hd l)) R b * X.d R (lane p l)

theorem addK_late (h : Bool) {b R : Fin 8192} (l : Fin 128) (hR : ¬ b ≤ R) : addK X p h b l R = 0 := by unfold addK; rw [dscore_late X _ hR, zero_mul]
theorem addV_late {b R : Fin 8192} (l : Fin 128) (hR : ¬ b ≤ R) : addV X p b l R = 0 := by unfold addV; rw [prob_late X _ hR, zero_mul]

theorem outK_dk (f : Fits X p i j w) (he : Lies i j e) (h : Bool) (y : S512x128.Idx → EReal) (k : Fin 512) (l : Fin 128) :
    w.outK e dkCh h y (ix2 k l) = (if e = 4 then y (ix2 k l) else 0) + ((∑ a, addK X p h (rowK j k) l (rowQ i a) : ℝ) : EReal) := by
  refine outK_val he dkCh h y k l (addK X p h (rowK j k) l) (fun r hr => ?_) (fun R hR => addK_late h l hR)
  rw [dkCh_apply, coe_sum]
  refine Finset.sum_congr rfl fun a _ => ?_
  rw [dsCh_val f he _ r hr, own_lane, chunk_q, f.x0]
  unfold addK
  rw [EReal.coe_mul]
  congr 1
  cases h <;> rfl
theorem outK_dv (f : Fits X p i j w) (he : Lies i j e) (y : S512x128.Idx → EReal) (k : Fin 512) (l : Fin 128) :
    w.outK e dvCh false y (ix2 k l) = (if e = 4 then y (ix2 k l) else 0) + ((∑ a, addV X p (rowK j k) l (rowQ i a) : ℝ) : EReal) := by
  refine outK_val he dvCh false y k l (addV X p (rowK j k) l) (fun r hr => ?_) (fun R hR => addV_late l hR)
  rw [dvCh_apply, coe_sum]
  refine Finset.sum_congr rfl fun a _ => ?_
  rw [pCh_apply f he _ r hr, chunk_d, f.x4, Bool.false_xor]
  unfold addV
  rw [EReal.coe_mul]

end Cert.KernelIdeal.Att

end
-- ==== Proof.Stage.lean ====
module

public import proofs.«01_k».proof.Proof.Fits
public import proofs.«01_k».proof.Proof.Gen.ReferenceIdeal
public import Idealize.ShloMosaic.Lib.IdealHost

/-! The steps of attention on whole arrays, element by element. -/

@[expose] public section

set_option maxRecDepth 16384
noncomputable section

namespace Cert.KernelIdeal.Att

open Cert.KernelIdeal Cert.KernelIdeal.Gen Cert.Att
open Idealize.ShloMosaic
open scoped BigOperators

/-- Arrays of the sizes that occur. -/
abbrev M2 := FVec Ideal S8192x1024 .f32
abbrev H3 := FVec Ideal S8192x16x64 .f32
abbrev T3 := FVec Ideal S16x64x8192 .f32
abbrev S3 := FVec Ideal S16x8192x8192 .f32
abbrev R3 := FVec Ideal S16x8192x1 .f32
abbrev R2 := FVec Ideal S16x8192 .f32

/-- A matrix's columns as heads of 64 lanes, and back. -/
def headsA (x : M2) : H3 := fun i => shapeCast S8192x16x64 x shapeCasts_S8192x1024_S8192x16x64 i
def flatA (x : H3) : M2 := fun i => shapeCast S8192x1024 x shapeCasts_S8192x16x64_S8192x1024 i
theorem headsA_apply (x : M2) (a : Fin 8192) (h : Fin 16) (d : Fin 64) : headsA x (ix3 a h d) = x (ix2 a (col h d)) := by
  pointwise [headsA]
  exact congrArg (fun n => x (ix2 a n)) (Fin.ext (by simp only [col]; omega))
theorem flatA_apply (x : H3) (a : Fin 8192) (n : Fin 1024) : flatA x (ix2 a n) = x (ix3 a (headOf n) ⟨n.val % 64, by omega⟩) := by
  pointwise [flatA]
  rfl

/-- The products of two heads' rows. -/
def rowsA (x y : H3) : S3 := Host.dotGeneral dot_S8192x16x64_S8192x16x64_S16x8192x8192_2_2_0_0_1_1 none x y
theorem rowsA_apply (x y : H3) (h : Fin 16) (a b : Fin 8192) : rowsA x y (ix3 h a b) = ∑ d, x (ix3 a h d) * y (ix3 b h d) := by
  pointwise [rowsA]

theorem minus_inf : Ideal.ofBits FTy.f32 4286578688#32 = (⊥ : EReal) := by
  simp [Ideal.ofBits, Ideal.ieee]
theorem one_bits : Ideal.ofBits FTy.f32 1065353216#32 = (1 : EReal) := Ideal.ofBits_one_f32

/-- Which keys do not come after the query. -/
def maskA : (⟨S16x8192x8192, .i1⟩ : BufTy).Contents (Elt Ideal) := broadcastInDim S16x8192x8192 ![0, 1, 2] bcast_S1x8192x8192_S16x8192x8192_0_1_2
  (broadcastInDim S1x8192x8192 ![1, 2] bcast_S8192x8192_S1x8192x8192_1_2 (cmpi .sge (iotaInDim S8192x8192 32 0) (iotaInDim S8192x8192 32 1)))
theorem maskA_apply (h : Fin 16) (a b : Fin 8192) : maskA (ix3 h a b) = if b ≤ a then 1#1 else 0#1 := by
  pointwise [maskA]
  have ha := a.isLt
  have hb := b.isLt
  have ea : (BitVec.ofNat 32 a.val).toInt = a.val := by rw [BitVec.toInt_eq_toNat_of_lt (by simp; omega)]; simp; omega
  have eb : (BitVec.ofNat 32 b.val).toInt = b.val := by rw [BitVec.toInt_eq_toNat_of_lt (by simp; omega)]; simp; omega
  unfold IntOp.cmpi
  simp [BitVec.sle, ea, eb]
  by_cases g : b ≤ a <;> simp [g]
theorem mask_select (h : Fin 16) (a b : Fin 8192) (x y : EReal) : Scalar.select (maskA (ix3 h a b)) x y = if b ≤ a then x else y := by
  rw [maskA_apply]
  by_cases g : b ≤ a
  · rw [if_pos g, if_pos g]; rfl
  · rw [if_neg g, if_neg g]; rfl
/-- Scores of later keys masked out. -/
def lateA (x : S3) : S3 := select maskA x (broadcastInDim S16x8192x8192 ![] bcast_S_S16x8192x8192 (constant S_ .f32 0xFF800000#32))
theorem lateA_apply (x : S3) (h : Fin 16) (a b : Fin 8192) : lateA x (ix3 h a b) = if b ≤ a then x (ix3 h a b) else ⊥ := by
  pointwise [lateA]
  rw [mask_select, minus_inf]
/-- Gradients of later keys' scores set to zero. -/
def zeroA (x : S3) : S3 := select maskA x (broadcastInDim S16x8192x8192 ![] bcast_S_S16x8192x8192 (constant S_ .f32 0x00000000#32))
theorem zeroA_apply (x : S3) (h : Fin 16) (a b : Fin 8192) : zeroA x (ix3 h a b) = if b ≤ a then x (ix3 h a b) else 0 := by
  pointwise [zeroA]
  rw [mask_select]

def maxA (x : S3) : R2 := Host.reduce FloatOps.maximumf x (constant S_ .f32 0xFF800000#32) reducesTo_S16x8192x8192_S16x8192_d2 h_S_
theorem maxA_apply (x : S3) (h : Fin 16) (a : Fin 8192) : maxA x (ix2 h a) = Finset.fold max ⊥ (fun b => x (ix3 h a b)) Finset.univ := by
  pointwise [maxA]
  rw [minus_inf]
/-- The largest of a query's scores is one of those not masked. -/
theorem max_real (f : Fin 8192 → ℝ) (a : Fin 8192) : ∃ μ : ℝ, Finset.fold max ⊥ (fun b => if b ≤ a then (f b : EReal) else ⊥) Finset.univ = (μ : EReal) := by
  obtain ⟨b, -, hb⟩ := Finset.exists_mem_eq_sup Finset.univ ⟨a, Finset.mem_univ a⟩ (fun b => if b ≤ a then (f b : EReal) else ⊥)
  have hs : Finset.fold max ⊥ (fun b => if b ≤ a then (f b : EReal) else ⊥) Finset.univ = if b ≤ a then (f b : EReal) else ⊥ := hb
  by_cases g : b ≤ a
  · exact ⟨f b, by rw [hs, if_pos g]⟩
  · have h1 : (if a ≤ a then (f a : EReal) else ⊥) ≤ Finset.univ.sup (fun b => if b ≤ a then (f b : EReal) else ⊥) := Finset.le_sup (f := fun b => if b ≤ a then (f b : EReal) else ⊥) (Finset.mem_univ a)
    rw [hb, if_pos le_rfl, if_neg g] at h1
    exact absurd (le_bot_iff.mp h1) (EReal.coe_ne_bot _)
def sumA (x : S3) : R2 := Host.reduceAdd x (constant S_ .f32 0x00000000#32) reducesTo_S16x8192x8192_S16x8192_d2 h_S_
theorem sumA_apply (x : S3) (h : Fin 16) (a : Fin 8192) : sumA x (ix2 h a) = ∑ b, x (ix3 h a b) := by
  pointwise [sumA]
def colA (x : R2) : R3 := broadcastInDim S16x8192x1 ![0, 1] bcast_S16x8192_S16x8192x1_0_1 x
theorem colA_apply (x : R2) (h : Fin 16) (a : Fin 8192) : colA x (ix3 h a 0) = x (ix2 h a) := by
  pointwise [colA]
def wideA (x : R3) : S3 := broadcastInDim S16x8192x8192 ![0, 1, 2] bcast_S16x8192x1_S16x8192x8192_0_1_2 x
theorem wideA_apply (x : R3) (h : Fin 16) (a b : Fin 8192) : wideA x (ix3 h a b) = x (ix3 h a 0) := by
  pointwise [wideA]
def expA (x : S3) (m : R3) : S3 := Host.exp (subf x (wideA m))
theorem expA_apply (x : S3) (m : R3) (h : Fin 16) (a b : Fin 8192) : expA x m (ix3 h a b) = Ideal.exp (x (ix3 h a b) - m (ix3 h a 0)) := by
  pointwise [expA, wideA]
def divA (x : S3) (m : R3) : S3 := Host.divf x (wideA m)
theorem divA_apply (x : S3) (m : R3) (h : Fin 16) (a b : Fin 8192) : divA x m (ix3 h a b) = Ideal.div (x (ix3 h a b)) (m (ix3 h a 0)) := by
  pointwise [divA, wideA]
def outA (v : H3) (p : S3) : T3 := Host.dotGeneral dot_S8192x16x64_S16x8192x8192_S16x64x8192_0_2_2_1_1_0 none v p
theorem outA_apply (v : H3) (p : S3) (h : Fin 16) (d : Fin 64) (a : Fin 8192) : outA v p (ix3 h d a) = ∑ b, v (ix3 b h d) * p (ix3 h a b) := by
  pointwise [outA]
def turnA (x : T3) : H3 := transpose S8192x16x64 [2, 0, 1] x transposes_S16x64x8192_S8192x16x64_2_0_1
theorem turnA_apply (x : T3) (h : Fin 16) (d : Fin 64) (a : Fin 8192) : turnA x (ix3 a h d) = x (ix3 h d a) := by
  pointwise [turnA]

/-- A row sum of a unit axis is the row. -/
def unitA (x : R3) : R2 := Host.reduceAdd x (constant S_ .f32 0x00000000#32) ReferenceIdeal.Gen.reducesTo_S16x8192x1_S16x8192_d2 ReferenceIdeal.Gen.h_S_
theorem unitA_apply (x : R3) (h : Fin 16) (a : Fin 8192) : unitA x (ix2 h a) = x (ix3 h a 0) := by
  pointwise [unitA]
  simp
def tallA (x : R2) : R3 := fun i => shapeCast S16x8192x1 x ReferenceIdeal.Gen.shapeCasts_S16x8192_S16x8192x1 i
theorem tallA_apply (x : R2) (h : Fin 16) (a : Fin 8192) : tallA x (ix3 h a 0) = x (ix2 h a) := by
  pointwise [tallA]
/-- The other way round: the sum over the queries. -/
abbrev C3 := FVec Ideal ReferenceIdeal.S16x1x8192 .f32
def sumCA (x : S3) : R2 := Host.reduceAdd x (constant S_ .f32 0x00000000#32) ReferenceIdeal.Gen.reducesTo_S16x8192x8192_S16x8192_d1 ReferenceIdeal.Gen.h_S_
theorem sumCA_apply (x : S3) (h : Fin 16) (b : Fin 8192) : sumCA x (ix2 h b) = ∑ a, x (ix3 h a b) := by
  pointwise [sumCA]
def flatCA (x : R2) : C3 := fun i => shapeCast ReferenceIdeal.S16x1x8192 x ReferenceIdeal.Gen.shapeCasts_S16x8192_S16x1x8192 i
theorem flatCA_apply (x : R2) (h : Fin 16) (b : Fin 8192) : flatCA x (ix3 h 0 b) = x (ix2 h b) := by
  pointwise [flatCA]
def unitCA (x : C3) : R2 := Host.reduceAdd x (constant S_ .f32 0x00000000#32) ReferenceIdeal.Gen.reducesTo_S16x1x8192_S16x8192_d1 ReferenceIdeal.Gen.h_S_
theorem unitCA_apply (x : C3) (h : Fin 16) (b : Fin 8192) : unitCA x (ix2 h b) = x (ix3 h 0 b) := by
  pointwise [unitCA]
  simp

def turnTA (x : H3) : T3 := transpose S16x64x8192 [1, 2, 0] x ReferenceIdeal.Gen.transposes_S8192x16x64_S16x64x8192_1_2_0
theorem turnTA_apply (x : H3) (h : Fin 16) (d : Fin 64) (a : Fin 8192) : turnTA x (ix3 h d a) = x (ix3 a h d) := by
  pointwise [turnTA]
def dprobA (x : T3) (v : H3) : S3 := Host.dotGeneral ReferenceIdeal.dot_S16x64x8192_S8192x16x64_S16x8192x8192_1_2_2_0_0_1 none x v
theorem dprobA_apply (x : T3) (v : H3) (h : Fin 16) (a b : Fin 8192) : dprobA x v (ix3 h a b) = ∑ d, x (ix3 h d a) * v (ix3 b h d) := by
  pointwise [dprobA]
def dvA (x : T3) (p : S3) : T3 := Host.dotGeneral ReferenceIdeal.dot_S16x64x8192_S16x8192x8192_S16x64x8192_2_1_1_2_0_0 none x p
theorem dvA_apply (x : T3) (p : S3) (h : Fin 16) (d : Fin 64) (b : Fin 8192) : dvA x p (ix3 h d b) = ∑ a, x (ix3 h d a) * p (ix3 h a b) := by
  pointwise [dvA]
abbrev D3 := FVec Ideal ReferenceIdeal.S16x8192x64 .f32
def dkA (s : S3) (x : H3) : D3 := Host.dotGeneral ReferenceIdeal.dot_S16x8192x8192_S8192x16x64_S16x8192x64_1_0_2_2_0_1 none s x
theorem dkA_apply (s : S3) (x : H3) (h : Fin 16) (d : Fin 64) (b : Fin 8192) : dkA s x (ix3 h b d) = ∑ a, s (ix3 h a b) * x (ix3 a h d) := by
  pointwise [dkA]
def dqA (s : S3) (x : H3) : D3 := Host.dotGeneral ReferenceIdeal.dot_S16x8192x8192_S8192x16x64_S16x8192x64_2_0_1_2_0_1 none s x
theorem dqA_apply (s : S3) (x : H3) (h : Fin 16) (d : Fin 64) (a : Fin 8192) : dqA s x (ix3 h a d) = ∑ b, s (ix3 h a b) * x (ix3 b h d) := by
  pointwise [dqA]
def turnDA (x : D3) : H3 := transpose S8192x16x64 [1, 0, 2] x ReferenceIdeal.Gen.transposes_S16x8192x64_S8192x16x64_1_0_2
theorem turnDA_apply (x : D3) (h : Fin 16) (d : Fin 64) (a : Fin 8192) : turnDA x (ix3 a h d) = x (ix3 h a d) := by
  pointwise [turnDA]

/-- Scores with both gates. -/
def gatesA (c : FVec Ideal S8192x16 .f32) : S3 :=
  subf (wideA (colA (transpose S16x8192 [1, 0] c transposes_S8192x16_S16x8192_1_0)))
    (broadcastInDim S16x8192x8192 ![0, 1, 2] bcast_S16x1x8192_S16x8192x8192_0_1_2 (broadcastInDim S16x1x8192 ![0, 2] bcast_S16x8192_S16x1x8192_0_2 (transpose S16x8192 [1, 0] c transposes_S8192x16_S16x8192_1_0)))
theorem gatesA_apply (c : FVec Ideal S8192x16 .f32) (h : Fin 16) (a b : Fin 8192) : gatesA c (ix3 h a b) = c (ix2 a h) - c (ix2 b h) := by
  pointwise [gatesA, wideA, colA]
/-- Scores with the key's gate alone. -/
def lessA (x : S3) (c : FVec Ideal S8192x16 .f32) : S3 :=
  subf x (broadcastInDim S16x8192x8192 ![0, 1, 2] bcast_S16x1x8192_S16x8192x8192_0_1_2 (broadcastInDim S16x1x8192 ![0, 2] bcast_S16x8192_S16x1x8192_0_2 (transpose S16x8192 [1, 0] c transposes_S8192x16_S16x8192_1_0)))
theorem lessA_apply (x : S3) (c : FVec Ideal S8192x16 .f32) (h : Fin 16) (a b : Fin 8192) : lessA x c (ix3 h a b) = x (ix3 h a b) - c (ix2 b h) := by
  pointwise [lessA]

/-- Row sums of the heads spread over the lanes of the pair's other head. -/
def spreadA (x : FVec Ideal S8192x16 .f32) : M2 := fun i => shapeCast S8192x1024
  (broadcastInDim ReferenceIdeal.S8192x8x2x64 ![0, 1, 2, 3] ReferenceIdeal.Gen.bcast_S8192x8x2x1_S8192x8x2x64_0_1_2_3
    (Host.reverse [2] (fun i => shapeCast ReferenceIdeal.S8192x8x2x1 x ReferenceIdeal.Gen.shapeCasts_S8192x16_S8192x8x2x1 i))) ReferenceIdeal.Gen.shapeCasts_S8192x8x2x64_S8192x1024 i
theorem spreadA_apply (x : FVec Ideal S8192x16 .f32) (a : Fin 8192) (n : Fin 1024) : spreadA x (ix2 a n) = x (ix2 a (other (headOf n))) := by
  pointwise [spreadA]
  refine congrArg (fun z => x (ix2 a z)) (Fin.ext ?_)
  simp [other, headOf, Fin.val_rev]
  omega
def turnRA (x : R2) : FVec Ideal S8192x16 .f32 := transpose S8192x16 [1, 0] x ReferenceIdeal.Gen.transposes_S16x8192_S8192x16_1_0
theorem turnRA_apply (x : R2) (h : Fin 16) (a : Fin 8192) : turnRA x (ix2 a h) = x (ix2 h a) := by
  pointwise [turnRA]

end Cert.KernelIdeal.Att

end
-- ==== Proof.Soft.lean ====
module

public import proofs.«01_k».proof.Proof.Stage

/-! The softmax of whole arrays of real scores, and the gradient of the scores through it. -/

@[expose] public section

set_option maxRecDepth 16384
noncomputable section

namespace Cert.KernelIdeal.Att

open Cert.KernelIdeal Cert.KernelIdeal.Gen Cert.Att
open Idealize.ShloMosaic
open scoped BigOperators

theorem col_headOf (n : Fin 1024) : col (headOf n) ⟨n.val % 64, by omega⟩ = n := Fin.ext (by simp only [col, headOf]; omega)

variable {X : Inp} {S : S3} {g μ : Fin 16 → Fin 8192 → ℝ} {m : R3}

/-- The array holds the scores, each query's shifted by a number of its own. -/
def Holds (X : Inp) (g : Fin 16 → Fin 8192 → ℝ) (S : S3) : Prop := ∀ h a b, S (ix3 h a b) = ((score X h a b + g h a : ℝ) : EReal)
/-- The column holds real numbers. -/
def Col (μ : Fin 16 → Fin 8192 → ℝ) (m : R3) : Prop := ∀ h a, m (ix3 h a 0) = (μ h a : EReal)

theorem late_val (hS : Holds X g S) (h : Fin 16) (a b : Fin 8192) : lateA S (ix3 h a b) = if b ≤ a then ((score X h a b + g h a : ℝ) : EReal) else ⊥ := by
  rw [lateA_apply, hS]
theorem max_val (hS : Holds X g S) : ∃ μ : Fin 16 → Fin 8192 → ℝ, ∀ h a, maxA (lateA S) (ix2 h a) = (μ h a : EReal) := by
  have h1 : ∀ h a, ∃ μ : ℝ, maxA (lateA S) (ix2 h a) = (μ : EReal) := fun h a => by
    obtain ⟨μ, hμ⟩ := max_real (fun b => score X h a b + g h a) a
    exact ⟨μ, by rw [maxA_apply, ← hμ]; exact congrArg (fun f => Finset.fold max ⊥ f Finset.univ) (funext fun b => late_val hS h a b)⟩
  exact ⟨fun h a => (h1 h a).choose, fun h a => (h1 h a).choose_spec⟩

/-- The exponential of a score less a number. -/
def ex (X : Inp) (h : Fin 16) (a b : Fin 8192) (ν : ℝ) : ℝ := if b ≤ a then Real.exp (score X h a b - ν) else 0
theorem exp_val (hS : Holds X g S) (hm : Col μ m) (h : Fin 16) (a b : Fin 8192) : expA (lateA S) m (ix3 h a b) = (ex X h a b (μ h a - g h a) : EReal) := by
  rw [expA_apply, late_val hS, hm]
  unfold ex
  by_cases hb : b ≤ a
  · rw [if_pos hb, if_pos hb, ← EReal.coe_sub, Ideal.exp_coe]
    exact congrArg (fun x : ℝ => (Real.exp x : EReal)) (by ring)
  · rw [if_neg hb, if_neg hb, EReal.bot_sub, Ideal.exp_bot, EReal.coe_zero]
theorem sum_val (hS : Holds X g S) (hm : Col μ m) : Col (fun h a => total X h a * Real.exp (-(μ h a - g h a))) (colA (sumA (expA (lateA S) m))) := fun h a => by
  rw [colA_apply, sumA_apply]
  simp only [exp_val hS hm]
  rw [← coe_sum]
  exact congrArg _ (total_shift X h a _)
theorem total_exp_ne (X : Inp) (h : Fin 16) (a : Fin 8192) (ν : ℝ) : total X h a * Real.exp (-ν) ≠ 0 := mul_ne_zero (total_pos X h a).ne' (Real.exp_pos _).ne'
theorem prob_val (hS : Holds X g S) (hm : Col μ m) (h : Fin 16) (a b : Fin 8192) :
    divA (expA (lateA S) m) (colA (sumA (expA (lateA S) m))) (ix3 h a b) = (prob X h a b : EReal) := by
  rw [divA_apply, exp_val hS hm, sum_val hS hm, div_coe _ _ (total_exp_ne X h a _), ← total_shift]
  exact congrArg _ (prob_shift X h a _ b)

/-- Real inputs: the arrays and the numbers they hold. -/
structure Arrays (X : Inp) (q k v d : M2) (c : FVec Ideal S8192x16 .f32) : Prop where
  q : ∀ a n, q (ix2 a n) = (X.q a n : EReal)
  k : ∀ a n, k (ix2 a n) = (X.k a n : EReal)
  v : ∀ a n, v (ix2 a n) = (X.v a n : EReal)
  d : ∀ a n, d (ix2 a n) = (X.d a n : EReal)
  c : ∀ a h, c (ix2 a h) = (X.c a h : EReal)

variable {q k v d : M2} {c : FVec Ideal S8192x16 .f32}

theorem dot_val (f f' : Fin 8192 → Fin 1024 → ℝ) {x y : M2} (hx : ∀ a n, x (ix2 a n) = (f a n : EReal)) (hy : ∀ a n, y (ix2 a n) = (f' a n : EReal)) (h : Fin 16) (a b : Fin 8192) :
    (∑ e, headsA x (ix3 a h e) * headsA y (ix3 b h e)) = ((∑ e, f a (col h e) * f' b (col h e) : ℝ) : EReal) := by
  rw [coe_sum]
  refine Finset.sum_congr rfl fun e _ => ?_
  rw [headsA_apply, headsA_apply, hx, hy, EReal.coe_mul]

theorem holdsK (A : Arrays X q k v d c) : Holds X (fun _ _ => 0) (lessA (rowsA (headsA q) (headsA k)) c) := fun h a b => by
  rw [lessA_apply, rowsA_apply, dot_val X.q X.k A.q A.k, A.c, ← EReal.coe_sub]
  exact congrArg _ (add_zero _).symm
theorem holdsR (A : Arrays X q k v d c) : Holds X (fun h a => X.c a h) (addf (rowsA (headsA q) (headsA k)) (gatesA c)) := fun h a b => by
  show rowsA (headsA q) (headsA k) (ix3 h a b) + gatesA c (ix3 h a b) = _
  rw [gatesA_apply, rowsA_apply, dot_val X.q X.k A.q A.k, A.c, A.c, ← EReal.coe_sub, ← EReal.coe_add]
  refine congrArg _ ?_
  unfold score
  ring

end Cert.KernelIdeal.Att

end
-- ==== Proof.Grad.lean ====
module

public import proofs.«01_k».proof.Proof.Soft

/-! The gradients as the reference writes them: through the exponentials and their sums rather than through the probabilities. -/

@[expose] public section

set_option maxRecDepth 16384
noncomputable section

namespace Cert.KernelIdeal.Att

open Cert.KernelIdeal Cert.KernelIdeal.Gen Cert.Att
open Idealize.ShloMosaic
open scoped BigOperators

/-- The gradient of the exponentials from that of the probabilities `dp` and the sums `L`. -/
def oneOverA (L : R3) : R3 := Host.divf (broadcastInDim S16x8192x1 ![] ReferenceIdeal.Gen.bcast_S_S16x8192x1 (constant S_ .f32 0x3F800000#32)) (mulf L L)
theorem oneOverA_apply (L : R3) (h : Fin 16) (a : Fin 8192) : oneOverA L (ix3 h a 0) = Ideal.div 1 (L (ix3 h a 0) * L (ix3 h a 0)) := by
  pointwise [oneOverA]
def sumDA (dp E : S3) (L : R3) : R2 := unitA (Host.negf (tallA (sumA (mulf (mulf dp (wideA (oneOverA L))) E))))
theorem sumDA_apply (dp E : S3) (L : R3) (h : Fin 16) (a : Fin 8192) : sumDA dp E L (ix2 h a) = -(∑ b, dp (ix3 h a b) * oneOverA L (ix3 h a 0) * E (ix3 h a b)) := by
  unfold sumDA
  rw [unitA_apply]
  show -(tallA _ (ix3 h a 0)) = _
  rw [tallA_apply, sumA_apply]
  refine congrArg _ (Finset.sum_congr rfl fun b _ => ?_)
  show dp _ * wideA _ (ix3 h a b) * E _ = _
  rw [wideA_apply]
def allA (x : R2) : S3 := broadcastInDim S16x8192x8192 ![0, 1] ReferenceIdeal.Gen.bcast_S16x8192_S16x8192x8192_0_1 x
theorem allA_apply (x : R2) (h : Fin 16) (a b : Fin 8192) : allA x (ix3 h a b) = x (ix2 h a) := by
  pointwise [allA]
def dscoreA (dp E : S3) (L : R3) : S3 := zeroA (mulf (addf (divA dp L) (allA (sumDA dp E L))) E)
theorem dscoreA_apply (dp E : S3) (L : R3) (h : Fin 16) (a b : Fin 8192) :
    dscoreA dp E L (ix3 h a b) = if b ≤ a then (Ideal.div (dp (ix3 h a b)) (L (ix3 h a 0)) + sumDA dp E L (ix2 h a)) * E (ix3 h a b) else 0 := by
  unfold dscoreA
  rw [zeroA_apply]
  show (if b ≤ a then (divA dp L (ix3 h a b) + allA _ (ix3 h a b)) * E _ else 0) = _
  rw [divA_apply, allA_apply]

variable {X : Inp} {S : S3} {g μ : Fin 16 → Fin 8192 → ℝ} {m : R3} {dp : S3}

/-- A probability is the exponential over the sum. -/
theorem ex_div (X : Inp) (h : Fin 16) (a b : Fin 8192) (ν : ℝ) : ex X h a b ν / (total X h a * Real.exp (-ν)) = prob X h a b := by
  rw [← total_shift]
  exact prob_shift X h a ν b

theorem dscore_val (hS : Holds X g S) (hm : Col μ m) (hd : ∀ h a b, dp (ix3 h a b) = (dprob X h a b : EReal)) (h : Fin 16) (a b : Fin 8192) :
    dscoreA dp (expA (lateA S) m) (colA (sumA (expA (lateA S) m))) (ix3 h a b) = (dscore X h a b : EReal) := by
  rw [dscoreA_apply]
  by_cases hb : b ≤ a
  · have hne := total_exp_ne X h a (μ h a - g h a)
    rw [if_pos hb, sumDA_apply, oneOverA_apply, hd, sum_val hS hm h a, exp_val hS hm, div_coe _ _ hne, ← EReal.coe_mul, ← EReal.coe_one, div_coe _ _ (mul_ne_zero hne hne)]
    simp only [hd, exp_val hS hm]
    simp only [← EReal.coe_mul]
    rw [← coe_sum, ← EReal.coe_neg, ← EReal.coe_add, ← EReal.coe_mul]
    refine congrArg _ ?_
    unfold dscore
    simp only [← ex_div X h a _ (μ h a - g h a)]
    have h1 : (∑ e, dprob X h a e * (1 / (total X h a * Real.exp (-(μ h a - g h a)) * (total X h a * Real.exp (-(μ h a - g h a))))) * ex X h a e (μ h a - g h a))
        = (∑ e, ex X h a e (μ h a - g h a) / (total X h a * Real.exp (-(μ h a - g h a))) * dprob X h a e) / (total X h a * Real.exp (-(μ h a - g h a))) := by
      rw [Finset.sum_div]
      refine Finset.sum_congr rfl fun e _ => ?_
      field_simp
    rw [h1]
    field_simp
    ring
  · rw [if_neg hb, dscore_late X h hb, EReal.coe_zero]

/-- What the reference takes from its inputs. -/
def sR (q k : M2) (c : FVec Ideal S8192x16 .f32) : S3 := addf (rowsA (headsA q) (headsA k)) (gatesA c)
def mR (q k : M2) (c : FVec Ideal S8192x16 .f32) : R3 := colA (maximumf (broadcastInDim S16x8192 ![] ReferenceIdeal.Gen.bcast_S_S16x8192 (constant S_ .f32 0xFF800000#32)) (maxA (lateA (sR q k c))))
def eR (q k : M2) (c : FVec Ideal S8192x16 .f32) : S3 := expA (lateA (sR q k c)) (mR q k c)
def lR (q k : M2) (c : FVec Ideal S8192x16 .f32) : R3 := colA (sumA (eR q k c))
def dpR (v d : M2) : S3 := dprobA (turnTA (headsA d)) (headsA v)
def dsR (q k v d : M2) (c : FVec Ideal S8192x16 .f32) : S3 := dscoreA (dpR v d) (eR q k c) (lR q k c)
def dqR (q k v d : M2) (c : FVec Ideal S8192x16 .f32) : M2 := flatA (turnDA (dqA (dsR q k v d c) (headsA k)))
def dkR (q k v d : M2) (c : FVec Ideal S8192x16 .f32) : M2 := flatA (turnDA (dkA (dsR q k v d c) (headsA q)))
def dvR (q k d : M2) (c : FVec Ideal S8192x16 .f32) : M2 := flatA (turnA (dvA (turnTA (headsA d)) (divA (eR q k c) (lR q k c))))
def drR (q k v d : M2) (c : FVec Ideal S8192x16 .f32) : M2 := spreadA (turnRA (unitA (tallA (sumA (dsR q k v d c)))))
def dcR (q k v d : M2) (c : FVec Ideal S8192x16 .f32) : M2 := spreadA (Host.negf (turnRA (unitCA (flatCA (sumCA (Host.negf (dsR q k v d c)))))))

variable {q k v d : M2} {c : FVec Ideal S8192x16 .f32}

theorem top_apply (x : R2) (h : Fin 16) (a : Fin 8192) :
    maximumf (broadcastInDim S16x8192 ![] ReferenceIdeal.Gen.bcast_S_S16x8192 (constant S_ .f32 0xFF800000#32)) x (ix2 h a) = x (ix2 h a) := by
  pointwise []
  rw [minus_inf]
  exact max_eq_right bot_le
theorem mR_val (A : Arrays X q k v d c) : ∃ μ, Col μ (mR q k c) := by
  obtain ⟨μ, hμ⟩ := max_val (holdsR A)
  exact ⟨μ, fun h a => (colA_apply _ h a).trans ((top_apply _ h a).trans (hμ h a))⟩
theorem dpR_val (A : Arrays X q k v d c) (h : Fin 16) (a b : Fin 8192) : dpR v d (ix3 h a b) = (dprob X h a b : EReal) := by
  unfold dpR dprob
  rw [dprobA_apply, ← dot_val X.d X.v A.d A.v]
  exact Finset.sum_congr rfl fun e _ => by rw [turnTA_apply]
theorem dsR_val (A : Arrays X q k v d c) (h : Fin 16) (a b : Fin 8192) : dsR q k v d c (ix3 h a b) = (dscore X h a b : EReal) := by
  obtain ⟨μ, hμ⟩ := mR_val A
  exact dscore_val (holdsR A) hμ (dpR_val A) h a b

theorem dqR_val (A : Arrays X q k v d c) (a : Fin 8192) (n : Fin 1024) : dqR q k v d c (ix2 a n) = (gradQ X a n : EReal) := by
  unfold dqR gradQ
  rw [flatA_apply, turnDA_apply, dqA_apply, coe_sum]
  refine Finset.sum_congr rfl fun b _ => ?_
  rw [dsR_val A, headsA_apply, col_headOf, A.k, EReal.coe_mul]
theorem dkR_val (A : Arrays X q k v d c) (b : Fin 8192) (n : Fin 1024) : dkR q k v d c (ix2 b n) = (gradK X b n : EReal) := by
  unfold dkR gradK
  rw [flatA_apply, turnDA_apply, dkA_apply, coe_sum]
  refine Finset.sum_congr rfl fun a _ => ?_
  rw [dsR_val A, headsA_apply, col_headOf, A.q, EReal.coe_mul]
theorem dvR_val (A : Arrays X q k v d c) (b : Fin 8192) (n : Fin 1024) : dvR q k d c (ix2 b n) = (gradV X b n : EReal) := by
  obtain ⟨μ, hμ⟩ := mR_val A
  unfold dvR gradV
  rw [flatA_apply, turnA_apply, dvA_apply, coe_sum]
  refine Finset.sum_congr rfl fun a _ => ?_
  rw [turnTA_apply, headsA_apply, col_headOf, A.d, lR, eR, sR, prob_val (holdsR A) hμ, ← EReal.coe_mul, mul_comm]
theorem drR_val (A : Arrays X q k v d c) (a : Fin 8192) (n : Fin 1024) : drR q k v d c (ix2 a n) = (gradR X a n : EReal) := by
  unfold drR gradR
  rw [spreadA_apply, turnRA_apply, unitA_apply, tallA_apply, sumA_apply, coe_sum]
  exact Finset.sum_congr rfl fun b _ => dsR_val A _ _ _
theorem dcR_val (A : Arrays X q k v d c) (b : Fin 8192) (n : Fin 1024) : dcR q k v d c (ix2 b n) = (gradC X b n : EReal) := by
  unfold dcR gradC
  rw [spreadA_apply]
  show -(turnRA _ (ix2 b _)) = _
  rw [turnRA_apply, unitCA_apply, flatCA_apply, sumCA_apply]
  have h1 : ∀ a, Host.negf (dsR q k v d c) (ix3 (other (headOf n)) a b) = ((-dscore X (other (headOf n)) a b : ℝ) : EReal) := fun a => by
    show -(dsR q k v d c (ix3 (other (headOf n)) a b)) = _
    rw [dsR_val A, EReal.coe_neg]
  simp only [h1]
  rw [← coe_sum, ← EReal.coe_neg, Finset.sum_neg_distrib, neg_neg]

end Cert.KernelIdeal.Att

end
-- ==== Proof.RefVal.lean ====
module

public import proofs.«01_k».proof.Proof.Grad
public import proofs.«01_k».proof.Proof.Gen.ReferenceIdeal.Run

/-! The reference's results are the gradients taken from its inputs. -/

@[expose] public section

set_option maxRecDepth 16384
noncomputable section

namespace Cert.KernelIdeal.Att

open Cert.Att
open Idealize.ShloMosaic
open Cert.ReferenceIdeal.Value (res_main_v84 res_main_v88 res_main_v89 res_main_v90 res_main_v95)

variable (m : (ℓ : Loc ReferenceIdeal.nD ReferenceIdeal.τ ReferenceIdeal.sig) → Buf (Elt Ideal) ℓ) (c : Dev ReferenceIdeal.nD)

/-- The reference's arguments as the arrays the steps take. -/
def qN : M2 := extf .f32 (m ((c.tc : Thread ReferenceIdeal.nD ReferenceIdeal.τ).loc ReferenceIdeal.main_arg0) : FVec Ideal KernelIdeal.S8192x1024 .bf16) KernelIdeal.Gen.bitsLt_bf16_f32
def kN : M2 := extf .f32 (extractStridedSlice KernelIdeal.S8192x1024 ![0, 0] (m ((c.tc : Thread ReferenceIdeal.nD ReferenceIdeal.τ).loc ReferenceIdeal.main_arg1) : FVec Ideal KernelIdeal.S8192x2048 .bf16) KernelIdeal.Gen.slices_S8192x2048_S8192x1024_0_0) KernelIdeal.Gen.bitsLt_bf16_f32
def vN : M2 := extf .f32 (extractStridedSlice KernelIdeal.S8192x1024 ![0, 1024] (m ((c.tc : Thread ReferenceIdeal.nD ReferenceIdeal.τ).loc ReferenceIdeal.main_arg1) : FVec Ideal KernelIdeal.S8192x2048 .bf16) KernelIdeal.Gen.slices_S8192x2048_S8192x1024_0_1024) KernelIdeal.Gen.bitsLt_bf16_f32
def dN : M2 := extf .f32 (m ((c.tc : Thread ReferenceIdeal.nD ReferenceIdeal.τ).loc ReferenceIdeal.main_arg3) : FVec Ideal KernelIdeal.S8192x1024 .bf16) KernelIdeal.Gen.bitsLt_bf16_f32
def cN : FVec Ideal KernelIdeal.S8192x16 .f32 := m ((c.tc : Thread ReferenceIdeal.nD ReferenceIdeal.τ).loc ReferenceIdeal.main_arg2)

set_option maxHeartbeats 1000000 in
theorem res_q : res_main_v84 m c = dqR (qN m c) (kN m c) (vN m c) (dN m c) (cN m c) := by
  unfold res_main_v84
  rfl
set_option maxHeartbeats 1000000 in
theorem res_k : res_main_v89 m c = dkR (qN m c) (kN m c) (vN m c) (dN m c) (cN m c) := by
  unfold res_main_v89
  rfl
set_option maxHeartbeats 1000000 in
theorem res_v : res_main_v90 m c = dvR (qN m c) (kN m c) (dN m c) (cN m c) := by
  unfold res_main_v90
  rfl
set_option maxHeartbeats 1000000 in
theorem res_r : res_main_v88 m c = drR (qN m c) (kN m c) (vN m c) (dN m c) (cN m c) := by
  unfold res_main_v88
  rfl
set_option maxHeartbeats 1000000 in
theorem res_c : res_main_v95 m c = dcR (qN m c) (kN m c) (vN m c) (dN m c) (cN m c) := by
  unfold res_main_v95
  rfl

end Cert.KernelIdeal.Att

end
-- ==== Proof.ReadA0.lean ====
module

public import proofs.«01_k».proof.Proof.RunA0
public import proofs.«01_k».proof.Proof.Step

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 400000 in
theorem runA0_o7 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA0 c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).1 = arg11.view.writes (Elt F) arg11.view.junk (pieces arg11.view arg11.view.junk [⟨Rect.unit (s := S8192x128) ![0, 0] S8192x128.size inb_S8192x128_S8192x128_0_0, k0_pay3⟩]
      [⟨k0_off3 (wI F i T0) 1536#32, k0_off3_inb (wI F i T0) (wJ F i T1) k0_hw1 k0_h4 3, mix (dqCh (ldKeys arg5 arg6 arg10 x1 x2 x6) (ldChunk arg4 arg7 arg8 arg9 x0 x3 x4 x5 false 1536 (by decide) (by decide) (by decide)) false) (dqCh (ldKeys arg5 arg6 arg10 x1 x2 x6) (ldChunk arg4 arg7 arg8 arg9 x0 x3 x4 x5 false 1536 (by decide) (by decide) (by decide)) true)⟩,
      ⟨k0_off3 (wI F i T0) 1024#32, k0_off3_inb (wI F i T0) (wJ F i T1) k0_hw1 k0_h4 2, mix (dqCh (ldKeys arg5 arg6 arg10 x1 x2 x6) (ldChunk arg4 arg7 arg8 arg9 x0 x3 x4 x5 false 1024 (by decide) (by decide) (by decide)) false) (dqCh (ldKeys arg5 arg6 arg10 x1 x2 x6) (ldChunk arg4 arg7 arg8 arg9 x0 x3 x4 x5 false 1024 (by decide) (by decide) (by decide)) true)⟩,
      ⟨k0_off3 (wI F i T0) 512#32, k0_off3_inb (wI F i T0) (wJ F i T1) k0_hw1 k0_h4 1, mix (dqCh (ldKeys arg5 arg6 arg10 x1 x2 x6) (ldChunk arg4 arg7 arg8 arg9 x0 x3 x4 x5 false 512 (by decide) (by decide) (by decide)) false) (dqCh (ldKeys arg5 arg6 arg10 x1 x2 x6) (ldChunk arg4 arg7 arg8 arg9 x0 x3 x4 x5 false 512 (by decide) (by decide) (by decide)) true)⟩,
      ⟨k0_off3 (wI F i T0) 0#32, k0_off3_inb (wI F i T0) (wJ F i T1) k0_hw1 k0_h4 0, mix (dqCh (ldKeys arg5 arg6 arg10 x1 x2 x6) (ldChunk arg4 arg7 arg8 arg9 x0 x3 x4 x5 true 0 (by decide) (by decide) (by decide)) false) (dqCh (ldKeys arg5 arg6 arg10 x1 x2 x6) (ldChunk arg4 arg7 arg8 arg9 x0 x3 x4 x5 true 0 (by decide) (by decide) (by decide)) true)⟩]) := by
  unfold runA0
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
theorem runA0_o8 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA0 c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.1 = arg12.view.writes (Elt F) arg12.view.junk (pieces arg12.view arg12.view.junk [⟨Rect.unit (s := S8192x128) ![0, 0] S8192x128.size inb_S8192x128_S8192x128_0_0, k0_pay3⟩]
      [⟨k0_off3 (wI F i T0) 1536#32, k0_off3_inb (wI F i T0) (wJ F i T1) k0_hw1 k0_h4 3, mix (dqCh (ldKeys arg5 arg6 arg10 x1 x2 x6) (ldChunk arg4 arg7 arg8 arg9 x0 x3 x4 x5 false 1536 (by decide) (by decide) (by decide)) true) (dqCh (ldKeys arg5 arg6 arg10 x1 x2 x6) (ldChunk arg4 arg7 arg8 arg9 x0 x3 x4 x5 false 1536 (by decide) (by decide) (by decide)) false)⟩,
      ⟨k0_off3 (wI F i T0) 1024#32, k0_off3_inb (wI F i T0) (wJ F i T1) k0_hw1 k0_h4 2, mix (dqCh (ldKeys arg5 arg6 arg10 x1 x2 x6) (ldChunk arg4 arg7 arg8 arg9 x0 x3 x4 x5 false 1024 (by decide) (by decide) (by decide)) true) (dqCh (ldKeys arg5 arg6 arg10 x1 x2 x6) (ldChunk arg4 arg7 arg8 arg9 x0 x3 x4 x5 false 1024 (by decide) (by decide) (by decide)) false)⟩,
      ⟨k0_off3 (wI F i T0) 512#32, k0_off3_inb (wI F i T0) (wJ F i T1) k0_hw1 k0_h4 1, mix (dqCh (ldKeys arg5 arg6 arg10 x1 x2 x6) (ldChunk arg4 arg7 arg8 arg9 x0 x3 x4 x5 false 512 (by decide) (by decide) (by decide)) true) (dqCh (ldKeys arg5 arg6 arg10 x1 x2 x6) (ldChunk arg4 arg7 arg8 arg9 x0 x3 x4 x5 false 512 (by decide) (by decide) (by decide)) false)⟩,
      ⟨k0_off3 (wI F i T0) 0#32, k0_off3_inb (wI F i T0) (wJ F i T1) k0_hw1 k0_h4 0, mix (dqCh (ldKeys arg5 arg6 arg10 x1 x2 x6) (ldChunk arg4 arg7 arg8 arg9 x0 x3 x4 x5 true 0 (by decide) (by decide) (by decide)) true) (dqCh (ldKeys arg5 arg6 arg10 x1 x2 x6) (ldChunk arg4 arg7 arg8 arg9 x0 x3 x4 x5 true 0 (by decide) (by decide) (by decide)) false)⟩]) := by
  unfold runA0
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
theorem runA0_o9 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA0 c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.1 = arg13.view.writes (Elt F) arg13.view.junk (⟨Rect.unit (s := S512x128) ![0, 0] S512x128.size inb_S512x128_S512x128_0_0, plus (arg13.view.readAt (Elt F) (Rect.unit (s := S512x128) ![0, 0] S512x128.size inb_S512x128_S512x128_0_0).toLoadRect (arg13.view.writes (Elt F) arg13.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u false) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dkCh (ldKeys arg5 arg6 arg10 x1 x2 x6) u true) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runA0
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
theorem runA0_o10 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA0 c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.1 = arg14.view.writes (Elt F) arg14.view.junk (⟨Rect.unit (s := S512x128) ![0, 0] S512x128.size inb_S512x128_S512x128_0_0, plus (arg14.view.readAt (Elt F) (Rect.unit (s := S512x128) ![0, 0] S512x128.size inb_S512x128_S512x128_0_0).toLoadRect (arg14.view.writes (Elt F) arg14.view.junk [⟨Rect.unit (s := S512x128) ![0, 0] S512x128.size inb_S512x128_S512x128_0_0, (broadcast S512x128 (Scalar.ofBits .f32 0x00000000#32) : FVec F S512x128 .f32)⟩])) (mix (sumCh (fun u => dvCh (ldKeys arg5 arg6 arg10 x1 x2 x6) u false) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dvCh (ldKeys arg5 arg6 arg10 x1 x2 x6) u true) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runA0
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
theorem runA0_o11 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA0 c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.2.1 = arg15.view.writes (Elt F) arg15.view.junk (⟨Rect.unit (s := S512x128) ![0, 0] S512x128.size inb_S512x128_S512x128_0_0, plus (arg15.view.readAt (Elt F) (Rect.unit (s := S512x128) ![0, 0] S512x128.size inb_S512x128_S512x128_0_0).toLoadRect (arg15.view.writes (Elt F) arg15.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u true) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dkCh (ldKeys arg5 arg6 arg10 x1 x2 x6) u false) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runA0
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
/-- What the run leaves in the five outputs, of the windows' contents. -/
theorem runA0_reads (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i pinI) (wJ F i pinJ)) (k0_h1 : k0_cond1 i = 1#1) (k0_h2 : k0_cond2 (wI F i pinI) (wJ F i pinJ) = 1#1) (k0_h3 : ¬k0_cond3 (wI F i pinI) (wJ F i pinJ) = 1#1) (k0_h4 : k0_cond4 (wI F i pinI) (wJ F i pinJ) = 1#1) (k0_h5 : ¬k0_cond5 (wI F i pinI) (wJ F i pinJ) = 1#1) (k0_h6 : ¬k0_cond6 (wI F i pinI) (wJ F i pinJ) = 1#1) (k0_h7 : ¬k0_cond7 (wI F i pinI) (wJ F i pinJ) = 1#1) :
    arg11.view.read (Elt F) (runA0 c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).1 = (⟨x0, x1, x2, x3, x4, x5, x6⟩ : Win F).outQ (blkI (i 1)) 0 false k0_pay3 ∧
    arg12.view.read (Elt F) (runA0 c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.1 = (⟨x0, x1, x2, x3, x4, x5, x6⟩ : Win F).outQ (blkI (i 1)) 0 true k0_pay3 ∧
    arg13.view.read (Elt F) (runA0 c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.1 = (⟨x0, x1, x2, x3, x4, x5, x6⟩ : Win F).outK 0 dkCh false y9 ∧
    arg14.view.read (Elt F) (runA0 c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.1 = (⟨x0, x1, x2, x3, x4, x5, x6⟩ : Win F).outK 0 dvCh false y10 ∧
    arg15.view.read (Elt F) (runA0 c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.2.1 = (⟨x0, x1, x2, x3, x4, x5, x6⟩ : Win F).outK 0 dkCh true y11 := by
  refine ⟨?_, ?_, ?_, ?_, ?_⟩
  · rw [runA0_o7, read_pieces, View.read_writes_full]; simp only [ldKeys_eq, ldChunk_eq]; unfold Win.outQ; rw [live_0]
    exact congrArg (addRows _) ((congrArg₂ List.cons (rowAdd_eq _ _ _ (by rw [wI_eq]; exact off3_tab _ 3)) (congrArg₂ List.cons (rowAdd_eq _ _ _ (by rw [wI_eq]; exact off3_tab _ 2)) (congrArg₂ List.cons (rowAdd_eq _ _ _ (by rw [wI_eq]; exact off3_tab _ 1)) (congrArg₂ List.cons (rowAdd_eq _ _ _ (by rw [wI_eq]; exact off3_tab _ 0)) rfl)))))
  · rw [runA0_o8, read_pieces, View.read_writes_full]; simp only [ldKeys_eq, ldChunk_eq]; unfold Win.outQ; rw [live_0]
    exact congrArg (addRows _) ((congrArg₂ List.cons (rowAdd_eq _ _ _ (by rw [wI_eq]; exact off3_tab _ 3)) (congrArg₂ List.cons (rowAdd_eq _ _ _ (by rw [wI_eq]; exact off3_tab _ 2)) (congrArg₂ List.cons (rowAdd_eq _ _ _ (by rw [wI_eq]; exact off3_tab _ 1)) (congrArg₂ List.cons (rowAdd_eq _ _ _ (by rw [wI_eq]; exact off3_tab _ 0)) rfl)))))
  · rw [runA0_o9, read_fresh]; simp only [ldKeys_eq, ldChunk_eq]; unfold Win.outK; rw [live_0]; rfl
  · rw [runA0_o10, read_fresh]; simp only [ldKeys_eq, ldChunk_eq]; unfold Win.outK; rw [live_0]; rfl
  · rw [runA0_o11, read_fresh]; simp only [ldKeys_eq, ldChunk_eq]; unfold Win.outK; rw [live_0]; rfl

end Cert.KernelIdeal.Att

end
-- ==== Proof.ReadA.lean ====
module

public import proofs.«01_k».proof.Proof.RunA
public import proofs.«01_k».proof.Proof.Step

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 400000 in
theorem runA_o7 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).1 = arg11.view.writes (Elt F) (arg11.view.rep y7) (pieces arg11.view (arg11.view.rep y7) []
      [⟨k0_off3 (wI F i T0) 1536#32, k0_off3_inb (wI F i T0) (wJ F i T1) k0_hw1 k0_h4 3, mix (dqCh (ldKeys arg5 arg6 arg10 x1 x2 x6) (ldChunk arg4 arg7 arg8 arg9 x0 x3 x4 x5 false 1536 (by decide) (by decide) (by decide)) false) (dqCh (ldKeys arg5 arg6 arg10 x1 x2 x6) (ldChunk arg4 arg7 arg8 arg9 x0 x3 x4 x5 false 1536 (by decide) (by decide) (by decide)) true)⟩,
      ⟨k0_off3 (wI F i T0) 1024#32, k0_off3_inb (wI F i T0) (wJ F i T1) k0_hw1 k0_h4 2, mix (dqCh (ldKeys arg5 arg6 arg10 x1 x2 x6) (ldChunk arg4 arg7 arg8 arg9 x0 x3 x4 x5 false 1024 (by decide) (by decide) (by decide)) false) (dqCh (ldKeys arg5 arg6 arg10 x1 x2 x6) (ldChunk arg4 arg7 arg8 arg9 x0 x3 x4 x5 false 1024 (by decide) (by decide) (by decide)) true)⟩,
      ⟨k0_off3 (wI F i T0) 512#32, k0_off3_inb (wI F i T0) (wJ F i T1) k0_hw1 k0_h4 1, mix (dqCh (ldKeys arg5 arg6 arg10 x1 x2 x6) (ldChunk arg4 arg7 arg8 arg9 x0 x3 x4 x5 false 512 (by decide) (by decide) (by decide)) false) (dqCh (ldKeys arg5 arg6 arg10 x1 x2 x6) (ldChunk arg4 arg7 arg8 arg9 x0 x3 x4 x5 false 512 (by decide) (by decide) (by decide)) true)⟩,
      ⟨k0_off3 (wI F i T0) 0#32, k0_off3_inb (wI F i T0) (wJ F i T1) k0_hw1 k0_h4 0, mix (dqCh (ldKeys arg5 arg6 arg10 x1 x2 x6) (ldChunk arg4 arg7 arg8 arg9 x0 x3 x4 x5 true 0 (by decide) (by decide) (by decide)) false) (dqCh (ldKeys arg5 arg6 arg10 x1 x2 x6) (ldChunk arg4 arg7 arg8 arg9 x0 x3 x4 x5 true 0 (by decide) (by decide) (by decide)) true)⟩]) := by
  unfold runA
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
theorem runA_o8 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.1 = arg12.view.writes (Elt F) (arg12.view.rep y8) (pieces arg12.view (arg12.view.rep y8) []
      [⟨k0_off3 (wI F i T0) 1536#32, k0_off3_inb (wI F i T0) (wJ F i T1) k0_hw1 k0_h4 3, mix (dqCh (ldKeys arg5 arg6 arg10 x1 x2 x6) (ldChunk arg4 arg7 arg8 arg9 x0 x3 x4 x5 false 1536 (by decide) (by decide) (by decide)) true) (dqCh (ldKeys arg5 arg6 arg10 x1 x2 x6) (ldChunk arg4 arg7 arg8 arg9 x0 x3 x4 x5 false 1536 (by decide) (by decide) (by decide)) false)⟩,
      ⟨k0_off3 (wI F i T0) 1024#32, k0_off3_inb (wI F i T0) (wJ F i T1) k0_hw1 k0_h4 2, mix (dqCh (ldKeys arg5 arg6 arg10 x1 x2 x6) (ldChunk arg4 arg7 arg8 arg9 x0 x3 x4 x5 false 1024 (by decide) (by decide) (by decide)) true) (dqCh (ldKeys arg5 arg6 arg10 x1 x2 x6) (ldChunk arg4 arg7 arg8 arg9 x0 x3 x4 x5 false 1024 (by decide) (by decide) (by decide)) false)⟩,
      ⟨k0_off3 (wI F i T0) 512#32, k0_off3_inb (wI F i T0) (wJ F i T1) k0_hw1 k0_h4 1, mix (dqCh (ldKeys arg5 arg6 arg10 x1 x2 x6) (ldChunk arg4 arg7 arg8 arg9 x0 x3 x4 x5 false 512 (by decide) (by decide) (by decide)) true) (dqCh (ldKeys arg5 arg6 arg10 x1 x2 x6) (ldChunk arg4 arg7 arg8 arg9 x0 x3 x4 x5 false 512 (by decide) (by decide) (by decide)) false)⟩,
      ⟨k0_off3 (wI F i T0) 0#32, k0_off3_inb (wI F i T0) (wJ F i T1) k0_hw1 k0_h4 0, mix (dqCh (ldKeys arg5 arg6 arg10 x1 x2 x6) (ldChunk arg4 arg7 arg8 arg9 x0 x3 x4 x5 true 0 (by decide) (by decide) (by decide)) true) (dqCh (ldKeys arg5 arg6 arg10 x1 x2 x6) (ldChunk arg4 arg7 arg8 arg9 x0 x3 x4 x5 true 0 (by decide) (by decide) (by decide)) false)⟩]) := by
  unfold runA
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
theorem runA_o9 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.1 = arg13.view.writes (Elt F) arg13.view.junk (⟨Rect.unit (s := S512x128) ![0, 0] S512x128.size inb_S512x128_S512x128_0_0, plus (arg13.view.readAt (Elt F) (Rect.unit (s := S512x128) ![0, 0] S512x128.size inb_S512x128_S512x128_0_0).toLoadRect (arg13.view.writes (Elt F) arg13.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u false) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dkCh (ldKeys arg5 arg6 arg10 x1 x2 x6) u true) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runA
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
theorem runA_o10 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.1 = arg14.view.writes (Elt F) arg14.view.junk (⟨Rect.unit (s := S512x128) ![0, 0] S512x128.size inb_S512x128_S512x128_0_0, plus (arg14.view.readAt (Elt F) (Rect.unit (s := S512x128) ![0, 0] S512x128.size inb_S512x128_S512x128_0_0).toLoadRect (arg14.view.writes (Elt F) arg14.view.junk [⟨Rect.unit (s := S512x128) ![0, 0] S512x128.size inb_S512x128_S512x128_0_0, (broadcast S512x128 (Scalar.ofBits .f32 0x00000000#32) : FVec F S512x128 .f32)⟩])) (mix (sumCh (fun u => dvCh (ldKeys arg5 arg6 arg10 x1 x2 x6) u false) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dvCh (ldKeys arg5 arg6 arg10 x1 x2 x6) u true) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runA
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
theorem runA_o11 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runA c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.2.1 = arg15.view.writes (Elt F) arg15.view.junk (⟨Rect.unit (s := S512x128) ![0, 0] S512x128.size inb_S512x128_S512x128_0_0, plus (arg15.view.readAt (Elt F) (Rect.unit (s := S512x128) ![0, 0] S512x128.size inb_S512x128_S512x128_0_0).toLoadRect (arg15.view.writes (Elt F) arg15.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u true) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dkCh (ldKeys arg5 arg6 arg10 x1 x2 x6) u false) [(ldChunk arg4 arg7 arg8 arg9 x0 x3 x4 x5 true 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runA
  dsimp only
  sl_unfold_words
  simp only [View.writes_nil, pieces, plus, mix, sumCh, List.foldl, dqCh, dvCh, dkCh, dsCh, pCh, laneM, cond, ldKeys, ldChunk, prodM, lessC, diagM, probM, deltaM, k0_off3, k0_off1]
  rfl

set_option maxHeartbeats 400000 in
/-- What the run leaves in the five outputs, of the windows' contents. -/
theorem runA_reads (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i pinI) (wJ F i pinJ)) (k0_h1 : ¬k0_cond1 i = 1#1) (k0_h2 : k0_cond2 (wI F i pinI) (wJ F i pinJ) = 1#1) (k0_h3 : ¬k0_cond3 (wI F i pinI) (wJ F i pinJ) = 1#1) (k0_h4 : k0_cond4 (wI F i pinI) (wJ F i pinJ) = 1#1) (k0_h5 : ¬k0_cond5 (wI F i pinI) (wJ F i pinJ) = 1#1) (k0_h6 : ¬k0_cond6 (wI F i pinI) (wJ F i pinJ) = 1#1) (k0_h7 : ¬k0_cond7 (wI F i pinI) (wJ F i pinJ) = 1#1) :
    arg11.view.read (Elt F) (runA c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).1 = (⟨x0, x1, x2, x3, x4, x5, x6⟩ : Win F).outQ (blkI (i 1)) 0 false y7 ∧
    arg12.view.read (Elt F) (runA c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.1 = (⟨x0, x1, x2, x3, x4, x5, x6⟩ : Win F).outQ (blkI (i 1)) 0 true y8 ∧
    arg13.view.read (Elt F) (runA c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.1 = (⟨x0, x1, x2, x3, x4, x5, x6⟩ : Win F).outK 0 dkCh false y9 ∧
    arg14.view.read (Elt F) (runA c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.1 = (⟨x0, x1, x2, x3, x4, x5, x6⟩ : Win F).outK 0 dvCh false y10 ∧
    arg15.view.read (Elt F) (runA c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.2.1 = (⟨x0, x1, x2, x3, x4, x5, x6⟩ : Win F).outK 0 dkCh true y11 := by
  refine ⟨?_, ?_, ?_, ?_, ?_⟩
  · rw [runA_o7, read_pieces, View.writes_nil, View.read_rep]; simp only [ldKeys_eq, ldChunk_eq]; unfold Win.outQ; rw [live_0]
    exact congrArg (addRows _) ((congrArg₂ List.cons (rowAdd_eq _ _ _ (by rw [wI_eq]; exact off3_tab _ 3)) (congrArg₂ List.cons (rowAdd_eq _ _ _ (by rw [wI_eq]; exact off3_tab _ 2)) (congrArg₂ List.cons (rowAdd_eq _ _ _ (by rw [wI_eq]; exact off3_tab _ 1)) (congrArg₂ List.cons (rowAdd_eq _ _ _ (by rw [wI_eq]; exact off3_tab _ 0)) rfl)))))
  · rw [runA_o8, read_pieces, View.writes_nil, View.read_rep]; simp only [ldKeys_eq, ldChunk_eq]; unfold Win.outQ; rw [live_0]
    exact congrArg (addRows _) ((congrArg₂ List.cons (rowAdd_eq _ _ _ (by rw [wI_eq]; exact off3_tab _ 3)) (congrArg₂ List.cons (rowAdd_eq _ _ _ (by rw [wI_eq]; exact off3_tab _ 2)) (congrArg₂ List.cons (rowAdd_eq _ _ _ (by rw [wI_eq]; exact off3_tab _ 1)) (congrArg₂ List.cons (rowAdd_eq _ _ _ (by rw [wI_eq]; exact off3_tab _ 0)) rfl)))))
  · rw [runA_o9, read_fresh]; simp only [ldKeys_eq, ldChunk_eq]; unfold Win.outK; rw [live_0]; rfl
  · rw [runA_o10, read_fresh]; simp only [ldKeys_eq, ldChunk_eq]; unfold Win.outK; rw [live_0]; rfl
  · rw [runA_o11, read_fresh]; simp only [ldKeys_eq, ldChunk_eq]; unfold Win.outK; rw [live_0]; rfl

end Cert.KernelIdeal.Att

end
-- ==== Proof.ReadB.lean ====
module

public import proofs.«01_k».proof.Proof.RunB
public import proofs.«01_k».proof.Proof.Step

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 400000 in
theorem runB_o7 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : ¬k0_cond2 (wI F i T0) (wJ F i T1) = 1#1) (k0_h3 : k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runB c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).1 = arg11.view.writes (Elt F) (arg11.view.rep y7) (pieces arg11.view (arg11.view.rep y7) []
      [⟨k0_off2 (wI F i T0) 1536#32, k0_off2_inb (wI F i T0) (wJ F i T1) k0_hw1 k0_h3 3, mix (dqCh (ldKeys arg5 arg6 arg10 x1 x2 x6) (ldChunk arg4 arg7 arg8 arg9 x0 x3 x4 x5 false 1536 (by decide) (by decide) (by decide)) false) (dqCh (ldKeys arg5 arg6 arg10 x1 x2 x6) (ldChunk arg4 arg7 arg8 arg9 x0 x3 x4 x5 false 1536 (by decide) (by decide) (by decide)) true)⟩,
      ⟨k0_off2 (wI F i T0) 1024#32, k0_off2_inb (wI F i T0) (wJ F i T1) k0_hw1 k0_h3 2, mix (dqCh (ldKeys arg5 arg6 arg10 x1 x2 x6) (ldChunk arg4 arg7 arg8 arg9 x0 x3 x4 x5 false 1024 (by decide) (by decide) (by decide)) false) (dqCh (ldKeys arg5 arg6 arg10 x1 x2 x6) (ldChunk arg4 arg7 arg8 arg9 x0 x3 x4 x5 false 1024 (by decide) (by decide) (by decide)) true)⟩,
      ⟨k0_off2 (wI F i T0) 512#32, k0_off2_inb (wI F i T0) (wJ F i T1) k0_hw1 k0_h3 1, mix (dqCh (ldKeys arg5 arg6 arg10 x1 x2 x6) (ldChunk arg4 arg7 arg8 arg9 x0 x3 x4 x5 false 512 (by decide) (by decide) (by decide)) false) (dqCh (ldKeys arg5 arg6 arg10 x1 x2 x6) (ldChunk arg4 arg7 arg8 arg9 x0 x3 x4 x5 false 512 (by decide) (by decide) (by decide)) true)⟩,
      ⟨k0_off2 (wI F i T0) 0#32, k0_off2_inb (wI F i T0) (wJ F i T1) k0_hw1 k0_h3 0, mix (dqCh (ldKeys arg5 arg6 arg10 x1 x2 x6) (ldChunk arg4 arg7 arg8 arg9 x0 x3 x4 x5 false 0 (by decide) (by decide) (by decide)) false) (dqCh (ldKeys arg5 arg6 arg10 x1 x2 x6) (ldChunk arg4 arg7 arg8 arg9 x0 x3 x4 x5 false 0 (by decide) (by decide) (by decide)) true)⟩]) := by
  unfold runB
  dsimp only
  sl_unfold_words
  simp only [View.writes_nil, pieces, plus, mix, sumCh, List.foldl, dqCh, dvCh, dkCh, dsCh, pCh, laneM, cond, ldKeys, ldChunk, prodM, lessC, diagM, probM, deltaM, k0_off2, k0_off1, k0_pay8, k0_pay9, k0_pay10]
  rfl

set_option maxHeartbeats 400000 in
theorem runB_o8 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : ¬k0_cond2 (wI F i T0) (wJ F i T1) = 1#1) (k0_h3 : k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runB c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.1 = arg12.view.writes (Elt F) (arg12.view.rep y8) (pieces arg12.view (arg12.view.rep y8) []
      [⟨k0_off2 (wI F i T0) 1536#32, k0_off2_inb (wI F i T0) (wJ F i T1) k0_hw1 k0_h3 3, mix (dqCh (ldKeys arg5 arg6 arg10 x1 x2 x6) (ldChunk arg4 arg7 arg8 arg9 x0 x3 x4 x5 false 1536 (by decide) (by decide) (by decide)) true) (dqCh (ldKeys arg5 arg6 arg10 x1 x2 x6) (ldChunk arg4 arg7 arg8 arg9 x0 x3 x4 x5 false 1536 (by decide) (by decide) (by decide)) false)⟩,
      ⟨k0_off2 (wI F i T0) 1024#32, k0_off2_inb (wI F i T0) (wJ F i T1) k0_hw1 k0_h3 2, mix (dqCh (ldKeys arg5 arg6 arg10 x1 x2 x6) (ldChunk arg4 arg7 arg8 arg9 x0 x3 x4 x5 false 1024 (by decide) (by decide) (by decide)) true) (dqCh (ldKeys arg5 arg6 arg10 x1 x2 x6) (ldChunk arg4 arg7 arg8 arg9 x0 x3 x4 x5 false 1024 (by decide) (by decide) (by decide)) false)⟩,
      ⟨k0_off2 (wI F i T0) 512#32, k0_off2_inb (wI F i T0) (wJ F i T1) k0_hw1 k0_h3 1, mix (dqCh (ldKeys arg5 arg6 arg10 x1 x2 x6) (ldChunk arg4 arg7 arg8 arg9 x0 x3 x4 x5 false 512 (by decide) (by decide) (by decide)) true) (dqCh (ldKeys arg5 arg6 arg10 x1 x2 x6) (ldChunk arg4 arg7 arg8 arg9 x0 x3 x4 x5 false 512 (by decide) (by decide) (by decide)) false)⟩,
      ⟨k0_off2 (wI F i T0) 0#32, k0_off2_inb (wI F i T0) (wJ F i T1) k0_hw1 k0_h3 0, mix (dqCh (ldKeys arg5 arg6 arg10 x1 x2 x6) (ldChunk arg4 arg7 arg8 arg9 x0 x3 x4 x5 false 0 (by decide) (by decide) (by decide)) true) (dqCh (ldKeys arg5 arg6 arg10 x1 x2 x6) (ldChunk arg4 arg7 arg8 arg9 x0 x3 x4 x5 false 0 (by decide) (by decide) (by decide)) false)⟩]) := by
  unfold runB
  dsimp only
  sl_unfold_words
  simp only [View.writes_nil, pieces, plus, mix, sumCh, List.foldl, dqCh, dvCh, dkCh, dsCh, pCh, laneM, cond, ldKeys, ldChunk, prodM, lessC, diagM, probM, deltaM, k0_off2, k0_off1, k0_pay8, k0_pay9, k0_pay10]
  rfl

set_option maxHeartbeats 400000 in
theorem runB_o9 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : ¬k0_cond2 (wI F i T0) (wJ F i T1) = 1#1) (k0_h3 : k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runB c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.1 = arg13.view.writes (Elt F) arg13.view.junk [⟨Rect.unit (s := S512x128) ![0, 0] S512x128.size inb_S512x128_S512x128_0_0, plus (arg13.view.readAt (Elt F) (Rect.unit (s := S512x128) ![0, 0] S512x128.size inb_S512x128_S512x128_0_0).toLoadRect (arg13.view.rep y9)) (mix (sumCh (fun u => dkCh (ldKeys arg5 arg6 arg10 x1 x2 x6) u false) [(ldChunk arg4 arg7 arg8 arg9 x0 x3 x4 x5 false 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dkCh (ldKeys arg5 arg6 arg10 x1 x2 x6) u true) [(ldChunk arg4 arg7 arg8 arg9 x0 x3 x4 x5 false 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩] := by
  unfold runB
  dsimp only
  sl_unfold_words
  simp only [View.writes_nil, pieces, plus, mix, sumCh, List.foldl, dqCh, dvCh, dkCh, dsCh, pCh, laneM, cond, ldKeys, ldChunk, prodM, lessC, diagM, probM, deltaM, k0_off2, k0_off1, k0_pay8, k0_pay9, k0_pay10]

set_option maxHeartbeats 400000 in
theorem runB_o10 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : ¬k0_cond2 (wI F i T0) (wJ F i T1) = 1#1) (k0_h3 : k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runB c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.1 = arg14.view.writes (Elt F) arg14.view.junk [⟨Rect.unit (s := S512x128) ![0, 0] S512x128.size inb_S512x128_S512x128_0_0, plus (arg14.view.readAt (Elt F) (Rect.unit (s := S512x128) ![0, 0] S512x128.size inb_S512x128_S512x128_0_0).toLoadRect (arg14.view.rep y10)) (mix (sumCh (fun u => dvCh (ldKeys arg5 arg6 arg10 x1 x2 x6) u false) [(ldChunk arg4 arg7 arg8 arg9 x0 x3 x4 x5 false 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dvCh (ldKeys arg5 arg6 arg10 x1 x2 x6) u true) [(ldChunk arg4 arg7 arg8 arg9 x0 x3 x4 x5 false 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩] := by
  unfold runB
  dsimp only
  sl_unfold_words
  simp only [View.writes_nil, pieces, plus, mix, sumCh, List.foldl, dqCh, dvCh, dkCh, dsCh, pCh, laneM, cond, ldKeys, ldChunk, prodM, lessC, diagM, probM, deltaM, k0_off2, k0_off1, k0_pay8, k0_pay9, k0_pay10]

set_option maxHeartbeats 400000 in
theorem runB_o11 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : ¬k0_cond2 (wI F i T0) (wJ F i T1) = 1#1) (k0_h3 : k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : ¬k0_cond7 (wI F i T0) (wJ F i T1) = 1#1) :
    (runB c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.2.1 = arg15.view.writes (Elt F) arg15.view.junk [⟨Rect.unit (s := S512x128) ![0, 0] S512x128.size inb_S512x128_S512x128_0_0, plus (arg15.view.readAt (Elt F) (Rect.unit (s := S512x128) ![0, 0] S512x128.size inb_S512x128_S512x128_0_0).toLoadRect (arg15.view.rep y11)) (mix (sumCh (fun u => dkCh (ldKeys arg5 arg6 arg10 x1 x2 x6) u true) [(ldChunk arg4 arg7 arg8 arg9 x0 x3 x4 x5 false 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dkCh (ldKeys arg5 arg6 arg10 x1 x2 x6) u false) [(ldChunk arg4 arg7 arg8 arg9 x0 x3 x4 x5 false 0 (by decide) (by decide) (by decide)), (ldChunk arg4 arg7 arg8 arg9 x0 x3 x4 x5 false 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩] := by
  unfold runB
  dsimp only
  sl_unfold_words
  simp only [View.writes_nil, pieces, plus, mix, sumCh, List.foldl, dqCh, dvCh, dkCh, dsCh, pCh, laneM, cond, ldKeys, ldChunk, prodM, lessC, diagM, probM, deltaM, k0_off2, k0_off1, k0_pay8, k0_pay9, k0_pay10]

set_option maxHeartbeats 400000 in
/-- What the run leaves in the five outputs, of the windows' contents. -/
theorem runB_reads (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i pinI) (wJ F i pinJ)) (k0_h1 : ¬k0_cond1 i = 1#1) (k0_h2 : ¬k0_cond2 (wI F i pinI) (wJ F i pinJ) = 1#1) (k0_h3 : k0_cond3 (wI F i pinI) (wJ F i pinJ) = 1#1) (k0_h4 : ¬k0_cond4 (wI F i pinI) (wJ F i pinJ) = 1#1) (k0_h5 : ¬k0_cond5 (wI F i pinI) (wJ F i pinJ) = 1#1) (k0_h6 : ¬k0_cond6 (wI F i pinI) (wJ F i pinJ) = 1#1) (k0_h7 : ¬k0_cond7 (wI F i pinI) (wJ F i pinJ) = 1#1) :
    arg11.view.read (Elt F) (runB c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).1 = (⟨x0, x1, x2, x3, x4, x5, x6⟩ : Win F).outQ (blkI (i 1)) 4 false y7 ∧
    arg12.view.read (Elt F) (runB c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.1 = (⟨x0, x1, x2, x3, x4, x5, x6⟩ : Win F).outQ (blkI (i 1)) 4 true y8 ∧
    arg13.view.read (Elt F) (runB c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.1 = (⟨x0, x1, x2, x3, x4, x5, x6⟩ : Win F).outK 4 dkCh false y9 ∧
    arg14.view.read (Elt F) (runB c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.1 = (⟨x0, x1, x2, x3, x4, x5, x6⟩ : Win F).outK 4 dvCh false y10 ∧
    arg15.view.read (Elt F) (runB c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.2.1 = (⟨x0, x1, x2, x3, x4, x5, x6⟩ : Win F).outK 4 dkCh true y11 := by
  refine ⟨?_, ?_, ?_, ?_, ?_⟩
  · rw [runB_o7, read_pieces, View.writes_nil, View.read_rep]; simp only [ldKeys_eq, ldChunk_eq]; unfold Win.outQ; rw [live_4]
    exact congrArg (addRows _) ((congrArg₂ List.cons (rowAdd_eq _ _ _ (by rw [wI_eq]; exact off2_tab _ 3)) (congrArg₂ List.cons (rowAdd_eq _ _ _ (by rw [wI_eq]; exact off2_tab _ 2)) (congrArg₂ List.cons (rowAdd_eq _ _ _ (by rw [wI_eq]; exact off2_tab _ 1)) (congrArg₂ List.cons (rowAdd_eq _ _ _ (by rw [wI_eq]; exact off2_tab _ 0)) rfl)))))
  · rw [runB_o8, read_pieces, View.writes_nil, View.read_rep]; simp only [ldKeys_eq, ldChunk_eq]; unfold Win.outQ; rw [live_4]
    exact congrArg (addRows _) ((congrArg₂ List.cons (rowAdd_eq _ _ _ (by rw [wI_eq]; exact off2_tab _ 3)) (congrArg₂ List.cons (rowAdd_eq _ _ _ (by rw [wI_eq]; exact off2_tab _ 2)) (congrArg₂ List.cons (rowAdd_eq _ _ _ (by rw [wI_eq]; exact off2_tab _ 1)) (congrArg₂ List.cons (rowAdd_eq _ _ _ (by rw [wI_eq]; exact off2_tab _ 0)) rfl)))))
  · rw [runB_o9, read_onto]; simp only [ldKeys_eq, ldChunk_eq]; unfold Win.outK; rw [live_4]; rfl
  · rw [runB_o10, read_onto]; simp only [ldKeys_eq, ldChunk_eq]; unfold Win.outK; rw [live_4]; rfl
  · rw [runB_o11, read_onto]; simp only [ldKeys_eq, ldChunk_eq]; unfold Win.outK; rw [live_4]; rfl

end Cert.KernelIdeal.Att

end
-- ==== Proof.ReadC.lean ====
module

public import proofs.«01_k».proof.Proof.RunC
public import proofs.«01_k».proof.Proof.Step

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 400000 in
theorem runC_o7 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : k0_cond5 (wI F i T0) (wJ F i T1) = 1#1) (k0_h6 : ¬k0_cond6 (wI F i T0) (wJ F i T1) = 1#1) (k0_h7 : ¬k0_cond7 (wI F i T0) (wJ F i T1) = 1#1) :
    (runC c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).1 = arg11.view.writes (Elt F) (arg11.view.rep y7) (pieces arg11.view (arg11.view.rep y7) []
      [⟨k0_off4 (wI F i T0) 1536#32, k0_off4_inb (wI F i T0) (wJ F i T1) k0_hw1 k0_h5 2, mix (dqCh (ldKeys arg5 arg6 arg10 x1 x2 x6) (ldChunk arg4 arg7 arg8 arg9 x0 x3 x4 x5 false 1536 (by decide) (by decide) (by decide)) false) (dqCh (ldKeys arg5 arg6 arg10 x1 x2 x6) (ldChunk arg4 arg7 arg8 arg9 x0 x3 x4 x5 false 1536 (by decide) (by decide) (by decide)) true)⟩,
      ⟨k0_off4 (wI F i T0) 1024#32, k0_off4_inb (wI F i T0) (wJ F i T1) k0_hw1 k0_h5 1, mix (dqCh (ldKeys arg5 arg6 arg10 x1 x2 x6) (ldChunk arg4 arg7 arg8 arg9 x0 x3 x4 x5 false 1024 (by decide) (by decide) (by decide)) false) (dqCh (ldKeys arg5 arg6 arg10 x1 x2 x6) (ldChunk arg4 arg7 arg8 arg9 x0 x3 x4 x5 false 1024 (by decide) (by decide) (by decide)) true)⟩,
      ⟨k0_off4 (wI F i T0) 512#32, k0_off4_inb (wI F i T0) (wJ F i T1) k0_hw1 k0_h5 0, mix (dqCh (ldKeys arg5 arg6 arg10 x1 x2 x6) (ldChunk arg4 arg7 arg8 arg9 x0 x3 x4 x5 true 512 (by decide) (by decide) (by decide)) false) (dqCh (ldKeys arg5 arg6 arg10 x1 x2 x6) (ldChunk arg4 arg7 arg8 arg9 x0 x3 x4 x5 true 512 (by decide) (by decide) (by decide)) true)⟩]) := by
  unfold runC
  dsimp only
  sl_unfold_words
  simp only [View.writes_nil, pieces, plus, mix, sumCh, List.foldl, dqCh, dvCh, dkCh, dsCh, pCh, laneM, cond, ldKeys, ldChunk, prodM, lessC, diagM, probM, deltaM, k0_off4, k0_off1]
  rfl

set_option maxHeartbeats 400000 in
theorem runC_o8 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : k0_cond5 (wI F i T0) (wJ F i T1) = 1#1) (k0_h6 : ¬k0_cond6 (wI F i T0) (wJ F i T1) = 1#1) (k0_h7 : ¬k0_cond7 (wI F i T0) (wJ F i T1) = 1#1) :
    (runC c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.1 = arg12.view.writes (Elt F) (arg12.view.rep y8) (pieces arg12.view (arg12.view.rep y8) []
      [⟨k0_off4 (wI F i T0) 1536#32, k0_off4_inb (wI F i T0) (wJ F i T1) k0_hw1 k0_h5 2, mix (dqCh (ldKeys arg5 arg6 arg10 x1 x2 x6) (ldChunk arg4 arg7 arg8 arg9 x0 x3 x4 x5 false 1536 (by decide) (by decide) (by decide)) true) (dqCh (ldKeys arg5 arg6 arg10 x1 x2 x6) (ldChunk arg4 arg7 arg8 arg9 x0 x3 x4 x5 false 1536 (by decide) (by decide) (by decide)) false)⟩,
      ⟨k0_off4 (wI F i T0) 1024#32, k0_off4_inb (wI F i T0) (wJ F i T1) k0_hw1 k0_h5 1, mix (dqCh (ldKeys arg5 arg6 arg10 x1 x2 x6) (ldChunk arg4 arg7 arg8 arg9 x0 x3 x4 x5 false 1024 (by decide) (by decide) (by decide)) true) (dqCh (ldKeys arg5 arg6 arg10 x1 x2 x6) (ldChunk arg4 arg7 arg8 arg9 x0 x3 x4 x5 false 1024 (by decide) (by decide) (by decide)) false)⟩,
      ⟨k0_off4 (wI F i T0) 512#32, k0_off4_inb (wI F i T0) (wJ F i T1) k0_hw1 k0_h5 0, mix (dqCh (ldKeys arg5 arg6 arg10 x1 x2 x6) (ldChunk arg4 arg7 arg8 arg9 x0 x3 x4 x5 true 512 (by decide) (by decide) (by decide)) true) (dqCh (ldKeys arg5 arg6 arg10 x1 x2 x6) (ldChunk arg4 arg7 arg8 arg9 x0 x3 x4 x5 true 512 (by decide) (by decide) (by decide)) false)⟩]) := by
  unfold runC
  dsimp only
  sl_unfold_words
  simp only [View.writes_nil, pieces, plus, mix, sumCh, List.foldl, dqCh, dvCh, dkCh, dsCh, pCh, laneM, cond, ldKeys, ldChunk, prodM, lessC, diagM, probM, deltaM, k0_off4, k0_off1]
  rfl

set_option maxHeartbeats 400000 in
theorem runC_o9 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : k0_cond5 (wI F i T0) (wJ F i T1) = 1#1) (k0_h6 : ¬k0_cond6 (wI F i T0) (wJ F i T1) = 1#1) (k0_h7 : ¬k0_cond7 (wI F i T0) (wJ F i T1) = 1#1) :
    (runC c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.1 = arg13.view.writes (Elt F) arg13.view.junk (⟨Rect.unit (s := S512x128) ![0, 0] S512x128.size inb_S512x128_S512x128_0_0, plus (arg13.view.readAt (Elt F) (Rect.unit (s := S512x128) ![0, 0] S512x128.size inb_S512x128_S512x128_0_0).toLoadRect (arg13.view.writes (Elt F) arg13.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u false) [(ldChunk arg4 arg7 arg8 arg9 x0 x3 x4 x5 true 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dkCh (ldKeys arg5 arg6 arg10 x1 x2 x6) u true) [(ldChunk arg4 arg7 arg8 arg9 x0 x3 x4 x5 true 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runC
  dsimp only
  sl_unfold_words
  simp only [View.writes_nil, pieces, plus, mix, sumCh, List.foldl, dqCh, dvCh, dkCh, dsCh, pCh, laneM, cond, ldKeys, ldChunk, prodM, lessC, diagM, probM, deltaM, k0_off4, k0_off1]
  rfl

set_option maxHeartbeats 400000 in
theorem runC_o10 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : k0_cond5 (wI F i T0) (wJ F i T1) = 1#1) (k0_h6 : ¬k0_cond6 (wI F i T0) (wJ F i T1) = 1#1) (k0_h7 : ¬k0_cond7 (wI F i T0) (wJ F i T1) = 1#1) :
    (runC c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.1 = arg14.view.writes (Elt F) arg14.view.junk (⟨Rect.unit (s := S512x128) ![0, 0] S512x128.size inb_S512x128_S512x128_0_0, plus (arg14.view.readAt (Elt F) (Rect.unit (s := S512x128) ![0, 0] S512x128.size inb_S512x128_S512x128_0_0).toLoadRect (arg14.view.writes (Elt F) arg14.view.junk [⟨Rect.unit (s := S512x128) ![0, 0] S512x128.size inb_S512x128_S512x128_0_0, (broadcast S512x128 (Scalar.ofBits .f32 0x00000000#32) : FVec F S512x128 .f32)⟩])) (mix (sumCh (fun u => dvCh (ldKeys arg5 arg6 arg10 x1 x2 x6) u false) [(ldChunk arg4 arg7 arg8 arg9 x0 x3 x4 x5 true 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dvCh (ldKeys arg5 arg6 arg10 x1 x2 x6) u true) [(ldChunk arg4 arg7 arg8 arg9 x0 x3 x4 x5 true 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runC
  dsimp only
  sl_unfold_words
  simp only [View.writes_nil, pieces, plus, mix, sumCh, List.foldl, dqCh, dvCh, dkCh, dsCh, pCh, laneM, cond, ldKeys, ldChunk, prodM, lessC, diagM, probM, deltaM, k0_off4, k0_off1]
  rfl

set_option maxHeartbeats 400000 in
theorem runC_o11 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : k0_cond5 (wI F i T0) (wJ F i T1) = 1#1) (k0_h6 : ¬k0_cond6 (wI F i T0) (wJ F i T1) = 1#1) (k0_h7 : ¬k0_cond7 (wI F i T0) (wJ F i T1) = 1#1) :
    (runC c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.2.1 = arg15.view.writes (Elt F) arg15.view.junk (⟨Rect.unit (s := S512x128) ![0, 0] S512x128.size inb_S512x128_S512x128_0_0, plus (arg15.view.readAt (Elt F) (Rect.unit (s := S512x128) ![0, 0] S512x128.size inb_S512x128_S512x128_0_0).toLoadRect (arg15.view.writes (Elt F) arg15.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u true) [(ldChunk arg4 arg7 arg8 arg9 x0 x3 x4 x5 true 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]) (sumCh (fun u => dkCh (ldKeys arg5 arg6 arg10 x1 x2 x6) u false) [(ldChunk arg4 arg7 arg8 arg9 x0 x3 x4 x5 true 512 (by decide) (by decide) (by decide)), (ldChunk arg4 arg7 arg8 arg9 x0 x3 x4 x5 false 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runC
  dsimp only
  sl_unfold_words
  simp only [View.writes_nil, pieces, plus, mix, sumCh, List.foldl, dqCh, dvCh, dkCh, dsCh, pCh, laneM, cond, ldKeys, ldChunk, prodM, lessC, diagM, probM, deltaM, k0_off4, k0_off1]
  rfl

set_option maxHeartbeats 400000 in
/-- What the run leaves in the five outputs, of the windows' contents. -/
theorem runC_reads (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i pinI) (wJ F i pinJ)) (k0_h1 : ¬k0_cond1 i = 1#1) (k0_h2 : k0_cond2 (wI F i pinI) (wJ F i pinJ) = 1#1) (k0_h3 : ¬k0_cond3 (wI F i pinI) (wJ F i pinJ) = 1#1) (k0_h4 : ¬k0_cond4 (wI F i pinI) (wJ F i pinJ) = 1#1) (k0_h5 : k0_cond5 (wI F i pinI) (wJ F i pinJ) = 1#1) (k0_h6 : ¬k0_cond6 (wI F i pinI) (wJ F i pinJ) = 1#1) (k0_h7 : ¬k0_cond7 (wI F i pinI) (wJ F i pinJ) = 1#1) :
    arg11.view.read (Elt F) (runC c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).1 = (⟨x0, x1, x2, x3, x4, x5, x6⟩ : Win F).outQ (blkI (i 1)) 1 false y7 ∧
    arg12.view.read (Elt F) (runC c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.1 = (⟨x0, x1, x2, x3, x4, x5, x6⟩ : Win F).outQ (blkI (i 1)) 1 true y8 ∧
    arg13.view.read (Elt F) (runC c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.1 = (⟨x0, x1, x2, x3, x4, x5, x6⟩ : Win F).outK 1 dkCh false y9 ∧
    arg14.view.read (Elt F) (runC c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.1 = (⟨x0, x1, x2, x3, x4, x5, x6⟩ : Win F).outK 1 dvCh false y10 ∧
    arg15.view.read (Elt F) (runC c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.2.1 = (⟨x0, x1, x2, x3, x4, x5, x6⟩ : Win F).outK 1 dkCh true y11 := by
  refine ⟨?_, ?_, ?_, ?_, ?_⟩
  · rw [runC_o7, read_pieces, View.writes_nil, View.read_rep]; simp only [ldKeys_eq, ldChunk_eq]; unfold Win.outQ; rw [live_1]
    exact congrArg (addRows _) ((congrArg₂ List.cons (rowAdd_eq _ _ _ (by rw [wI_eq]; exact off4_tab _ 3)) (congrArg₂ List.cons (rowAdd_eq _ _ _ (by rw [wI_eq]; exact off4_tab _ 2)) (congrArg₂ List.cons (rowAdd_eq _ _ _ (by rw [wI_eq]; exact off4_tab _ 1)) rfl))))
  · rw [runC_o8, read_pieces, View.writes_nil, View.read_rep]; simp only [ldKeys_eq, ldChunk_eq]; unfold Win.outQ; rw [live_1]
    exact congrArg (addRows _) ((congrArg₂ List.cons (rowAdd_eq _ _ _ (by rw [wI_eq]; exact off4_tab _ 3)) (congrArg₂ List.cons (rowAdd_eq _ _ _ (by rw [wI_eq]; exact off4_tab _ 2)) (congrArg₂ List.cons (rowAdd_eq _ _ _ (by rw [wI_eq]; exact off4_tab _ 1)) rfl))))
  · rw [runC_o9, read_fresh]; simp only [ldKeys_eq, ldChunk_eq]; unfold Win.outK; rw [live_1]; rfl
  · rw [runC_o10, read_fresh]; simp only [ldKeys_eq, ldChunk_eq]; unfold Win.outK; rw [live_1]; rfl
  · rw [runC_o11, read_fresh]; simp only [ldKeys_eq, ldChunk_eq]; unfold Win.outK; rw [live_1]; rfl

end Cert.KernelIdeal.Att

end
-- ==== Proof.ReadD.lean ====
module

public import proofs.«01_k».proof.Proof.RunD
public import proofs.«01_k».proof.Proof.Step

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 400000 in
theorem runD_o7 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : k0_cond6 (wI F i T0) (wJ F i T1) = 1#1) (k0_h7 : ¬k0_cond7 (wI F i T0) (wJ F i T1) = 1#1) :
    (runD c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).1 = arg11.view.writes (Elt F) (arg11.view.rep y7) (pieces arg11.view (arg11.view.rep y7) []
      [⟨k0_off5 (wI F i T0) 1536#32, k0_off5_inb (wI F i T0) (wJ F i T1) k0_hw1 k0_h6 1, mix (dqCh (ldKeys arg5 arg6 arg10 x1 x2 x6) (ldChunk arg4 arg7 arg8 arg9 x0 x3 x4 x5 false 1536 (by decide) (by decide) (by decide)) false) (dqCh (ldKeys arg5 arg6 arg10 x1 x2 x6) (ldChunk arg4 arg7 arg8 arg9 x0 x3 x4 x5 false 1536 (by decide) (by decide) (by decide)) true)⟩,
      ⟨k0_off5 (wI F i T0) 1024#32, k0_off5_inb (wI F i T0) (wJ F i T1) k0_hw1 k0_h6 0, mix (dqCh (ldKeys arg5 arg6 arg10 x1 x2 x6) (ldChunk arg4 arg7 arg8 arg9 x0 x3 x4 x5 true 1024 (by decide) (by decide) (by decide)) false) (dqCh (ldKeys arg5 arg6 arg10 x1 x2 x6) (ldChunk arg4 arg7 arg8 arg9 x0 x3 x4 x5 true 1024 (by decide) (by decide) (by decide)) true)⟩]) := by
  unfold runD
  dsimp only
  sl_unfold_words
  simp only [View.writes_nil, pieces, plus, mix, sumCh, List.foldl, dqCh, dvCh, dkCh, dsCh, pCh, laneM, cond, ldKeys, ldChunk, prodM, lessC, diagM, probM, deltaM, k0_off5, k0_off1]
  rfl

set_option maxHeartbeats 400000 in
theorem runD_o8 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : k0_cond6 (wI F i T0) (wJ F i T1) = 1#1) (k0_h7 : ¬k0_cond7 (wI F i T0) (wJ F i T1) = 1#1) :
    (runD c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.1 = arg12.view.writes (Elt F) (arg12.view.rep y8) (pieces arg12.view (arg12.view.rep y8) []
      [⟨k0_off5 (wI F i T0) 1536#32, k0_off5_inb (wI F i T0) (wJ F i T1) k0_hw1 k0_h6 1, mix (dqCh (ldKeys arg5 arg6 arg10 x1 x2 x6) (ldChunk arg4 arg7 arg8 arg9 x0 x3 x4 x5 false 1536 (by decide) (by decide) (by decide)) true) (dqCh (ldKeys arg5 arg6 arg10 x1 x2 x6) (ldChunk arg4 arg7 arg8 arg9 x0 x3 x4 x5 false 1536 (by decide) (by decide) (by decide)) false)⟩,
      ⟨k0_off5 (wI F i T0) 1024#32, k0_off5_inb (wI F i T0) (wJ F i T1) k0_hw1 k0_h6 0, mix (dqCh (ldKeys arg5 arg6 arg10 x1 x2 x6) (ldChunk arg4 arg7 arg8 arg9 x0 x3 x4 x5 true 1024 (by decide) (by decide) (by decide)) true) (dqCh (ldKeys arg5 arg6 arg10 x1 x2 x6) (ldChunk arg4 arg7 arg8 arg9 x0 x3 x4 x5 true 1024 (by decide) (by decide) (by decide)) false)⟩]) := by
  unfold runD
  dsimp only
  sl_unfold_words
  simp only [View.writes_nil, pieces, plus, mix, sumCh, List.foldl, dqCh, dvCh, dkCh, dsCh, pCh, laneM, cond, ldKeys, ldChunk, prodM, lessC, diagM, probM, deltaM, k0_off5, k0_off1]
  rfl

set_option maxHeartbeats 400000 in
theorem runD_o9 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : k0_cond6 (wI F i T0) (wJ F i T1) = 1#1) (k0_h7 : ¬k0_cond7 (wI F i T0) (wJ F i T1) = 1#1) :
    (runD c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.1 = arg13.view.writes (Elt F) arg13.view.junk (⟨Rect.unit (s := S512x128) ![0, 0] S512x128.size inb_S512x128_S512x128_0_0, plus (arg13.view.readAt (Elt F) (Rect.unit (s := S512x128) ![0, 0] S512x128.size inb_S512x128_S512x128_0_0).toLoadRect (arg13.view.writes (Elt F) arg13.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u false) [(ldChunk arg4 arg7 arg8 arg9 x0 x3 x4 x5 true 1024 (by decide) (by decide) (by decide)), (ldChunk arg4 arg7 arg8 arg9 x0 x3 x4 x5 false 1536 (by decide) (by decide) (by decide))]) (sumCh (fun u => dkCh (ldKeys arg5 arg6 arg10 x1 x2 x6) u true) [(ldChunk arg4 arg7 arg8 arg9 x0 x3 x4 x5 true 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runD
  dsimp only
  sl_unfold_words
  simp only [View.writes_nil, pieces, plus, mix, sumCh, List.foldl, dqCh, dvCh, dkCh, dsCh, pCh, laneM, cond, ldKeys, ldChunk, prodM, lessC, diagM, probM, deltaM, k0_off5, k0_off1]
  rfl

set_option maxHeartbeats 400000 in
theorem runD_o10 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : k0_cond6 (wI F i T0) (wJ F i T1) = 1#1) (k0_h7 : ¬k0_cond7 (wI F i T0) (wJ F i T1) = 1#1) :
    (runD c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.1 = arg14.view.writes (Elt F) arg14.view.junk (⟨Rect.unit (s := S512x128) ![0, 0] S512x128.size inb_S512x128_S512x128_0_0, plus (arg14.view.readAt (Elt F) (Rect.unit (s := S512x128) ![0, 0] S512x128.size inb_S512x128_S512x128_0_0).toLoadRect (arg14.view.writes (Elt F) arg14.view.junk [⟨Rect.unit (s := S512x128) ![0, 0] S512x128.size inb_S512x128_S512x128_0_0, (broadcast S512x128 (Scalar.ofBits .f32 0x00000000#32) : FVec F S512x128 .f32)⟩])) (mix (sumCh (fun u => dvCh (ldKeys arg5 arg6 arg10 x1 x2 x6) u false) [(ldChunk arg4 arg7 arg8 arg9 x0 x3 x4 x5 true 1024 (by decide) (by decide) (by decide)), (ldChunk arg4 arg7 arg8 arg9 x0 x3 x4 x5 false 1536 (by decide) (by decide) (by decide))]) (sumCh (fun u => dvCh (ldKeys arg5 arg6 arg10 x1 x2 x6) u true) [(ldChunk arg4 arg7 arg8 arg9 x0 x3 x4 x5 true 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runD
  dsimp only
  sl_unfold_words
  simp only [View.writes_nil, pieces, plus, mix, sumCh, List.foldl, dqCh, dvCh, dkCh, dsCh, pCh, laneM, cond, ldKeys, ldChunk, prodM, lessC, diagM, probM, deltaM, k0_off5, k0_off1]
  rfl

set_option maxHeartbeats 400000 in
theorem runD_o11 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : k0_cond6 (wI F i T0) (wJ F i T1) = 1#1) (k0_h7 : ¬k0_cond7 (wI F i T0) (wJ F i T1) = 1#1) :
    (runD c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.2.1 = arg15.view.writes (Elt F) arg15.view.junk (⟨Rect.unit (s := S512x128) ![0, 0] S512x128.size inb_S512x128_S512x128_0_0, plus (arg15.view.readAt (Elt F) (Rect.unit (s := S512x128) ![0, 0] S512x128.size inb_S512x128_S512x128_0_0).toLoadRect (arg15.view.writes (Elt F) arg15.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u true) [(ldChunk arg4 arg7 arg8 arg9 x0 x3 x4 x5 true 1024 (by decide) (by decide) (by decide)), (ldChunk arg4 arg7 arg8 arg9 x0 x3 x4 x5 false 1536 (by decide) (by decide) (by decide))]) (sumCh (fun u => dkCh (ldKeys arg5 arg6 arg10 x1 x2 x6) u false) [(ldChunk arg4 arg7 arg8 arg9 x0 x3 x4 x5 true 1024 (by decide) (by decide) (by decide)), (ldChunk arg4 arg7 arg8 arg9 x0 x3 x4 x5 false 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runD
  dsimp only
  sl_unfold_words
  simp only [View.writes_nil, pieces, plus, mix, sumCh, List.foldl, dqCh, dvCh, dkCh, dsCh, pCh, laneM, cond, ldKeys, ldChunk, prodM, lessC, diagM, probM, deltaM, k0_off5, k0_off1]
  rfl

set_option maxHeartbeats 400000 in
/-- What the run leaves in the five outputs, of the windows' contents. -/
theorem runD_reads (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i pinI) (wJ F i pinJ)) (k0_h1 : ¬k0_cond1 i = 1#1) (k0_h2 : k0_cond2 (wI F i pinI) (wJ F i pinJ) = 1#1) (k0_h3 : ¬k0_cond3 (wI F i pinI) (wJ F i pinJ) = 1#1) (k0_h4 : ¬k0_cond4 (wI F i pinI) (wJ F i pinJ) = 1#1) (k0_h5 : ¬k0_cond5 (wI F i pinI) (wJ F i pinJ) = 1#1) (k0_h6 : k0_cond6 (wI F i pinI) (wJ F i pinJ) = 1#1) (k0_h7 : ¬k0_cond7 (wI F i pinI) (wJ F i pinJ) = 1#1) :
    arg11.view.read (Elt F) (runD c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).1 = (⟨x0, x1, x2, x3, x4, x5, x6⟩ : Win F).outQ (blkI (i 1)) 2 false y7 ∧
    arg12.view.read (Elt F) (runD c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.1 = (⟨x0, x1, x2, x3, x4, x5, x6⟩ : Win F).outQ (blkI (i 1)) 2 true y8 ∧
    arg13.view.read (Elt F) (runD c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.1 = (⟨x0, x1, x2, x3, x4, x5, x6⟩ : Win F).outK 2 dkCh false y9 ∧
    arg14.view.read (Elt F) (runD c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.1 = (⟨x0, x1, x2, x3, x4, x5, x6⟩ : Win F).outK 2 dvCh false y10 ∧
    arg15.view.read (Elt F) (runD c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.2.1 = (⟨x0, x1, x2, x3, x4, x5, x6⟩ : Win F).outK 2 dkCh true y11 := by
  refine ⟨?_, ?_, ?_, ?_, ?_⟩
  · rw [runD_o7, read_pieces, View.writes_nil, View.read_rep]; simp only [ldKeys_eq, ldChunk_eq]; unfold Win.outQ; rw [live_2]
    exact congrArg (addRows _) ((congrArg₂ List.cons (rowAdd_eq _ _ _ (by rw [wI_eq]; exact off5_tab _ 3)) (congrArg₂ List.cons (rowAdd_eq _ _ _ (by rw [wI_eq]; exact off5_tab _ 2)) rfl)))
  · rw [runD_o8, read_pieces, View.writes_nil, View.read_rep]; simp only [ldKeys_eq, ldChunk_eq]; unfold Win.outQ; rw [live_2]
    exact congrArg (addRows _) ((congrArg₂ List.cons (rowAdd_eq _ _ _ (by rw [wI_eq]; exact off5_tab _ 3)) (congrArg₂ List.cons (rowAdd_eq _ _ _ (by rw [wI_eq]; exact off5_tab _ 2)) rfl)))
  · rw [runD_o9, read_fresh]; simp only [ldKeys_eq, ldChunk_eq]; unfold Win.outK; rw [live_2]; rfl
  · rw [runD_o10, read_fresh]; simp only [ldKeys_eq, ldChunk_eq]; unfold Win.outK; rw [live_2]; rfl
  · rw [runD_o11, read_fresh]; simp only [ldKeys_eq, ldChunk_eq]; unfold Win.outK; rw [live_2]; rfl

end Cert.KernelIdeal.Att

end
-- ==== Proof.ReadE.lean ====
module

public import proofs.«01_k».proof.Proof.RunE
public import proofs.«01_k».proof.Proof.Step

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 400000 in
theorem runE_o7 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : k0_cond7 (wI F i T0) (wJ F i T1) = 1#1) :
    (runE c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).1 = arg11.view.writes (Elt F) (arg11.view.rep y7) (pieces arg11.view (arg11.view.rep y7) []
      [⟨k0_off6 (wI F i T0), k0_off6_inb (wI F i T0) (wJ F i T1) k0_hw1 k0_h7, mix (dqCh (ldKeys arg5 arg6 arg10 x1 x2 x6) (ldChunk arg4 arg7 arg8 arg9 x0 x3 x4 x5 true 1536 (by decide) (by decide) (by decide)) false) (dqCh (ldKeys arg5 arg6 arg10 x1 x2 x6) (ldChunk arg4 arg7 arg8 arg9 x0 x3 x4 x5 true 1536 (by decide) (by decide) (by decide)) true)⟩]) := by
  unfold runE
  dsimp only
  sl_unfold_words
  simp only [View.writes_nil, pieces, plus, mix, sumCh, List.foldl, dqCh, dvCh, dkCh, dsCh, pCh, laneM, cond, ldKeys, ldChunk, prodM, lessC, diagM, probM, deltaM, k0_off6, k0_off1]
  rfl

set_option maxHeartbeats 400000 in
theorem runE_o8 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : k0_cond7 (wI F i T0) (wJ F i T1) = 1#1) :
    (runE c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.1 = arg12.view.writes (Elt F) (arg12.view.rep y8) (pieces arg12.view (arg12.view.rep y8) []
      [⟨k0_off6 (wI F i T0), k0_off6_inb (wI F i T0) (wJ F i T1) k0_hw1 k0_h7, mix (dqCh (ldKeys arg5 arg6 arg10 x1 x2 x6) (ldChunk arg4 arg7 arg8 arg9 x0 x3 x4 x5 true 1536 (by decide) (by decide) (by decide)) true) (dqCh (ldKeys arg5 arg6 arg10 x1 x2 x6) (ldChunk arg4 arg7 arg8 arg9 x0 x3 x4 x5 true 1536 (by decide) (by decide) (by decide)) false)⟩]) := by
  unfold runE
  dsimp only
  sl_unfold_words
  simp only [View.writes_nil, pieces, plus, mix, sumCh, List.foldl, dqCh, dvCh, dkCh, dsCh, pCh, laneM, cond, ldKeys, ldChunk, prodM, lessC, diagM, probM, deltaM, k0_off6, k0_off1]
  rfl

set_option maxHeartbeats 400000 in
theorem runE_o9 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : k0_cond7 (wI F i T0) (wJ F i T1) = 1#1) :
    (runE c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.1 = arg13.view.writes (Elt F) arg13.view.junk (⟨Rect.unit (s := S512x128) ![0, 0] S512x128.size inb_S512x128_S512x128_0_0, plus (arg13.view.readAt (Elt F) (Rect.unit (s := S512x128) ![0, 0] S512x128.size inb_S512x128_S512x128_0_0).toLoadRect (arg13.view.writes (Elt F) arg13.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u false) [(ldChunk arg4 arg7 arg8 arg9 x0 x3 x4 x5 true 1536 (by decide) (by decide) (by decide))]) (sumCh (fun u => dkCh (ldKeys arg5 arg6 arg10 x1 x2 x6) u true) [(ldChunk arg4 arg7 arg8 arg9 x0 x3 x4 x5 true 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runE
  dsimp only
  sl_unfold_words
  simp only [View.writes_nil, pieces, plus, mix, sumCh, List.foldl, dqCh, dvCh, dkCh, dsCh, pCh, laneM, cond, ldKeys, ldChunk, prodM, lessC, diagM, probM, deltaM, k0_off6, k0_off1]
  rfl

set_option maxHeartbeats 400000 in
theorem runE_o10 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : k0_cond7 (wI F i T0) (wJ F i T1) = 1#1) :
    (runE c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.1 = arg14.view.writes (Elt F) arg14.view.junk (⟨Rect.unit (s := S512x128) ![0, 0] S512x128.size inb_S512x128_S512x128_0_0, plus (arg14.view.readAt (Elt F) (Rect.unit (s := S512x128) ![0, 0] S512x128.size inb_S512x128_S512x128_0_0).toLoadRect (arg14.view.writes (Elt F) arg14.view.junk [⟨Rect.unit (s := S512x128) ![0, 0] S512x128.size inb_S512x128_S512x128_0_0, (broadcast S512x128 (Scalar.ofBits .f32 0x00000000#32) : FVec F S512x128 .f32)⟩])) (mix (sumCh (fun u => dvCh (ldKeys arg5 arg6 arg10 x1 x2 x6) u false) [(ldChunk arg4 arg7 arg8 arg9 x0 x3 x4 x5 true 1536 (by decide) (by decide) (by decide))]) (sumCh (fun u => dvCh (ldKeys arg5 arg6 arg10 x1 x2 x6) u true) [(ldChunk arg4 arg7 arg8 arg9 x0 x3 x4 x5 true 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runE
  dsimp only
  sl_unfold_words
  simp only [View.writes_nil, pieces, plus, mix, sumCh, List.foldl, dqCh, dvCh, dkCh, dsCh, pCh, laneM, cond, ldKeys, ldChunk, prodM, lessC, diagM, probM, deltaM, k0_off6, k0_off1]
  rfl

set_option maxHeartbeats 400000 in
theorem runE_o11 (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (T0 T1 : S40.Idx → Elt F .i32)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i T0) (wJ F i T1)) (k0_h1 : ¬k0_cond1 i = 1#1) (k0_h2 : k0_cond2 (wI F i T0) (wJ F i T1) = 1#1) (k0_h3 : ¬k0_cond3 (wI F i T0) (wJ F i T1) = 1#1) (k0_h4 : ¬k0_cond4 (wI F i T0) (wJ F i T1) = 1#1) (k0_h5 : ¬k0_cond5 (wI F i T0) (wJ F i T1) = 1#1) (k0_h6 : ¬k0_cond6 (wI F i T0) (wJ F i T1) = 1#1) (k0_h7 : k0_cond7 (wI F i T0) (wJ F i T1) = 1#1) :
    (runE c i arg4 harg4 arg5 harg5 arg6 harg6 arg7 harg7 arg8 harg8 arg9 harg9 arg10 harg10 arg11 harg11 arg12 harg12 arg13 harg13 arg14 harg14 arg15 harg15 T0 T1 x0 x1 x2 x3 x4 x5 x6 y7 y8 y9 y10 y11 k0_hw1 k0_h1 k0_h2 k0_h3 k0_h4 k0_h5 k0_h6 k0_h7).2.2.2.2.1 = arg15.view.writes (Elt F) arg15.view.junk (⟨Rect.unit (s := S512x128) ![0, 0] S512x128.size inb_S512x128_S512x128_0_0, plus (arg15.view.readAt (Elt F) (Rect.unit (s := S512x128) ![0, 0] S512x128.size inb_S512x128_S512x128_0_0).toLoadRect (arg15.view.writes (Elt F) arg15.view.junk [⟨Rect.unit (s := S512x128) ![0, 0] S512x128.size inb_S512x128_S512x128_0_0, (broadcast S512x128 (Scalar.ofBits .f32 0x00000000#32) : FVec F S512x128 .f32)⟩])) (mix (sumCh (fun u => dkCh (ldKeys arg5 arg6 arg10 x1 x2 x6) u true) [(ldChunk arg4 arg7 arg8 arg9 x0 x3 x4 x5 true 1536 (by decide) (by decide) (by decide))]) (sumCh (fun u => dkCh (ldKeys arg5 arg6 arg10 x1 x2 x6) u false) [(ldChunk arg4 arg7 arg8 arg9 x0 x3 x4 x5 true 1536 (by decide) (by decide) (by decide))]))⟩ :: [⟨Rect.unit (s := S512x128) ![0, 0] S512x128.size inb_S512x128_S512x128_0_0, (broadcast S512x128 (Scalar.ofBits .f32 0x00000000#32) : FVec F S512x128 .f32)⟩]) := by
  unfold runE
  dsimp only
  sl_unfold_words
  simp only [View.writes_nil, pieces, plus, mix, sumCh, List.foldl, dqCh, dvCh, dkCh, dsCh, pCh, laneM, cond, ldKeys, ldChunk, prodM, lessC, diagM, probM, deltaM, k0_off6, k0_off1]
  rfl

set_option maxHeartbeats 400000 in
/-- What the run leaves in the five outputs, of the windows' contents. -/
theorem runE_reads (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32)
    (k0_hw1 : k0_chk1 (wI F i pinI) (wJ F i pinJ)) (k0_h1 : ¬k0_cond1 i = 1#1) (k0_h2 : k0_cond2 (wI F i pinI) (wJ F i pinJ) = 1#1) (k0_h3 : ¬k0_cond3 (wI F i pinI) (wJ F i pinJ) = 1#1) (k0_h4 : ¬k0_cond4 (wI F i pinI) (wJ F i pinJ) = 1#1) (k0_h5 : ¬k0_cond5 (wI F i pinI) (wJ F i pinJ) = 1#1) (k0_h6 : ¬k0_cond6 (wI F i pinI) (wJ F i pinJ) = 1#1) (k0_h7 : k0_cond7 (wI F i pinI) (wJ F i pinJ) = 1#1) :
    arg11.view.read (Elt F) (runE c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).1 = (⟨x0, x1, x2, x3, x4, x5, x6⟩ : Win F).outQ (blkI (i 1)) 3 false y7 ∧
    arg12.view.read (Elt F) (runE c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.1 = (⟨x0, x1, x2, x3, x4, x5, x6⟩ : Win F).outQ (blkI (i 1)) 3 true y8 ∧
    arg13.view.read (Elt F) (runE c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.1 = (⟨x0, x1, x2, x3, x4, x5, x6⟩ : Win F).outK 3 dkCh false y9 ∧
    arg14.view.read (Elt F) (runE c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.1 = (⟨x0, x1, x2, x3, x4, x5, x6⟩ : Win F).outK 3 dvCh false y10 ∧
    arg15.view.read (Elt F) (runE c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 k0_hw1 k0_h1 k0_h2 k0_h3 k0_h4 k0_h5 k0_h6 k0_h7).2.2.2.2.1 = (⟨x0, x1, x2, x3, x4, x5, x6⟩ : Win F).outK 3 dkCh true y11 := by
  refine ⟨?_, ?_, ?_, ?_, ?_⟩
  · rw [runE_o7, read_pieces, View.writes_nil, View.read_rep]; simp only [ldKeys_eq, ldChunk_eq]; unfold Win.outQ; rw [live_3]
    exact congrArg (addRows _) ((congrArg₂ List.cons (rowAdd_eq _ _ _ (by rw [wI_eq]; exact off6_tab _)) rfl))
  · rw [runE_o8, read_pieces, View.writes_nil, View.read_rep]; simp only [ldKeys_eq, ldChunk_eq]; unfold Win.outQ; rw [live_3]
    exact congrArg (addRows _) ((congrArg₂ List.cons (rowAdd_eq _ _ _ (by rw [wI_eq]; exact off6_tab _)) rfl))
  · rw [runE_o9, read_fresh]; simp only [ldKeys_eq, ldChunk_eq]; unfold Win.outK; rw [live_3]; rfl
  · rw [runE_o10, read_fresh]; simp only [ldKeys_eq, ldChunk_eq]; unfold Win.outK; rw [live_3]; rfl
  · rw [runE_o11, read_fresh]; simp only [ldKeys_eq, ldChunk_eq]; unfold Win.outK; rw [live_3]; rfl

end Cert.KernelIdeal.Att

end
-- ==== Proof.Point.lean ====
module

public import proofs.«01_k».proof.Proof.Frame
public import proofs.«01_k».proof.Proof.ReadA0
public import proofs.«01_k».proof.Proof.ReadA
public import proofs.«01_k».proof.Proof.ReadB
public import proofs.«01_k».proof.Proof.ReadC
public import proofs.«01_k».proof.Proof.ReadD
public import proofs.«01_k».proof.Proof.ReadE

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of the five output windows. -/
structure Outs (F : FTy → Type) where
  q : S8192x128.Idx → Elt F .f32
  r : S8192x128.Idx → Elt F .f32
  k : S512x128.Idx → Elt F .f32
  v : S512x128.Idx → Elt F .f32
  c : S512x128.Idx → Elt F .f32

/-- What a step leaves in the five output windows. -/
def Win.step (w : Win F) (s : Fin 40) (y : Outs F) : Outs F where
  q := w.outQ (blkI s) (sel s) false (if s.val = 0 then k0_pay3 else y.q)
  r := w.outQ (blkI s) (sel s) true (if s.val = 0 then k0_pay3 else y.r)
  k := w.outK (sel s) dkCh false y.k
  v := w.outK (sel s) dvCh false y.v
  c := w.outK (sel s) dkCh true y.c

/-- At every grid point the body runs, and leaves the step's contents in the output windows. -/
theorem runs_step (c : Dev nD) (i : grid0.Coords) (arg4 : Memref sig .tc .vmem S2048x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2x2048x128 .f32) (harg9 : arg9.IsWhole) (arg10 : Memref sig .tc .vmem S1x8x512 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
    (x0 : S2048x128.Idx → Elt F .bf16) (x1 x2 : S512x128.Idx → Elt F .bf16) (x3 : S2048x128.Idx → Elt F .f32) (x4 : S2048x128.Idx → Elt F .bf16) (x5 : S2x2048x128.Idx → Elt F .f32) (x6 : S1x8x512.Idx → Elt F .f32)
    (y7 y8 : S8192x128.Idx → Elt F .f32) (y9 y10 y11 : S512x128.Idx → Elt F .f32) :
    ∃ o7 o8 o9 o10 o11, Runs c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 o7 o8 o9 o10 o11 ∧ arg11.view.read (Elt F) o7 = ((⟨x0, x1, x2, x3, x4, x5, x6⟩ : Win F).step (i 1) ⟨y7, y8, y9, y10, y11⟩).q ∧ arg12.view.read (Elt F) o8 = ((⟨x0, x1, x2, x3, x4, x5, x6⟩ : Win F).step (i 1) ⟨y7, y8, y9, y10, y11⟩).r ∧ arg13.view.read (Elt F) o9 = ((⟨x0, x1, x2, x3, x4, x5, x6⟩ : Win F).step (i 1) ⟨y7, y8, y9, y10, y11⟩).k ∧ arg14.view.read (Elt F) o10 = ((⟨x0, x1, x2, x3, x4, x5, x6⟩ : Win F).step (i 1) ⟨y7, y8, y9, y10, y11⟩).v ∧ arg15.view.read (Elt F) o11 = ((⟨x0, x1, x2, x3, x4, x5, x6⟩ : Win F).step (i 1) ⟨y7, y8, y9, y10, y11⟩).c := by
  obtain ⟨e2, e3, e4, e5, e6, e7⟩ := sel_at (F := F) i
  have e1 := cond1_tab i
  have hz := sel_zero (i 1)
  by_cases h0 : (i 1).val = 0
  · have hd := hz h0
    have r := (runA0 (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2, hd] <;> decide) (by rw [e3, hd] <;> decide) (by rw [e4, hd] <;> decide) (by rw [e5, hd] <;> decide) (by rw [e6, hd] <;> decide) (by rw [e7, hd] <;> decide)).2.2.2.2.2
    obtain ⟨a7, a8, a9, a10, a11⟩ := runA0_reads (F := F) c i arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 y11 (chk_at i) (by rw [e1]; exact h0) (by rw [e2, hd] <;> decide) (by rw [e3, hd] <;> decide) (by rw [e4, hd] <;> decide) (by rw [e5, hd] <;> decide) (by rw [e6, hd] <;> decide) (by rw [e7, hd] <;> decide)
    exact ⟨_, _, _, _, _, r, a7.trans (by simp only [Win.step, h0, hd, ↓reduceIte]), a8.trans (by simp only [Win.step, h0, hd, ↓reduceIte]), a9.trans (by simp only [Win.step, h0, hd, ↓reduceIte]), a10.trans (by simp only [Win.step, h0, hd, ↓reduceIte]), a11.trans (by simp only [Win.step, h0, hd, ↓reduceIte])⟩
  · generalize hd : sel (i 1) = d at e2 e3 e4 e5 e6 e7
    match d, hd with
    | 0, hd =>
      have r := (runA (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)).2.2.2.2.2
      obtain ⟨a7, a8, a9, a10, a11⟩ := runA_reads (F := F) c i arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r, a7.trans (by simp only [Win.step, h0, hd, ↓reduceIte]), a8.trans (by simp only [Win.step, h0, hd, ↓reduceIte]), a9.trans (by simp only [Win.step, h0, hd, ↓reduceIte]), a10.trans (by simp only [Win.step, h0, hd, ↓reduceIte]), a11.trans (by simp only [Win.step, h0, hd, ↓reduceIte])⟩
    | 1, hd =>
      have r := (runC (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)).2.2.2.2.2
      obtain ⟨a7, a8, a9, a10, a11⟩ := runC_reads (F := F) c i arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r, a7.trans (by simp only [Win.step, h0, hd, ↓reduceIte]), a8.trans (by simp only [Win.step, h0, hd, ↓reduceIte]), a9.trans (by simp only [Win.step, h0, hd, ↓reduceIte]), a10.trans (by simp only [Win.step, h0, hd, ↓reduceIte]), a11.trans (by simp only [Win.step, h0, hd, ↓reduceIte])⟩
    | 2, hd =>
      have r := (runD (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)).2.2.2.2.2
      obtain ⟨a7, a8, a9, a10, a11⟩ := runD_reads (F := F) c i arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r, a7.trans (by simp only [Win.step, h0, hd, ↓reduceIte]), a8.trans (by simp only [Win.step, h0, hd, ↓reduceIte]), a9.trans (by simp only [Win.step, h0, hd, ↓reduceIte]), a10.trans (by simp only [Win.step, h0, hd, ↓reduceIte]), a11.trans (by simp only [Win.step, h0, hd, ↓reduceIte])⟩
    | 3, hd =>
      have r := (runE (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)).2.2.2.2.2
      obtain ⟨a7, a8, a9, a10, a11⟩ := runE_reads (F := F) c i arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r, a7.trans (by simp only [Win.step, h0, hd, ↓reduceIte]), a8.trans (by simp only [Win.step, h0, hd, ↓reduceIte]), a9.trans (by simp only [Win.step, h0, hd, ↓reduceIte]), a10.trans (by simp only [Win.step, h0, hd, ↓reduceIte]), a11.trans (by simp only [Win.step, h0, hd, ↓reduceIte])⟩
    | 4, hd =>
      have r := (runB (F := F) c i arg4 harg4 arg5 harg5 arg6 harg6 arg7 harg7 arg8 harg8 arg9 harg9 arg10 harg10 arg11 harg11 arg12 harg12 arg13 harg13 arg14 harg14 arg15 harg15 pinI pinJ x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)).2.2.2.2.2
      obtain ⟨a7, a8, a9, a10, a11⟩ := runB_reads (F := F) c i arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 y11 (chk_at i) (by rw [e1]; exact h0) (by rw [e2] <;> decide) (by rw [e3] <;> decide) (by rw [e4] <;> decide) (by rw [e5] <;> decide) (by rw [e6] <;> decide) (by rw [e7] <;> decide)
      exact ⟨_, _, _, _, _, r, a7.trans (by simp only [Win.step, h0, hd, ↓reduceIte]), a8.trans (by simp only [Win.step, h0, hd, ↓reduceIte]), a9.trans (by simp only [Win.step, h0, hd, ↓reduceIte]), a10.trans (by simp only [Win.step, h0, hd, ↓reduceIte]), a11.trans (by simp only [Win.step, h0, hd, ↓reduceIte])⟩

end Cert.KernelIdeal.Att

end
-- ==== Proof.Track.lean ====
module

public import proofs.«01_k».proof.Proof.Point
public import Idealize.ShloMosaic.Lib.Pipeline.TableIdle
public import Idealize.ShloMosaic.Lib.Pipeline.FrameBody

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem N_eq : (cfgA F).N = 320 := by rfl
theorem crd0_val (t : Fin (cfgA F).N) : (crd F t 0).val = t.val / 40 % 8 := Pipeline.Grid.coords_val (G := grid0) t 0 (by decide) rfl
theorem crd1_val (t : Fin (cfgA F).N) : (crd F t 1).val = t.val % 40 := (Pipeline.Grid.coords_val (G := grid0) t 1 (S := 1) (by decide) rfl).trans (by rw [Nat.div_one]; rfl)

/-- No window is idle at any point. -/
theorem idle_eq (w : Fin 12) (i : grid0.Coords) : idle0 (F := F) (pfN F) w i = false := by
  have key : ∀ a b : BitVec 32, a = lit0 (i 1) → b = lit1 (i 1) → (k0_cond3 a b = 1#1 ∨ k0_cond4 a b = 1#1 ∨ k0_cond5 a b = 1#1 ∨ k0_cond6 a b = 1#1 ∨ k0_cond7 a b = 1#1) := by
    rintro a b rfl rfl
    obtain ⟨e2, e3, e4, e5, e6, e7⟩ := sel_tab (i 1)
    rw [e3, e4, e5, e6, e7]; generalize sel (i 1) = d; revert d; decide
  have hor := key _ _ (at0_eq (F := F) i) (at1_eq (F := F) i)
  have key2 : ∀ a b : BitVec 32, a = lit0 (i 1) → b = lit1 (i 1) → (k0_cond2 a b = 1#1 ∨ k0_cond3 a b = 1#1) := by
    rintro a b rfl rfl
    obtain ⟨e2, e3, e4, e5, e6, e7⟩ := sel_tab (i 1)
    rw [e2, e3]; generalize sel (i 1) = d; revert d; decide
  have hor2 := key2 _ _ (at0_eq (F := F) i) (at1_eq (F := F) i)
  fin_cases w <;> first | rfl | (simp only [idle0]; rcases hor with h | h | h | h | h <;> simp [h]; done)

/-- The block of window `w` at a point, off its array where the pipeline begins. -/
def blkOf (m : (ℓ : Loc nD τ sig) → Buf (Elt F) ℓ) (c : Dev nD) (w : Fin (cfgA F).W) (t : Fin (cfgA F).N) : (((cfgA F).win w).xblock ((cfgA F).grid.coords t)).Idx → Elt F ((cfgA F).win w).elt :=
  (((cfgA F).win w).blk t).view.read (Elt F) (Vh m c (Pipeline.arrRef (cfgA F).spec w))
/-- The input windows at a point. -/
def winAt (m : (ℓ : Loc nD τ sig) → Buf (Elt F) ℓ) (c : Dev nD) (t : Fin (cfgA F).N) : Win F :=
  ⟨blkOf m c (0 : Fin 12) t, blkOf m c (1 : Fin 12) t, blkOf m c (2 : Fin 12) t, blkOf m c (3 : Fin 12) t, blkOf m c (4 : Fin 12) t, blkOf m c (5 : Fin 12) t, blkOf m c (6 : Fin 12) t⟩
/-- What the output windows hold after each point; before the first nothing is known of them. -/
def traj (m : (ℓ : Loc nD τ sig) → Buf (Elt F) ℓ) (c : Dev nD) : (n : ℕ) → n < (cfgA F).N → Outs F
  | 0, h => (winAt m c ⟨0, h⟩).step (crd F ⟨0, h⟩ 1) ⟨k0_pay3, k0_pay3, zeroK, zeroK, zeroK⟩
  | n + 1, h => (winAt m c ⟨n + 1, h⟩).step (crd F ⟨n + 1, h⟩ 1) (traj m c n (Nat.lt_of_succ_lt h))
/-- What they hold before a point. -/
def prev (m : (ℓ : Loc nD τ sig) → Buf (Elt F) ℓ) (c : Dev nD) (t : Fin (cfgA F).N) : Outs F :=
  if h : t.val = 0 then ⟨k0_pay3, k0_pay3, zeroK, zeroK, zeroK⟩ else traj m c (t.val - 1) (by omega)
theorem traj_eq (m : (ℓ : Loc nD τ sig) → Buf (Elt F) ℓ) (c : Dev nD) (t : Fin (cfgA F).N) :
    traj m c t.val t.isLt = (winAt m c t).step (crd F t 1) (prev m c t) := by
  obtain ⟨n, hn⟩ := t
  cases n with
  | zero => rfl
  | succ n => unfold prev; simp only [Nat.add_one_ne_zero, dif_neg, not_false_eq_true]; rfl

/-- The pipeline's data: an input window holds its block, an output window what the steps so far have left. -/
def datV (m : (ℓ : Loc nD τ sig) → Buf (Elt F) ℓ) (_ : Fin 1) (c : Dev nD) : Pipeline.Dat τ (Elt F) Unit ℕ (UR sig nD τ) ℕ (cfgA F) c where
  A w := Vh m c (Pipeline.arrRef (cfgA F).spec w)
  after w t := match w with
    | ⟨0, _⟩ => blkOf m c (0 : Fin 12) t
    | ⟨1, _⟩ => blkOf m c (1 : Fin 12) t
    | ⟨2, _⟩ => blkOf m c (2 : Fin 12) t
    | ⟨3, _⟩ => blkOf m c (3 : Fin 12) t
    | ⟨4, _⟩ => blkOf m c (4 : Fin 12) t
    | ⟨5, _⟩ => blkOf m c (5 : Fin 12) t
    | ⟨6, _⟩ => blkOf m c (6 : Fin 12) t
    | ⟨7, _⟩ => (traj m c t.val t.isLt).q
    | ⟨8, _⟩ => (traj m c t.val t.isLt).r
    | ⟨9, _⟩ => (traj m c t.val t.isLt).k
    | ⟨10, _⟩ => (traj m c t.val t.isLt).v
    | ⟨11, _⟩ => (traj m c t.val t.isLt).c
  Φ t := iprop(Pipeline.ΦA (cfgA F).spec c ∗ Pipeline.ΦT pre0 (adm F).1 c)
  q w := Pipeline.shareOf (cfgA F).spec w
  owed _ := 0

/-- An input window holds its block when the body runs, fetched there or before. -/
theorem before_in (m : (ℓ : Loc nD τ sig) → Buf (Elt F) ℓ) (c : Dev nD) (w : Fin (cfgA F).W) (hw : ((cfgA F).win w).isOut = false)
    (hclip : ∀ t t' : Fin (cfgA F).N, ((cfgA F).win w).index t = ((cfgA F).win w).index t' → ((cfgA F).win w).clip ((cfgA F).grid.coords t) = ((cfgA F).win w).clip ((cfgA F).grid.coords t'))
    (ha : ∀ t, ((cfgA F).win w).cut ((cfgA F).grid.coords t) ((datV m 0 c).after w t) = (datV m 0 c).blockOf w t) (t : Fin (cfgA F).N) (d) :
    (datV m 0 c).before w t d = (datV m 0 c).fetched w t d :=
  (datV m 0 c).before_in_eq_fetched w hw (fun i => idle_eq w i) hclip ha t d
theorem before_0 (m : (ℓ : Loc nD τ sig) → Buf (Elt F) ℓ) (c : Dev nD) (t : Fin (cfgA F).N) (d) : (datV m 0 c).before (0 : Fin 12) t d = blkOf m c (0 : Fin 12) t :=
  (before_in m c (0 : Fin 12) rfl (fun _ _ _ => rfl) (fun _ => rfl) t d).trans rfl
theorem before_1 (m : (ℓ : Loc nD τ sig) → Buf (Elt F) ℓ) (c : Dev nD) (t : Fin (cfgA F).N) (d) : (datV m 0 c).before (1 : Fin 12) t d = blkOf m c (1 : Fin 12) t :=
  (before_in m c (1 : Fin 12) rfl (fun _ _ _ => rfl) (fun _ => rfl) t d).trans rfl
theorem before_2 (m : (ℓ : Loc nD τ sig) → Buf (Elt F) ℓ) (c : Dev nD) (t : Fin (cfgA F).N) (d) : (datV m 0 c).before (2 : Fin 12) t d = blkOf m c (2 : Fin 12) t :=
  (before_in m c (2 : Fin 12) rfl (fun _ _ _ => rfl) (fun _ => rfl) t d).trans rfl
theorem before_3 (m : (ℓ : Loc nD τ sig) → Buf (Elt F) ℓ) (c : Dev nD) (t : Fin (cfgA F).N) (d) : (datV m 0 c).before (3 : Fin 12) t d = blkOf m c (3 : Fin 12) t :=
  (before_in m c (3 : Fin 12) rfl (fun _ _ _ => rfl) (fun _ => rfl) t d).trans rfl
theorem before_4 (m : (ℓ : Loc nD τ sig) → Buf (Elt F) ℓ) (c : Dev nD) (t : Fin (cfgA F).N) (d) : (datV m 0 c).before (4 : Fin 12) t d = blkOf m c (4 : Fin 12) t :=
  (before_in m c (4 : Fin 12) rfl (fun _ _ _ => rfl) (fun _ => rfl) t d).trans rfl
theorem before_5 (m : (ℓ : Loc nD τ sig) → Buf (Elt F) ℓ) (c : Dev nD) (t : Fin (cfgA F).N) (d) : (datV m 0 c).before (5 : Fin 12) t d = blkOf m c (5 : Fin 12) t :=
  (before_in m c (5 : Fin 12) rfl (fun _ _ _ => rfl) (fun _ => rfl) t d).trans rfl
theorem before_6 (m : (ℓ : Loc nD τ sig) → Buf (Elt F) ℓ) (c : Dev nD) (t : Fin (cfgA F).N) (d) : (datV m 0 c).before (6 : Fin 12) t d = blkOf m c (6 : Fin 12) t :=
  (before_in m c (6 : Fin 12) rfl (fun _ _ _ => rfl) (fun _ => rfl) t d).trans rfl

/-- An output window holds what the point before left, unless its block has just been written back. -/
theorem before_out (m : (ℓ : Loc nD τ sig) → Buf (Elt F) ℓ) (c : Dev nD) (w : Fin (cfgA F).W) (hw : ((cfgA F).win w).isOut = true)
    (hclip : ∀ (i : (cfgA F).grid.Coords) a, ((cfgA F).win w).clip i a = none) (t : Fin (cfgA F).N) (d) :
    (datV m 0 c).before w t d = if (cfgA F).fresh w t.val then d else (datV m 0 c).after w ⟨t.val - 1, by omega⟩ :=
  (datV m 0 c).before_out_traj w hw hclip (fun t _ hi _ => absurd (hi.symm.trans (idle_eq w _)) (by decide)) t.val t rfl d

/-- A block just written back: the block's place has changed. -/
theorem fresh_moved (w : Fin (cfgA F).W) (t : Fin (cfgA F).N) (h : (cfgA F).fresh w t.val = true) :
    t.val = 0 ∨ ∃ u : Fin (cfgA F).N, u.val + 1 = t.val ∧ ((cfgA F).win w).index t ≠ ((cfgA F).win w).index u := by
  obtain ⟨n, hn⟩ := t
  cases n with
  | zero => exact .inl rfl
  | succ n =>
    right
    have hn' : n < (cfgA F).N := by omega
    refine ⟨⟨n, hn'⟩, rfl, fun e => ?_⟩
    rw [Pipeline.Cfg.fresh_succ _ w n hn', show (cfgA F).idle w ((cfgA F).grid.coords ⟨n, hn'⟩) = false from idle_eq w _, Bool.false_and, Bool.or_false, Pipeline.Window.flush_eq_flushF] at h
    unfold Pipeline.Window.flushF at h
    simp only [Bool.and_eq_true, Bool.or_eq_true, decide_eq_true_eq] at h
    obtain ⟨-, h | ⟨h', a, ha⟩⟩ := h
    · exact absurd h (Nat.ne_of_lt hn)
    · exact ha (congrFun e a)

theorem index_q (w : Fin (cfgA F).W) (hw : w = (7 : Fin 12) ∨ w = (8 : Fin 12)) (t u : Fin (cfgA F).N) (h : crd F t 0 = crd F u 0) : ((cfgA F).win w).index t = ((cfgA F).win w).index u := by
  rcases hw with rfl | rfl <;> exact congrArg (fun v : Fin 8 => (![0, (BitVec.ofNat 32 v.val).toNat] : Fin 2 → ℕ)) h
theorem index_k9 (t : Fin (cfgA F).N) : ((cfgA F).win (9 : Fin 12)).index t = ![(lit1 (crd F t 1)).toNat, (BitVec.ofNat 32 (crd F t 0).val).toNat] := t9_eq (F := F) (crd F t)
theorem index_k10 (t : Fin (cfgA F).N) : ((cfgA F).win (10 : Fin 12)).index t = ![(lit1 (crd F t 1)).toNat, (BitVec.ofNat 32 (crd F t 0).val).toNat] := t10_eq (F := F) (crd F t)
theorem index_k11 (t : Fin (cfgA F).N) : ((cfgA F).win (11 : Fin 12)).index t = ![(lit1 (crd F t 1)).toNat, (BitVec.ofNat 32 (crd F t 0).val).toNat] := t11_eq (F := F) (crd F t)

theorem stay_tab : ∀ s s' : Fin 40, s.val + 1 = s'.val → sel s' = 4 → lit1 s' = lit1 s := by decide +kernel

theorem fresh_q (w : Fin (cfgA F).W) (hw : w = (7 : Fin 12) ∨ w = (8 : Fin 12)) (t : Fin (cfgA F).N) (h : (cfgA F).fresh w t.val = true) : (crd F t 1).val = 0 := by
  have hN : t.val < 320 := t.isLt.trans_eq N_eq
  rcases fresh_moved w t h with h | ⟨u, hu, hi⟩
  · rw [crd1_val, h]
  · by_contra h1
    refine hi (index_q w hw t u (Fin.ext ?_))
    rw [crd1_val] at h1; rw [crd0_val, crd0_val]; omega
theorem fresh_k (w : Fin (cfgA F).W) (hw : ∀ t, ((cfgA F).win w).index t ≍ (![(lit1 (crd F t 1)).toNat, (BitVec.ofNat 32 (crd F t 0).val).toNat] : Fin 2 → ℕ)) (t : Fin (cfgA F).N) (h : (cfgA F).fresh w t.val = true) : sel (crd F t 1) ≠ 4 := by
  have hN : t.val < 320 := t.isLt.trans_eq N_eq
  intro h4
  have h1 : (crd F t 1).val ≠ 0 := fun e => absurd ((sel_zero _ e).symm.trans h4) (by decide)
  rcases fresh_moved w t h with h | ⟨u, hu, hi⟩
  · exact h1 (by rw [crd1_val, h])
  · have e0 : crd F t 0 = crd F u 0 := Fin.ext (by rw [crd1_val] at h1; rw [crd0_val, crd0_val]; omega)
    have e1 : lit1 (crd F t 1) = lit1 (crd F u 1) := stay_tab _ _ (by rw [crd1_val] at h1 ⊢; rw [crd1_val]; omega) h4
    exact hi (eq_of_heq ((hw t).trans ((heq_of_eq (by rw [e0, e1])).trans (hw u).symm)))

/-- A step's results depend on what it does not overwrite. -/
theorem step_congr (w : Win F) (s : Fin 40) (y y' : Outs F) (hq : s.val ≠ 0 → y.q = y'.q) (hr : s.val ≠ 0 → y.r = y'.r)
    (hk : sel s = 4 → y.k = y'.k) (hv : sel s = 4 → y.v = y'.v) (hc : sel s = 4 → y.c = y'.c) : w.step s y = w.step s y' := by
  unfold Win.step Win.outK
  congr 1
  · by_cases h : s.val = 0 <;> simp only [h, ↓reduceIte]; rw [hq h]
  · by_cases h : s.val = 0 <;> simp only [h, ↓reduceIte]; rw [hr h]
  · by_cases h : sel s = 4 <;> simp only [h, ↓reduceIte]; rw [hk h]
  · by_cases h : sel s = 4 <;> simp only [h, ↓reduceIte]; rw [hv h]
  · by_cases h : sel s = 4 <;> simp only [h, ↓reduceIte]; rw [hc h]

/-- The step from what the windows hold is the step of the trajectory. -/
theorem step_before (m : (ℓ : Loc nD τ sig) → Buf (Elt F) ℓ) (c : Dev nD) (t : Fin (cfgA F).N) (d7 d8 d9 d10 d11) :
    (winAt m c t).step (crd F t 1) ⟨(datV m 0 c).before (7 : Fin 12) t d7, (datV m 0 c).before (8 : Fin 12) t d8, (datV m 0 c).before (9 : Fin 12) t d9, (datV m 0 c).before (10 : Fin 12) t d10, (datV m 0 c).before (11 : Fin 12) t d11⟩ = traj m c t.val t.isLt := by
  rw [traj_eq]
  have h0 : ∀ w : Fin (cfgA F).W, (cfgA F).fresh w t.val = false → t.val ≠ 0 := fun w hf h => absurd (hf.symm.trans (h ▸ Pipeline.Cfg.fresh_zero _ w)) (by decide)
  refine step_congr _ _ _ _ ?_ ?_ ?_ ?_ ?_
  · intro hs
    have hf : (cfgA F).fresh (7 : Fin 12) t.val = false := Bool.eq_false_iff.mpr fun h => hs (fresh_q _ (.inl rfl) t h)
    show (datV m 0 c).before (7 : Fin 12) t d7 = _
    rw [before_out m c (7 : Fin 12) rfl (fun _ _ => rfl) t d7, hf]; unfold prev; rw [dif_neg (h0 _ hf)]; rfl
  · intro hs
    have hf : (cfgA F).fresh (8 : Fin 12) t.val = false := Bool.eq_false_iff.mpr fun h => hs (fresh_q _ (.inr rfl) t h)
    show (datV m 0 c).before (8 : Fin 12) t d8 = _
    rw [before_out m c (8 : Fin 12) rfl (fun _ _ => rfl) t d8, hf]; unfold prev; rw [dif_neg (h0 _ hf)]; rfl
  · intro hs
    have hf : (cfgA F).fresh (9 : Fin 12) t.val = false := Bool.eq_false_iff.mpr fun h => fresh_k _ (fun t => heq_of_eq (index_k9 t)) t h hs
    show (datV m 0 c).before (9 : Fin 12) t d9 = _
    rw [before_out m c (9 : Fin 12) rfl (fun _ _ => rfl) t d9, hf]; unfold prev; rw [dif_neg (h0 _ hf)]; rfl
  · intro hs
    have hf : (cfgA F).fresh (10 : Fin 12) t.val = false := Bool.eq_false_iff.mpr fun h => fresh_k _ (fun t => heq_of_eq (index_k10 t)) t h hs
    show (datV m 0 c).before (10 : Fin 12) t d10 = _
    rw [before_out m c (10 : Fin 12) rfl (fun _ _ => rfl) t d10, hf]; unfold prev; rw [dif_neg (h0 _ hf)]; rfl
  · intro hs
    have hf : (cfgA F).fresh (11 : Fin 12) t.val = false := Bool.eq_false_iff.mpr fun h => fresh_k _ (fun t => heq_of_eq (index_k11 t)) t h hs
    show (datV m 0 c).before (11 : Fin 12) t d11 = _
    rw [before_out m c (11 : Fin 12) rfl (fun _ _ => rfl) t d11, hf]; unfold prev; rw [dif_neg (h0 _ hf)]; rfl

end Cert.KernelIdeal.Att

end
-- ==== Proof.Fold.lean ====
module

public import proofs.«01_k».proof.Proof.Track
public import proofs.«01_k».proof.Proof.Fits

/-! The steps of a head pair put together: what the outputs hold when their blocks are written back. -/

@[expose] public section

set_option maxRecDepth 16384

noncomputable section

namespace Cert.KernelIdeal.Att

open Cert.KernelIdeal Cert.KernelIdeal.Gen Cert.Att
open Idealize.ShloMosaic
open scoped BigOperators

variable (m : (ℓ : Loc nD τ sig) → Buf (Elt Ideal) ℓ) (c : Dev nD) {X : Inp}

/-- The grid point of step `s` of head pair `p`. -/
def pt (p : Fin 8) (s : Fin 40) : Fin (cfgA Ideal).N := ⟨40 * p.val + s.val, by rw [N_eq]; omega⟩
theorem pt_crd0 (p : Fin 8) (s : Fin 40) : crd Ideal (pt p s) 0 = p := Fin.ext (by have h1 : p.val < 8 := p.isLt; have h2 : s.val < 40 := s.isLt; rw [crd0_val]; simp only [pt]; omega)
theorem pt_crd1 (p : Fin 8) (s : Fin 40) : crd Ideal (pt p s) 1 = s := Fin.ext (by have h1 : p.val < 8 := p.isLt; have h2 : s.val < 40 := s.isLt; rw [crd1_val]; simp only [pt]; omega)
theorem pt_of (t : Fin (cfgA Ideal).N) : t = pt (crd Ideal t 0) (crd Ideal t 1) := Fin.ext (by
  have := t.isLt.trans_eq N_eq
  show t.val = 40 * (crd Ideal t 0).val + (crd Ideal t 1).val
  rw [crd0_val, crd1_val]; omega)

/-- The output windows after a step. -/
def tr (p : Fin 8) (s : Fin 40) : Outs Ideal := traj m c (pt p s).val (pt p s).isLt

/-- At every point the windows fit real inputs. -/
def FitsAll (X : Inp) : Prop := ∀ (p : Fin 8) (s : Fin 40), Fits X p (blkI s) (blkJ s) (winAt m c (pt p s))

theorem tr_step (p : Fin 8) (s : Fin 40) : ∃ y, tr m c p s = (winAt m c (pt p s)).step s y ∧ ∀ s' : Fin 40, s'.val + 1 = s.val → y = tr m c p s' := by
  refine ⟨prev m c (pt p s), ?_, ?_⟩
  · unfold tr; rw [traj_eq, pt_crd1]
  · intro s' hs
    have h0 : (pt p s).val ≠ 0 := by simp only [pt]; omega
    unfold prev; rw [dif_neg h0]
    unfold tr
    have e : (pt p s).val - 1 = (pt p s').val := by simp only [pt]; omega
    simp only [e]

theorem lies_tab : ∀ s : Fin 40, (blkJ s).val < 4 * (blkI s).val + 4 ∧ (4 * (blkI s).val ≤ (blkJ s).val → (sel s).val = (blkJ s).val - 4 * (blkI s).val) ∧ ((blkJ s).val < 4 * (blkI s).val → (sel s).val = 4) := by decide +kernel
theorem new_tab : ∀ s s' : Fin 40, s'.val < s.val → sel s ≠ 4 → blkJ s' ≠ blkJ s := by decide +kernel
theorem old_tab : ∀ s : Fin 40, sel s = 4 → s.val ≠ 0 := by decide +kernel
theorem same_tab : ∀ s s' : Fin 40, s'.val + 1 = s.val → sel s = 4 → blkJ s' = blkJ s := by decide +kernel
theorem last_tab : ∀ s s' : Fin 40, (blkI s).val = 3 → s.val < s'.val → blkJ s' ≠ blkJ s := by decide +kernel
theorem pair_tab : ∀ (i : Fin 4) (j : Fin 16), (Finset.univ.filter fun s : Fin 40 => blkI s = i ∧ blkJ s = j).card = if j.val < 4 * i.val + 4 then 1 else 0 := by decide +kernel

/-- A sum over the steps of a function of their blocks is a sum over the pairs of blocks the table lists. -/
theorem sum_pairs (G : Fin 4 → Fin 16 → ℝ) : (∑ s, G (blkI s) (blkJ s)) = ∑ i, ∑ j, if j.val < 4 * i.val + 4 then G i j else 0 := by
  have h1 : ∀ s, G (blkI s) (blkJ s) = ∑ i, ∑ j, if blkI s = i ∧ blkJ s = j then G i j else 0 := by
    intro s
    rw [Finset.sum_eq_single (blkI s), Finset.sum_eq_single (blkJ s)]
    · rw [if_pos ⟨rfl, rfl⟩]
    · intro j _ hj; rw [if_neg (fun h => hj h.2.symm)]
    · intro h; exact absurd (Finset.mem_univ _) h
    · intro i _ hi; exact Finset.sum_eq_zero fun j _ => if_neg fun h => hi h.1.symm
    · intro h; exact absurd (Finset.mem_univ _) h
  simp only [h1]
  rw [Finset.sum_comm]
  refine Finset.sum_congr rfl fun i _ => ?_
  rw [Finset.sum_comm]
  refine Finset.sum_congr rfl fun j _ => ?_
  rw [← Finset.sum_filter, Finset.sum_const, pair_tab]
  split_ifs <;> simp

/-- A function of the steps among the natural numbers. -/
def onSteps (g : Fin 40 → ℝ) (n : ℕ) : ℝ := if h : n < 40 then g ⟨n, h⟩ else 0
theorem onSteps_val (g : Fin 40 → ℝ) (s : Fin 40) : onSteps g s.val = g s := dif_pos s.isLt
theorem sum_onSteps (g : Fin 40 → ℝ) : (∑ n ∈ Finset.range 40, onSteps g n) = ∑ s, g s := by
  rw [← Fin.sum_univ_eq_sum_range]
  exact Finset.sum_congr rfl fun s _ => onSteps_val g s

/-- An array that starts at zero and to which every step adds holds the sum of what the steps so far added. -/
theorem fold_all (y : Fin 40 → EReal) (g : Fin 40 → ℝ) (h : ∀ s : Fin 40, ∃ z, y s = (if s.val = 0 then 0 else z) + (g s : EReal) ∧ ∀ s' : Fin 40, s'.val + 1 = s.val → z = y s') :
    ∀ n (hn : n < 40), y ⟨n, hn⟩ = ((∑ k ∈ Finset.range (n + 1), onSteps g k : ℝ) : EReal) := by
  intro n
  induction n with
  | zero =>
    intro hn
    obtain ⟨z, hz, -⟩ := h ⟨0, hn⟩
    rw [hz, if_pos rfl, zero_add, Finset.sum_range_one]
    exact congrArg _ (onSteps_val g ⟨0, hn⟩).symm
  | succ n ih =>
    intro hn
    obtain ⟨z, hz, hy⟩ := h ⟨n + 1, hn⟩
    rw [hz, if_neg (Nat.succ_ne_zero n), hy ⟨n, by omega⟩ rfl, ih (by omega), Finset.sum_range_succ _ (n + 1), EReal.coe_add]
    exact congrArg _ (congrArg _ (onSteps_val g ⟨n + 1, hn⟩).symm)

/-- An array that starts anew at a key block's first step holds what the key block's steps so far added. -/
theorem fold_new (y : Fin 16 → Fin 40 → EReal) (g : Fin 16 → Fin 40 → ℝ) (h : ∀ s : Fin 40, ∃ z : Fin 16 → EReal, y (blkJ s) s = (if sel s = 4 then z (blkJ s) else 0) + (g (blkJ s) s : EReal) ∧ ∀ s' : Fin 40, s'.val + 1 = s.val → ∀ j, z j = y j s') :
    ∀ n (hn : n < 40), y (blkJ ⟨n, hn⟩) ⟨n, hn⟩ = ((∑ k ∈ Finset.range (n + 1), onSteps (fun s => if blkJ s = blkJ ⟨n, hn⟩ then g (blkJ ⟨n, hn⟩) s else 0) k : ℝ) : EReal) := by
  intro n
  induction n with
  | zero =>
    intro hn
    obtain ⟨z, hz, -⟩ := h ⟨0, hn⟩
    rw [hz, if_neg (fun h4 => old_tab _ h4 rfl), zero_add, Finset.sum_range_one]
    refine congrArg _ ?_
    rw [onSteps_val _ ⟨0, hn⟩, if_pos rfl]
  | succ n ih =>
    intro hn
    obtain ⟨z, hz, hy⟩ := h ⟨n + 1, hn⟩
    rw [hz, Finset.sum_range_succ, onSteps_val _ ⟨n + 1, hn⟩, if_pos rfl, EReal.coe_add]
    congr 1
    by_cases h4 : sel ⟨n + 1, hn⟩ = 4
    · have hj := same_tab ⟨n + 1, hn⟩ ⟨n, by omega⟩ rfl h4
      rw [if_pos h4, hy ⟨n, by omega⟩ rfl, ← hj, ih (by omega)]
    · rw [if_neg h4, Finset.sum_eq_zero, EReal.coe_zero]
      intro k hk
      have hk := Finset.mem_range.mp hk
      unfold onSteps
      rw [dif_pos (by omega)]; exact if_neg (new_tab ⟨n + 1, hn⟩ ⟨k, by omega⟩ hk h4)

theorem range_last (s : Fin 40) (g : Fin 40 → ℝ) (h3 : (blkI s).val = 3) : (∑ k ∈ Finset.range (s.val + 1), onSteps (fun s' => if blkJ s' = blkJ s then g s' else 0) k) = ∑ s', if blkJ s' = blkJ s then g s' else 0 := by
  rw [← sum_onSteps]
  refine Finset.sum_subset (Finset.range_mono s.isLt) fun k hk hk' => ?_
  have hk := Finset.mem_range.mp hk
  unfold onSteps
  rw [dif_pos hk]; exact if_neg (last_tab s ⟨k, hk⟩ h3 (by have hn : ¬ k < s.val + 1 := fun h => hk' (Finset.mem_range.mpr h); show s.val < k; omega))

/-- A sum over the rows is a sum over the key blocks, or the query blocks, and their rows. -/
theorem sum_rowK (T : Fin 8192 → ℝ) : (∑ j, ∑ k, T (rowK j k)) = ∑ R, T R := by
  rw [← Finset.sum_product']
  refine Finset.sum_bij (fun x _ => rowK x.1 x.2) (fun _ _ => Finset.mem_univ _) ?_ ?_ (fun _ _ => rfl)
  · rintro ⟨r, a⟩ _ ⟨r', a'⟩ _ h
    have := congrArg Fin.val h
    simp only [rowK] at this
    exact Prod.ext (Fin.ext (by simp only; omega)) (Fin.ext (by simp only; omega))
  · intro b _
    exact ⟨(⟨b.val / 512, by omega⟩, ⟨b.val % 512, Nat.mod_lt _ (by decide)⟩), Finset.mem_univ _, Fin.ext (by simp only [rowK]; omega)⟩
theorem sum_rowQ (T : Fin 8192 → ℝ) : (∑ i, ∑ a, T (rowQ i a)) = ∑ R, T R := by
  rw [← Finset.sum_product']
  refine Finset.sum_bij (fun x _ => rowQ x.1 x.2) (fun _ _ => Finset.mem_univ _) ?_ ?_ (fun _ _ => rfl)
  · rintro ⟨r, a⟩ _ ⟨r', a'⟩ _ h
    have := congrArg Fin.val h
    simp only [rowQ] at this
    exact Prod.ext (Fin.ext (by simp only; omega)) (Fin.ext (by simp only; omega))
  · intro b _
    exact ⟨(⟨b.val / 2048, by omega⟩, ⟨b.val % 2048, Nat.mod_lt _ (by decide)⟩), Finset.mem_univ _, Fin.ext (by simp only [rowQ]; omega)⟩

variable {m c}

/-- The queries' rows at the end of a head pair. -/
theorem rows_end (hf : FitsAll m c X) (p : Fin 8) (h : Bool) (R : Fin 8192) (l : Fin 128) (y : Fin 40 → EReal)
    (hy : ∀ s : Fin 40, ∃ z : Fin 40 → (S8192x128.Idx → EReal), y s = (winAt m c (pt p s)).outQ (blkI s) (sel s) h (if s.val = 0 then k0_pay3 (F := Ideal) else z s) (ix2 R l) ∧ ∀ s' : Fin 40, s'.val + 1 = s.val → z s (ix2 R l) = y s') :
    y 39 = ((∑ b, dscore X (hp p (xor h (hd l))) R b * (if h then 1 else X.k b (lane p l)) : ℝ) : EReal) := by
  have key := fold_all y (fun s => if R.val / 2048 = (blkI s).val then addQ X p h R l (blkJ s) else 0) (fun s => by
    obtain ⟨z, h1, h2⟩ := hy s
    refine ⟨z s (ix2 R l), ?_, h2⟩
    rw [h1, outQ_val (hf p s) (lies_tab s)]
    congr 1
    split_ifs
    · exact pay3_apply R l
    · rfl) 39 (by decide)
  refine key.trans (congrArg _ ?_)
  rw [sum_onSteps, sum_pairs (fun i j => if R.val / 2048 = i.val then addQ X p h R l j else 0), ← sum_rowK]
  rw [Finset.sum_eq_single (⟨R.val / 2048, by omega⟩ : Fin 4)]
  · refine Finset.sum_congr rfl fun j _ => ?_
    rw [if_pos rfl]
    by_cases hj : j.val < 4 * (⟨R.val / 2048, by omega⟩ : Fin 4).val + 4
    · rw [if_pos hj]; rfl
    · rw [if_neg hj]
      refine (Finset.sum_eq_zero fun k _ => ?_).symm
      rw [dscore_late, zero_mul]
      intro hh
      have hh : 512 * j.val + k.val ≤ R.val := hh
      simp only at hj
      omega
  · intro i _ hi
    refine Finset.sum_eq_zero fun j _ => ?_
    have hne : ¬ R.val / 2048 = i.val := fun h => hi (Fin.ext h.symm)
    rw [if_neg hne, ite_self]
  · intro h; exact absurd (Finset.mem_univ _) h

/-- The keys' rows at the end of a key block. -/
theorem keys_end (s : Fin 40) (h3 : (blkI s).val = 3) (T : Fin 16 → Fin 8192 → ℝ) (k : Fin 512) (hT : ∀ j (R : Fin 8192), ¬ rowK j k ≤ R → T j R = 0) (y : Fin 40 → EReal)
    (hy : ∀ s : Fin 40, ∃ z : EReal, y s = (if sel s = 4 then z else 0) + ((∑ a, T (blkJ s) (rowQ (blkI s) a) : ℝ) : EReal) ∧ ∀ s' : Fin 40, s'.val + 1 = s.val → z = y s') :
    y s = ((∑ R, T (blkJ s) R : ℝ) : EReal) := by
  have key := fold_new (fun _ => y) (fun j s => ∑ a, T j (rowQ (blkI s) a)) (fun s => by
    obtain ⟨z, h1, h2⟩ := hy s
    exact ⟨fun _ => z, h1, fun s' hs _ => h2 s' hs⟩) s.val s.isLt
  refine key.trans (congrArg _ ?_)
  rw [range_last s (fun s' => ∑ a, T (blkJ s) (rowQ (blkI s') a)) h3, sum_pairs (fun i j => if j = blkJ s then ∑ a, T (blkJ s) (rowQ i a) else 0), ← sum_rowQ]
  refine Finset.sum_congr rfl fun i _ => ?_
  rw [Finset.sum_eq_single (blkJ s)]
  · rw [if_pos rfl]
    split_ifs with hj
    · rfl
    · refine (Finset.sum_eq_zero fun a _ => ?_).symm
      refine hT _ _ fun hh => ?_
      have hh : 512 * (blkJ s).val + k.val ≤ 2048 * i.val + a.val := hh
      omega
  · intro j _ hj; rw [if_neg hj, ite_self]
  · intro h; exact absurd (Finset.mem_univ _) h

/-- The five outputs when they are written back. -/
theorem tr_q (hf : FitsAll m c X) (p : Fin 8) (R : Fin 8192) (l : Fin 128) : (tr m c p 39).q (ix2 R l) = (gradQ X R (lane p l) : EReal) := by
  refine (rows_end hf p false R l (fun s => (tr m c p s).q (ix2 R l)) (fun s => ?_)).trans ?_
  · obtain ⟨y, h1, h2⟩ := tr_step m c p s
    exact ⟨fun _ => y.q, by rw [h1]; rfl, fun s' hs => by rw [h2 s' hs]⟩
  · unfold gradQ; rw [head_lane, Bool.false_xor]; rfl
theorem other_hp (p : Fin 8) (b : Bool) : other (hp p b) = hp p (xor true b) := by
  apply Fin.ext
  cases b <;> simp [other, hp] <;> omega
theorem tr_r (hf : FitsAll m c X) (p : Fin 8) (R : Fin 8192) (l : Fin 128) : (tr m c p 39).r (ix2 R l) = (gradR X R (lane p l) : EReal) := by
  refine (rows_end hf p true R l (fun s => (tr m c p s).r (ix2 R l)) (fun s => ?_)).trans ?_
  · obtain ⟨y, h1, h2⟩ := tr_step m c p s
    exact ⟨fun _ => y.r, by rw [h1]; rfl, fun s' hs => by rw [h2 s' hs]⟩
  · unfold gradR; rw [head_lane, other_hp]; simp only [↓reduceIte, mul_one]
theorem tr_k (hf : FitsAll m c X) (p : Fin 8) (s : Fin 40) (h3 : (blkI s).val = 3) (k : Fin 512) (l : Fin 128) : (tr m c p s).k (ix2 k l) = (gradK X (rowK (blkJ s) k) (lane p l) : EReal) := by
  refine (keys_end s h3 (fun j => addK X p false (rowK j k) l) k (fun j R hR => addK_late false l hR) (fun s => (tr m c p s).k (ix2 k l)) (fun s => ?_)).trans ?_
  · obtain ⟨y, h1, h2⟩ := tr_step m c p s
    exact ⟨y.k (ix2 k l), by rw [h1]; exact outK_dk (hf p s) (lies_tab s) false y.k k l, fun s' hs => by rw [h2 s' hs]⟩
  · unfold gradK addK; rw [head_lane, Bool.false_xor]; rfl
theorem tr_v (hf : FitsAll m c X) (p : Fin 8) (s : Fin 40) (h3 : (blkI s).val = 3) (k : Fin 512) (l : Fin 128) : (tr m c p s).v (ix2 k l) = (gradV X (rowK (blkJ s) k) (lane p l) : EReal) := by
  refine (keys_end s h3 (fun j => addV X p (rowK j k) l) k (fun j R hR => addV_late l hR) (fun s => (tr m c p s).v (ix2 k l)) (fun s => ?_)).trans ?_
  · obtain ⟨y, h1, h2⟩ := tr_step m c p s
    exact ⟨y.v (ix2 k l), by rw [h1]; exact outK_dv (hf p s) (lies_tab s) y.v k l, fun s' hs => by rw [h2 s' hs]⟩
  · unfold gradV addV; rw [head_lane]
theorem tr_c (hf : FitsAll m c X) (p : Fin 8) (s : Fin 40) (h3 : (blkI s).val = 3) (k : Fin 512) (l : Fin 128) : (tr m c p s).c (ix2 k l) = (gradC X (rowK (blkJ s) k) (lane p l) : EReal) := by
  refine (keys_end s h3 (fun j => addK X p true (rowK j k) l) k (fun j R hR => addK_late true l hR) (fun s => (tr m c p s).c (ix2 k l)) (fun s => ?_)).trans ?_
  · obtain ⟨y, h1, h2⟩ := tr_step m c p s
    exact ⟨y.c (ix2 k l), by rw [h1]; exact outK_dk (hf p s) (lies_tab s) true y.c k l, fun s' hs => by rw [h2 s' hs]⟩
  · unfold gradC addK; rw [head_lane, other_hp]; simp only [↓reduceIte, mul_one]

end Cert.KernelIdeal.Att

end
-- ==== Proof.Blocks.lean ====
module

public import proofs.«01_k».proof.Proof.Fold

/-! The windows' blocks, element by element, and the arrays the outputs end as. -/

@[expose] public section

set_option maxRecDepth 16384

noncomputable section

namespace Cert.KernelIdeal.Att

open Cert.KernelIdeal Cert.KernelIdeal.Gen Cert.Att
open Idealize.ShloMosaic
open scoped BigOperators

variable (m : (ℓ : Loc nD τ sig) → Buf (Elt Ideal) ℓ) (c : Dev nD) {X : Inp}

theorem nat8 (p : Fin 8) : (BitVec.ofNat 32 p.val).toNat = p.val := by rw [BitVec.toNat_ofNat]; omega
theorem nat16 (p : Fin 8) : (Scalar.addi 8#32 (BitVec.ofNat 32 p.val)).toNat = 8 + p.val := by revert p; decide

/-- Every place in a matrix is a row and a column. -/
theorem ix2_surj {a b : ℕ} (i : (⟨2, ![a, b]⟩ : Shape).Idx) : ∃ (x : Fin a) (y : Fin b), i = ix2 x y := ⟨i 0, i 1, funext fun z => match z with | ⟨0, _⟩ => rfl | ⟨1, _⟩ => rfl⟩

/-- A lane of a head pair among the value columns, which follow the key columns. -/
def laneV (p : Fin 8) (l : Fin 128) : Fin 2048 := ⟨1024 + 128 * p.val + l.val, by omega⟩
/-- A head of a pair. -/
def head2 (p : Fin 8) (h : Fin 2) : Fin 16 := ⟨2 * p.val + h.val, by omega⟩
/-- A lane of a head pair among the key columns. -/
def laneK (p : Fin 8) (l : Fin 128) : Fin 2048 := ⟨128 * p.val + l.val, by omega⟩

theorem index0 (t : Fin (cfgA Ideal).N) : ((cfgA Ideal).win (0 : Fin 12)).index t = ![(lit0 (crd Ideal t 1)).toNat, (BitVec.ofNat 32 (crd Ideal t 0).val).toNat] := t0_eq (F := Ideal) (crd Ideal t)
theorem index1 (t : Fin (cfgA Ideal).N) : ((cfgA Ideal).win (1 : Fin 12)).index t = ![(lit1 (crd Ideal t 1)).toNat, (BitVec.ofNat 32 (crd Ideal t 0).val).toNat] := t1_eq (F := Ideal) (crd Ideal t)
theorem index2 (t : Fin (cfgA Ideal).N) : ((cfgA Ideal).win (2 : Fin 12)).index t = ![(lit1 (crd Ideal t 1)).toNat, (Scalar.addi 8#32 (BitVec.ofNat 32 (crd Ideal t 0).val)).toNat] := t2_eq (F := Ideal) (crd Ideal t)
theorem index3 (t : Fin (cfgA Ideal).N) : ((cfgA Ideal).win (3 : Fin 12)).index t = ![(lit0 (crd Ideal t 1)).toNat, (BitVec.ofNat 32 (crd Ideal t 0).val).toNat] := t3_eq (F := Ideal) (crd Ideal t)
theorem index4 (t : Fin (cfgA Ideal).N) : ((cfgA Ideal).win (4 : Fin 12)).index t = ![(lit0 (crd Ideal t 1)).toNat, (BitVec.ofNat 32 (crd Ideal t 0).val).toNat] := t4_eq (F := Ideal) (crd Ideal t)
theorem index5 (t : Fin (cfgA Ideal).N) : ((cfgA Ideal).win (5 : Fin 12)).index t = ![(BitVec.ofNat 32 (crd Ideal t 0).val).toNat, (lit0 (crd Ideal t 1)).toNat, 0] := t5_eq (F := Ideal) (crd Ideal t)
theorem index6 (t : Fin (cfgA Ideal).N) : ((cfgA Ideal).win (6 : Fin 12)).index t = ![(BitVec.ofNat 32 (crd Ideal t 0).val).toNat, 0, (lit1 (crd Ideal t 1)).toNat] := t6_eq (F := Ideal) (crd Ideal t)

theorem read0 (A : (⟨S8192x1024, .bf16⟩ : BufTy).Contents (Elt Ideal)) (p : Fin 8) (s : Fin 40) (a : Fin 2048) (l : Fin 128) : (((cfgA Ideal).win (0 : Fin 12)).blk (pt p s)).view.read (Elt Ideal) A (ix2 a l) = A (ix2 (rowQ (blkI s) a) (lane p l) : S8192x1024.Idx) := by
  refine congrArg A (funext fun z => Fin.ext ?_)
  refine (((cfgA Ideal).win (0 : Fin 12)).rect_emb_val (pt p s) (ix2 a l) z).trans ?_
  rw [index0, pt_crd0, pt_crd1]
  match z with
  | ⟨0, _⟩ => show (lit0 s).toNat * 2048 + a.val = 2048 * (lit0 s).toNat + a.val; omega
  | ⟨1, _⟩ => show (BitVec.ofNat 32 p.val).toNat * 128 + l.val = 128 * p.val + l.val; rw [nat8]; omega
theorem read1 (A : (⟨S8192x2048, .bf16⟩ : BufTy).Contents (Elt Ideal)) (p : Fin 8) (s : Fin 40) (a : Fin 512) (l : Fin 128) : (((cfgA Ideal).win (1 : Fin 12)).blk (pt p s)).view.read (Elt Ideal) A (ix2 a l) = A (ix2 (rowK (blkJ s) a) (laneK p l) : S8192x2048.Idx) := by
  refine congrArg A (funext fun z => Fin.ext ?_)
  refine (((cfgA Ideal).win (1 : Fin 12)).rect_emb_val (pt p s) (ix2 a l) z).trans ?_
  rw [index1, pt_crd0, pt_crd1]
  match z with
  | ⟨0, _⟩ => show (lit1 s).toNat * 512 + a.val = 512 * (lit1 s).toNat + a.val; omega
  | ⟨1, _⟩ => show (BitVec.ofNat 32 p.val).toNat * 128 + l.val = 128 * p.val + l.val; rw [nat8]; omega
theorem read2 (A : (⟨S8192x2048, .bf16⟩ : BufTy).Contents (Elt Ideal)) (p : Fin 8) (s : Fin 40) (a : Fin 512) (l : Fin 128) : (((cfgA Ideal).win (2 : Fin 12)).blk (pt p s)).view.read (Elt Ideal) A (ix2 a l) = A (ix2 (rowK (blkJ s) a) (laneV p l) : S8192x2048.Idx) := by
  refine congrArg A (funext fun z => Fin.ext ?_)
  refine (((cfgA Ideal).win (2 : Fin 12)).rect_emb_val (pt p s) (ix2 a l) z).trans ?_
  rw [index2, pt_crd0, pt_crd1]
  match z with
  | ⟨0, _⟩ => show (lit1 s).toNat * 512 + a.val = 512 * (lit1 s).toNat + a.val; omega
  | ⟨1, _⟩ => show (Scalar.addi 8#32 (BitVec.ofNat 32 p.val)).toNat * 128 + l.val = 1024 + 128 * p.val + l.val; rw [nat16]; omega
theorem read3 (A : (⟨S8192x1024, .f32⟩ : BufTy).Contents (Elt Ideal)) (p : Fin 8) (s : Fin 40) (a : Fin 2048) (l : Fin 128) : (((cfgA Ideal).win (3 : Fin 12)).blk (pt p s)).view.read (Elt Ideal) A (ix2 a l) = A (ix2 (rowQ (blkI s) a) (lane p l) : S8192x1024.Idx) := by
  refine congrArg A (funext fun z => Fin.ext ?_)
  refine (((cfgA Ideal).win (3 : Fin 12)).rect_emb_val (pt p s) (ix2 a l) z).trans ?_
  rw [index3, pt_crd0, pt_crd1]
  match z with
  | ⟨0, _⟩ => show (lit0 s).toNat * 2048 + a.val = 2048 * (lit0 s).toNat + a.val; omega
  | ⟨1, _⟩ => show (BitVec.ofNat 32 p.val).toNat * 128 + l.val = 128 * p.val + l.val; rw [nat8]; omega
theorem read4 (A : (⟨S8192x1024, .bf16⟩ : BufTy).Contents (Elt Ideal)) (p : Fin 8) (s : Fin 40) (a : Fin 2048) (l : Fin 128) : (((cfgA Ideal).win (4 : Fin 12)).blk (pt p s)).view.read (Elt Ideal) A (ix2 a l) = A (ix2 (rowQ (blkI s) a) (lane p l) : S8192x1024.Idx) := by
  refine congrArg A (funext fun z => Fin.ext ?_)
  refine (((cfgA Ideal).win (4 : Fin 12)).rect_emb_val (pt p s) (ix2 a l) z).trans ?_
  rw [index4, pt_crd0, pt_crd1]
  match z with
  | ⟨0, _⟩ => show (lit0 s).toNat * 2048 + a.val = 2048 * (lit0 s).toNat + a.val; omega
  | ⟨1, _⟩ => show (BitVec.ofNat 32 p.val).toNat * 128 + l.val = 128 * p.val + l.val; rw [nat8]; omega
theorem read5 (A : (⟨S16x8192x128, .f32⟩ : BufTy).Contents (Elt Ideal)) (p : Fin 8) (s : Fin 40) (h : Fin 2) (a : Fin 2048) (l : Fin 128) : (((cfgA Ideal).win (5 : Fin 12)).blk (pt p s)).view.read (Elt Ideal) A (ix3 h a l) = A (ix3 (head2 p h) (rowQ (blkI s) a) l : S16x8192x128.Idx) := by
  refine congrArg A (funext fun z => Fin.ext ?_)
  refine (((cfgA Ideal).win (5 : Fin 12)).rect_emb_val (pt p s) (ix3 h a l) z).trans ?_
  rw [index5, pt_crd0, pt_crd1]
  match z with
  | ⟨0, _⟩ => show (BitVec.ofNat 32 p.val).toNat * 2 + h.val = 2 * p.val + h.val; rw [nat8]; omega
  | ⟨1, _⟩ => show (lit0 s).toNat * 2048 + a.val = 2048 * (lit0 s).toNat + a.val; omega
  | ⟨2, _⟩ => show 0 * 128 + l.val = l.val; omega
theorem read6 (A : (⟨S8x8x8192, .f32⟩ : BufTy).Contents (Elt Ideal)) (p : Fin 8) (s : Fin 40) (h : Fin 8) (a : Fin 512) : (((cfgA Ideal).win (6 : Fin 12)).blk (pt p s)).view.read (Elt Ideal) A (ix3 0 h a) = A (ix3 p h (rowK (blkJ s) a) : S8x8x8192.Idx) := by
  refine congrArg A (funext fun z => Fin.ext ?_)
  refine (((cfgA Ideal).win (6 : Fin 12)).rect_emb_val (pt p s) (ix3 0 h a) z).trans ?_
  rw [index6, pt_crd0, pt_crd1]
  match z with
  | ⟨0, _⟩ => show (BitVec.ofNat 32 p.val).toNat * 1 + 0 = p.val; rw [nat8]; omega
  | ⟨1, _⟩ => show 0 * 8 + h.val = h.val; omega
  | ⟨2, _⟩ => show (lit1 s).toNat * 512 + a.val = 512 * (lit1 s).toNat + a.val; omega

/-- The arrays the kernel reads, where they hold real inputs. -/
structure Reads (X : Inp) (A0 : (⟨S8192x1024, .bf16⟩ : BufTy).Contents (Elt Ideal)) (A1 : (⟨S8192x2048, .bf16⟩ : BufTy).Contents (Elt Ideal)) (A3 : (⟨S8192x1024, .f32⟩ : BufTy).Contents (Elt Ideal))
    (A4 : (⟨S8192x1024, .bf16⟩ : BufTy).Contents (Elt Ideal)) (A5 : (⟨S16x8192x128, .f32⟩ : BufTy).Contents (Elt Ideal)) (A6 : (⟨S8x8x8192, .f32⟩ : BufTy).Contents (Elt Ideal)) : Prop where
  q : ∀ a n, A0 (ix2 a n) = (X.q a n : EReal)
  k : ∀ a (n : Fin 1024), A1 (ix2 a ⟨n.val, by omega⟩) = (X.k a n : EReal)
  v : ∀ a (n : Fin 1024), A1 (ix2 a ⟨1024 + n.val, by omega⟩) = (X.v a n : EReal)
  o : ∀ a n, A3 (ix2 a n) = (∑ b, prob X (headOf n) a b * X.v b n : ℝ)
  d : ∀ a n, A4 (ix2 a n) = (X.d a n : EReal)
  l : ∀ h a (x : Fin 128), A5 (ix3 h a x) = (Real.log (total X h a) : EReal)
  c : ∀ (p : Fin 8) (b : Bool) e, A6 (ix3 p (cond b 1 0) e) = (X.c e (hp p b) : EReal)

theorem fits_of {A0 A1 A3 A4 A5 A6} (r : Reads X A0 A1 A3 A4 A5 A6) (p : Fin 8) (s : Fin 40) :
    Fits X p (blkI s) (blkJ s) ⟨(((cfgA Ideal).win (0 : Fin 12)).blk (pt p s)).view.read (Elt Ideal) A0, (((cfgA Ideal).win (1 : Fin 12)).blk (pt p s)).view.read (Elt Ideal) A1, (((cfgA Ideal).win (2 : Fin 12)).blk (pt p s)).view.read (Elt Ideal) A1,
      (((cfgA Ideal).win (3 : Fin 12)).blk (pt p s)).view.read (Elt Ideal) A3, (((cfgA Ideal).win (4 : Fin 12)).blk (pt p s)).view.read (Elt Ideal) A4, (((cfgA Ideal).win (5 : Fin 12)).blk (pt p s)).view.read (Elt Ideal) A5, (((cfgA Ideal).win (6 : Fin 12)).blk (pt p s)).view.read (Elt Ideal) A6⟩ where
  x0 a l := (read0 A0 p s a l).trans (r.q _ _)
  x1 a l := (read1 A1 p s a l).trans (r.k _ (lane p l))
  x2 a l := (read2 A1 p s a l).trans (((congrArg (fun n => A1 (ix2 (rowK (blkJ s) a) n)) (Fin.ext (Nat.add_assoc 1024 (128 * p.val) l.val))).trans (r.v (rowK (blkJ s) a) (lane p l))))
  x3 a l := (read3 A3 p s a l).trans (r.o _ _)
  x4 a l := (read4 A4 p s a l).trans (r.d _ _)
  x5 b a l := (read5 A5 p s (cond b 1 0) a l).trans (by rw [r.l, show head2 p (cond b 1 0) = hp p b by cases b <;> rfl])
  x6 b e := (read6 A6 p s (cond b 1 0) e).trans (r.c _ _ _)

/-- The array behind an input window. -/
abbrev arrIn (w : Fin 12) := Vh m c (Pipeline.arrRef (cfgA Ideal).spec w)

theorem fitsAll (r : Reads X (arrIn m c 0) (arrIn m c 1) (arrIn m c 3) (arrIn m c 4) (arrIn m c 5) (arrIn m c 6)) : FitsAll m c X := fun p s => fits_of r p s

/-! ### Which points write an output back -/

theorem flush_cases (w : Fin (cfgA Ideal).W) (t : Fin (cfgA Ideal).N) (h : ((cfgA Ideal).win w).flush t = true) :
    t.val + 1 = 320 ∨ ∃ u : Fin (cfgA Ideal).N, u.val = t.val + 1 ∧ ((cfgA Ideal).win w).index u ≠ ((cfgA Ideal).win w).index t := by
  unfold Pipeline.Window.flush at h
  rw [Bool.and_eq_true, Bool.or_eq_true, decide_eq_true_iff, decide_eq_true_iff] at h
  rcases h.2 with h | ⟨h, hi⟩
  · exact .inl (h.trans N_eq)
  · exact .inr ⟨⟨_, h⟩, rfl, hi⟩
theorem flush_at (w : Fin (cfgA Ideal).W) (hw : ((cfgA Ideal).win w).isOut = true) (t : Fin (cfgA Ideal).N)
    (h : ∀ u : Fin (cfgA Ideal).N, u.val = t.val + 1 → ((cfgA Ideal).win w).index u ≠ ((cfgA Ideal).win w).index t) : ((cfgA Ideal).win w).flush t = true := by
  unfold Pipeline.Window.flush
  rw [hw, Bool.true_and, Bool.or_eq_true, decide_eq_true_iff, decide_eq_true_iff]
  by_cases h1 : t.val + 1 = (cfgA Ideal).N
  · exact .inl h1
  · exact .inr ⟨by have := t.isLt; show t.val + 1 < (cfgA Ideal).N; omega, h _ rfl⟩

theorem next_crd (t u : Fin (cfgA Ideal).N) (h : u.val = t.val + 1) (h0 : (crd Ideal t 1).val ≠ 39) : crd Ideal u 0 = crd Ideal t 0 ∧ (crd Ideal t 1).val + 1 = (crd Ideal u 1).val := by
  have hN : u.val < 320 := u.isLt.trans_eq N_eq
  rw [crd1_val] at h0
  refine ⟨Fin.ext ?_, ?_⟩
  · rw [crd0_val, crd0_val]; omega
  · rw [crd1_val, crd1_val]; omega
theorem next_pair (t u : Fin (cfgA Ideal).N) (h : u.val = t.val + 1) (h0 : (crd Ideal t 1).val = 39) : (crd Ideal u 0).val = (crd Ideal t 0).val + 1 := by
  have hN : u.val < 320 := u.isLt.trans_eq N_eq
  rw [crd1_val] at h0
  rw [crd0_val, crd0_val]; omega

theorem stay3_tab : ∀ s s' : Fin 40, s.val + 1 = s'.val → (blkI s).val ≠ 3 → lit1 s' = lit1 s := by decide +kernel
theorem move3_tab : ∀ s s' : Fin 40, s.val + 1 = s'.val → (blkI s).val = 3 → (lit1 s').toNat ≠ (lit1 s).toNat := by decide +kernel
theorem end3_tab : ∀ s : Fin 40, s.val = 39 → (blkI s).val = 3 := by decide +kernel
theorem some3_tab : ∀ j : Fin 16, ∃ s : Fin 40, (blkI s).val = 3 ∧ blkJ s = j := by decide +kernel

/-- The query gradient and the row sums of a pair are written back after its last step. -/
theorem flush_q (w : Fin (cfgA Ideal).W) (hw : w = (7 : Fin 12) ∨ w = (8 : Fin 12)) (t : Fin (cfgA Ideal).N) (h : ((cfgA Ideal).win w).flush t = true) : (crd Ideal t 1).val = 39 := by
  rcases flush_cases w t h with h | ⟨u, hu, hi⟩
  · rw [crd1_val]; omega
  · by_contra h1
    exact hi (index_q w hw u t (next_crd t u hu h1).1)
/-- The gradients of a key block are written back after its last query block. -/
theorem flush_k (w : Fin (cfgA Ideal).W) (hw : ∀ t, ((cfgA Ideal).win w).index t ≍ (![(lit1 (crd Ideal t 1)).toNat, (BitVec.ofNat 32 (crd Ideal t 0).val).toNat] : Fin 2 → ℕ)) (t : Fin (cfgA Ideal).N)
    (h : ((cfgA Ideal).win w).flush t = true) : (blkI (crd Ideal t 1)).val = 3 := by
  by_contra h3
  have h1 : (crd Ideal t 1).val ≠ 39 := fun h => h3 (end3_tab _ h)
  rcases flush_cases w t h with h | ⟨u, hu, hi⟩
  · rw [crd1_val] at h1; omega
  · obtain ⟨e0, e1⟩ := next_crd t u hu h1
    refine hi (eq_of_heq ((hw u).trans (HEq.trans (heq_of_eq ?_) (hw t).symm)))
    rw [e0, stay3_tab _ _ e1 h3]

theorem index7 (t : Fin (cfgA Ideal).N) : ((cfgA Ideal).win (7 : Fin 12)).index t = ![0, (BitVec.ofNat 32 (crd Ideal t 0).val).toNat] := rfl
theorem index8 (t : Fin (cfgA Ideal).N) : ((cfgA Ideal).win (8 : Fin 12)).index t = ![0, (BitVec.ofNat 32 (crd Ideal t 0).val).toNat] := rfl
theorem moved_q (t u : Fin (cfgA Ideal).N) (h : u.val = t.val + 1) (h0 : (crd Ideal t 1).val = 39) : (![0, (BitVec.ofNat 32 (crd Ideal u 0).val).toNat] : Fin 2 → ℕ) ≠ ![0, (BitVec.ofNat 32 (crd Ideal t 0).val).toNat] := by
  intro e
  have e := congrFun e 1
  have := next_pair t u h h0
  have e : (BitVec.ofNat 32 (crd Ideal u 0).val).toNat = (BitVec.ofNat 32 (crd Ideal t 0).val).toNat := e
  exact absurd ((nat8 (crd Ideal u 0)).symm.trans (e.trans (nat8 (crd Ideal t 0)))) (by omega)
theorem moved_k (t u : Fin (cfgA Ideal).N) (h : u.val = t.val + 1) (h3 : (blkI (crd Ideal t 1)).val = 3) :
    (![(lit1 (crd Ideal u 1)).toNat, (BitVec.ofNat 32 (crd Ideal u 0).val).toNat] : Fin 2 → ℕ) ≠ ![(lit1 (crd Ideal t 1)).toNat, (BitVec.ofNat 32 (crd Ideal t 0).val).toNat] := by
  by_cases h0 : (crd Ideal t 1).val = 39
  · intro e
    have e := congrFun e 1
    have := next_pair t u h h0
    have e : (BitVec.ofNat 32 (crd Ideal u 0).val).toNat = (BitVec.ofNat 32 (crd Ideal t 0).val).toNat := e
    exact absurd ((nat8 (crd Ideal u 0)).symm.trans (e.trans (nat8 (crd Ideal t 0)))) (by omega)
  · exact fun e => move3_tab _ _ (next_crd t u h h0).2 h3 (congrFun e 0)

/-- The head pair and the lane of a column; the key block and the place in it of a row. -/
def pairOf (n : Fin 1024) : Fin 8 := ⟨n.val / 128, by omega⟩
def laneOf (n : Fin 1024) : Fin 128 := ⟨n.val % 128, by omega⟩
def blockOf (R : Fin 8192) : Fin 16 := ⟨R.val / 512, by omega⟩
def placeOf (R : Fin 8192) : Fin 512 := ⟨R.val % 512, by omega⟩
theorem lane_of (n : Fin 1024) : lane (pairOf n) (laneOf n) = n := Fin.ext (by simp only [lane, pairOf, laneOf]; omega)
theorem rowK_of (R : Fin 8192) : rowK (blockOf R) (placeOf R) = R := Fin.ext (by simp only [rowK, blockOf, placeOf]; omega)

theorem emb7 (p : Fin 8) (s : Fin 40) (R : Fin 8192) (l : Fin 128) : (((cfgA Ideal).win (7 : Fin 12)).blk (pt p s)).view.emb (ix2 R l) = (ix2 R (lane p l) : S8192x1024.Idx) := by
  refine funext fun z => Fin.ext ((((cfgA Ideal).win (7 : Fin 12)).rect_emb_val (pt p s) (ix2 R l) z).trans ?_)
  rw [index7, pt_crd0]
  match z with
  | ⟨0, _⟩ => show 0 * 8192 + R.val = R.val; omega
  | ⟨1, _⟩ => show (BitVec.ofNat 32 p.val).toNat * 128 + l.val = 128 * p.val + l.val; rw [nat8]; omega
theorem emb8 (p : Fin 8) (s : Fin 40) (R : Fin 8192) (l : Fin 128) : (((cfgA Ideal).win (8 : Fin 12)).blk (pt p s)).view.emb (ix2 R l) = (ix2 R (lane p l) : S8192x1024.Idx) := by
  refine funext fun z => Fin.ext ((((cfgA Ideal).win (8 : Fin 12)).rect_emb_val (pt p s) (ix2 R l) z).trans ?_)
  rw [index8, pt_crd0]
  match z with
  | ⟨0, _⟩ => show 0 * 8192 + R.val = R.val; omega
  | ⟨1, _⟩ => show (BitVec.ofNat 32 p.val).toNat * 128 + l.val = 128 * p.val + l.val; rw [nat8]; omega
theorem emb9 (p : Fin 8) (s : Fin 40) (k : Fin 512) (l : Fin 128) : (((cfgA Ideal).win (9 : Fin 12)).blk (pt p s)).view.emb (ix2 k l) = (ix2 (rowK (blkJ s) k) (lane p l) : S8192x1024.Idx) := by
  refine funext fun z => Fin.ext ((((cfgA Ideal).win (9 : Fin 12)).rect_emb_val (pt p s) (ix2 k l) z).trans ?_)
  rw [index_k9, pt_crd0, pt_crd1]
  match z with
  | ⟨0, _⟩ => show (lit1 s).toNat * 512 + k.val = 512 * (lit1 s).toNat + k.val; omega
  | ⟨1, _⟩ => show (BitVec.ofNat 32 p.val).toNat * 128 + l.val = 128 * p.val + l.val; rw [nat8]; omega
theorem emb10 (p : Fin 8) (s : Fin 40) (k : Fin 512) (l : Fin 128) : (((cfgA Ideal).win (10 : Fin 12)).blk (pt p s)).view.emb (ix2 k l) = (ix2 (rowK (blkJ s) k) (lane p l) : S8192x1024.Idx) := by
  refine funext fun z => Fin.ext ((((cfgA Ideal).win (10 : Fin 12)).rect_emb_val (pt p s) (ix2 k l) z).trans ?_)
  rw [index_k10, pt_crd0, pt_crd1]
  match z with
  | ⟨0, _⟩ => show (lit1 s).toNat * 512 + k.val = 512 * (lit1 s).toNat + k.val; omega
  | ⟨1, _⟩ => show (BitVec.ofNat 32 p.val).toNat * 128 + l.val = 128 * p.val + l.val; rw [nat8]; omega
theorem emb11 (p : Fin 8) (s : Fin 40) (k : Fin 512) (l : Fin 128) : (((cfgA Ideal).win (11 : Fin 12)).blk (pt p s)).view.emb (ix2 k l) = (ix2 (rowK (blkJ s) k) (lane p l) : S8192x1024.Idx) := by
  refine funext fun z => Fin.ext ((((cfgA Ideal).win (11 : Fin 12)).rect_emb_val (pt p s) (ix2 k l) z).trans ?_)
  rw [index_k11, pt_crd0, pt_crd1]
  match z with
  | ⟨0, _⟩ => show (lit1 s).toNat * 512 + k.val = 512 * (lit1 s).toNat + k.val; omega
  | ⟨1, _⟩ => show (BitVec.ofNat 32 p.val).toNat * 128 + l.val = 128 * p.val + l.val; rw [nat8]; omega
/-- Every point is a step of a head pair. -/
theorem pt_ex (t : Fin (cfgA Ideal).N) : ∃ (p : Fin 8) (s : Fin 40), t = pt p s := ⟨_, _, pt_of t⟩
theorem arr_q (hf : FitsAll m c X) (i : S8192x1024.Idx) : (datV m 0 c).arrAt (7 : Fin 12) (cfgA Ideal).N i = (gradQ X (i 0) (i 1) : EReal) := by
  refine (datV m 0 c).arrAt_forall_of_cover (7 : Fin 12) (fun (i : S8192x1024.Idx) v => v = (gradQ X (i 0) (i 1) : EReal)) (fun t ht y => ?_) (fun i => ?_) i
  · obtain ⟨R, l, rfl⟩ := ix2_surj y
    have h39 := flush_q _ (.inl rfl) t ht
    obtain ⟨p, s, rfl⟩ := pt_ex t
    rw [pt_crd1] at h39
    obtain rfl : s = 39 := Fin.ext h39
    exact (tr_q hf p R l).trans (congrArg (fun i : S8192x1024.Idx => (gradQ X (i 0) (i 1) : EReal)) (emb7 p 39 R l)).symm
  · obtain ⟨R, n, rfl⟩ := ix2_surj i
    exact ⟨pt (pairOf n) 39, flush_at _ rfl _ fun u hu => moved_q _ u hu (by rw [pt_crd1]; rfl), Finset.mem_map.mpr ⟨ix2 R (laneOf n), Finset.mem_univ _, (emb7 (pairOf n) 39 R (laneOf n)).trans (by rw [lane_of])⟩⟩
theorem arr_r (hf : FitsAll m c X) (i : S8192x1024.Idx) : (datV m 0 c).arrAt (8 : Fin 12) (cfgA Ideal).N i = (gradR X (i 0) (i 1) : EReal) := by
  refine (datV m 0 c).arrAt_forall_of_cover (8 : Fin 12) (fun (i : S8192x1024.Idx) v => v = (gradR X (i 0) (i 1) : EReal)) (fun t ht y => ?_) (fun i => ?_) i
  · obtain ⟨R, l, rfl⟩ := ix2_surj y
    have h39 := flush_q _ (.inr rfl) t ht
    obtain ⟨p, s, rfl⟩ := pt_ex t
    rw [pt_crd1] at h39
    obtain rfl : s = 39 := Fin.ext h39
    exact (tr_r hf p R l).trans (congrArg (fun i : S8192x1024.Idx => (gradR X (i 0) (i 1) : EReal)) (emb8 p 39 R l)).symm
  · obtain ⟨R, n, rfl⟩ := ix2_surj i
    exact ⟨pt (pairOf n) 39, flush_at _ rfl _ fun u hu => moved_q _ u hu (by rw [pt_crd1]; rfl), Finset.mem_map.mpr ⟨ix2 R (laneOf n), Finset.mem_univ _, (emb8 (pairOf n) 39 R (laneOf n)).trans (by rw [lane_of])⟩⟩
theorem arr_k (hf : FitsAll m c X) (i : S8192x1024.Idx) : (datV m 0 c).arrAt (9 : Fin 12) (cfgA Ideal).N i = (gradK X (i 0) (i 1) : EReal) := by
  refine (datV m 0 c).arrAt_forall_of_cover (9 : Fin 12) (fun (i : S8192x1024.Idx) v => v = (gradK X (i 0) (i 1) : EReal)) (fun t ht y => ?_) (fun i => ?_) i
  · obtain ⟨k, l, rfl⟩ := ix2_surj y
    have h3 := flush_k _ (fun t => heq_of_eq (index_k9 t)) t ht
    obtain ⟨p, s, rfl⟩ := pt_ex t
    rw [pt_crd1] at h3
    exact (tr_k hf p s h3 k l).trans (congrArg (fun i : S8192x1024.Idx => (gradK X (i 0) (i 1) : EReal)) (emb9 p s k l)).symm
  · obtain ⟨R, n, rfl⟩ := ix2_surj i
    obtain ⟨s, h3, hj⟩ := some3_tab (blockOf R)
    exact ⟨pt (pairOf n) s, flush_at _ rfl _ fun u hu => by rw [index_k9, index_k9]; exact moved_k _ u hu (by rw [pt_crd1]; exact h3), Finset.mem_map.mpr ⟨ix2 (placeOf R) (laneOf n), Finset.mem_univ _, (emb9 (pairOf n) s (placeOf R) (laneOf n)).trans (by rw [lane_of, hj, rowK_of])⟩⟩
theorem arr_v (hf : FitsAll m c X) (i : S8192x1024.Idx) : (datV m 0 c).arrAt (10 : Fin 12) (cfgA Ideal).N i = (gradV X (i 0) (i 1) : EReal) := by
  refine (datV m 0 c).arrAt_forall_of_cover (10 : Fin 12) (fun (i : S8192x1024.Idx) v => v = (gradV X (i 0) (i 1) : EReal)) (fun t ht y => ?_) (fun i => ?_) i
  · obtain ⟨k, l, rfl⟩ := ix2_surj y
    have h3 := flush_k _ (fun t => heq_of_eq (index_k10 t)) t ht
    obtain ⟨p, s, rfl⟩ := pt_ex t
    rw [pt_crd1] at h3
    exact (tr_v hf p s h3 k l).trans (congrArg (fun i : S8192x1024.Idx => (gradV X (i 0) (i 1) : EReal)) (emb10 p s k l)).symm
  · obtain ⟨R, n, rfl⟩ := ix2_surj i
    obtain ⟨s, h3, hj⟩ := some3_tab (blockOf R)
    exact ⟨pt (pairOf n) s, flush_at _ rfl _ fun u hu => by rw [index_k10, index_k10]; exact moved_k _ u hu (by rw [pt_crd1]; exact h3), Finset.mem_map.mpr ⟨ix2 (placeOf R) (laneOf n), Finset.mem_univ _, (emb10 (pairOf n) s (placeOf R) (laneOf n)).trans (by rw [lane_of, hj, rowK_of])⟩⟩
theorem arr_c (hf : FitsAll m c X) (i : S8192x1024.Idx) : (datV m 0 c).arrAt (11 : Fin 12) (cfgA Ideal).N i = (gradC X (i 0) (i 1) : EReal) := by
  refine (datV m 0 c).arrAt_forall_of_cover (11 : Fin 12) (fun (i : S8192x1024.Idx) v => v = (gradC X (i 0) (i 1) : EReal)) (fun t ht y => ?_) (fun i => ?_) i
  · obtain ⟨k, l, rfl⟩ := ix2_surj y
    have h3 := flush_k _ (fun t => heq_of_eq (index_k11 t)) t ht
    obtain ⟨p, s, rfl⟩ := pt_ex t
    rw [pt_crd1] at h3
    exact (tr_c hf p s h3 k l).trans (congrArg (fun i : S8192x1024.Idx => (gradC X (i 0) (i 1) : EReal)) (emb11 p s k l)).symm
  · obtain ⟨R, n, rfl⟩ := ix2_surj i
    obtain ⟨s, h3, hj⟩ := some3_tab (blockOf R)
    exact ⟨pt (pairOf n) s, flush_at _ rfl _ fun u hu => by rw [index_k11, index_k11]; exact moved_k _ u hu (by rw [pt_crd1]; exact h3), Finset.mem_map.mpr ⟨ix2 (placeOf R) (laneOf n), Finset.mem_univ _, (emb11 (pairOf n) s (placeOf R) (laneOf n)).trans (by rw [lane_of, hj, rowK_of])⟩⟩

end Cert.KernelIdeal.Att

end
-- ==== Proof.Host.lean ====
module

public import proofs.«01_k».proof.Proof.Soft
public import proofs.«01_k».proof.Proof.Blocks

/-! What the program hands to the kernel: the attention's output, the logarithms of its totals and the gates by head pair. -/

@[expose] public section

set_option maxRecDepth 16384
noncomputable section

namespace Cert.KernelIdeal.Att

open Cert.KernelIdeal Cert.KernelIdeal.Gen Cert.Att
open Idealize.ShloMosaic
open scoped BigOperators

variable {X : Inp} {q k v d : M2} {cg : FVec Ideal S8192x16 .f32}

/-- The largest scores, and the program's output and logarithms. -/
def mK (S : S3) : R3 := colA (maxA (lateA S))
def lK (S : S3) : R3 := colA (sumA (expA (lateA S) (mK S)))
def oK (S : S3) (v : M2) : M2 := flatA (turnA (outA (headsA v) (divA (expA (lateA S) (mK S)) (lK S))))
def logA (x l : R3) : FVec Ideal S16x8192x128 .f32 := broadcastInDim S16x8192x128 ![0, 1, 2] bcast_S16x8192x1_S16x8192x128_0_1_2 (addf x (Host.log l))
theorem logA_apply (x l : R3) (h : Fin 16) (a : Fin 8192) (e : Fin 128) : logA x l (ix3 h a e) = x (ix3 h a 0) + Ideal.log (l (ix3 h a 0)) := by
  pointwise [logA]
def lseK (S : S3) : FVec Ideal S16x8192x128 .f32 := logA (mK S) (lK S)
def ckK (c : FVec Ideal S8192x16 .f32) : FVec Ideal S8x8x8192 .f32 :=
  pad S8x8x8192 ![0, 0, 0] ![0, 6, 0] ![0, 0, 0] (fun i => shapeCast S8x2x8192 (transpose S16x8192 [1, 0] c transposes_S8192x16_S16x8192_1_0) shapeCasts_S16x8192_S8x2x8192 i) (sitofp .f32 (constantI S_ 32 0#32)) pads_S8x2x8192_S8x8x8192_000_060_000 h_S_

theorem oK_val (A : Arrays X q k v d cg) (a : Fin 8192) (n : Fin 1024) : oK (lessA (rowsA (headsA q) (headsA k)) cg) v (ix2 a n) = ((∑ b, prob X (headOf n) a b * X.v b n : ℝ) : EReal) := by
  obtain ⟨μ, hμ⟩ := max_val (holdsK A)
  have hm : Col μ (mK (lessA (rowsA (headsA q) (headsA k)) cg)) := fun h a => (colA_apply _ h a).trans (hμ h a)
  unfold oK
  rw [flatA_apply, turnA_apply, outA_apply, coe_sum]
  refine Finset.sum_congr rfl fun b _ => ?_
  rw [headsA_apply, col_headOf, A.v, lK, prob_val (holdsK A) hm, ← EReal.coe_mul, mul_comm]

theorem lseK_val (A : Arrays X q k v d cg) (h : Fin 16) (a : Fin 8192) (x : Fin 128) : lseK (lessA (rowsA (headsA q) (headsA k)) cg) (ix3 h a x) = (Real.log (total X h a) : EReal) := by
  obtain ⟨μ, hμ⟩ := max_val (holdsK A)
  have hm : Col μ (mK (lessA (rowsA (headsA q) (headsA k)) cg)) := fun h a => (colA_apply _ h a).trans (hμ h a)
  have hl := sum_val (holdsK A) hm h a
  unfold lseK
  rw [logA_apply, hm, lK, hl]
  have hp : 0 < total X h a * Real.exp (-(μ h a - 0)) := mul_pos (total_pos X h a) (Real.exp_pos _)
  rw [Ideal.log_coe, if_neg (not_le.mpr hp), ← EReal.coe_add, Real.log_mul (total_pos X h a).ne' (Real.exp_pos _).ne', Real.log_exp]
  exact congrArg _ (by ring)

theorem ckK_val (A : Arrays X q k v d cg) (p : Fin 8) (b : Bool) (e : Fin 8192) : ckK cg (ix3 p (cond b 1 0) e) = (X.c e (hp p b) : EReal) := by
  rw [← A.c]
  cases b
  · pointwise [ckK]
    rw [dif_pos (by decide)]
    exact congrArg (fun z => cg (ix2 e z)) (Fin.ext (by simp only [hp, Bool.toNat_false]; omega))
  · pointwise [ckK]
    rw [dif_pos (by decide)]
    exact congrArg (fun z => cg (ix2 e z)) (Fin.ext (by simp only [hp, Bool.toNat_true]; omega))

variable (m : (ℓ : Loc nD τ sig) → Buf (Elt Ideal) ℓ) (c : Dev nD)

/-- The arguments as the arrays the steps take. -/
def qM : M2 := extf .f32 (m ((c.tc : Thread nD τ).loc main_arg0) : FVec Ideal S8192x1024 .bf16) bitsLt_bf16_f32
def kM : M2 := extf .f32 (extractStridedSlice S8192x1024 ![0, 0] (m ((c.tc : Thread nD τ).loc main_arg1) : FVec Ideal S8192x2048 .bf16) slices_S8192x2048_S8192x1024_0_0) bitsLt_bf16_f32
def vM : M2 := extf .f32 (extractStridedSlice S8192x1024 ![0, 1024] (m ((c.tc : Thread nD τ).loc main_arg1) : FVec Ideal S8192x2048 .bf16) slices_S8192x2048_S8192x1024_0_1024) bitsLt_bf16_f32
def dM : M2 := extf .f32 (m ((c.tc : Thread nD τ).loc main_arg3) : FVec Ideal S8192x1024 .bf16) bitsLt_bf16_f32
def cM : FVec Ideal S8192x16 .f32 := m ((c.tc : Thread nD τ).loc main_arg2)

set_option maxHeartbeats 1000000 in
theorem V_o : Vh m c main_v29 = oK (lessA (rowsA (headsA (qM m c)) (headsA (kM m c))) (cM m c)) (vM m c) := by
  after_reads_simp
  rfl
set_option maxHeartbeats 1000000 in
theorem V_lse : Vh m c main_v32 = lseK (lessA (rowsA (headsA (qM m c)) (headsA (kM m c))) (cM m c)) := by
  after_reads_simp
  rfl
theorem V_ck : Vh m c main_v35 = ckK (cM m c) := by
  after_reads_simp
  rfl

theorem kM_apply (a : Fin 8192) (n : Fin 1024) : kM m c (ix2 a n) = (m ((c.tc : Thread nD τ).loc main_arg1) : FVec Ideal S8192x2048 .bf16) (ix2 a ⟨n.val, by omega⟩) := by
  pointwise [kM]
  first | done | exact congrArg _ (congrArg _ (Fin.ext (by simp)))
theorem vM_apply (a : Fin 8192) (n : Fin 1024) : vM m c (ix2 a n) = (m ((c.tc : Thread nD τ).loc main_arg1) : FVec Ideal S8192x2048 .bf16) (ix2 a ⟨1024 + n.val, by omega⟩) := by
  pointwise [vM]
  first | done | exact congrArg _ (congrArg _ (Fin.ext (by simp)))

theorem reads_of (A : Arrays X (qM m c) (kM m c) (vM m c) (dM m c) (cM m c)) : Reads X (arrIn m c 0) (arrIn m c 1) (arrIn m c 3) (arrIn m c 4) (arrIn m c 5) (arrIn m c 6) where
  q a n := (congrFun (V_arg0 m c) _).trans (A.q a n)
  k a n := (congrFun (V_arg1 m c) _).trans ((kM_apply m c a n).symm.trans (A.k a n))
  v a n := (congrFun (V_arg1 m c) _).trans ((vM_apply m c a n).symm.trans (A.v a n))
  o a n := (congrFun (V_o m c) _).trans (oK_val A a n)
  d a n := (congrFun (V_arg3 m c) _).trans (A.d a n)
  l h a x := (congrFun (V_lse m c) _).trans (lseK_val A h a x)
  c p b e := (congrFun (V_ck m c) _).trans (ckK_val A p b e)

end Cert.KernelIdeal.Att

end
-- ==== Proof.Finite.lean ====
module

public import proofs.«01_k».proof.Proof.Soft
public import proofs.«01_k».proof.Proof.Gen.Pre_finite

/-! Arguments whose absolute values are below infinity hold real numbers. -/

@[expose] public section

noncomputable section

namespace Cert.KernelIdeal.Att

open Idealize.ShloMosaic

theorem inf_bits : Ideal.ofBits FTy.f32 2139095040#32 = (⊤ : EReal) := by
  simp [Ideal.ofBits, Ideal.ieee]

/-- An extended real whose absolute value is below infinity is its real part. -/
theorem real_of_lt {x : EReal} (h : Ideal.cmp .olt (max x (-x)) (Ideal.ofBits FTy.f32 2139095040#32) = 1#1) : x = (x.toReal : EReal) := by
  rw [inf_bits] at h
  have h1 : max x (-x) < ⊤ := by
    by_contra hc
    simp [Ideal.cmp, hc] at h
  have ht : x ≠ ⊤ := fun e => by rw [e] at h1; simp at h1
  have hb : x ≠ ⊥ := fun e => by rw [e] at h1; simp at h1
  exact (EReal.coe_toReal ht hb).symm

variable {a0 : FVec Ideal Pre_finite.S8192x1024 .bf16} {a1 : FVec Ideal Pre_finite.S8192x2048 .bf16} {a2 : FVec Ideal Pre_finite.S8192x16 .f32} {a3 : FVec Ideal Pre_finite.S8192x1024 .bf16}

theorem real0 (h : (Pre_finite.fn (F := Ideal) a0 a1 a2 a3).1 = fun _ => 1#1) (i : Pre_finite.S8192x1024.Idx) : (a0 i : EReal) = ((a0 i : EReal).toReal : EReal) := real_of_lt (congrFun h i)
theorem real1 (h : (Pre_finite.fn (F := Ideal) a0 a1 a2 a3).2.1 = fun _ => 1#1) (i : Pre_finite.S8192x2048.Idx) : (a1 i : EReal) = ((a1 i : EReal).toReal : EReal) := real_of_lt (congrFun h i)
theorem real2 (h : (Pre_finite.fn (F := Ideal) a0 a1 a2 a3).2.2.1 = fun _ => 1#1) (i : Pre_finite.S8192x16.Idx) : (a2 i : EReal) = ((a2 i : EReal).toReal : EReal) := real_of_lt (congrFun h i)
theorem real3 (h : (Pre_finite.fn (F := Ideal) a0 a1 a2 a3).2.2.2 = fun _ => 1#1) (i : Pre_finite.S8192x1024.Idx) : (a3 i : EReal) = ((a3 i : EReal).toReal : EReal) := real_of_lt (congrFun h i)

end Cert.KernelIdeal.Att

end
-- ==== Proof.Launch.lean ====
module

public import proofs.«01_k».proof.Proof.Track
public import Idealize.ShloMosaic.Lib.Pipeline.TableIdle
public import Idealize.ShloMosaic.Lib.Pipeline.FrameBody

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 400000 in
/-- One step of the grid, over the twelve staging buffers. -/
theorem stepV (m : (ℓ : Loc nD τ sig) → Buf (Elt F) ℓ) (c : Dev nD) (t : Fin (cfgA F).N) :
    iprop((Pipeline.ΦA (cfgA F).spec c ∗ Pipeline.ΦT pre0 (adm F).1 c) ∗ (datV m 0 c).owesAt () t.castSucc ∗ (∃ d, owns (c : Thread nD τ) (spec0_0.stage ((cfgA F).slots t (0 : Fin 12))) fullShare ((datV m 0 c).before (0 : Fin 12) t d)) ∗ (∃ d, owns (c : Thread nD τ) (spec0_1.stage ((cfgA F).slots t (1 : Fin 12))) fullShare ((datV m 0 c).before (1 : Fin 12) t d)) ∗ (∃ d, owns (c : Thread nD τ) (spec0_2.stage ((cfgA F).slots t (2 : Fin 12))) fullShare ((datV m 0 c).before (2 : Fin 12) t d)) ∗ (∃ d, owns (c : Thread nD τ) (spec0_3.stage ((cfgA F).slots t (3 : Fin 12))) fullShare ((datV m 0 c).before (3 : Fin 12) t d)) ∗ (∃ d, owns (c : Thread nD τ) (spec0_4.stage ((cfgA F).slots t (4 : Fin 12))) fullShare ((datV m 0 c).before (4 : Fin 12) t d)) ∗ (∃ d, owns (c : Thread nD τ) (spec0_5.stage ((cfgA F).slots t (5 : Fin 12))) fullShare ((datV m 0 c).before (5 : Fin 12) t d)) ∗ (∃ d, owns (c : Thread nD τ) (spec0_6.stage ((cfgA F).slots t (6 : Fin 12))) fullShare ((datV m 0 c).before (6 : Fin 12) t d)) ∗ (∃ d, owns (c : Thread nD τ) (spec0_7.stage ((cfgA F).slots t (7 : Fin 12))) fullShare ((datV m 0 c).before (7 : Fin 12) t d)) ∗ (∃ d, owns (c : Thread nD τ) (spec0_8.stage ((cfgA F).slots t (8 : Fin 12))) fullShare ((datV m 0 c).before (8 : Fin 12) t d)) ∗ (∃ d, owns (c : Thread nD τ) (spec0_9.stage ((cfgA F).slots t (9 : Fin 12))) fullShare ((datV m 0 c).before (9 : Fin 12) t d)) ∗ (∃ d, owns (c : Thread nD τ) (spec0_10.stage ((cfgA F).slots t (10 : Fin 12))) fullShare ((datV m 0 c).before (10 : Fin 12) t d)) ∗ (∃ d, owns (c : Thread nD τ) (spec0_11.stage ((cfgA F).slots t (11 : Fin 12))) fullShare ((datV m 0 c).before (11 : Fin 12) t d)))
      ⊢ wp Idealize.ShloMosaic.frame (wpE (defs₀ (F := F)) Variants.none c.tc none) Set.univ ((defs₀ (F := F)) Proc.tc (cfgA F).body ((cfgA F).bodyArgs t ((cfgA F).slots t)))
        fun _ => iprop((Pipeline.ΦA (cfgA F).spec c ∗ Pipeline.ΦT pre0 (adm F).1 c) ∗ (datV m 0 c).owesAt () t.castSucc ∗ owns (c : Thread nD τ) (spec0_0.stage ((cfgA F).slots t (0 : Fin 12))) fullShare ((datV m 0 c).after (0 : Fin 12) t) ∗ owns (c : Thread nD τ) (spec0_1.stage ((cfgA F).slots t (1 : Fin 12))) fullShare ((datV m 0 c).after (1 : Fin 12) t) ∗ owns (c : Thread nD τ) (spec0_2.stage ((cfgA F).slots t (2 : Fin 12))) fullShare ((datV m 0 c).after (2 : Fin 12) t) ∗ owns (c : Thread nD τ) (spec0_3.stage ((cfgA F).slots t (3 : Fin 12))) fullShare ((datV m 0 c).after (3 : Fin 12) t) ∗ owns (c : Thread nD τ) (spec0_4.stage ((cfgA F).slots t (4 : Fin 12))) fullShare ((datV m 0 c).after (4 : Fin 12) t) ∗ owns (c : Thread nD τ) (spec0_5.stage ((cfgA F).slots t (5 : Fin 12))) fullShare ((datV m 0 c).after (5 : Fin 12) t) ∗ owns (c : Thread nD τ) (spec0_6.stage ((cfgA F).slots t (6 : Fin 12))) fullShare ((datV m 0 c).after (6 : Fin 12) t) ∗ owns (c : Thread nD τ) (spec0_7.stage ((cfgA F).slots t (7 : Fin 12))) fullShare ((datV m 0 c).after (7 : Fin 12) t) ∗ owns (c : Thread nD τ) (spec0_8.stage ((cfgA F).slots t (8 : Fin 12))) fullShare ((datV m 0 c).after (8 : Fin 12) t) ∗ owns (c : Thread nD τ) (spec0_9.stage ((cfgA F).slots t (9 : Fin 12))) fullShare ((datV m 0 c).after (9 : Fin 12) t) ∗ owns (c : Thread nD τ) (spec0_10.stage ((cfgA F).slots t (10 : Fin 12))) fullShare ((datV m 0 c).after (10 : Fin 12) t) ∗ owns (c : Thread nD τ) (spec0_11.stage ((cfgA F).slots t (11 : Fin 12))) fullShare ((datV m 0 c).after (11 : Fin 12) t)) := by
  rw [tables_eq]
  simp only [before_0, before_1, before_2, before_3, before_4, before_5, before_6]
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨o7, o8, o9, o10, o11, hr, a7, a8, a9, a10, a11⟩ := runs_step (F := F) c (crd F t) (spec0_0.stage ((cfgA F).slots t (0 : Fin 12))) (hstage0_0 (((cfgA F).slots t (0 : Fin 12)).cast nbuf0_0)) (spec0_1.stage ((cfgA F).slots t (1 : Fin 12))) (hstage0_1 (((cfgA F).slots t (1 : Fin 12)).cast nbuf0_1)) (spec0_2.stage ((cfgA F).slots t (2 : Fin 12))) (hstage0_2 (((cfgA F).slots t (2 : Fin 12)).cast nbuf0_2)) (spec0_3.stage ((cfgA F).slots t (3 : Fin 12))) (hstage0_3 (((cfgA F).slots t (3 : Fin 12)).cast nbuf0_3)) (spec0_4.stage ((cfgA F).slots t (4 : Fin 12))) (hstage0_4 (((cfgA F).slots t (4 : Fin 12)).cast nbuf0_4)) (spec0_5.stage ((cfgA F).slots t (5 : Fin 12))) (hstage0_5 (((cfgA F).slots t (5 : Fin 12)).cast nbuf0_5)) (spec0_6.stage ((cfgA F).slots t (6 : Fin 12))) (hstage0_6 (((cfgA F).slots t (6 : Fin 12)).cast nbuf0_6)) (spec0_7.stage ((cfgA F).slots t (7 : Fin 12))) (hstage0_7 (((cfgA F).slots t (7 : Fin 12)).cast nbuf0_7)) (spec0_8.stage ((cfgA F).slots t (8 : Fin 12))) (hstage0_8 (((cfgA F).slots t (8 : Fin 12)).cast nbuf0_8)) (spec0_9.stage ((cfgA F).slots t (9 : Fin 12))) (hstage0_9 (((cfgA F).slots t (9 : Fin 12)).cast nbuf0_9)) (spec0_10.stage ((cfgA F).slots t (10 : Fin 12))) (hstage0_10 (((cfgA F).slots t (10 : Fin 12)).cast nbuf0_10)) (spec0_11.stage ((cfgA F).slots t (11 : Fin 12))) (hstage0_11 (((cfgA F).slots t (11 : Fin 12)).cast nbuf0_11)) (blkOf m c (0 : Fin 12) t) (blkOf m c (1 : Fin 12) t) (blkOf m c (2 : Fin 12) t) (blkOf m c (3 : Fin 12) t) (blkOf m c (4 : Fin 12) t) (blkOf m c (5 : Fin 12) t) (blkOf m c (6 : Fin 12) t) ((datV m 0 c).before (7 : Fin 12) t d7) ((datV m 0 c).before (8 : Fin 12) t d8) ((datV m 0 c).before (9 : Fin 12) t d9) ((datV m 0 c).before (10 : Fin 12) t d10) ((datV m 0 c).before (11 : Fin 12) t d11)
  have hs := step_before m c t d7 d8 d9 d10 d11
  replace a7 : (spec0_7.stage ((cfgA F).slots t (7 : Fin 12))).view.read (Elt F) o7 = (datV m 0 c).after (7 : Fin 12) t := a7.trans (congrArg Outs.q hs)
  replace a8 : (spec0_8.stage ((cfgA F).slots t (8 : Fin 12))).view.read (Elt F) o8 = (datV m 0 c).after (8 : Fin 12) t := a8.trans (congrArg Outs.r hs)
  replace a9 : (spec0_9.stage ((cfgA F).slots t (9 : Fin 12))).view.read (Elt F) o9 = (datV m 0 c).after (9 : Fin 12) t := a9.trans (congrArg Outs.k hs)
  replace a10 : (spec0_10.stage ((cfgA F).slots t (10 : Fin 12))).view.read (Elt F) o10 = (datV m 0 c).after (10 : Fin 12) t := a10.trans (congrArg Outs.v hs)
  replace a11 : (spec0_11.stage ((cfgA F).slots t (11 : Fin 12))).view.read (Elt F) o11 = (datV m 0 c).after (11 : Fin 12) t := a11.trans (congrArg Outs.c hs)
  iapply (hr _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  iintro ⟨H0, H1, H2, H3, H4, H5, H6, HT0, HT1, H7, H8, H9, H10, H11⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]
  · unfold owns; iexists o7; isplitr
    · ipureintro; exact a7
    iexact H7
  isplitl [H8]
  · unfold owns; iexists o8; isplitr
    · ipureintro; exact a8
    iexact H8
  isplitl [H9]
  · unfold owns; iexists o9; isplitr
    · ipureintro; exact a9
    iexact H9
  isplitl [H10]
  · unfold owns; iexists o10; isplitr
    · ipureintro; exact a10
    iexact H10
  unfold owns; iexists o11; isplitr
  · ipureintro; exact a11
  iexact H11

/-- The obligation of a pipeline at a point none of whose windows is idle. -/
theorem obligation_live {Λ : Labels} {cfg : Pipeline.Cfg sig Λ} {c : Dev nD} (dat : Pipeline.Dat τ (Elt F) Unit ℕ (UR sig nD τ) ℕ cfg c)
    (defs : Defs nD τ sig (Elt F) Λ) (𝒱 : Variants) (hi : ∀ w i, cfg.idle w i = false)
    (h : ∀ t : Fin cfg.N, iprop(dat.Φ t.castSucc ∗ dat.owesAt () t.castSucc ∗ bigSep Finset.univ fun w : Fin cfg.W => iprop(∃ d, owns (c : Thread nD τ) ((cfg.win w).stage (cfg.slots t w)) fullShare (dat.before w t d)))
      ⊢ wp Idealize.ShloMosaic.frame (wpE defs 𝒱 c.tc none) Set.univ (defs Proc.tc cfg.body (cfg.bodyArgs t (cfg.slots t))) fun _ =>
          iprop(dat.Φ t.succ ∗ dat.owesAt () t.succ ∗ bigSep Finset.univ fun w : Fin cfg.W => owns (c : Thread nD τ) ((cfg.win w).stage (cfg.slots t w)) fullShare (dat.after w t))) :
    Pipeline.BodyObligation dat defs 𝒱 () Set.univ := fun t =>
  (h t).trans (wp_mono _ _ _ fun _ => sep_mono .rfl (sep_mono .rfl (Idealize.SL.BI.bigSep_mono fun w _ => by simp only [hi]; exact fun _ h => h)))

set_option maxHeartbeats 400000 in
theorem bodyV (m : (ℓ : Loc nD τ sig) → Buf (Elt F) ℓ) (c : Dev nD) :
    Pipeline.BodyObligation (datV m 0 c) (defs₀ (F := F)) Variants.none () Set.univ :=
  obligation_live (datV m 0 c) defs₀ Variants.none (fun w i => idle_eq w i) (fun t => by
    rw [bigSep_W0, bigSep_W0]
    exact stepV m c t)

set_option maxHeartbeats 4000000 in
/-- The whole program runs to its end; each window's array ends at what the write-backs of the trajectory leave, and every other buffer as the host operations left it. -/
theorem run_value (m : (ℓ : Loc nD τ sig) → Buf (Elt F) ℓ) (g : Dev nD → PrngReg) :
    θ_run (defs (F := F)) (onTc (τ := τ) (main (F := F))) ⟨m, fun _ => 0, g⟩ (fun r => Pipeline.FramePost (pcs F) (datV m) 0 (fun c b => Vh m c b) r ∧ r.2.sem = fun _ => 0) := by
  refine Pipeline.θ_run_frameP_shared (pcfgs (F := F)) (fun _ => adm F) (datV m) (0 : Fin 1) launch₀0 defs₀ Variants.none
    m g main (hbody := fun c => (bodyV m c).loose) (hq := fun _ _ _ => rfl) (howed := fun _ _ => rfl) (V := fun c b => Vh m c b)
    (hmain := Pipeline.hmainP_prefixes pcfgs 0 defs₀ Variants.none m main (hostRun F) ⟨hostOps0_sub, hostOps0_1_sub, hostOps0_2_sub, hostOps0_3_sub⟩ ?_ (fun c => main_chain c))
    (hA := fun _ _ => rfl) (hpf := ?_) (hΦ := fun _ _ => rfl) _ (fun _ h => h)
  · simp only [hostRun, hostOps0, hostOps0_1, hostOps0_2, hostOps0_3, List.forall_cons]; trivial
  · intro c k
    fin_cases k
    · exact V_c m c
    · exact V_c0 m c
end Cert.KernelIdeal.Att

end
-- ==== Proof.Value.lean ====
module

public import proofs.«01_k».proof.Proof.RefVal
public import proofs.«01_k».proof.Proof.Host
public import proofs.«01_k».proof.Proof.Finite
public import proofs.«01_k».proof.Proof.Launch
public import proofs.«01_k».proof.Proof.Frames

/-! On real arguments the kernel's results and the reference's are the same gradients. -/

@[expose] public section

set_option maxRecDepth 16384
noncomputable section

namespace Cert.KernelIdeal.Att

open Cert.KernelIdeal Cert.KernelIdeal.Gen Cert.Att
open Idealize.ShloMosaic Idealize.SL.Sem

/-- The real numbers the arguments hold. -/
def inpOf (m : (ℓ : Loc nD τ sig) → Buf (Elt Ideal) ℓ) (c : Dev nD) : Inp where
  q a n := (qM m c (ix2 a n)).toReal
  k a n := (kM m c (ix2 a n)).toReal
  v a n := (vM m c (ix2 a n)).toReal
  c a h := (cM m c (ix2 a h)).toReal
  d a n := (dM m c (ix2 a n)).toReal

theorem arrays_of (m : (ℓ : Loc nD τ sig) → Buf (Elt Ideal) ℓ) (c : Dev nD) (h : Pre_KernelIdeal_finite m) : Arrays (inpOf m c) (qM m c) (kM m c) (vM m c) (dM m c) (cM m c) where
  q a n := real0 (h c).1 (ix2 a n)
  k a n := (congrArg (fun x : EReal => x = (x.toReal : EReal)) (kM_apply m c a n)).mpr (real1 (h c).2.1 _)
  v a n := (congrArg (fun x : EReal => x = (x.toReal : EReal)) (vM_apply m c a n)).mpr (real1 (h c).2.1 _)
  d a n := real3 (h c).2.2.2 (ix2 a n)
  c a n := real2 (h c).2.2.1 (ix2 a n)

/-- A matrix of the numbers a function gives. -/
def matOf (f : Fin 8192 → Fin 1024 → ℝ) : M2 := fun i => (f (i 0) (i 1) : EReal)
theorem eq_matOf {x : M2} {f : Fin 8192 → Fin 1024 → ℝ} (h : ∀ a n, x (ix2 a n) = (f a n : EReal)) : x = matOf f := funext fun i => by
  obtain ⟨a, n, rfl⟩ := ix2_surj i
  exact h a n

/-- The keys and the values of the array that holds both. -/
def keyArray (z : FVec Ideal S8192x2048 .bf16) : M2 := extf .f32 (extractStridedSlice S8192x1024 ![0, 0] z slices_S8192x2048_S8192x1024_0_0) bitsLt_bf16_f32
def valueArray (z : FVec Ideal S8192x2048 .bf16) : M2 := extf .f32 (extractStridedSlice S8192x1024 ![0, 1024] z slices_S8192x2048_S8192x1024_0_1024) bitsLt_bf16_f32

/-- A window that is only read leaves its array as it was. -/
theorem arg_stays (m : (ℓ : Loc nD τ sig) → Buf (Elt Ideal) ℓ) (c : Dev nD) (w : Fin 12) (hw : ((cfgA Ideal).win w).isOut = false)
    {x y : Buf (Elt Ideal) (((cfgA Ideal).spec w).arr.view.loc (c.tc : Thread nD τ))} (hV : arrIn m c w = x) (h : y = (datV m 0 c).arrAt w (cfgA Ideal).N) : y = x :=
  h.trans (((datV m 0 c).arrAt_in w hw _).trans hV)

set_option maxHeartbeats 400000 in
theorem algebraic : Cert.algebraic_KernelIdeal_ReferenceIdeal_pre_finite := by
  intro m g m' g' hp hargs
  refine ⟨fun c => matOf (gradQ (inpOf m c)), fun c => matOf (gradR (inpOf m c)), fun c => matOf (gradK (inpOf m c)), fun c => matOf (gradV (inpOf m c)), fun c => matOf (gradC (inpOf m c)), ?_, ?_⟩
  · refine (θ_run _ _ _).mono ?_ (run_value m g)
    rintro r ⟨h, -⟩ c
    have hf := fitsAll m c (reads_of m c (arrays_of m c hp))
    refine ⟨?_, ?_, ?_, ?_, ?_, ?_, ?_, ?_, ?_⟩
    · exact ((h c).1 7).trans (funext (arr_q m c hf))
    · exact ((h c).1 8).trans (funext (arr_r m c hf))
    · exact ((h c).1 9).trans (funext (arr_k m c hf))
    · exact ((h c).1 10).trans (funext (arr_v m c hf))
    · exact ((h c).1 11).trans (funext (arr_c m c hf))
    · exact arg_stays m c 0 rfl (V_arg0 m c) ((h c).1 0)
    · exact arg_stays m c 1 rfl (V_arg1 m c) ((h c).1 1)
    · exact ((h c).2 main_arg2 (Pipeline.mem_restRefs_of (win := spec0) main_arg2 (by decide) (by decide))).trans (V_arg2 m c)
    · exact arg_stays m c 4 rfl (V_arg3 m c) ((h c).1 4)
  · refine (θ_run _ _ _).mono ?_ (ReferenceIdeal.Value.run m' g')
    rintro r h c
    obtain ⟨h0, h1, h2, h3, h4, ha⟩ := h c
    have A := arrays_of m c hp
    have eq : qN m' c = qM m c := congrArg (fun z : FVec Ideal S8192x1024 .bf16 => (extf .f32 z bitsLt_bf16_f32 : M2)) (hargs c).1
    have ek : kN m' c = kM m c := congrArg keyArray (hargs c).2.1
    have ev : vN m' c = vM m c := congrArg valueArray (hargs c).2.1
    have ec : cN m' c = cM m c := (hargs c).2.2.1
    have ed : dN m' c = dM m c := congrArg (fun z : FVec Ideal S8192x1024 .bf16 => (extf .f32 z bitsLt_bf16_f32 : M2)) (hargs c).2.2.2
    rw [← eq, ← ek, ← ev, ← ec, ← ed] at A
    exact ⟨h0.trans ((res_q m' c).trans (eq_matOf (dqR_val A))), h1.trans ((res_r m' c).trans (eq_matOf (drR_val A))), h2.trans ((res_k m' c).trans (eq_matOf (dkR_val A))),
      h3.trans ((res_v m' c).trans (eq_matOf (dvR_val A))), h4.trans ((res_c m' c).trans (eq_matOf (dcR_val A))), ha⟩

end Cert.KernelIdeal.Att

end
-- ==== Proof.Dz.lean ====
module

public import proofs.«01_k».proof.Defs
public import proofs.«01_k».proof.Proof.Gen.Kernel2Ideal.Value
public import proofs.«01_k».proof.Proof.Gen.Reference2Ideal.Run
public import Idealize.ShloMosaic.Lib.IdealHost
public import Idealize.ShloMosaic.Lib.Claim
public import Idealize.ShloMosaic.Lib.Pointwise
public import Idealize.ShloMosaic.Lib.ValueIdx

/-! The gradient before the squared relu: its tiles side by side are the reference's array. -/

@[expose] public section

set_option maxRecDepth 16384
noncomputable section

namespace Cert.Kernel2Ideal.Dz

open Cert.Kernel2Ideal Cert.Kernel2Ideal.Gen
open Idealize.ShloMosaic Idealize.ShloMosaic.TcCoe Idealize.SL.Sem
open scoped BigOperators

/-- The arguments, the result and a tile. -/
abbrev D := FVec Ideal S8192x1024 .bf16
abbrev W := FVec Ideal S4096x1024 .bf16
abbrev Z := FVec Ideal S8192x4096 .bf16
abbrev T := FVec Ideal S1024x1024 .bf16

/-- The reference's product. -/
def dotR (d : D) (w : W) : FVec Ideal S8192x4096 .f32 := Host.dotGeneral (F := Ideal) Cert.Reference2Ideal.dot_S8192x1024_S4096x1024_S8192x4096_1_1_0_0_n_n none (extf .f32 d bitsLt_bf16_f32) (extf .f32 w bitsLt_bf16_f32)
theorem dotR_apply (d : D) (w : W) (a : Fin 8192) (b : Fin 4096) : dotR d w (ix2 a b) = ∑ k, d (ix2 a k) * w (ix2 b k) := by
  pointwise [dotR]

/-- A constant everywhere. -/
def allR (b : BitVec 32) : FVec Ideal S8192x4096 .f32 := broadcastInDim S8192x4096 ![] Cert.Reference2Ideal.Gen.bcast_S_S8192x4096 (constant (F := Ideal) Cert.Reference2Ideal.S_ .f32 b)

/-- The reference's result. -/
def zR (d : D) (w : W) (z : Z) : Z := truncf .bf16 (select (cmpf .ogt (extf .f32 z bitsLt_bf16_f32) (allR 0x00000000#32))
  (mulf (dotR d w) (mulf (allR 0x40000000#32) (maximumf (extf .f32 z bitsLt_bf16_f32) (allR 0x00000000#32)))) (allR 0x00000000#32)) bitsLt_bf16_f32
theorem zR_select (d : D) (w : W) (z : Z) (i : S8192x4096.Idx) :
    zR d w z i = Scalar.select (FloatOps.cmpf (F := Ideal) (φ := .f32) .ogt (z i) 0) (dotR d w i * (Ideal.ofBits .f32 0x40000000#32 * max (z i) 0)) 0 := by
  pointwise [zR, allR]
theorem zR_apply (d : D) (w : W) (z : Z) (i : S8192x4096.Idx) : zR d w z i = dotR d w i * (Ideal.ofBits .f32 0x40000000#32 * max (z i) 0) := by
  have hc : FloatOps.cmpf (F := Ideal) (φ := .f32) .ogt (z i) 0 = BitVec.ofBool (decide ((0 : EReal) < z i)) := rfl
  rw [zR_select, hc]
  unfold Scalar.select
  by_cases h : (0 : EReal) < z i
  · simp [h]
  · simp [h, max_eq_right (not_lt.mp h)]

/-- A tile of the kernel. -/
def dotT (d w : T) : FVec Ideal S1024x1024 .f32 := matmul (F := Ideal) dot_S1024x1024_S1024x1024_S1024x1024_1_1_0_0_n_n none d w (constant S1024x1024 .f32 0x00000000#32)
theorem dotT_apply (d w : T) (a b : Fin 1024) : dotT d w (ix2 a b) = ∑ k, d (ix2 a k) * w (ix2 b k) := by
  pointwise [dotT]
theorem pay_apply (d w z : T) (i : S1024x1024.Idx) : k0_pay1 (F := Ideal) d w z i = dotT d w i * (Ideal.ofBits .f32 0x40000000#32 * max (z i) 0) := by
  show dotT d w i * (Ideal.ofBits .f32 0x40000000#32 * max (z i) (Ideal.ofBits .bf16 0x0000#16)) = _
  rw [show Ideal.ofBits .bf16 0x0000#16 = (0 : EReal) by simp [Ideal.ofBits, Ideal.ieee]]

/-- The tile a point of the grid is at. -/
theorem index0 : ∀ t : Fin cfg0.N, (cfg0.win 0).index t = ![t.val / 4, 0] := (by decide +kernel : ∀ t : Fin grid0.N, win0_0.index t = ![t.val / 4, 0])
theorem index1 : ∀ t : Fin cfg0.N, (cfg0.win 1).index t = ![t.val % 4, 0] := (by decide +kernel : ∀ t : Fin grid0.N, win0_1.index t = ![t.val % 4, 0])
theorem index2 : ∀ t : Fin cfg0.N, (cfg0.win 2).index t = ![t.val / 4, t.val % 4] := (by decide +kernel : ∀ t : Fin grid0.N, win0_2.index t = ![t.val / 4, t.val % 4])
theorem index3 : ∀ t : Fin cfg0.N, (cfg0.win 3).index t = ![t.val / 4, t.val % 4] := (by decide +kernel : ∀ t : Fin grid0.N, win0_3.index t = ![t.val / 4, t.val % 4])

/-- A tile's row and column in the whole. -/
def rowOf (t : Fin cfg0.N) (a : Fin 1024) : Fin 8192 := ⟨t.val / 4 * 1024 + a.val, by have := t.isLt; have : cfg0.N = 32 := rfl; omega⟩
def colOf (t : Fin cfg0.N) (b : Fin 1024) : Fin 4096 := ⟨t.val % 4 * 1024 + b.val, by omega⟩

theorem emb3 (t : Fin cfg0.N) (a b : Fin 1024) : ((cfg0.win 3).blk t).view.emb (ix2 a b) = ix2 (rowOf t a) (colOf t b) := by
  funext z
  refine Fin.ext (((cfg0.win 3).rect_emb_val t (ix2 a b) z).trans ?_)
  rw [index3]
  match z with
  | ⟨0, _⟩ => rfl
  | ⟨1, _⟩ => rfl
theorem read0 (d : D) (t : Fin cfg0.N) (a k : Fin 1024) : ((cfg0.win 0).blk t).view.read (Elt Ideal) d (ix2 a k) = d (ix2 (rowOf t a) k) := by
  refine congrArg d (funext fun z => Fin.ext (((cfg0.win 0).rect_emb_val t (ix2 a k) z).trans ?_))
  rw [index0]
  match z with
  | ⟨0, _⟩ => rfl
  | ⟨1, _⟩ => show 0 * 1024 + k.val = k.val; omega
theorem read1 (w : W) (t : Fin cfg0.N) (b k : Fin 1024) : ((cfg0.win 1).blk t).view.read (Elt Ideal) w (ix2 b k) = w (ix2 (colOf t b) k) := by
  refine congrArg w (funext fun z => Fin.ext (((cfg0.win 1).rect_emb_val t (ix2 b k) z).trans ?_))
  rw [index1]
  match z with
  | ⟨0, _⟩ => rfl
  | ⟨1, _⟩ => show 0 * 1024 + k.val = k.val; omega
theorem read2 (x : Z) (t : Fin cfg0.N) (a b : Fin 1024) : ((cfg0.win 2).blk t).view.read (Elt Ideal) x (ix2 a b) = x (ix2 (rowOf t a) (colOf t b)) := by
  refine congrArg x (funext fun z => Fin.ext (((cfg0.win 2).rect_emb_val t (ix2 a b) z).trans ?_))
  rw [index2]
  match z with
  | ⟨0, _⟩ => rfl
  | ⟨1, _⟩ => rfl

/-- Every place is in some tile. -/
theorem place (i : S8192x4096.Idx) : ∃ (t : Fin cfg0.N) (a b : Fin 1024), i = ix2 (rowOf t a) (colOf t b) := by
  have h0 : (i 0).val < 8192 := (i 0).isLt
  have h1 : (i 1).val < 4096 := (i 1).isLt
  refine ⟨⟨(i 0).val / 1024 * 4 + (i 1).val / 1024, by show _ < 32; omega⟩, ⟨(i 0).val % 1024, by omega⟩, ⟨(i 1).val % 1024, by omega⟩, ?_⟩
  funext z
  refine Fin.ext ?_
  match z with
  | ⟨0, _⟩ => show (i 0).val = ((i 0).val / 1024 * 4 + (i 1).val / 1024) / 4 * 1024 + (i 0).val % 1024; omega
  | ⟨1, _⟩ => show (i 1).val = ((i 0).val / 1024 * 4 + (i 1).val / 1024) % 4 * 1024 + (i 1).val % 1024; omega

theorem zeros : (![0, 0] : Fin 2 → ℕ) = fun _ => 0 := by decide

variable (m : (ℓ : Loc nD τ sig) → Buf (Elt Ideal) ℓ) (c : Dev nD)

/-- The arguments as launched. -/
abbrev dM : D := m ((c.tc : Thread nD τ).loc main_arg0)
abbrev wM : W := m ((c.tc : Thread nD τ).loc main_arg1)
abbrev zM : Z := m ((c.tc : Thread nD τ).loc main_arg2)

theorem tile (t : Fin cfg0.N) (a b : Fin 1024) : k0_pay1 (F := Ideal) (iblk m c 0 t : T) (iblk m c 1 t : T) (iblk m c 2 t : T) (ix2 a b) = zR (dM m c) (wM m c) (zM m c) (ix2 (rowOf t a) (colOf t b)) := by
  refine (pay_apply _ _ _ (ix2 a b)).trans ?_
  rw [zR_apply, dotT_apply, dotR_apply, show (iblk m c 2 t : T) (ix2 a b) = zM m c (ix2 (rowOf t a) (colOf t b)) from read2 (zM m c) t a b]
  exact congrArg (· * _) (Finset.sum_congr rfl fun k _ => congrArg₂ (· * ·) (read0 (dM m c) t a k) (read1 (wM m c) t b k))

theorem arr3 : (dats m 0 c).arrAt 3 cfg0.N = zR (dM m c) (wM m c) (zM m c) := by
  refine (dats m 0 c).arrAt_eq_of_cover 3 (zR (dM m c) (wM m c) (zM m c)) (fun t _ => ?_) fun i => ?_
  · rw [Value.flushed3]
    funext y
    obtain ⟨a, b, rfl⟩ : ∃ a b : Fin 1024, y = ix2 a b := ⟨y 0, y 1, funext fun z => match z with | ⟨0, _⟩ => rfl | ⟨1, _⟩ => rfl⟩
    show out0_3 (iblk m c 0 t) (iblk m c 1 t) (iblk m c 2 t) (ix2 a b) = zR (dM m c) (wM m c) (zM m c) (((cfg0.win 3).blk t).view.emb (ix2 a b))
    rw [emb3]
    unfold out0_3 r0_0
    rw [View.canon_unit_zero zeros, View.ld_unit_zero zeros, View.ld_unit_zero zeros, View.ld_unit_zero zeros]
    exact tile m c t a b
  · obtain ⟨t, a, b, rfl⟩ := place i
    exact ⟨t, flush0_3 t, emb3 t a b ▸ ((cfg0.win 3).blk t).view.emb_mem_set (ix2 a b)⟩

/-- The kernel and the reference end with equal results. -/
theorem algebraic : Cert.algebraic_Kernel2Ideal_Reference2Ideal := by
  intro m g m' g' _ hargs
  refine ⟨fun c => zR (dM m c) (wM m c) (zM m c), ?_, ?_⟩
  · exact (θ_run _ _ _).mono (fun r h c => ⟨(h c).1.trans (arr3 m c), (h c).2⟩) (Value.run_blocks m g)
  · refine (θ_run _ _ _).mono (fun r h c => ?_) (Cert.Reference2Ideal.Value.run m' g')
    obtain ⟨h0, ha⟩ := h c
    have e0 : m' ((c.tc : Thread Cert.Reference2Ideal.nD Cert.Reference2Ideal.τ).loc Cert.Reference2Ideal.main_arg0) = dM m c := (hargs c).1
    have e1 : m' ((c.tc : Thread Cert.Reference2Ideal.nD Cert.Reference2Ideal.τ).loc Cert.Reference2Ideal.main_arg1) = wM m c := (hargs c).2.1
    have e2 : m' ((c.tc : Thread Cert.Reference2Ideal.nD Cert.Reference2Ideal.τ).loc Cert.Reference2Ideal.main_arg2) = zM m c := (hargs c).2.2
    rw [e0, e1, e2] at h0
    exact ⟨h0, ha⟩

/-- The reference's frame: no operation writes an argument, and the program declares no counter. -/
theorem frame_reference : Cert.quiescent_Reference2Ideal := fun m g _ =>
  (θ_run _ _ _).mono (fun r h => ⟨fun c => (h c).2, sem_eq_zero_of_no_sems (by decide) r.2⟩) (Cert.Reference2Ideal.Value.run m g)

end Cert.Kernel2Ideal.Dz

end
-- ==== Proof.Ffn1.lean ====
module

public import proofs.«01_k».proof.Proof.Dz
public import proofs.«01_k».proof.Proof.Gen.Kernel3Ideal.Value
public import proofs.«01_k».proof.Proof.Gen.Reference3Ideal.Run
public import Idealize.ShloMosaic.Lib.IdealHost
public import Idealize.ShloMosaic.Lib.Claim
public import Idealize.ShloMosaic.Lib.Pointwise
public import Idealize.ShloMosaic.Lib.ValueIdx

/-! The first feed-forward product: its tiles side by side are the reference's two arrays. -/

@[expose] public section

set_option maxRecDepth 16384
noncomputable section

namespace Cert.Kernel3Ideal.Ffn1

open Cert.Kernel3Ideal Cert.Kernel3Ideal.Gen
open Idealize.ShloMosaic Idealize.ShloMosaic.TcCoe Idealize.SL.Sem
open Cert.Kernel2Ideal.Dz (rowOf colOf place zeros)
open scoped BigOperators

/-- The arguments, a tile and the results. -/
abbrev X := FVec Ideal S8192x1024 .bf16
abbrev W := FVec Ideal S1024x4096 .bf16
abbrev T := FVec Ideal S1024x1024 .bf16
abbrev Z := FVec Ideal S8192x4096 .bf16

/-- The reference's product. -/
def dotR (x : X) (w : W) : FVec Ideal S8192x4096 .f32 := Host.dotGeneral (F := Ideal) Cert.Reference3Ideal.dot_S8192x1024_S1024x4096_S8192x4096_1_0_0_1_n_n none (extf .f32 x bitsLt_bf16_f32) (extf .f32 w bitsLt_bf16_f32)
theorem dotR_apply (x : X) (w : W) (a : Fin 8192) (b : Fin 4096) : dotR x w (ix2 a b) = ∑ k, x (ix2 a k) * w (ix2 k b) := by
  pointwise [dotR]

/-- The reference's results: the product, and the square of its positive part. -/
def zR (x : X) (w : W) : Z := truncf .bf16 (dotR x w) bitsLt_bf16_f32
def fR (x : X) (w : W) : Z := truncf .bf16 (mulf (maximumf (dotR x w) (broadcastInDim S8192x4096 ![] Cert.Reference3Ideal.Gen.bcast_S_S8192x4096 (constant Cert.Reference3Ideal.S_ .f32 0x00000000#32)))
  (maximumf (dotR x w) (broadcastInDim S8192x4096 ![] Cert.Reference3Ideal.Gen.bcast_S_S8192x4096 (constant Cert.Reference3Ideal.S_ .f32 0x00000000#32)))) bitsLt_bf16_f32
theorem zR_apply (x : X) (w : W) (i : S8192x4096.Idx) : zR x w i = dotR x w i := rfl
theorem fR_apply (x : X) (w : W) (i : S8192x4096.Idx) : fR x w i = max (dotR x w i) 0 * max (dotR x w i) 0 := by
  pointwise [fR]

/-- A tile of the kernel: a product, and the square of its positive part. -/
theorem dot_apply (x w : T) (a b : Fin 1024) : k0_pay1 (F := Ideal) x w (ix2 a b) = ∑ k, x (ix2 a k) * w (ix2 k b) := by
  pointwise [k0_pay1]
theorem z_apply (x w : T) (i : S1024x1024.Idx) : k0_pay2 (F := Ideal) x w i = (k0_pay1 (F := Ideal) x w i : EReal) := rfl
theorem f_apply (x w : T) (i : S1024x1024.Idx) : k0_pay3 (F := Ideal) x w i = max (k0_pay1 (F := Ideal) x w i : EReal) 0 * max (k0_pay1 (F := Ideal) x w i : EReal) 0 := by
  pointwise [k0_pay3]

/-- The tiles lie as before the squared relu, but for the matrix's. -/
theorem index1 : ∀ t : Fin cfg0.N, (cfg0.win 1).index t = ![0, t.val % 4] := (by decide +kernel : ∀ t : Fin grid0.N, win0_1.index t = ![0, t.val % 4])

theorem emb2 (t : Fin cfg0.N) (a b : Fin 1024) : ((cfg0.win 2).blk t).view.emb (ix2 a b) = ix2 (rowOf t a) (colOf t b) := Cert.Kernel2Ideal.Dz.emb3 t a b
theorem emb3 (t : Fin cfg0.N) (a b : Fin 1024) : ((cfg0.win 3).blk t).view.emb (ix2 a b) = ix2 (rowOf t a) (colOf t b) := Cert.Kernel2Ideal.Dz.emb3 t a b
theorem read0 (x : X) (t : Fin cfg0.N) (a k : Fin 1024) : ((cfg0.win 0).blk t).view.read (Elt Ideal) x (ix2 a k) = x (ix2 (rowOf t a) k) := Cert.Kernel2Ideal.Dz.read0 x t a k
theorem read1 (w : W) (t : Fin cfg0.N) (k b : Fin 1024) : ((cfg0.win 1).blk t).view.read (Elt Ideal) w (ix2 k b) = w (ix2 k (colOf t b)) := by
  refine congrArg w (funext fun z => Fin.ext (((cfg0.win 1).rect_emb_val t (ix2 k b) z).trans ?_))
  rw [index1]
  match z with
  | ⟨0, _⟩ => show 0 * 1024 + k.val = k.val; omega
  | ⟨1, _⟩ => rfl

variable (m : (ℓ : Loc nD τ sig) → Buf (Elt Ideal) ℓ) (c : Dev nD)

/-- The arguments as launched. -/
abbrev xM : X := m ((c.tc : Thread nD τ).loc main_arg0)
abbrev wM : W := m ((c.tc : Thread nD τ).loc main_arg1)

theorem tile (t : Fin cfg0.N) (a b : Fin 1024) : k0_pay1 (iblk m c 0 t : T) (iblk m c 1 t : T) (ix2 a b) = dotR (xM m c) (wM m c) (ix2 (rowOf t a) (colOf t b)) := by
  rw [dot_apply, dotR_apply]
  exact Finset.sum_congr rfl fun k _ => congrArg₂ (· * ·) (read0 (xM m c) t a k) (read1 (wM m c) t k b)

theorem arr2 : (dats m 0 c).arrAt 2 cfg0.N = zR (xM m c) (wM m c) := by
  refine (dats m 0 c).arrAt_eq_of_cover 2 (zR (xM m c) (wM m c)) (fun t _ => ?_) fun i => ?_
  · rw [Value.flushed2]
    funext y
    obtain ⟨a, b, rfl⟩ : ∃ a b : Fin 1024, y = ix2 a b := ⟨y 0, y 1, funext fun z => match z with | ⟨0, _⟩ => rfl | ⟨1, _⟩ => rfl⟩
    show out0_2 (iblk m c 0 t) (iblk m c 1 t) (ix2 a b) = zR (xM m c) (wM m c) (((cfg0.win 2).blk t).view.emb (ix2 a b))
    rw [emb2]
    unfold out0_2 r0_0
    rw [View.canon_unit_zero zeros, View.ld_unit_zero zeros, View.ld_unit_zero zeros]
    exact (z_apply _ _ (ix2 a b)).trans (tile m c t a b)
  · obtain ⟨t, a, b, rfl⟩ := place i
    exact ⟨t, flush0_2 t, emb2 t a b ▸ ((cfg0.win 2).blk t).view.emb_mem_set (ix2 a b)⟩

theorem arr3 : (dats m 0 c).arrAt 3 cfg0.N = fR (xM m c) (wM m c) := by
  refine (dats m 0 c).arrAt_eq_of_cover 3 (fR (xM m c) (wM m c)) (fun t _ => ?_) fun i => ?_
  · rw [Value.flushed3]
    funext y
    obtain ⟨a, b, rfl⟩ : ∃ a b : Fin 1024, y = ix2 a b := ⟨y 0, y 1, funext fun z => match z with | ⟨0, _⟩ => rfl | ⟨1, _⟩ => rfl⟩
    show out0_3 (iblk m c 0 t) (iblk m c 1 t) (ix2 a b) = fR (xM m c) (wM m c) (((cfg0.win 3).blk t).view.emb (ix2 a b))
    rw [emb3]
    unfold out0_3 r0_0
    rw [View.canon_unit_zero zeros, View.ld_unit_zero zeros, View.ld_unit_zero zeros]
    refine (f_apply _ _ (ix2 a b)).trans ?_
    rw [fR_apply, tile]
  · obtain ⟨t, a, b, rfl⟩ := place i
    exact ⟨t, flush0_3 t, emb3 t a b ▸ ((cfg0.win 3).blk t).view.emb_mem_set (ix2 a b)⟩

/-- The kernel and the reference end with equal results. -/
theorem algebraic : Cert.algebraic_Kernel3Ideal_Reference3Ideal := by
  intro m g m' g' _ hargs
  refine ⟨fun c => zR (xM m c) (wM m c), fun c => fR (xM m c) (wM m c), ?_, ?_⟩
  · exact (θ_run _ _ _).mono (fun r h c => ⟨(h c).1.trans (arr2 m c), (h c).2.1.trans (arr3 m c), (h c).2.2⟩) (Value.run_blocks m g)
  · refine (θ_run _ _ _).mono (fun r h c => ?_) (Cert.Reference3Ideal.Value.run m' g')
    obtain ⟨h0, h1, ha⟩ := h c
    have e0 : m' ((c.tc : Thread Cert.Reference3Ideal.nD Cert.Reference3Ideal.τ).loc Cert.Reference3Ideal.main_arg0) = xM m c := (hargs c).1
    have e1 : m' ((c.tc : Thread Cert.Reference3Ideal.nD Cert.Reference3Ideal.τ).loc Cert.Reference3Ideal.main_arg1) = wM m c := (hargs c).2
    rw [e0, e1] at h0 h1
    exact ⟨h0, h1, ha⟩

/-- The reference's frame: no operation writes an argument, and the program declares no counter. -/
theorem frame_reference : Cert.quiescent_Reference3Ideal := fun m g _ =>
  (θ_run _ _ _).mono (fun r h => ⟨fun c => (h c).2.2, sem_eq_zero_of_no_sems (by decide) r.2⟩) (Cert.Reference3Ideal.Value.run m g)

end Cert.Kernel3Ideal.Ffn1

end
-- ==== Proof.Rms.lean ====
module

public import proofs.«01_k».proof.Proof.Finite

/-! The gradient of a row through its root-mean-square norm, in the kernels' form and in the reference's: equal on real rows. -/

@[expose] public section

noncomputable section

namespace Cert.Rms

open Idealize.ShloMosaic
open Cert.Att (coe_sum)
open scoped BigOperators

/-- The width, the half and the small constant under the root. -/
theorem bits_width : Ideal.ofBits FTy.f32 0x44800000#32 = ((1024 : ℝ) : EReal) := by
  simp [Ideal.ofBits, Ideal.ieee, ← EReal.coe_mul]
  norm_num [← EReal.coe_mul]
theorem bits_half : Ideal.ofBits FTy.f32 0xBF000000#32 = ((-(1/2) : ℝ) : EReal) := by
  simp [Ideal.ofBits, Ideal.ieee, ← EReal.coe_mul]
  norm_num [← EReal.coe_mul]
theorem bits_eps : ∃ e : ℝ, 0 < e ∧ Ideal.ofBits FTy.f32 0x358637BD#32 = (e : EReal) := by
  refine ⟨8796093 * (2 ^ 43)⁻¹, by norm_num, ?_⟩
  simp [Ideal.ofBits, Ideal.ieee, ← EReal.coe_mul]

/-- A row's inverse root mean square. -/
def rms (x : Fin 1024 → EReal) : EReal := Ideal.rsqrt (Ideal.div (∑ k, x k * x k) (Ideal.ofBits FTy.f32 0x44800000#32) + Ideal.ofBits FTy.f32 0x358637BD#32)
/-- The kernel's gradient of a row: the residual's and the norm's. -/
def rowK (x p d : Fin 1024 → EReal) (b : Fin 1024) : EReal :=
  d b + rms x * (p b - x b * rms x * Ideal.div (∑ k, p k * (x k * rms x)) (Ideal.ofBits FTy.f32 0x44800000#32))
/-- The reference's factor of the row through the mean square. -/
def rowQ (x p : Fin 1024 → EReal) : EReal :=
  Ideal.div ((∑ k, x k * p k) * (Ideal.ofBits FTy.f32 0xBF000000#32 * Ideal.div (rms x) (Ideal.div (∑ k, x k * x k) (Ideal.ofBits FTy.f32 0x44800000#32) + Ideal.ofBits FTy.f32 0x358637BD#32))) (Ideal.ofBits FTy.f32 0x44800000#32)
/-- The reference's gradient of a row. -/
def rowR (x p d : Fin 1024 → EReal) (b : Fin 1024) : EReal := d b + p b * rms x + x b * rowQ x p + rowQ x p * x b

/-- On real rows the two are equal. -/
theorem row_eq (x p d : Fin 1024 → ℝ) (b : Fin 1024) :
    rowK (fun k => (x k : EReal)) (fun k => (p k : EReal)) (fun k => (d k : EReal)) b = rowR (fun k => (x k : EReal)) (fun k => (p k : EReal)) (fun k => (d k : EReal)) b := by
  obtain ⟨e, he, hE⟩ := bits_eps
  have hs : 0 ≤ ∑ k, x k * x k := Finset.sum_nonneg fun k _ => mul_self_nonneg (x k)
  obtain ⟨u, hu⟩ : ∃ u : ℝ, u = (∑ k, x k * x k) * (1 / 1024) + e := ⟨_, rfl⟩
  have hu0 : 0 < u := by rw [hu]; positivity
  have hU : Ideal.div (∑ k, (x k : EReal) * (x k : EReal)) (Ideal.ofBits FTy.f32 0x44800000#32) + Ideal.ofBits FTy.f32 0x358637BD#32 = (u : EReal) := by
    rw [bits_width, hE, Ideal.div_coe (by norm_num), hu, EReal.coe_add, EReal.coe_mul, coe_sum]
    simp only [EReal.coe_mul]
  have hr : rms (fun k => (x k : EReal)) = (((Real.sqrt u)⁻¹ : ℝ) : EReal) := by
    unfold rms
    rw [hU, Ideal.rsqrt_coe, if_neg (not_lt.mpr hu0.le), if_neg hu0.ne']
  have hq : 0 < Real.sqrt u := Real.sqrt_pos.mpr hu0
  obtain ⟨q, hq0, hqu⟩ : ∃ q : ℝ, 0 < q ∧ u = q * q := ⟨Real.sqrt u, hq, (Real.mul_self_sqrt hu0.le).symm⟩
  have hqs : Real.sqrt u = q := by rw [hqu, Real.sqrt_mul_self hq0.le]
  unfold rowK rowR rowQ
  rw [hU, hr, hqs, hqu, bits_half, bits_width]
  have hn : q ≠ 0 := hq0.ne'
  simp only [Ideal.div_coe (show (1024 : ℝ) ≠ 0 by norm_num), Ideal.div_coe (mul_ne_zero hn hn)]
  simp only [← EReal.coe_mul, ← coe_sum, ← EReal.coe_sub, ← EReal.coe_add]
  have h1 : ∑ k, p k * (x k * q⁻¹) = (∑ k, x k * p k) * q⁻¹ := by
    rw [Finset.sum_mul]
    exact Finset.sum_congr rfl fun k _ => by ring
  rw [h1]
  refine congrArg _ ?_
  field_simp
  ring

/-- The same of rows known to be real. -/
theorem row_eq_of (x p d : Fin 1024 → EReal) (hx : ∃ r : Fin 1024 → ℝ, ∀ k, x k = (r k : EReal)) (hp : ∃ r : Fin 1024 → ℝ, ∀ k, p k = (r k : EReal)) (hd : ∃ r : Fin 1024 → ℝ, ∀ k, d k = (r k : EReal)) (b : Fin 1024) :
    rowK x p d b = rowR x p d b := by
  obtain ⟨x', hx⟩ := hx
  obtain ⟨p', hp⟩ := hp
  obtain ⟨d', hd⟩ := hd
  rw [funext hx, funext hp, funext hd]
  exact row_eq x' p' d' b

/-- A real row of products with a real matrix, scaled by a real row, is real. -/
theorem prod_real {n : ℕ} {z : Fin n → EReal} {w : Fin 1024 → Fin n → EReal} {g : Fin 1024 → EReal} (hz : ∀ l, z l = ((z l).toReal : EReal)) (hw : ∀ k l, w k l = ((w k l).toReal : EReal)) (hg : ∀ k, g k = ((g k).toReal : EReal)) :
    ∃ r : Fin 1024 → ℝ, ∀ k, (∑ l, z l * w k l) * g k = (r k : EReal) := by
  refine ⟨fun k => (∑ l, (z l).toReal * (w k l).toReal) * (g k).toReal, fun k => ?_⟩
  rw [EReal.coe_mul, coe_sum, ← hg]
  refine congrArg (· * _) (Finset.sum_congr rfl fun l _ => ?_)
  rw [EReal.coe_mul, ← hz, ← hw]

end Cert.Rms

end
-- ==== Proof.Dhn2.lean ====
module

public import proofs.«01_k».proof.Defs
public import proofs.«01_k».proof.Proof.Rms
public import proofs.«01_k».proof.Proof.Gen.Pre_finite7
public import proofs.«01_k».proof.Proof.Gen.Kernel7Ideal.Value
public import proofs.«01_k».proof.Proof.Gen.Reference7Ideal.Run
public import Idealize.ShloMosaic.Lib.IdealHost
public import Idealize.ShloMosaic.Lib.Claim
public import Idealize.ShloMosaic.Lib.Pointwise
public import Idealize.ShloMosaic.Lib.ValueIdx
public import Idealize.ShloMosaic.Lib.Pipeline.ValueKit

/-! The gradient through the first feed-forward product and the norm before it: bands of rows, each the reference's rows, and the
norm's scale's gradient, summed band by band over the tokens. -/

@[expose] public section

set_option maxRecDepth 16384
noncomputable section

namespace Cert.Kernel7Ideal.Dhn2

open Cert.Kernel7Ideal Cert.Kernel7Ideal.Gen Cert.Rms
open Idealize.ShloMosaic Idealize.ShloMosaic.TcCoe Idealize.SL.Sem
open Cert.KernelIdeal.Att (real_of_lt)
open scoped BigOperators

/-- The arguments. -/
abbrev Z := FVec Ideal S8192x4096 .bf16
abbrev W := FVec Ideal S1024x4096 .bf16
abbrev H := FVec Ideal S8192x1024 .f32
abbrev G := FVec Ideal S1x1024 .f32
/-- A band of rows. -/
abbrev ZT := FVec Ideal S512x4096 .bf16
abbrev HT := FVec Ideal S512x1024 .f32

section Reference
open Cert.Reference7Ideal Cert.Reference7Ideal.Gen

/-- The reference's product, and it times the norm's scale. -/
def dotR (z : Z) (w : W) : H := Host.dotGeneral (F := Ideal) dot_S8192x4096_S1024x4096_S8192x1024_1_1_0_0_n_n none (extf .f32 z Cert.Reference7Ideal.Gen.bitsLt_bf16_f32) (extf .f32 w Cert.Reference7Ideal.Gen.bitsLt_bf16_f32)
def prodR (z : Z) (w : W) (g : G) : H := mulf (dotR z w) (broadcastInDim Cert.Reference7Ideal.S8192x1024 ![0, 1] bcast_S1x1024_S8192x1024_0_1 g)
/-- The rows' mean squares, and their inverse roots. -/
def meanR (x : H) : FVec Ideal S8192x1 .f32 := addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def rmsR (x : H) : FVec Ideal S8192x1 .f32 := Host.rsqrt (meanR x)
def wideR (y : FVec Ideal S8192x1 .f32) : H := broadcastInDim Cert.Reference7Ideal.S8192x1024 ![0, 1] bcast_S8192x1_S8192x1024_0_1 y
/-- The factor of the rows through their mean squares. -/
def factorR (x p : H) : H := broadcastInDim Cert.Reference7Ideal.S8192x1024 ![0] bcast_S8192_S8192x1024_0 (Host.reduceAdd (Host.divf (mulf (shapeCast _ (Host.reduceAdd (mulf x p) (constant (F := Ideal) S_ .f32 0x00000000#32) reducesTo_S8192x1024_S8192_d1 h_S_) shapeCasts_S8192_S8192x1)
  (mulf (broadcastInDim S8192x1 ![] bcast_S_S8192x1 (constant S_ .f32 0xBF000000#32)) (Host.divf (rmsR x) (meanR x)))) (broadcastInDim S8192x1 ![] bcast_S_S8192x1 (constant S_ .f32 0x44800000#32))) (constant (F := Ideal) S_ .f32 0x00000000#32) reducesTo_S8192x1_S8192_d1 h_S_)
/-- The gradient of the rows. -/
def dxR (x p d : H) : H := addf (addf (addf d (mulf p (wideR (rmsR x)))) (mulf x (factorR x p))) (mulf (factorR x p) x)
/-- The gradient of the norm's scale. -/
def dgR (x q : H) : G := shapeCast _ (Host.reduceAdd (mulf (mulf x (wideR (rmsR x))) q) (constant (F := Ideal) S_ .f32 0x00000000#32) reducesTo_S8192x1024_S1024_d0 h_S_) Cert.Reference7Ideal.Gen.shapeCasts_S1024_S1x1024

theorem dotR_apply (z : Z) (w : W) (a : Fin 8192) (b : Fin 1024) : dotR z w (ix2 a b) = ∑ l, z (ix2 a l) * w (ix2 b l) := by
  pointwise [dotR]
theorem prodR_apply (z : Z) (w : W) (g : G) (a : Fin 8192) (b : Fin 1024) : prodR z w g (ix2 a b) = (∑ l, z (ix2 a l) * w (ix2 b l)) * g (ix2 0 b) := by
  pointwise [prodR, dotR]
theorem meanR_apply (x : H) (a : Fin 8192) : meanR x (ix2 a 0) = Ideal.div (∑ k, x (ix2 a k) * x (ix2 a k)) (Ideal.ofBits .f32 0x44800000#32) + Ideal.ofBits .f32 0x358637BD#32 := by
  pointwise [meanR]
theorem rmsR_apply (x : H) (a : Fin 8192) : rmsR x (ix2 a 0) = rms fun k => x (ix2 a k) := by
  refine Eq.trans (b := Ideal.rsqrt (meanR x (ix2 a 0))) (by pointwise [rmsR]) ?_
  rw [meanR_apply]
  rfl
theorem wideR_apply (y : FVec Ideal S8192x1 .f32) (a : Fin 8192) (b : Fin 1024) : wideR y (ix2 a b) = y (ix2 a 0) := by
  pointwise [wideR]
theorem factorR_apply (x p : H) (a : Fin 8192) (b : Fin 1024) : factorR x p (ix2 a b) = rowQ (fun k => x (ix2 a k)) (fun k => p (ix2 a k)) := by
  pointwise [factorR]
  refine (Fin.sum_univ_one _).trans ?_
  rw [rmsR_apply, meanR_apply]
  rfl
theorem dxR_apply (x p d : H) (a : Fin 8192) (b : Fin 1024) : dxR x p d (ix2 a b) = rowR (fun k => x (ix2 a k)) (fun k => p (ix2 a k)) (fun k => d (ix2 a k)) b := by
  pointwise [dxR]
  rw [wideR_apply, rmsR_apply, factorR_apply]
  rfl
theorem dgR_apply (x q : H) (b : Fin 1024) : dgR x q (ix2 0 b) = ∑ l, q (ix2 l b) * (x (ix2 l b) * rms fun k => x (ix2 l k)) := by
  pointwise [dgR]
  refine Finset.sum_congr rfl fun l _ => ?_
  rw [wideR_apply, rmsR_apply, mul_comm]
end Reference

/-- A band's inverse roots, product and scaled rows. -/
theorem rmsT_apply (x : HT) (a : Fin 512) : k0_pay3 (F := Ideal) x (ix2 a 0) = rms fun k => x (ix2 a k) := by
  pointwise [k0_pay3, rms]
theorem dotT_apply (z : ZT) (w : W) (a : Fin 512) (b : Fin 1024) : k0_pay2 (F := Ideal) z w (ix2 a b) = ∑ l, z (ix2 a l) * w (ix2 b l) := by
  pointwise [k0_pay2]
theorem unitT_apply (x : HT) (a : Fin 512) (b : Fin 1024) : k0_pay4 (F := Ideal) x (ix2 a b) = x (ix2 a b) * rms fun k => x (ix2 a k) := by
  pointwise [k0_pay4]
  rw [rmsT_apply]
/-- A band's gradient of the rows, and its part of the gradient of the scale. -/
theorem dxT_apply (z : ZT) (w : W) (x d : HT) (g : G) (a : Fin 512) (b : Fin 1024) :
    k0_pay5 (F := Ideal) z w x d g (ix2 a b) = rowK (fun k => x (ix2 a k)) (fun k => (∑ l, z (ix2 a l) * w (ix2 k l)) * g (ix2 0 k)) (fun k => d (ix2 a k)) b := by
  pointwise [k0_pay5]
  simp only [rmsT_apply, dotT_apply, unitT_apply]
  rfl
theorem dgT_apply (z : ZT) (w : W) (x : HT) (b : Fin 1024) : k0_pay6 (F := Ideal) z w x (ix2 0 b) = ∑ r, (∑ l, z (ix2 r l) * w (ix2 b l)) * (x (ix2 r b) * rms fun k => x (ix2 r k)) := by
  pointwise [k0_pay6]
  simp only [dotT_apply, unitT_apply]
theorem pay1_apply (u v : G) (i : S1x1024.Idx) : k0_pay1 (F := Ideal) u v i = v i + u i := by
  pointwise [k0_pay1]

/-- The band a point of the grid is at. -/
theorem index0 : ∀ t : Fin cfg0.N, (cfg0.win 0).index t = ![t.val, 0] := (by decide +kernel : ∀ t : Fin grid0.N, win0_0.index t = ![t.val, 0])
theorem index1 : ∀ t : Fin cfg0.N, (cfg0.win 1).index t = ![0, 0] := (by decide +kernel : ∀ t : Fin grid0.N, win0_1.index t = ![0, 0])
theorem index2 : ∀ t : Fin cfg0.N, (cfg0.win 2).index t = ![t.val, 0] := (by decide +kernel : ∀ t : Fin grid0.N, win0_2.index t = ![t.val, 0])
theorem index3 : ∀ t : Fin cfg0.N, (cfg0.win 3).index t = ![t.val, 0] := (by decide +kernel : ∀ t : Fin grid0.N, win0_3.index t = ![t.val, 0])
theorem index4 : ∀ t : Fin cfg0.N, (cfg0.win 4).index t = ![0, 0] := (by decide +kernel : ∀ t : Fin grid0.N, win0_4.index t = ![0, 0])
theorem index5 : ∀ t : Fin cfg0.N, (cfg0.win 5).index t = ![t.val, 0] := (by decide +kernel : ∀ t : Fin grid0.N, win0_5.index t = ![t.val, 0])
theorem index6 : ∀ t : Fin cfg0.N, (cfg0.win 6).index t = ![t.val, 0] := (by decide +kernel : ∀ t : Fin grid0.N, win0_6.index t = ![t.val, 0])
theorem index7 : ∀ t : Fin cfg0.N, (cfg0.win 7).index t = ![0, 0] := (by decide +kernel : ∀ t : Fin grid0.N, win0_7.index t = ![0, 0])

/-- A band's row in the whole. -/
def rowOf (t : Fin cfg0.N) (a : Fin 512) : Fin 8192 := ⟨t.val * 512 + a.val, by have := t.isLt; have : cfg0.N = 16 := rfl; omega⟩

theorem emb5 (t : Fin cfg0.N) (a : Fin 512) (b : Fin 1024) : ((cfg0.win 5).blk t).view.emb (ix2 a b) = ix2 (rowOf t a) b := by
  funext z
  refine Fin.ext (((cfg0.win 5).rect_emb_val t (ix2 a b) z).trans ?_)
  rw [index5]
  match z with
  | ⟨0, _⟩ => rfl
  | ⟨1, _⟩ => show 0 * 1024 + b.val = b.val; omega
theorem emb6 (t : Fin cfg0.N) (a : Fin 512) (b : Fin 1024) : ((cfg0.win 6).blk t).view.emb (ix2 a b) = ix2 (rowOf t a) b := by
  funext z
  refine Fin.ext (((cfg0.win 6).rect_emb_val t (ix2 a b) z).trans ?_)
  rw [index6]
  match z with
  | ⟨0, _⟩ => rfl
  | ⟨1, _⟩ => show 0 * 1024 + b.val = b.val; omega
theorem emb7 (t : Fin cfg0.N) (b : Fin 1024) : ((cfg0.win 7).blk t).view.emb (ix2 0 b) = ix2 0 b := by
  funext z
  refine Fin.ext (((cfg0.win 7).rect_emb_val t (ix2 0 b) z).trans ?_)
  rw [index7]
  match z with
  | ⟨0, _⟩ => rfl
  | ⟨1, _⟩ => show 0 * 1024 + b.val = b.val; omega
theorem read0 (x : Z) (t : Fin cfg0.N) (a : Fin 512) (k : Fin 4096) : ((cfg0.win 0).blk t).view.read (Elt Ideal) x (ix2 a k) = x (ix2 (rowOf t a) k) := by
  refine congrArg x (funext fun z => Fin.ext (((cfg0.win 0).rect_emb_val t (ix2 a k) z).trans ?_))
  rw [index0]
  match z with
  | ⟨0, _⟩ => rfl
  | ⟨1, _⟩ => show 0 * 4096 + k.val = k.val; omega
theorem read1 (w : W) (t : Fin cfg0.N) (b : Fin 1024) (k : Fin 4096) : ((cfg0.win 1).blk t).view.read (Elt Ideal) w (ix2 b k) = w (ix2 b k) := by
  refine congrArg w (funext fun z => Fin.ext (((cfg0.win 1).rect_emb_val t (ix2 b k) z).trans ?_))
  rw [index1]
  match z with
  | ⟨0, _⟩ => show 0 * 1024 + b.val = b.val; omega
  | ⟨1, _⟩ => show 0 * 4096 + k.val = k.val; omega
theorem read2 (h : H) (t : Fin cfg0.N) (a : Fin 512) (b : Fin 1024) : ((cfg0.win 2).blk t).view.read (Elt Ideal) h (ix2 a b) = h (ix2 (rowOf t a) b) := by
  refine congrArg h (funext fun z => Fin.ext (((cfg0.win 2).rect_emb_val t (ix2 a b) z).trans ?_))
  rw [index2]
  match z with
  | ⟨0, _⟩ => rfl
  | ⟨1, _⟩ => show 0 * 1024 + b.val = b.val; omega
theorem read3 (h : H) (t : Fin cfg0.N) (a : Fin 512) (b : Fin 1024) : ((cfg0.win 3).blk t).view.read (Elt Ideal) h (ix2 a b) = h (ix2 (rowOf t a) b) := by
  refine congrArg h (funext fun z => Fin.ext (((cfg0.win 3).rect_emb_val t (ix2 a b) z).trans ?_))
  rw [index3]
  match z with
  | ⟨0, _⟩ => rfl
  | ⟨1, _⟩ => show 0 * 1024 + b.val = b.val; omega
theorem read4 (g : G) (t : Fin cfg0.N) (b : Fin 1024) : ((cfg0.win 4).blk t).view.read (Elt Ideal) g (ix2 0 b) = g (ix2 0 b) := by
  refine congrArg g (funext fun z => Fin.ext (((cfg0.win 4).rect_emb_val t (ix2 0 b) z).trans ?_))
  rw [index4]
  match z with
  | ⟨0, _⟩ => rfl
  | ⟨1, _⟩ => show 0 * 1024 + b.val = b.val; omega

/-- Every place is in some band. -/
theorem place (i : S8192x1024.Idx) : ∃ (t : Fin cfg0.N) (a : Fin 512) (b : Fin 1024), i = ix2 (rowOf t a) b := by
  have h0 : (i 0).val < 8192 := (i 0).isLt
  refine ⟨⟨(i 0).val / 512, by show _ < 16; omega⟩, ⟨(i 0).val % 512, by omega⟩, i 1, ?_⟩
  funext z
  refine Fin.ext ?_
  match z with
  | ⟨0, _⟩ => show (i 0).val = (i 0).val / 512 * 512 + (i 0).val % 512; omega
  | ⟨1, _⟩ => rfl
/-- A place in a row of one. -/
theorem place1 (y : S1x1024.Idx) : ∃ b : Fin 1024, y = ix2 0 b :=
  ⟨y 1, funext fun z => match z with | ⟨0, _⟩ => Fin.ext (by have : (y 0).val < 1 := (y 0).isLt; show (y 0).val = 0; omega) | ⟨1, _⟩ => rfl⟩

/-- A band's rows are the reference's, the arrays being real. -/
theorem dx_of (z : Z) (w : W) (x d : H) (g : G) (hz : ∀ i, z i = ((z i : EReal).toReal : EReal)) (hw : ∀ i, w i = ((w i : EReal).toReal : EReal)) (hx : ∀ i, x i = ((x i : EReal).toReal : EReal)) (hd : ∀ i, d i = ((d i : EReal).toReal : EReal)) (hg : ∀ i, g i = ((g i : EReal).toReal : EReal)) (t : Fin cfg0.N) (a : Fin 512) (b : Fin 1024) :
    k0_pay5 (F := Ideal) (((cfg0.win 0).blk t).view.read (Elt Ideal) z : ZT) (((cfg0.win 1).blk t).view.read (Elt Ideal) w : W) (((cfg0.win 2).blk t).view.read (Elt Ideal) x : HT) (((cfg0.win 3).blk t).view.read (Elt Ideal) d : HT) (((cfg0.win 4).blk t).view.read (Elt Ideal) g : G) (ix2 a b) = dxR x (prodR z w g) d (ix2 (rowOf t a) b) := by
  refine (dxT_apply _ _ _ _ _ a b).trans (Eq.trans ?_ (dxR_apply _ _ _ _ b).symm)
  refine Eq.trans (congrFun (congr (congrArg₂ rowK (funext fun k => read2 x t a k) (funext fun k => ?_)) (funext fun k => read3 d t a k)) b) (row_eq_of _ (fun k => prodR z w g (ix2 (rowOf t a) k)) _ ⟨_, fun k => hx _⟩ ?_ ⟨_, fun k => hd _⟩ b)
  · refine Eq.trans ?_ (prodR_apply _ _ _ _ k).symm
    exact congrArg₂ (· * ·) (Finset.sum_congr rfl fun l _ => congrArg₂ (· * ·) (read0 z t a l) (read1 w t k l)) (read4 g t k)
  · obtain ⟨r, hr⟩ := prod_real (z := fun l => z (ix2 (rowOf t a) l)) (w := fun k l => w (ix2 k l)) (g := fun k => g (ix2 0 k)) (fun l => hz _) (fun k l => hw _) (fun k => hg _)
    exact ⟨r, fun k => (prodR_apply _ _ _ _ k).trans (hr k)⟩
/-- The bands' parts make the reference's sum. -/
theorem dg_of (z : Z) (w : W) (x : H) (t : Fin cfg0.N) (h : t.val % 16 = 15) (b : Fin 1024) :
    ∑ s : Fin 16, (fun t : Fin cfg0.N => k0_pay6 (F := Ideal) (((cfg0.win 0).blk t).view.read (Elt Ideal) z : ZT) (((cfg0.win 1).blk t).view.read (Elt Ideal) w : W) (((cfg0.win 2).blk t).view.read (Elt Ideal) x : HT)) ⟨16 * (t.val / 16) + s.val, Pipeline.run_point_lt_of_flush t h s⟩ (ix2 0 b) = dgR x (dotR z w) (ix2 0 b) := by
  refine Eq.trans ?_ (dgR_apply _ _ b).symm
  simp only [dgT_apply]
  refine Fin.sum_mul_add_congr fun s r hl => ?_
  have e : rowOf ⟨16 * (t.val / 16) + s.val, Pipeline.run_point_lt_of_flush t h s⟩ r = ⟨s.val * 512 + r.val, hl⟩ := Fin.ext (by have := t.isLt; have : cfg0.N = 16 := rfl; show (16 * (t.val / 16) + s.val) * 512 + r.val = s.val * 512 + r.val; omega)
  rw [dotR_apply, ← e]
  refine congrArg₂ (· * ·) (Finset.sum_congr rfl fun l _ => congrArg₂ (· * ·) (read0 z _ r l) (read1 w _ b l)) (congrArg₂ (· * ·) (read2 x _ r b) (congrArg rms (funext fun k => read2 x _ r k)))

variable (m : (ℓ : Loc nD τ sig) → Buf (Elt Ideal) ℓ) (c : Dev nD)

/-- The arguments as launched. -/
abbrev zM : Z := m ((c.tc : Thread nD τ).loc main_arg0)
abbrev wM : W := m ((c.tc : Thread nD τ).loc main_arg1)
abbrev xM : H := m ((c.tc : Thread nD τ).loc main_arg2)
abbrev dM : H := m ((c.tc : Thread nD τ).loc main_arg3)
abbrev gM : G := m ((c.tc : Thread nD τ).loc main_arg4)
/-- The reference's three results on them. -/
abbrev dxM : H := dxR (xM m c) (prodR (zM m c) (wM m c) (gM m c)) (dM m c)
abbrev dyM : FVec Ideal S8192x1024 .bf16 := truncf .bf16 (dxM m c) bitsLt_bf16_f32
abbrev dgM : G := dgR (xM m c) (dotR (zM m c) (wM m c))

/-- A point's gradient of its rows, and its part of the gradient of the scale. -/
abbrev dxT (t : Fin cfg0.N) : HT := k0_pay5 (F := Ideal) (iblk m c 0 t : ZT) (iblk m c 1 t : W) (iblk m c 2 t : HT) (iblk m c 3 t : HT) (iblk m c 4 t : G)
abbrev dgT (t : Fin cfg0.N) : G := k0_pay6 (F := Ideal) (iblk m c 0 t : ZT) (iblk m c 1 t : W) (iblk m c 2 t : HT)

/-- What a point leaves: its rows, and the sum so far. -/
theorem outs5 (t : Fin cfg0.N) : (outsAt0 m c t.val t.isLt).1 = dxT m c t := by
  by_cases h : t.val % 16 = 0
  · rw [outsAt0_A m c t h (by have : t.val < 16 := t.isLt; omega)]
    frame_out
  · rw [outsAt0_B m c t h (by omega)]
    frame_out
theorem outs6 (t : Fin cfg0.N) : (outsAt0 m c t.val t.isLt).2.1 = truncf .bf16 (dxT m c t) bitsLt_bf16_f32 := by
  by_cases h : t.val % 16 = 0
  · rw [outsAt0_A m c t h (by have : t.val < 16 := t.isLt; omega)]
    frame_out
    rfl
  · rw [outsAt0_B m c t h (by omega)]
    frame_out
    rfl
theorem outs7 (t : Fin cfg0.N) (h : t.val % 16 = 15) (i : S1x1024.Idx) : (outsAt0 m c t.val t.isLt).2.2 i = 0 + ∑ s : Fin 16, dgT m c ⟨16 * (t.val / 16) + s.val, Pipeline.run_point_lt_of_flush t h s⟩ i := by
  refine Pipeline.eq_sum_fin_of_reset_step_apply_of_flush (fun n h => (outsAt0 m c n h).2.2) 16 (fun _ => 0) (fun t => dgT m c t) (fun t h i => ?_) (fun t h i => ?_) t h i
  · rw [outsAt0_A m c t h (by have : t.val < 16 := t.isLt; omega), zero_add]
    frame_out
  · rw [outsAt0_B m c t h (by omega)]
    frame_out
    rw [pay1_apply]

/-- A point's rows are the reference's. -/
theorem dx_band (hz : ∀ i, zM m c i = ((zM m c i : EReal).toReal : EReal)) (hw : ∀ i, wM m c i = ((wM m c i : EReal).toReal : EReal)) (hx : ∀ i, xM m c i = ((xM m c i : EReal).toReal : EReal)) (hd : ∀ i, dM m c i = ((dM m c i : EReal).toReal : EReal)) (hg : ∀ i, gM m c i = ((gM m c i : EReal).toReal : EReal))
    (t : Fin cfg0.N) (a : Fin 512) (b : Fin 1024) : dxT m c t (ix2 a b) = dxM m c (ix2 (rowOf t a) b) :=
  dx_of _ _ _ _ _ hz hw hx hd hg t a b
theorem dg_band (t : Fin cfg0.N) (h : t.val % 16 = 15) (b : Fin 1024) : (outsAt0 m c t.val t.isLt).2.2 (ix2 0 b) = dgM m c (ix2 0 b) := by
  rw [outs7 m c t h, zero_add]
  exact dg_of _ _ _ t h b

theorem arr5 (h : ∀ t a b, dxT m c t (ix2 a b) = dxM m c (ix2 (rowOf t a) b)) : (dats m 0 c).arrAt 5 cfg0.N = dxM m c := by
  refine (dats m 0 c).arrAt_eq_of_cover 5 (dxM m c) (fun t _ => ?_) fun i => ?_
  · rw [Value.flushed5]
    funext y
    obtain ⟨a, b, rfl⟩ : ∃ (a : Fin 512) (b : Fin 1024), y = ix2 a b := ⟨y 0, y 1, funext fun z => match z with | ⟨0, _⟩ => rfl | ⟨1, _⟩ => rfl⟩
    show (outsAt0 m c t.val t.isLt).1 (ix2 a b) = dxM m c (((cfg0.win 5).blk t).view.emb (ix2 a b))
    rw [emb5, outs5]
    exact h t a b
  · obtain ⟨t, a, b, rfl⟩ := place i
    exact ⟨t, flush0_5 t, emb5 t a b ▸ ((cfg0.win 5).blk t).view.emb_mem_set _⟩
theorem arr6 (h : ∀ t a b, dxT m c t (ix2 a b) = dxM m c (ix2 (rowOf t a) b)) : (dats m 0 c).arrAt 6 cfg0.N = dyM m c := by
  refine (dats m 0 c).arrAt_eq_of_cover 6 (dyM m c) (fun t _ => ?_) fun i => ?_
  · rw [Value.flushed6]
    funext y
    obtain ⟨a, b, rfl⟩ : ∃ (a : Fin 512) (b : Fin 1024), y = ix2 a b := ⟨y 0, y 1, funext fun z => match z with | ⟨0, _⟩ => rfl | ⟨1, _⟩ => rfl⟩
    show (outsAt0 m c t.val t.isLt).2.1 (ix2 a b) = dyM m c (((cfg0.win 6).blk t).view.emb (ix2 a b))
    rw [emb6, outs6]
    exact h t a b
  · obtain ⟨t, a, b, rfl⟩ := place i
    exact ⟨t, flush0_6 t, emb6 t a b ▸ ((cfg0.win 6).blk t).view.emb_mem_set _⟩
theorem arr7 : (dats m 0 c).arrAt 7 cfg0.N = dgM m c := by
  refine (dats m 0 c).arrAt_eq_of_cover 7 (dgM m c) (fun t hf => ?_) fun i => ?_
  · rw [Value.flushed7]
    funext y
    obtain ⟨b, rfl⟩ := place1 y
    show (outsAt0 m c t.val t.isLt).2.2 (ix2 0 b) = dgM m c (((cfg0.win 7).blk t).view.emb (ix2 0 b))
    rw [emb7]
    exact dg_band m c t ((flush0_7 t).mp hf) b
  · obtain ⟨b, rfl⟩ := place1 i
    exact ⟨⟨15, by show _ < 16; omega⟩, (flush0_7 _).mpr rfl, emb7 ⟨15, by show _ < 16; omega⟩ b ▸ ((cfg0.win 7).blk _).view.emb_mem_set _⟩

/-- The kernel and the reference end with equal results. -/
theorem algebraic : Cert.algebraic_Kernel7Ideal_Reference7Ideal_pre_finite7 := by
  intro m g m' g' hpre hargs
  refine ⟨fun c => dxM m c, fun c => dyM m c, fun c => dgM m c, ?_, ?_⟩
  · refine (θ_run _ _ _).mono (fun r h c => ?_) (Value.run_blocks m g)
    have hb := dx_band m c (fun i => real_of_lt (congrFun (hpre c).1 i)) (fun i => real_of_lt (congrFun (hpre c).2.1 i)) (fun i => real_of_lt (congrFun (hpre c).2.2.1 i)) (fun i => real_of_lt (congrFun (hpre c).2.2.2.1 i)) (fun i => real_of_lt (congrFun (hpre c).2.2.2.2 i))
    exact ⟨(h c).1.trans (arr5 m c hb), (h c).2.1.trans (arr6 m c hb), (h c).2.2.1.trans (arr7 m c), (h c).2.2.2⟩
  · refine (θ_run _ _ _).mono (fun r h c => ?_) (Cert.Reference7Ideal.Value.run m' g')
    obtain ⟨h0, h1, h2, ha⟩ := h c
    have e0 : m' ((c.tc : Thread Cert.Reference7Ideal.nD Cert.Reference7Ideal.τ).loc Cert.Reference7Ideal.main_arg0) = zM m c := (hargs c).1
    have e1 : m' ((c.tc : Thread Cert.Reference7Ideal.nD Cert.Reference7Ideal.τ).loc Cert.Reference7Ideal.main_arg1) = wM m c := (hargs c).2.1
    have e2 : m' ((c.tc : Thread Cert.Reference7Ideal.nD Cert.Reference7Ideal.τ).loc Cert.Reference7Ideal.main_arg2) = xM m c := (hargs c).2.2.1
    have e3 : m' ((c.tc : Thread Cert.Reference7Ideal.nD Cert.Reference7Ideal.τ).loc Cert.Reference7Ideal.main_arg3) = dM m c := (hargs c).2.2.2.1
    have e4 : m' ((c.tc : Thread Cert.Reference7Ideal.nD Cert.Reference7Ideal.τ).loc Cert.Reference7Ideal.main_arg4) = gM m c := (hargs c).2.2.2.2
    rw [e2, e0, e1] at h2
    unfold Cert.Reference7Ideal.Value.res_main_v38 at h0
    rw [e0, e1, e2, e3, e4] at h0
    unfold Cert.Reference7Ideal.Value.res_main_v39 at h1
    rw [e0, e1, e2, e3, e4] at h1
    exact ⟨h0, h1, h2, ha⟩

/-- The reference's frame: no operation writes an argument, and the program declares no counter. -/
theorem frame_reference : Cert.quiescent_Reference7Ideal := fun m g _ =>
  (θ_run _ _ _).mono (fun r h => ⟨fun c => (h c).2.2.2, sem_eq_zero_of_no_sems (by decide) r.2⟩) (Cert.Reference7Ideal.Value.run m g)
theorem frame_reference_pre : Cert.quiescent_Reference7Ideal_pre_finite7 := fun m g _ =>
  (θ_run _ _ _).mono (fun r h => ⟨fun c => (h c).2.2.2, sem_eq_zero_of_no_sems (by decide) r.2⟩) (Cert.Reference7Ideal.Value.run m g)

end Cert.Kernel7Ideal.Dhn2

end
-- ==== Proof.Ffn2.lean ====
module

public import proofs.«01_k».proof.Proof.Dhn2
public import proofs.«01_k».proof.Proof.Gen.Kernel4Ideal.Value
public import proofs.«01_k».proof.Proof.Gen.Reference4Ideal.Run
public import Idealize.ShloMosaic.Lib.IdealHost
public import Idealize.ShloMosaic.Lib.Claim
public import Idealize.ShloMosaic.Lib.Pointwise
public import Idealize.ShloMosaic.Lib.ValueIdx

/-! The second feed-forward product with the residual and the norm after it: its bands of rows, one below the other, are the
reference's two arrays. -/

@[expose] public section

set_option maxRecDepth 16384
noncomputable section

namespace Cert.Kernel4Ideal.Ffn2

open Cert.Kernel4Ideal Cert.Kernel4Ideal.Gen
open Idealize.ShloMosaic Idealize.ShloMosaic.TcCoe Idealize.SL.Sem
open Cert.Kernel7Ideal.Dhn2 (rowOf place)
open scoped BigOperators

/-- The arguments. -/
abbrev X := FVec Ideal S8192x4096 .bf16
abbrev W := FVec Ideal S4096x1024 .bf16
abbrev H := FVec Ideal S8192x1024 .f32
abbrev G := FVec Ideal S1x1024 .f32
/-- A band of rows. -/
abbrev XT := FVec Ideal S512x4096 .bf16
abbrev HT := FVec Ideal S512x1024 .f32

/-- The reference's sum of the residual and the product. -/
def sumR (x : X) (w : W) (h : H) : H := addf h (Host.dotGeneral (F := Ideal) Cert.Reference4Ideal.dot_S8192x4096_S4096x1024_S8192x1024_1_0_0_1_n_n none (extf .f32 x bitsLt_bf16_f32) (extf .f32 w bitsLt_bf16_f32))
theorem sumR_apply (x : X) (w : W) (h : H) (a : Fin 8192) (b : Fin 1024) : sumR x w h (ix2 a b) = h (ix2 a b) + ∑ k, x (ix2 a k) * w (ix2 k b) := by
  pointwise [sumR]

open Cert.Reference4Ideal Cert.Reference4Ideal.Gen in
/-- The reference's norm of it. -/
def normR (y : H) (g : G) : FVec Ideal S8192x1024 .bf16 :=
  truncf .bf16 (mulf (mulf y (broadcastInDim Cert.Reference4Ideal.S8192x1024 ![0, 1] bcast_S8192x1_S8192x1024_0_1 (Host.rsqrt (F := Ideal) (addf (Host.divf (broadcastInDim S8192x1 ![0] bcast_S8192_S8192x1_0
    (Host.reduceAdd (mulf y y) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim Cert.Reference4Ideal.S8192x1024 ![0, 1] bcast_S1x1024_S8192x1024_0_1 g)) Cert.Reference4Ideal.Gen.bitsLt_bf16_f32
theorem normR_apply (y : H) (g : G) (a : Fin 8192) (b : Fin 1024) :
    normR y g (ix2 a b) = y (ix2 a b) * Ideal.rsqrt (Ideal.div (∑ k, y (ix2 a k) * y (ix2 a k)) (Ideal.ofBits .f32 0x44800000#32) + Ideal.ofBits .f32 0x358637BD#32) * g (ix2 0 b) := by
  pointwise [normR]

/-- A band's sum. -/
theorem sum_apply (x : XT) (w : W) (h : HT) (a : Fin 512) (b : Fin 1024) : k0_pay1 (F := Ideal) x w h (ix2 a b) = h (ix2 a b) + ∑ k, x (ix2 a k) * w (ix2 k b) := by
  pointwise [k0_pay1]
  exact add_comm _ _

/-- A band's norm. -/
def normT (y : HT) (g : G) : FVec Ideal S512x1024 .bf16 :=
  truncf .bf16 (mulf (mulf y (broadcastTo S512x1024 (rsqrt (addf (divf (shapeCast S512x1 (multiReduction (F := Ideal) .add [1] S512 (mulf y y) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)) (broadcastTo S512x1024 g broadcasts_S1x1024_S512x1024)) bitsLt_bf16_f32
theorem pay_norm (x : XT) (w : W) (h : HT) (g : G) : k0_pay2 (F := Ideal) x w h g = normT (k0_pay1 (F := Ideal) x w h) g := rfl
theorem normT_apply (y : HT) (g : G) (a : Fin 512) (b : Fin 1024) :
    normT y g (ix2 a b) = y (ix2 a b) * Ideal.rsqrt (Ideal.div (∑ k, y (ix2 a k) * y (ix2 a k)) (Ideal.ofBits .f32 0x44800000#32) + Ideal.ofBits .f32 0x358637BD#32) * g (ix2 0 b) := by
  pointwise [normT]

/-- The bands are those of the gradient before the first product; the matrix is read whole. -/
theorem index1 : ∀ t : Fin cfg0.N, (cfg0.win 1).index t = ![0, 0] := (by decide +kernel : ∀ t : Fin grid0.N, win0_1.index t = ![0, 0])

theorem emb4 (t : Fin cfg0.N) (a : Fin 512) (b : Fin 1024) : ((cfg0.win 4).blk t).view.emb (ix2 a b) = ix2 (rowOf t a) b := Cert.Kernel7Ideal.Dhn2.emb5 t a b
theorem emb5 (t : Fin cfg0.N) (a : Fin 512) (b : Fin 1024) : ((cfg0.win 5).blk t).view.emb (ix2 a b) = ix2 (rowOf t a) b := Cert.Kernel7Ideal.Dhn2.emb6 t a b
theorem read0 (x : X) (t : Fin cfg0.N) (a : Fin 512) (k : Fin 4096) : ((cfg0.win 0).blk t).view.read (Elt Ideal) x (ix2 a k) = x (ix2 (rowOf t a) k) := Cert.Kernel7Ideal.Dhn2.read0 x t a k
theorem read1 (w : W) (t : Fin cfg0.N) (k : Fin 4096) (b : Fin 1024) : ((cfg0.win 1).blk t).view.read (Elt Ideal) w (ix2 k b) = w (ix2 k b) := by
  refine congrArg w (funext fun z => Fin.ext (((cfg0.win 1).rect_emb_val t (ix2 k b) z).trans ?_))
  rw [index1]
  match z with
  | ⟨0, _⟩ => show 0 * 4096 + k.val = k.val; omega
  | ⟨1, _⟩ => show 0 * 1024 + b.val = b.val; omega
theorem read2 (h : H) (t : Fin cfg0.N) (a : Fin 512) (b : Fin 1024) : ((cfg0.win 2).blk t).view.read (Elt Ideal) h (ix2 a b) = h (ix2 (rowOf t a) b) := Cert.Kernel7Ideal.Dhn2.read2 h t a b
theorem read3 (g : G) (t : Fin cfg0.N) (b : Fin 1024) : ((cfg0.win 3).blk t).view.read (Elt Ideal) g (ix2 0 b) = g (ix2 0 b) := Cert.Kernel7Ideal.Dhn2.read4 g t b

theorem zeros : (![0, 0] : Fin 2 → ℕ) = fun _ => 0 := by decide

variable (m : (ℓ : Loc nD τ sig) → Buf (Elt Ideal) ℓ) (c : Dev nD)

/-- The arguments as launched. -/
abbrev xM : X := m ((c.tc : Thread nD τ).loc main_arg0)
abbrev wM : W := m ((c.tc : Thread nD τ).loc main_arg1)
abbrev hM : H := m ((c.tc : Thread nD τ).loc main_arg2)
abbrev gM : G := m ((c.tc : Thread nD τ).loc main_arg3)

/-- A band's sum at a point of the grid. -/
abbrev bandSum (t : Fin cfg0.N) : HT := k0_pay1 (F := Ideal) (iblk m c 0 t : XT) (iblk m c 1 t : W) (iblk m c 2 t : HT)
theorem band_sum (t : Fin cfg0.N) (a : Fin 512) (b : Fin 1024) : bandSum m c t (ix2 a b) = sumR (xM m c) (wM m c) (hM m c) (ix2 (rowOf t a) b) := by
  rw [sumR_apply]
  refine (sum_apply _ _ _ a b).trans ?_
  exact congrArg₂ (· + ·) (read2 (hM m c) t a b) (Finset.sum_congr rfl fun k _ => congrArg₂ (· * ·) (read0 (xM m c) t a k) (read1 (wM m c) t k b))
theorem band_norm (t : Fin cfg0.N) (a : Fin 512) (b : Fin 1024) :
    normT (bandSum m c t) (iblk m c 3 t : G) (ix2 a b) = normR (sumR (xM m c) (wM m c) (hM m c)) (gM m c) (ix2 (rowOf t a) b) := by
  rw [normT_apply, normR_apply, show (iblk m c 3 t : G) (ix2 0 b) = gM m c (ix2 0 b) from read3 (gM m c) t b]
  simp only [band_sum]

theorem arr4 : (dats m 0 c).arrAt 4 cfg0.N = sumR (xM m c) (wM m c) (hM m c) := by
  refine (dats m 0 c).arrAt_eq_of_cover 4 (sumR (xM m c) (wM m c) (hM m c)) (fun t _ => ?_) fun i => ?_
  · rw [Value.flushed4]
    funext y
    obtain ⟨a, b, rfl⟩ : ∃ (a : Fin 512) (b : Fin 1024), y = ix2 a b := ⟨y 0, y 1, funext fun z => match z with | ⟨0, _⟩ => rfl | ⟨1, _⟩ => rfl⟩
    show out0_4 (iblk m c 0 t) (iblk m c 1 t) (iblk m c 2 t) (iblk m c 3 t) (ix2 a b) = sumR (xM m c) (wM m c) (hM m c) (((cfg0.win 4).blk t).view.emb (ix2 a b))
    rw [emb4]
    unfold out0_4 r0_0 r0_1 r0_2
    rw [View.canon_unit_zero zeros, View.ld_unit_zero zeros, View.ld_unit_zero zeros, View.ld_unit_zero zeros]
    exact band_sum m c t a b
  · obtain ⟨t, a, b, rfl⟩ := place i
    exact ⟨t, flush0_4 t, emb4 t a b ▸ ((cfg0.win 4).blk t).view.emb_mem_set (ix2 a b)⟩

theorem arr5 : (dats m 0 c).arrAt 5 cfg0.N = normR (sumR (xM m c) (wM m c) (hM m c)) (gM m c) := by
  refine (dats m 0 c).arrAt_eq_of_cover 5 (normR (sumR (xM m c) (wM m c) (hM m c)) (gM m c)) (fun t _ => ?_) fun i => ?_
  · rw [Value.flushed5]
    funext y
    obtain ⟨a, b, rfl⟩ : ∃ (a : Fin 512) (b : Fin 1024), y = ix2 a b := ⟨y 0, y 1, funext fun z => match z with | ⟨0, _⟩ => rfl | ⟨1, _⟩ => rfl⟩
    show out0_5 (iblk m c 0 t) (iblk m c 1 t) (iblk m c 2 t) (iblk m c 3 t) (ix2 a b) = normR (sumR (xM m c) (wM m c) (hM m c)) (gM m c) (((cfg0.win 5).blk t).view.emb (ix2 a b))
    rw [emb5]
    unfold out0_5 r0_0 r0_1 r0_2 r0_3
    rw [View.canon_unit_zero zeros, View.ld_unit_zero zeros, View.ld_unit_zero zeros, View.ld_unit_zero zeros, View.ld_unit_zero zeros]
    exact (congrFun (pay_norm _ _ _ _) (ix2 a b)).trans (band_norm m c t a b)
  · obtain ⟨t, a, b, rfl⟩ := place i
    exact ⟨t, flush0_5 t, emb5 t a b ▸ ((cfg0.win 5).blk t).view.emb_mem_set (ix2 a b)⟩

/-- The kernel and the reference end with equal results. -/
theorem algebraic : Cert.algebraic_Kernel4Ideal_Reference4Ideal := by
  intro m g m' g' _ hargs
  refine ⟨fun c => sumR (xM m c) (wM m c) (hM m c), fun c => normR (sumR (xM m c) (wM m c) (hM m c)) (gM m c), ?_, ?_⟩
  · exact (θ_run _ _ _).mono (fun r h c => ⟨(h c).1.trans (arr4 m c), (h c).2.1.trans (arr5 m c), (h c).2.2⟩) (Value.run_blocks m g)
  · refine (θ_run _ _ _).mono (fun r h c => ?_) (Cert.Reference4Ideal.Value.run m' g')
    obtain ⟨h0, h1, ha⟩ := h c
    have e0 : m' ((c.tc : Thread Cert.Reference4Ideal.nD Cert.Reference4Ideal.τ).loc Cert.Reference4Ideal.main_arg0) = xM m c := (hargs c).1
    have e1 : m' ((c.tc : Thread Cert.Reference4Ideal.nD Cert.Reference4Ideal.τ).loc Cert.Reference4Ideal.main_arg1) = wM m c := (hargs c).2.1
    have e2 : m' ((c.tc : Thread Cert.Reference4Ideal.nD Cert.Reference4Ideal.τ).loc Cert.Reference4Ideal.main_arg2) = hM m c := (hargs c).2.2.1
    have e3 : m' ((c.tc : Thread Cert.Reference4Ideal.nD Cert.Reference4Ideal.τ).loc Cert.Reference4Ideal.main_arg3) = gM m c := (hargs c).2.2.2
    rw [e0, e1, e2] at h0
    rw [e0, e1, e2, e3] at h1
    exact ⟨h0, h1, ha⟩

/-- The reference's frame: no operation writes an argument, and the program declares no counter. -/
theorem frame_reference : Cert.quiescent_Reference4Ideal := fun m g _ =>
  (θ_run _ _ _).mono (fun r h => ⟨fun c => (h c).2.2, sem_eq_zero_of_no_sems (by decide) r.2⟩) (Cert.Reference4Ideal.Value.run m g)

end Cert.Kernel4Ideal.Ffn2

end
-- ==== Proof.Shards.lean ====
module

public import proofs.«01_k».proof.Proof.Gen.Kernel5Ideal.Points
public import proofs.«01_k».proof.Proof.Gen.Reference5Ideal
public import Idealize.ShloMosaic.Lib.IdealHost
public import Idealize.ShloMosaic.Lib.ValueIdx
public import Idealize.ShloMosaic.Lib.Pipeline.ValueKit

/-! The packed buffer of gradients, four shards of 13312 rows, with 1024 rows of each written from row `n * 1024` on. -/

@[expose] public section

set_option maxRecDepth 16384
noncomputable section

namespace Cert.Shards

open Idealize.ShloMosaic Idealize.ShloMosaic.TcCoe Idealize.SL.Sem

/-- The buffer, and one matrix's gradient as four shards. -/
abbrev SB : Shape := Cert.Kernel5Ideal.S4x13312x1024
abbrev SG : Shape := Cert.Reference5Ideal.S4x1024x1024
abbrev B := FVec Ideal SB .bf16
abbrev G := FVec Ideal SG .bf16

/-- The rows lie in the buffer. -/
theorem slices : ∀ n : Fin 13, SB.Slices ![0, n.val * 1024, 0] SG := by decide +kernel
/-- The buffer with the gradient written in. -/
def put (n : Fin 13) (g : G) (z : B) : B := updateSlice z g ![0, n.val * 1024, 0] (slices n)
/-- A shard's row in the buffer. -/
def row (n : Fin 13) (a : Fin 1024) : Fin 13312 := ⟨n.val * 1024 + a.val, by omega⟩

theorem put_in (n : Fin 13) (g : G) (z : B) (s : Fin 4) (a b : Fin 1024) : put n g z (ix3 s (row n a) b) = g (ix3 s a b) := by
  have hin : ∀ z : Fin 3, (![0, n.val * 1024, 0] : Fin 3 → ℕ) z ≤ ((ix3 s (row n a) b : SB.Idx) z).val ∧ ((ix3 s (row n a) b : SB.Idx) z).val < (![0, n.val * 1024, 0] : Fin 3 → ℕ) z + SG.size z := fun z => match z with
    | ⟨0, _⟩ => ⟨Nat.zero_le _, by show s.val < 0 + 4; omega⟩
    | ⟨1, _⟩ => ⟨by show n.val * 1024 ≤ n.val * 1024 + a.val; omega, by show n.val * 1024 + a.val < n.val * 1024 + 1024; omega⟩
    | ⟨2, _⟩ => ⟨Nat.zero_le _, by show b.val < 0 + 1024; omega⟩
  refine (dif_pos hin).trans (congrArg g (funext fun z => Fin.ext ?_))
  match z with
  | ⟨0, _⟩ => rfl
  | ⟨1, _⟩ => show n.val * 1024 + a.val - n.val * 1024 = a.val; omega
  | ⟨2, _⟩ => rfl
theorem put_out (n : Fin 13) (g : G) (z : B) (i : SB.Idx) (h : ¬ (n.val * 1024 ≤ (i 1).val ∧ (i 1).val < n.val * 1024 + 1024)) : put n g z i = z i := by
  refine dif_neg fun hin => h ?_
  exact hin 1

/-- An array that holds the gradient in its rows and the buffer elsewhere is the buffer with the gradient written in. -/
theorem eq_put (n : Fin 13) (g : G) (z A : B) (hin : ∀ (s : Fin 4) (a b : Fin 1024), A (ix3 s (row n a) b) = g (ix3 s a b))
    (hout : ∀ i : SB.Idx, ¬ (n.val * 1024 ≤ (i 1).val ∧ (i 1).val < n.val * 1024 + 1024) → A i = z i) : A = put n g z := by
  funext i
  by_cases hi : n.val * 1024 ≤ (i 1).val ∧ (i 1).val < n.val * 1024 + 1024
  · have he : i = ix3 (i 0) (row n ⟨(i 1).val - n.val * 1024, by omega⟩) (i 2) := by
      funext z
      refine Fin.ext ?_
      match z with
      | ⟨0, _⟩ => rfl
      | ⟨1, _⟩ => show (i 1).val = n.val * 1024 + ((i 1).val - n.val * 1024); omega
      | ⟨2, _⟩ => rfl
    rw [he]
    exact (hin _ _ _).trans (put_in n g z _ _ _).symm
  · exact (hout i hi).trans (put_out n g z i hi).symm

/-- A tile's index, by its row and column. -/
theorem tile_cases (y : Cert.Kernel5Ideal.S1x1024x1024.Idx) : ∃ a b : Fin 1024, y = ix3 0 a b :=
  ⟨y 1, y 2, funext fun z => match z with | ⟨0, _⟩ => Fin.ext (by have : (y 0).val < 1 := (y 0).isLt; show (y 0).val = 0; omega) | ⟨1, _⟩ => rfl | ⟨2, _⟩ => rfl⟩

/-- The shard a point of the grid is at. -/
def band (t : Fin 16) : Fin 4 := ⟨t.val / 4, by omega⟩

/-- A tile's place in the buffer. -/
theorem place (n : Fin 13) (t : Fin 16) (a b : Fin 1024) {i : SB.Idx} {f : Fin 3 → ℕ} (h : ∀ z, (i z).val = f z * Cert.Kernel5Ideal.S1x1024x1024.size z + ((ix3 0 a b : Cert.Kernel5Ideal.S1x1024x1024.Idx) z).val)
    (hf : f = ![t.val / 4, n.val, 0]) : i = ix3 (band t) (row n a) b := by
  subst hf
  funext z
  refine Fin.ext ((h z).trans ?_)
  match z with
  | ⟨0, _⟩ => show t.val / 4 * 1 + 0 = t.val / 4; omega
  | ⟨1, _⟩ => rfl
  | ⟨2, _⟩ => show 0 * 1024 + b.val = b.val; omega

/-- The buffer that a launch leaves: where a shard's last point writes its tile it has the gradient, where none writes it is as it was. -/
theorem arr_put (n : Fin 13) (g : G) (z A : B) (fl : Fin 16 → Bool) (emb : Fin 16 → Cert.Kernel5Ideal.S1x1024x1024.Idx → SB.Idx) (o : Fin 16 → FVec Ideal Cert.Kernel5Ideal.S1x1024x1024 .bf16)
    (hf : ∀ t, fl t = true ↔ t.val % 4 = 3) (he : ∀ t a b, emb t (ix3 0 a b) = ix3 (band t) (row n a) b) (hb : ∀ t, t.val % 4 = 3 → ∀ a b, o t (ix3 0 a b) = g (ix3 (band t) a b))
    (hmem : (∀ t, fl t = true → o t = fun y => put n g z (emb t y)) → ∀ t y, fl t = true → A (emb t y) = put n g z (emb t y))
    (hent : ∀ i, (∀ t, fl t = true → ∀ y, emb t y ≠ i) → A i = z i) : A = put n g z := by
  refine eq_put n _ _ _ (fun s a b => ?_) fun i hi => hent i fun t _ y hy => hi ?_
  · obtain ⟨t, ht⟩ : ∃ t : Fin 16, t.val = 4 * s.val + 3 := ⟨⟨4 * s.val + 3, by omega⟩, rfl⟩
    have hs : band t = s := Fin.ext (by show t.val / 4 = s.val; omega)
    have h := hmem (fun t hft => funext fun y => ?_) t (ix3 0 a b) ((hf t).mpr (by omega))
    · rwa [he, hs, put_in] at h
    · obtain ⟨a, b, rfl⟩ := tile_cases y
      rw [he, put_in]
      exact hb t ((hf t).mp hft) a b
  · obtain ⟨a, b, rfl⟩ := tile_cases y
    have h1 : (i 1).val = n.val * 1024 + a.val := by rw [← hy, he]; rfl
    omega

end Cert.Shards

end
-- ==== Proof.Dffn2.lean ====
module

public import proofs.«01_k».proof.Defs
public import proofs.«01_k».proof.Proof.Gen.Kernel5Ideal.Value
public import proofs.«01_k».proof.Proof.Gen.Reference5Ideal.Run
public import proofs.«01_k».proof.Proof.Shards
public import Idealize.ShloMosaic.Lib.IdealHost
public import Idealize.ShloMosaic.Lib.Claim
public import Idealize.ShloMosaic.Lib.Pointwise
public import Idealize.ShloMosaic.Lib.ValueIdx
public import Idealize.ShloMosaic.Lib.Pipeline.ValueKit

/-! The second feed-forward weight's gradient: four bands of its rows, each the sum over four runs of 2048 tokens, written into
the packed buffer's four slices at row 7168; together the reference's update of the buffer. -/

@[expose] public section

set_option maxRecDepth 16384
noncomputable section

namespace Cert.Kernel5Ideal.Dffn2

open Cert.Kernel5Ideal Cert.Kernel5Ideal.Gen
open Idealize.ShloMosaic Idealize.ShloMosaic.TcCoe Idealize.SL.Sem
open scoped BigOperators

/-- The arguments, the packed buffer and a tile. -/
abbrev X := FVec Ideal S8192x4096 .bf16
abbrev Y := FVec Ideal S8192x1024 .bf16
abbrev B := FVec Ideal S4x13312x1024 .bf16
abbrev I := FVec Ideal S2048x1024 .bf16
abbrev T := FVec Ideal S1024x1024 .f32

/-- The reference's gradient, in four bands of rows. -/
def gradR (x : X) (y : Y) : FVec Ideal Cert.Reference5Ideal.S4x1024x1024 .bf16 :=
  shapeCast _ (truncf .bf16 (transpose Cert.Reference5Ideal.S4096x1024 [1, 0] (Host.dotGeneral (F := Ideal) Cert.Reference5Ideal.dot_S8192x1024_S8192x4096_S1024x4096_0_0_1_1_n_n none (extf .f32 y bitsLt_bf16_f32) (extf .f32 x bitsLt_bf16_f32))
    Cert.Reference5Ideal.Gen.transposes_S1024x4096_S4096x1024_1_0) bitsLt_bf16_f32) Cert.Reference5Ideal.Gen.shapeCasts_S4096x1024_S4x1024x1024
/-- A band's row in the gradient. -/
def rowOf (s : Fin 4) (a : Fin 1024) : Fin 4096 := ⟨s.val * 1024 + a.val, by omega⟩
theorem gradR_apply (x : X) (y : Y) (s : Fin 4) (a b : Fin 1024) : gradR x y (ix3 s a b) = ∑ l, x (ix2 l (rowOf s a)) * y (ix2 l b) := by
  pointwise [gradR, rowOf]
  exact Finset.sum_congr rfl fun _ _ => mul_comm _ _

/-- The reference's result: the buffer with the gradient written in. -/
theorem bufR_eq (x : X) (y : Y) (z : B) : Host.dynamicUpdateSlice z (gradR x y) (fun k => (((![constantI Cert.Reference5Ideal.S_ 32 0#32, constantI Cert.Reference5Ideal.S_ 32 7168#32, constantI Cert.Reference5Ideal.S_ 32 0#32] : Fin 3 → (⟨Cert.Reference5Ideal.S_, .i32⟩ : BufTy).Contents (Elt Ideal)) k) (Shape.Idx.first Cert.Reference5Ideal.Gen.h_S_)).toInt) Cert.Reference5Ideal.Gen.updateFits_S4x13312x1024_S4x1024x1024
    = Shards.put 7 (gradR x y) z :=
  Host.dynamicUpdateSlice_eq_updateSlice _ _ _ _ _ (by decide) _

/-- A tile's product. -/
def part (x y : I) (i : S1024x1024.Idx) : EReal := k0_pay1 (F := Ideal) x y i
theorem part_apply (x y : I) (a b : Fin 1024) : part x y (ix2 a b) = ∑ r, x (ix2 r a) * y (ix2 r b) := by
  pointwise [part, k0_pay1]
theorem pay2_apply (x y : I) (i : S1024x1024.Idx) : k0_pay2 (F := Ideal) x y i = part x y i := by
  pointwise [part, k0_pay2]
theorem pay3_apply (x y : I) (t : T) (i : S1024x1024.Idx) : k0_pay3 (F := Ideal) x y t i = t i + part x y i := by
  pointwise [part, k0_pay3]
theorem pay4_apply (t : T) (a b : Fin 1024) : k0_pay4 (F := Ideal) t (ix3 0 a b) = t (ix2 a b) := by
  pointwise [k0_pay4]

/-- The tiles a point of the grid is at. -/
theorem index0 : ∀ t : Fin cfg0.N, (cfg0.win 0).index t = ![t.val % 4, t.val / 4] := (by decide +kernel : ∀ t : Fin grid0.N, win0_0.index t = ![t.val % 4, t.val / 4])
theorem index1 : ∀ t : Fin cfg0.N, (cfg0.win 1).index t = ![t.val % 4, 0] := (by decide +kernel : ∀ t : Fin grid0.N, win0_1.index t = ![t.val % 4, 0])
theorem index2 : ∀ t : Fin cfg0.N, (cfg0.win 2).index t = ![t.val / 4, 7, 0] := (by decide +kernel : ∀ t : Fin grid0.N, win0_2.index t = ![t.val / 4, 7, 0])

/-- The band a point is at. -/
def bandOf (t : Fin cfg0.N) : Fin 4 := ⟨t.val / 4, by have := t.isLt; have : cfg0.N = 16 := rfl; omega⟩
/-- A run's token. -/
def tokOf (t : Fin cfg0.N) (r : Fin 2048) : Fin 8192 := ⟨t.val % 4 * 2048 + r.val, by omega⟩

theorem emb2 (t : Fin cfg0.N) (a b : Fin 1024) : ((cfg0.win 2).blk t).view.emb (ix3 0 a b) = ix3 (bandOf t) (Shards.row 7 a) b := Shards.place 7 t a b ((cfg0.win 2).rect_emb_val t (ix3 0 a b)) (index2 t)
theorem read0 (x : X) (t : Fin cfg0.N) (r : Fin 2048) (a : Fin 1024) : ((cfg0.win 0).blk t).view.read (Elt Ideal) x (ix2 r a) = x (ix2 (tokOf t r) (rowOf (bandOf t) a)) := by
  refine congrArg x (funext fun z => Fin.ext (((cfg0.win 0).rect_emb_val t (ix2 r a) z).trans ?_))
  rw [index0]
  match z with
  | ⟨0, _⟩ => rfl
  | ⟨1, _⟩ => rfl
theorem read1 (y : Y) (t : Fin cfg0.N) (r : Fin 2048) (b : Fin 1024) : ((cfg0.win 1).blk t).view.read (Elt Ideal) y (ix2 r b) = y (ix2 (tokOf t r) b) := by
  refine congrArg y (funext fun z => Fin.ext (((cfg0.win 1).rect_emb_val t (ix2 r b) z).trans ?_))
  rw [index1]
  match z with
  | ⟨0, _⟩ => rfl
  | ⟨1, _⟩ => show 0 * 1024 + b.val = b.val; omega

/-- A run of the grid's points: at a band's first point the accumulator is the tile's product, at every other it is added to, and at
the last one it is written out. Then what is written out is the gradient's band. -/
theorem band_of (x : X) (y : Y) (xb yb : Fin cfg0.N → I) (o : (n : ℕ) → n < cfg0.N → FVec Ideal S1x1024x1024 .bf16 × T)
    (hx : ∀ (t : Fin cfg0.N) (r : Fin 2048) (a : Fin 1024), xb t (ix2 r a) = x (ix2 (tokOf t r) (rowOf (bandOf t) a)))
    (hy : ∀ (t : Fin cfg0.N) (r : Fin 2048) (b : Fin 1024), yb t (ix2 r b) = y (ix2 (tokOf t r) b))
    (h0 : ∀ t : Fin cfg0.N, t.val % 4 = 0 → (o t.val t.isLt).2 = k0_pay2 (F := Ideal) (xb t) (yb t))
    (h1 : ∀ t : Fin cfg0.N, ¬t.val % 4 = 0 → (o t.val t.isLt).2 = k0_pay3 (F := Ideal) (xb t) (yb t) (o (t.val - 1) (Nat.lt_of_le_of_lt (Nat.sub_le _ _) t.isLt)).2)
    (h2 : ∀ t : Fin cfg0.N, t.val % 4 = 3 → (o t.val t.isLt).1 = k0_pay4 (F := Ideal) (o t.val t.isLt).2)
    (t : Fin cfg0.N) (h : t.val % 4 = 3) (a b : Fin 1024) : (o t.val t.isLt).1 (ix3 0 a b) = gradR x y (ix3 (bandOf t) a b) := by
  have acc : (o t.val t.isLt).2 (ix2 a b) = 0 + ∑ s : Fin 4, part (xb ⟨4 * (t.val / 4) + s.val, Pipeline.run_point_lt_of_flush t h s⟩) (yb ⟨4 * (t.val / 4) + s.val, Pipeline.run_point_lt_of_flush t h s⟩) (ix2 a b) := by
    refine Pipeline.eq_sum_fin_of_reset_step_apply_of_flush (fun n h => (o n h).2) 4 (fun _ => 0) (fun t => part (xb t) (yb t)) (fun t h i => ?_) (fun t h i => ?_) t h (ix2 a b)
    · exact (congrFun (h0 t h) i).trans ((pay2_apply _ _ i).trans (zero_add _).symm)
    · exact (congrFun (h1 t h) i).trans (pay3_apply _ _ _ i)
  rw [h2 t h, pay4_apply, acc, zero_add, gradR_apply]
  simp only [part_apply]
  refine Fin.sum_mul_add_congr fun s r hl => ?_
  have hb : bandOf ⟨4 * (t.val / 4) + s.val, Pipeline.run_point_lt_of_flush t h s⟩ = bandOf t := Fin.ext (by show (4 * (t.val / 4) + s.val) / 4 = t.val / 4; omega)
  have ht : tokOf ⟨4 * (t.val / 4) + s.val, Pipeline.run_point_lt_of_flush t h s⟩ r = ⟨s.val * 2048 + r.val, hl⟩ := Fin.ext (by show (4 * (t.val / 4) + s.val) % 4 * 2048 + r.val = s.val * 2048 + r.val; omega)
  refine congrArg₂ (· * ·) ((hx _ r a).trans ?_) ((hy _ r b).trans ?_)
  · rw [hb, ht]
  · rw [ht]

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)
abbrev zM : B := m ((c.tc : Thread nD τ).loc main_arg2)

/-- The launch runs so. -/
theorem band (t : Fin cfg0.N) (h : t.val % 4 = 3) (a b : Fin 1024) : (outsAt0 m c t.val t.isLt).1 (ix3 0 a b) = gradR (xM m c) (yM m c) (ix3 (bandOf t) a b) := by
  refine band_of (xM m c) (yM m c) (fun t => iblk m c 0 t) (fun t => iblk m c 1 t) (outsAt0 m c) (read0 (xM m c)) (read1 (yM m c)) (fun t h => ?_) (fun t h => ?_) (fun t h => ?_) t h a b
  · rw [outsAt0_A m c t h (by omega) (by omega)]
    frame_out
  · by_cases h2 : t.val % 4 = 3
    · rw [outsAt0_C m c t h (by omega) h2]
      frame_out
      exact congrArg (k0_pay3 (F := Ideal) _ _) (Memref.IsWhole.read_unread _ _)
    · rw [outsAt0_B m c t h (by omega) h2]
      frame_out
      exact congrArg (k0_pay3 (F := Ideal) _ _) (Memref.IsWhole.read_unread _ _)
  · rw [outsAt0_C m c t (by omega) (by omega) h]
    frame_out

/-- The buffer at the end. -/
theorem arr2 : (dats m 0 c).arrAt 2 cfg0.N = Shards.put 7 (gradR (xM m c) (yM m c)) (zM m c) := by
  refine Shards.arr_put 7 _ _ _ (cfg0.win 2).flush (fun t => ((cfg0.win 2).blk t).view.emb) (fun t => (outsAt0 m c t.val t.isLt).1) flush0_2 emb2 (band m c) (fun h t y hf => ?_) fun i h => ?_
  · exact (dats m 0 c).arrAt_apply_of_mem 2 (Shards.put 7 (gradR (xM m c) (yM m c)) (zM m c)) (fun t hf => (Value.flushed2 m c t).trans (h t hf)) _ t _ t.isLt hf (((cfg0.win 2).blk t).view.emb_mem_set y)
  · refine (Value.entry2 m c i fun t hf hm => (Finset.mem_map.mp hm).elim fun y hy => h t hf y hy.2).trans (congrFun (g := zM m c) ?_ i)
    show StableHlo.after hostOps0 (fun b => m (c, b)) main_v0 = _
    after_results
    rfl

/-- The kernel and the reference end with equal results. -/
theorem algebraic : Cert.algebraic_Kernel5Ideal_Reference5Ideal := by
  intro m g m' g' _ hargs
  refine ⟨fun c => Shards.put 7 (gradR (xM m c) (yM m c)) (zM m c), ?_, ?_⟩
  · exact (θ_run _ _ _).mono (fun r h c => ⟨(h c).1.trans (arr2 m c), (h c).2⟩) (Value.run_blocks m g)
  · refine (θ_run _ _ _).mono (fun r h c => ?_) (Cert.Reference5Ideal.Value.run m' g')
    obtain ⟨h0, ha⟩ := h c
    have e0 : m' ((c.tc : Thread Cert.Reference5Ideal.nD Cert.Reference5Ideal.τ).loc Cert.Reference5Ideal.main_arg0) = xM m c := (hargs c).1
    have e1 : m' ((c.tc : Thread Cert.Reference5Ideal.nD Cert.Reference5Ideal.τ).loc Cert.Reference5Ideal.main_arg1) = yM m c := (hargs c).2.1
    have e2 : m' ((c.tc : Thread Cert.Reference5Ideal.nD Cert.Reference5Ideal.τ).loc Cert.Reference5Ideal.main_arg2) = zM m c := (hargs c).2.2
    rw [e0, e1, e2] at h0
    exact ⟨h0.trans (bufR_eq _ _ _), ha⟩

/-- The reference's frame: no operation writes an argument, and the program declares no counter. -/
theorem frame_reference : Cert.quiescent_Reference5Ideal := fun m g _ =>
  (θ_run _ _ _).mono (fun r h => ⟨fun c => (h c).2, sem_eq_zero_of_no_sems (by decide) r.2⟩) (Cert.Reference5Ideal.Value.run m g)

end Cert.Kernel5Ideal.Dffn2

end
-- ==== Proof.Dffn1.lean ====
module

public import proofs.«01_k».proof.Defs
public import proofs.«01_k».proof.Proof.Gen.Kernel6Ideal.Value
public import proofs.«01_k».proof.Proof.Gen.Reference6Ideal.Run
public import proofs.«01_k».proof.Proof.Shards
public import Idealize.ShloMosaic.Lib.IdealHost
public import Idealize.ShloMosaic.Lib.Claim
public import Idealize.ShloMosaic.Lib.Pointwise
public import Idealize.ShloMosaic.Lib.ValueIdx
public import Idealize.ShloMosaic.Lib.Pipeline.ValueKit

/-! The first feed-forward weight's gradient: four bands of its columns, each the sum over four runs of 2048 tokens, written into
the packed buffer's four slices at row 3072; together the reference's update of the buffer. -/

@[expose] public section

set_option maxRecDepth 16384
noncomputable section

namespace Cert.Kernel6Ideal.Dffn1

open Cert.Kernel6Ideal Cert.Kernel6Ideal.Gen
open Idealize.ShloMosaic Idealize.ShloMosaic.TcCoe Idealize.SL.Sem
open scoped BigOperators

/-- The arguments, the packed buffer and a tile. -/
abbrev X := FVec Ideal S8192x1024 .bf16
abbrev Y := FVec Ideal S8192x4096 .bf16
abbrev B := FVec Ideal S4x13312x1024 .bf16
abbrev I := FVec Ideal S2048x1024 .bf16
abbrev T := FVec Ideal S1024x1024 .f32

/-- The reference's gradient, in four bands of columns. -/
def gradR (x : X) (y : Y) : FVec Ideal Cert.Reference6Ideal.S4x1024x1024 .bf16 :=
  transpose _ [1, 0, 2] (shapeCast _ (truncf .bf16 (transpose Cert.Reference6Ideal.S1024x4096 [1, 0] (Host.dotGeneral (F := Ideal) Cert.Reference6Ideal.dot_S8192x4096_S8192x1024_S4096x1024_0_0_1_1_n_n none (extf .f32 y bitsLt_bf16_f32) (extf .f32 x bitsLt_bf16_f32))
    Cert.Reference6Ideal.Gen.transposes_S4096x1024_S1024x4096_1_0) bitsLt_bf16_f32) Cert.Reference6Ideal.Gen.shapeCasts_S1024x4096_S1024x4x1024) Cert.Reference6Ideal.Gen.transposes_S1024x4x1024_S4x1024x1024_1_0_2
/-- A band's column in the gradient. -/
def colOf (s : Fin 4) (b : Fin 1024) : Fin 4096 := ⟨s.val * 1024 + b.val, by omega⟩
theorem gradR_apply (x : X) (y : Y) (s : Fin 4) (a b : Fin 1024) : gradR x y (ix3 s a b) = ∑ l, x (ix2 l a) * y (ix2 l (colOf s b)) := by
  pointwise [gradR, colOf]
  exact Finset.sum_congr rfl fun _ _ => mul_comm _ _

/-- The reference's result: the buffer with the gradient written in. -/
theorem bufR_eq (x : X) (y : Y) (z : B) : Host.dynamicUpdateSlice z (gradR x y) (fun k => (((![constantI Cert.Reference6Ideal.S_ 32 0#32, constantI Cert.Reference6Ideal.S_ 32 3072#32, constantI Cert.Reference6Ideal.S_ 32 0#32] : Fin 3 → (⟨Cert.Reference6Ideal.S_, .i32⟩ : BufTy).Contents (Elt Ideal)) k) (Shape.Idx.first Cert.Reference6Ideal.Gen.h_S_)).toInt) Cert.Reference6Ideal.Gen.updateFits_S4x13312x1024_S4x1024x1024
    = Shards.put 3 (gradR x y) z :=
  Host.dynamicUpdateSlice_eq_updateSlice _ _ _ _ _ (by decide) _

/-- A tile's product. -/
def part (x y : I) (i : S1024x1024.Idx) : EReal := k0_pay1 (F := Ideal) x y i
theorem part_apply (x y : I) (a b : Fin 1024) : part x y (ix2 a b) = ∑ r, x (ix2 r a) * y (ix2 r b) := by
  pointwise [part, k0_pay1]
theorem pay2_apply (x y : I) (i : S1024x1024.Idx) : k0_pay2 (F := Ideal) x y i = part x y i := by
  pointwise [part, k0_pay2]
theorem pay3_apply (x y : I) (t : T) (i : S1024x1024.Idx) : k0_pay3 (F := Ideal) x y t i = t i + part x y i := by
  pointwise [part, k0_pay3]
theorem pay4_apply (t : T) (a b : Fin 1024) : k0_pay4 (F := Ideal) t (ix3 0 a b) = t (ix2 a b) := by
  pointwise [k0_pay4]

/-- The tiles a point of the grid is at. -/
theorem index0 : ∀ t : Fin cfg0.N, (cfg0.win 0).index t = ![t.val % 4, 0] := (by decide +kernel : ∀ t : Fin grid0.N, win0_0.index t = ![t.val % 4, 0])
theorem index1 : ∀ t : Fin cfg0.N, (cfg0.win 1).index t = ![t.val % 4, t.val / 4] := (by decide +kernel : ∀ t : Fin grid0.N, win0_1.index t = ![t.val % 4, t.val / 4])
theorem index2 : ∀ t : Fin cfg0.N, (cfg0.win 2).index t = ![t.val / 4, 3, 0] := (by decide +kernel : ∀ t : Fin grid0.N, win0_2.index t = ![t.val / 4, 3, 0])

/-- The band a point is at. -/
def bandOf (t : Fin cfg0.N) : Fin 4 := ⟨t.val / 4, by have := t.isLt; have : cfg0.N = 16 := rfl; omega⟩
/-- A run's token. -/
def tokOf (t : Fin cfg0.N) (r : Fin 2048) : Fin 8192 := ⟨t.val % 4 * 2048 + r.val, by omega⟩

theorem emb2 (t : Fin cfg0.N) (a b : Fin 1024) : ((cfg0.win 2).blk t).view.emb (ix3 0 a b) = ix3 (bandOf t) (Shards.row 3 a) b := Shards.place 3 t a b ((cfg0.win 2).rect_emb_val t (ix3 0 a b)) (index2 t)
theorem read0 (x : X) (t : Fin cfg0.N) (r : Fin 2048) (a : Fin 1024) : ((cfg0.win 0).blk t).view.read (Elt Ideal) x (ix2 r a) = x (ix2 (tokOf t r) a) := by
  refine congrArg x (funext fun z => Fin.ext (((cfg0.win 0).rect_emb_val t (ix2 r a) z).trans ?_))
  rw [index0]
  match z with
  | ⟨0, _⟩ => rfl
  | ⟨1, _⟩ => show 0 * 1024 + a.val = a.val; omega
theorem read1 (y : Y) (t : Fin cfg0.N) (r : Fin 2048) (b : Fin 1024) : ((cfg0.win 1).blk t).view.read (Elt Ideal) y (ix2 r b) = y (ix2 (tokOf t r) (colOf (bandOf t) b)) := by
  refine congrArg y (funext fun z => Fin.ext (((cfg0.win 1).rect_emb_val t (ix2 r b) z).trans ?_))
  rw [index1]
  match z with
  | ⟨0, _⟩ => rfl
  | ⟨1, _⟩ => rfl

/-- A run of the grid's points: at a band's first point the accumulator is the tile's product, at every other it is added to, and at
the last one it is written out. Then what is written out is the gradient's band. -/
theorem band_of (x : X) (y : Y) (xb yb : Fin cfg0.N → I) (o : (n : ℕ) → n < cfg0.N → FVec Ideal S1x1024x1024 .bf16 × T)
    (hx : ∀ (t : Fin cfg0.N) (r : Fin 2048) (a : Fin 1024), xb t (ix2 r a) = x (ix2 (tokOf t r) a))
    (hy : ∀ (t : Fin cfg0.N) (r : Fin 2048) (b : Fin 1024), yb t (ix2 r b) = y (ix2 (tokOf t r) (colOf (bandOf t) b)))
    (h0 : ∀ t : Fin cfg0.N, t.val % 4 = 0 → (o t.val t.isLt).2 = k0_pay2 (F := Ideal) (xb t) (yb t))
    (h1 : ∀ t : Fin cfg0.N, ¬t.val % 4 = 0 → (o t.val t.isLt).2 = k0_pay3 (F := Ideal) (xb t) (yb t) (o (t.val - 1) (Nat.lt_of_le_of_lt (Nat.sub_le _ _) t.isLt)).2)
    (h2 : ∀ t : Fin cfg0.N, t.val % 4 = 3 → (o t.val t.isLt).1 = k0_pay4 (F := Ideal) (o t.val t.isLt).2)
    (t : Fin cfg0.N) (h : t.val % 4 = 3) (a b : Fin 1024) : (o t.val t.isLt).1 (ix3 0 a b) = gradR x y (ix3 (bandOf t) a b) := by
  have acc : (o t.val t.isLt).2 (ix2 a b) = 0 + ∑ s : Fin 4, part (xb ⟨4 * (t.val / 4) + s.val, Pipeline.run_point_lt_of_flush t h s⟩) (yb ⟨4 * (t.val / 4) + s.val, Pipeline.run_point_lt_of_flush t h s⟩) (ix2 a b) := by
    refine Pipeline.eq_sum_fin_of_reset_step_apply_of_flush (fun n h => (o n h).2) 4 (fun _ => 0) (fun t => part (xb t) (yb t)) (fun t h i => ?_) (fun t h i => ?_) t h (ix2 a b)
    · exact (congrFun (h0 t h) i).trans ((pay2_apply _ _ i).trans (zero_add _).symm)
    · exact (congrFun (h1 t h) i).trans (pay3_apply _ _ _ i)
  rw [h2 t h, pay4_apply, acc, zero_add, gradR_apply]
  simp only [part_apply]
  refine Fin.sum_mul_add_congr fun s r hl => ?_
  have hb : bandOf ⟨4 * (t.val / 4) + s.val, Pipeline.run_point_lt_of_flush t h s⟩ = bandOf t := Fin.ext (by show (4 * (t.val / 4) + s.val) / 4 = t.val / 4; omega)
  have ht : tokOf ⟨4 * (t.val / 4) + s.val, Pipeline.run_point_lt_of_flush t h s⟩ r = ⟨s.val * 2048 + r.val, hl⟩ := Fin.ext (by show (4 * (t.val / 4) + s.val) % 4 * 2048 + r.val = s.val * 2048 + r.val; omega)
  refine congrArg₂ (· * ·) ((hx _ r a).trans ?_) ((hy _ r b).trans ?_)
  · rw [ht]
  · rw [hb, ht]

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)
abbrev zM : B := m ((c.tc : Thread nD τ).loc main_arg2)

/-- The launch runs so. -/
theorem band (t : Fin cfg0.N) (h : t.val % 4 = 3) (a b : Fin 1024) : (outsAt0 m c t.val t.isLt).1 (ix3 0 a b) = gradR (xM m c) (yM m c) (ix3 (bandOf t) a b) := by
  refine band_of (xM m c) (yM m c) (fun t => iblk m c 0 t) (fun t => iblk m c 1 t) (outsAt0 m c) (read0 (xM m c)) (read1 (yM m c)) (fun t h => ?_) (fun t h => ?_) (fun t h => ?_) t h a b
  · rw [outsAt0_A m c t h (by omega) (by omega)]
    frame_out
  · by_cases h2 : t.val % 4 = 3
    · rw [outsAt0_C m c t h (by omega) h2]
      frame_out
      exact congrArg (k0_pay3 (F := Ideal) _ _) (Memref.IsWhole.read_unread _ _)
    · rw [outsAt0_B m c t h (by omega) h2]
      frame_out
      exact congrArg (k0_pay3 (F := Ideal) _ _) (Memref.IsWhole.read_unread _ _)
  · rw [outsAt0_C m c t (by omega) (by omega) h]
    frame_out

/-- The buffer at the end. -/
theorem arr2 : (dats m 0 c).arrAt 2 cfg0.N = Shards.put 3 (gradR (xM m c) (yM m c)) (zM m c) := by
  refine Shards.arr_put 3 _ _ _ (cfg0.win 2).flush (fun t => ((cfg0.win 2).blk t).view.emb) (fun t => (outsAt0 m c t.val t.isLt).1) flush0_2 emb2 (band m c) (fun h t y hf => ?_) fun i h => ?_
  · exact (dats m 0 c).arrAt_apply_of_mem 2 (Shards.put 3 (gradR (xM m c) (yM m c)) (zM m c)) (fun t hf => (Value.flushed2 m c t).trans (h t hf)) _ t _ t.isLt hf (((cfg0.win 2).blk t).view.emb_mem_set y)
  · refine (Value.entry2 m c i fun t hf hm => (Finset.mem_map.mp hm).elim fun y hy => h t hf y hy.2).trans (congrFun (g := zM m c) ?_ i)
    show StableHlo.after hostOps0 (fun b => m (c, b)) main_v0 = _
    after_results
    rfl

/-- The kernel and the reference end with equal results. -/
theorem algebraic : Cert.algebraic_Kernel6Ideal_Reference6Ideal := by
  intro m g m' g' _ hargs
  refine ⟨fun c => Shards.put 3 (gradR (xM m c) (yM m c)) (zM m c), ?_, ?_⟩
  · exact (θ_run _ _ _).mono (fun r h c => ⟨(h c).1.trans (arr2 m c), (h c).2⟩) (Value.run_blocks m g)
  · refine (θ_run _ _ _).mono (fun r h c => ?_) (Cert.Reference6Ideal.Value.run m' g')
    obtain ⟨h0, ha⟩ := h c
    have e0 : m' ((c.tc : Thread Cert.Reference6Ideal.nD Cert.Reference6Ideal.τ).loc Cert.Reference6Ideal.main_arg0) = xM m c := (hargs c).1
    have e1 : m' ((c.tc : Thread Cert.Reference6Ideal.nD Cert.Reference6Ideal.τ).loc Cert.Reference6Ideal.main_arg1) = yM m c := (hargs c).2.1
    have e2 : m' ((c.tc : Thread Cert.Reference6Ideal.nD Cert.Reference6Ideal.τ).loc Cert.Reference6Ideal.main_arg2) = zM m c := (hargs c).2.2
    rw [e0, e1, e2] at h0
    exact ⟨h0.trans (bufR_eq _ _ _), ha⟩

/-- The reference's frame: no operation writes an argument, and the program declares no counter. -/
theorem frame_reference : Cert.quiescent_Reference6Ideal := fun m g _ =>
  (θ_run _ _ _).mono (fun r h => ⟨fun c => (h c).2, sem_eq_zero_of_no_sems (by decide) r.2⟩) (Cert.Reference6Ideal.Value.run m g)

end Cert.Kernel6Ideal.Dffn1

end
-- ==== Proof.Dhn2Bias.lean ====
module

public import proofs.«01_k».proof.Defs
public import proofs.«01_k».proof.Proof.Dhn2
public import proofs.«01_k».proof.Proof.Gen.Pre_finite7
public import proofs.«01_k».proof.Proof.Gen.Kernel8Ideal.Value
public import proofs.«01_k».proof.Proof.Gen.Reference8Ideal.Run
public import Idealize.ShloMosaic.Lib.IdealHost
public import Idealize.ShloMosaic.Lib.Claim
public import Idealize.ShloMosaic.Lib.Pointwise
public import Idealize.ShloMosaic.Lib.ValueIdx
public import Idealize.ShloMosaic.Lib.Pipeline.ValueKit

/-! The gradient through the first feed-forward product, the norm and the bias before it: bands of rows, each the reference's rows,
and the norm's scale's and the bias's gradients, summed band by band over the tokens. -/

@[expose] public section

set_option maxRecDepth 16384
noncomputable section

namespace Cert.Kernel8Ideal.Dhn2Bias

open Cert.Kernel8Ideal Cert.Kernel8Ideal.Gen Cert.Rms
open Idealize.ShloMosaic Idealize.ShloMosaic.TcCoe Idealize.SL.Sem
open Cert.KernelIdeal.Att (real_of_lt)
open Cert.Kernel7Ideal.Dhn2 (Z W H G ZT HT dotR prodR wideR rmsR meanR factorR dxR dgR dotR_apply prodR_apply dxR_apply dgR_apply rowOf place place1)
open scoped BigOperators

section Reference
open Cert.Reference8Ideal Cert.Reference8Ideal.Gen

/-- The reference's rows: the bias it differentiates at is zero. -/
def biasR (x : H) : H := addf x (broadcastInDim Cert.Reference8Ideal.S8192x1024 ![0, 1] bcast_S1x1024_S8192x1024_0_1 (broadcastInDim Cert.Reference8Ideal.S1x1024 ![] bcast_S_S1x1024 (constant (F := Ideal) S_ .f32 0x00000000#32)))
theorem biasR_eq (x : H) : biasR x = x := by
  funext i
  obtain ⟨a, b, rfl⟩ : ∃ (a : Fin 8192) (b : Fin 1024), i = ix2 a b := ⟨i 0, i 1, funext fun z => match z with | ⟨0, _⟩ => rfl | ⟨1, _⟩ => rfl⟩
  pointwise [biasR]
/-- The gradient of the bias. -/
def dbR (u : H) : G := shapeCast _ (Host.reduceAdd u (constant (F := Ideal) S_ .f32 0x00000000#32) reducesTo_S8192x1024_S1024_d0 h_S_) Cert.Reference8Ideal.Gen.shapeCasts_S1024_S1x1024
theorem dbR_apply (u : H) (b : Fin 1024) : dbR u (ix2 0 b) = ∑ l, u (ix2 l b) := by
  pointwise [dbR]
end Reference

theorem dbT_apply (z : ZT) (w : W) (x d : HT) (g : G) (b : Fin 1024) : k0_pay8 (F := Ideal) z w x d g (ix2 0 b) = ∑ r, k0_pay6 (F := Ideal) z w x d g (ix2 r b) := by
  pointwise [k0_pay8]
theorem pay2_apply (u v : G) (i : S1x1024.Idx) : k0_pay2 (F := Ideal) u v i = v i + u i := by
  pointwise [k0_pay2]
theorem pay1_apply (u v : G) (i : S1x1024.Idx) : k0_pay1 (F := Ideal) u v i = v i + u i := Cert.Kernel7Ideal.Dhn2.pay1_apply u v i

/-- The windows are those of the gradient without the bias, but for the bias's. -/
theorem index8 : ∀ t : Fin cfg0.N, (cfg0.win 8).index t = ![0, 0] := (by decide +kernel : ∀ t : Fin grid0.N, win0_8.index t = ![0, 0])

theorem emb5 (t : Fin cfg0.N) (a : Fin 512) (b : Fin 1024) : ((cfg0.win 5).blk t).view.emb (ix2 a b) = ix2 (rowOf t a) b := Cert.Kernel7Ideal.Dhn2.emb5 t a b
theorem emb6 (t : Fin cfg0.N) (a : Fin 512) (b : Fin 1024) : ((cfg0.win 6).blk t).view.emb (ix2 a b) = ix2 (rowOf t a) b := Cert.Kernel7Ideal.Dhn2.emb6 t a b
theorem emb7 (t : Fin cfg0.N) (b : Fin 1024) : ((cfg0.win 7).blk t).view.emb (ix2 0 b) = ix2 0 b := Cert.Kernel7Ideal.Dhn2.emb7 t b
theorem emb8 (t : Fin cfg0.N) (b : Fin 1024) : ((cfg0.win 8).blk t).view.emb (ix2 0 b) = ix2 0 b := by
  funext z
  refine Fin.ext (((cfg0.win 8).rect_emb_val t (ix2 0 b) z).trans ?_)
  rw [index8]
  match z with
  | ⟨0, _⟩ => rfl
  | ⟨1, _⟩ => show 0 * 1024 + b.val = b.val; omega

variable (m : (ℓ : Loc nD τ sig) → Buf (Elt Ideal) ℓ) (c : Dev nD)

/-- The arguments as launched. -/
abbrev zM : Z := m ((c.tc : Thread nD τ).loc main_arg0)
abbrev wM : W := m ((c.tc : Thread nD τ).loc main_arg1)
abbrev xM : H := m ((c.tc : Thread nD τ).loc main_arg2)
abbrev dM : H := m ((c.tc : Thread nD τ).loc main_arg3)
abbrev gM : G := m ((c.tc : Thread nD τ).loc main_arg4)
/-- The reference's four results on them. -/
abbrev dxM : H := dxR (xM m c) (prodR (zM m c) (wM m c) (gM m c)) (dM m c)
abbrev dyM : FVec Ideal S8192x1024 .bf16 := truncf .bf16 (dxM m c) bitsLt_bf16_f32
abbrev dgM : G := dgR (xM m c) (dotR (zM m c) (wM m c))
abbrev dbM : G := dbR (dxM m c)

/-- A point's gradient of its rows, and its parts of the gradients of the scale and the bias. -/
abbrev dxT (t : Fin cfg0.N) : HT := k0_pay6 (F := Ideal) (iblk m c 0 t : ZT) (iblk m c 1 t : W) (iblk m c 2 t : HT) (iblk m c 3 t : HT) (iblk m c 4 t : G)
abbrev dgT (t : Fin cfg0.N) : G := k0_pay7 (F := Ideal) (iblk m c 0 t : ZT) (iblk m c 1 t : W) (iblk m c 2 t : HT)
abbrev dbT (t : Fin cfg0.N) : G := k0_pay8 (F := Ideal) (iblk m c 0 t : ZT) (iblk m c 1 t : W) (iblk m c 2 t : HT) (iblk m c 3 t : HT) (iblk m c 4 t : G)

/-- What a point leaves: its rows, and the sums so far. -/
theorem outs5 (t : Fin cfg0.N) : (outsAt0 m c t.val t.isLt).1 = dxT m c t := by
  by_cases h : t.val % 16 = 0
  · rw [outsAt0_A m c t h (by have : t.val < 16 := t.isLt; omega) h (by have : t.val < 16 := t.isLt; omega)]
    frame_out
  · rw [outsAt0_B m c t h (by omega) h (by omega)]
    frame_out
theorem outs6 (t : Fin cfg0.N) : (outsAt0 m c t.val t.isLt).2.1 = truncf .bf16 (dxT m c t) bitsLt_bf16_f32 := by
  by_cases h : t.val % 16 = 0
  · rw [outsAt0_A m c t h (by have : t.val < 16 := t.isLt; omega) h (by have : t.val < 16 := t.isLt; omega)]
    frame_out
    rfl
  · rw [outsAt0_B m c t h (by omega) h (by omega)]
    frame_out
    rfl
theorem outs7 (t : Fin cfg0.N) (h : t.val % 16 = 15) (i : S1x1024.Idx) : (outsAt0 m c t.val t.isLt).2.2.1 i = 0 + ∑ s : Fin 16, dgT m c ⟨16 * (t.val / 16) + s.val, Pipeline.run_point_lt_of_flush t h s⟩ i := by
  refine Pipeline.eq_sum_fin_of_reset_step_apply_of_flush (fun n h => (outsAt0 m c n h).2.2.1) 16 (fun _ => 0) (fun t => dgT m c t) (fun t h i => ?_) (fun t h i => ?_) t h i
  · rw [outsAt0_A m c t h (by have : t.val < 16 := t.isLt; omega) h (by have : t.val < 16 := t.isLt; omega), zero_add]
    frame_out
  · rw [outsAt0_B m c t h (by omega) h (by omega)]
    frame_out
    rw [pay1_apply]
theorem outs8 (t : Fin cfg0.N) (h : t.val % 16 = 15) (i : S1x1024.Idx) : (outsAt0 m c t.val t.isLt).2.2.2 i = 0 + ∑ s : Fin 16, dbT m c ⟨16 * (t.val / 16) + s.val, Pipeline.run_point_lt_of_flush t h s⟩ i := by
  refine Pipeline.eq_sum_fin_of_reset_step_apply_of_flush (fun n h => (outsAt0 m c n h).2.2.2) 16 (fun _ => 0) (fun t => dbT m c t) (fun t h i => ?_) (fun t h i => ?_) t h i
  · rw [outsAt0_A m c t h (by have : t.val < 16 := t.isLt; omega) h (by have : t.val < 16 := t.isLt; omega), zero_add]
    frame_out
  · rw [outsAt0_B m c t h (by omega) h (by omega)]
    frame_out
    rw [pay2_apply]

/-- A point's rows are the reference's, the arguments being real, and the points' parts make the reference's sum. -/
theorem dx_band (hz : ∀ i, zM m c i = ((zM m c i : EReal).toReal : EReal)) (hw : ∀ i, wM m c i = ((wM m c i : EReal).toReal : EReal)) (hx : ∀ i, xM m c i = ((xM m c i : EReal).toReal : EReal)) (hd : ∀ i, dM m c i = ((dM m c i : EReal).toReal : EReal)) (hg : ∀ i, gM m c i = ((gM m c i : EReal).toReal : EReal))
    (t : Fin cfg0.N) (a : Fin 512) (b : Fin 1024) : dxT m c t (ix2 a b) = dxM m c (ix2 (rowOf t a) b) :=
  Cert.Kernel7Ideal.Dhn2.dx_of (zM m c) (wM m c) (xM m c) (dM m c) (gM m c) hz hw hx hd hg t a b
theorem dg_band (t : Fin cfg0.N) (h : t.val % 16 = 15) (b : Fin 1024) : (outsAt0 m c t.val t.isLt).2.2.1 (ix2 0 b) = dgM m c (ix2 0 b) := by
  rw [outs7 m c t h, zero_add]
  exact Cert.Kernel7Ideal.Dhn2.dg_of (zM m c) (wM m c) (xM m c) t h b

theorem db_band (hb : ∀ t a b, dxT m c t (ix2 a b) = dxM m c (ix2 (rowOf t a) b)) (t : Fin cfg0.N) (h : t.val % 16 = 15) (b : Fin 1024) : (outsAt0 m c t.val t.isLt).2.2.2 (ix2 0 b) = dbM m c (ix2 0 b) := by
  rw [outs8 m c t h, zero_add]
  refine Eq.trans ?_ (dbR_apply _ b).symm
  simp only [dbT_apply]
  refine Fin.sum_mul_add_congr fun s r hl => ?_
  have e : rowOf ⟨16 * (t.val / 16) + s.val, Pipeline.run_point_lt_of_flush t h s⟩ r = ⟨s.val * 512 + r.val, hl⟩ := Fin.ext (by have := t.isLt; have : cfg0.N = 16 := rfl; show (16 * (t.val / 16) + s.val) * 512 + r.val = s.val * 512 + r.val; omega)
  rw [← e]
  exact hb _ r b

theorem arr5 (h : ∀ t a b, dxT m c t (ix2 a b) = dxM m c (ix2 (rowOf t a) b)) : (dats m 0 c).arrAt 5 cfg0.N = dxM m c := by
  refine (dats m 0 c).arrAt_eq_of_cover 5 (dxM m c) (fun t _ => ?_) fun i => ?_
  · rw [Value.flushed5]
    funext y
    obtain ⟨a, b, rfl⟩ : ∃ (a : Fin 512) (b : Fin 1024), y = ix2 a b := ⟨y 0, y 1, funext fun z => match z with | ⟨0, _⟩ => rfl | ⟨1, _⟩ => rfl⟩
    show (outsAt0 m c t.val t.isLt).1 (ix2 a b) = dxM m c (((cfg0.win 5).blk t).view.emb (ix2 a b))
    rw [emb5, outs5]
    exact h t a b
  · obtain ⟨t, a, b, rfl⟩ := place i
    exact ⟨t, flush0_5 t, emb5 t a b ▸ ((cfg0.win 5).blk t).view.emb_mem_set _⟩
theorem arr6 (h : ∀ t a b, dxT m c t (ix2 a b) = dxM m c (ix2 (rowOf t a) b)) : (dats m 0 c).arrAt 6 cfg0.N = dyM m c := by
  refine (dats m 0 c).arrAt_eq_of_cover 6 (dyM m c) (fun t _ => ?_) fun i => ?_
  · rw [Value.flushed6]
    funext y
    obtain ⟨a, b, rfl⟩ : ∃ (a : Fin 512) (b : Fin 1024), y = ix2 a b := ⟨y 0, y 1, funext fun z => match z with | ⟨0, _⟩ => rfl | ⟨1, _⟩ => rfl⟩
    show (outsAt0 m c t.val t.isLt).2.1 (ix2 a b) = dyM m c (((cfg0.win 6).blk t).view.emb (ix2 a b))
    rw [emb6, outs6]
    exact h t a b
  · obtain ⟨t, a, b, rfl⟩ := place i
    exact ⟨t, flush0_6 t, emb6 t a b ▸ ((cfg0.win 6).blk t).view.emb_mem_set _⟩
theorem arr7 : (dats m 0 c).arrAt 7 cfg0.N = dgM m c := by
  refine (dats m 0 c).arrAt_eq_of_cover 7 (dgM m c) (fun t hf => ?_) fun i => ?_
  · rw [Value.flushed7]
    funext y
    obtain ⟨b, rfl⟩ := place1 y
    show (outsAt0 m c t.val t.isLt).2.2.1 (ix2 0 b) = dgM m c (((cfg0.win 7).blk t).view.emb (ix2 0 b))
    rw [emb7]
    exact dg_band m c t ((flush0_7 t).mp hf) b
  · obtain ⟨b, rfl⟩ := place1 i
    exact ⟨⟨15, by show _ < 16; omega⟩, (flush0_7 _).mpr rfl, emb7 ⟨15, by show _ < 16; omega⟩ b ▸ ((cfg0.win 7).blk _).view.emb_mem_set _⟩
theorem arr8 (hb : ∀ t a b, dxT m c t (ix2 a b) = dxM m c (ix2 (rowOf t a) b)) : (dats m 0 c).arrAt 8 cfg0.N = dbM m c := by
  refine (dats m 0 c).arrAt_eq_of_cover 8 (dbM m c) (fun t hf => ?_) fun i => ?_
  · rw [Value.flushed8]
    funext y
    obtain ⟨b, rfl⟩ := place1 y
    show (outsAt0 m c t.val t.isLt).2.2.2 (ix2 0 b) = dbM m c (((cfg0.win 8).blk t).view.emb (ix2 0 b))
    rw [emb8]
    exact db_band m c hb t ((flush0_8 t).mp hf) b
  · obtain ⟨b, rfl⟩ := place1 i
    exact ⟨⟨15, by show _ < 16; omega⟩, (flush0_8 _).mpr rfl, emb8 ⟨15, by show _ < 16; omega⟩ b ▸ ((cfg0.win 8).blk _).view.emb_mem_set _⟩

/-- The kernel and the reference end with equal results. -/
theorem algebraic : Cert.algebraic_Kernel8Ideal_Reference8Ideal_pre_finite7 := by
  intro m g m' g' hpre hargs
  refine ⟨fun c => dxM m c, fun c => dyM m c, fun c => dgM m c, fun c => dbM m c, ?_, ?_⟩
  · refine (θ_run _ _ _).mono (fun r h c => ?_) (Value.run_blocks m g)
    have hb := dx_band m c (fun i => real_of_lt (congrFun (hpre c).1 i)) (fun i => real_of_lt (congrFun (hpre c).2.1 i)) (fun i => real_of_lt (congrFun (hpre c).2.2.1 i)) (fun i => real_of_lt (congrFun (hpre c).2.2.2.1 i)) (fun i => real_of_lt (congrFun (hpre c).2.2.2.2 i))
    exact ⟨(h c).1.trans (arr5 m c hb), (h c).2.1.trans (arr6 m c hb), (h c).2.2.1.trans (arr7 m c), (h c).2.2.2.1.trans (arr8 m c hb), (h c).2.2.2.2⟩
  · refine (θ_run _ _ _).mono (fun r h c => ?_) (Cert.Reference8Ideal.Value.run m' g')
    obtain ⟨h0, h1, h2, h3, ha⟩ := h c
    have e0 : m' ((c.tc : Thread Cert.Reference8Ideal.nD Cert.Reference8Ideal.τ).loc Cert.Reference8Ideal.main_arg0) = zM m c := (hargs c).1
    have e1 : m' ((c.tc : Thread Cert.Reference8Ideal.nD Cert.Reference8Ideal.τ).loc Cert.Reference8Ideal.main_arg1) = wM m c := (hargs c).2.1
    have e2 : m' ((c.tc : Thread Cert.Reference8Ideal.nD Cert.Reference8Ideal.τ).loc Cert.Reference8Ideal.main_arg2) = xM m c := (hargs c).2.2.1
    have e3 : m' ((c.tc : Thread Cert.Reference8Ideal.nD Cert.Reference8Ideal.τ).loc Cert.Reference8Ideal.main_arg3) = dM m c := (hargs c).2.2.2.1
    have e4 : m' ((c.tc : Thread Cert.Reference8Ideal.nD Cert.Reference8Ideal.τ).loc Cert.Reference8Ideal.main_arg4) = gM m c := (hargs c).2.2.2.2
    rw [e2, e0, e1] at h2
    unfold Cert.Reference8Ideal.Value.res_main_v41 at h0
    rw [e0, e1, e2, e3, e4] at h0
    unfold Cert.Reference8Ideal.Value.res_main_v44 at h1
    rw [e0, e1, e2, e3, e4] at h1
    unfold Cert.Reference8Ideal.Value.res_main_v43 at h3
    rw [e0, e1, e2, e3, e4] at h3
    have hb := biasR_eq (xM m c)
    have hx : dxR (biasR (xM m c)) (prodR (zM m c) (wM m c) (gM m c)) (dM m c) = dxM m c := by rw [hb]
    exact ⟨h0.trans hx, h1.trans (congrArg (fun u : H => (truncf .bf16 u bitsLt_bf16_f32 : FVec Ideal S8192x1024 .bf16)) hx), h2.trans (congrArg (fun u : H => dgR u (dotR (zM m c) (wM m c))) hb), h3.trans (congrArg dbR hx), ha⟩

/-- The reference's frame: no operation writes an argument, and the program declares no counter. -/
theorem frame_reference : Cert.quiescent_Reference8Ideal := fun m g _ =>
  (θ_run _ _ _).mono (fun r h => ⟨fun c => (h c).2.2.2.2, sem_eq_zero_of_no_sems (by decide) r.2⟩) (Cert.Reference8Ideal.Value.run m g)
theorem frame_reference_pre : Cert.quiescent_Reference8Ideal_pre_finite7 := fun m g _ =>
  (θ_run _ _ _).mono (fun r h => ⟨fun c => (h c).2.2.2.2, sem_eq_zero_of_no_sems (by decide) r.2⟩) (Cert.Reference8Ideal.Value.run m g)

end Cert.Kernel8Ideal.Dhn2Bias

end
-- ==== Proof.Dffn2Layers.lean ====
module

public import proofs.«01_k».proof.Proof.Dffn2
public import proofs.«01_k».proof.Proof.Gen.Kernel9Ideal.Value
public import proofs.«01_k».proof.Proof.Gen.Reference9Ideal.Run
public import proofs.«01_k».proof.Proof.Gen.Kernel11Ideal.Value
public import proofs.«01_k».proof.Proof.Gen.Reference11Ideal.Run
public import proofs.«01_k».proof.Proof.Gen.Kernel13Ideal.Value
public import proofs.«01_k».proof.Proof.Gen.Reference13Ideal.Run

/-! The second feed-forward weight's gradient in the layers before the last: the same tiles in other rows of the packed buffer. -/

@[expose] public section

set_option maxRecDepth 16384
noncomputable section

/-! ## Layer 2 -/

namespace Cert.Kernel9Ideal.Dffn2

open Cert.Kernel9Ideal Cert.Kernel9Ideal.Gen
open Idealize.ShloMosaic Idealize.ShloMosaic.TcCoe Idealize.SL.Sem
open Cert.Kernel5Ideal.Dffn2 (X Y B gradR bandOf band_of)

/-- The reference's result: the buffer with the gradient written in. -/
theorem bufR_eq (x : X) (y : Y) (z : B) : Host.dynamicUpdateSlice z (gradR x y) (fun k => (((![constantI Cert.Reference9Ideal.S_ 32 0#32, constantI Cert.Reference9Ideal.S_ 32 6144#32, constantI Cert.Reference9Ideal.S_ 32 0#32] : Fin 3 → (⟨Cert.Reference9Ideal.S_, .i32⟩ : BufTy).Contents (Elt Ideal)) k) (Shape.Idx.first Cert.Reference9Ideal.Gen.h_S_)).toInt) Cert.Reference9Ideal.Gen.updateFits_S4x13312x1024_S4x1024x1024
    = Shards.put 6 (gradR x y) z :=
  Host.dynamicUpdateSlice_eq_updateSlice _ _ _ _ _ (by decide) _

theorem index2 : ∀ t : Fin cfg0.N, (cfg0.win 2).index t = ![t.val / 4, 6, 0] := (by decide +kernel : ∀ t : Fin grid0.N, win0_2.index t = ![t.val / 4, 6, 0])
theorem emb2 (t : Fin cfg0.N) (a b : Fin 1024) : ((cfg0.win 2).blk t).view.emb (ix3 0 a b) = ix3 (bandOf t) (Shards.row 6 a) b := Shards.place 6 t a b ((cfg0.win 2).rect_emb_val t (ix3 0 a b)) (index2 t)

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)
abbrev zM : B := m ((c.tc : Thread nD τ).loc main_arg2)

/-- What the launch writes out is the gradient's band. -/
theorem band (t : Fin cfg0.N) (h : t.val % 4 = 3) (a b : Fin 1024) : (outsAt0 m c t.val t.isLt).1 (ix3 0 a b) = gradR (xM m c) (yM m c) (ix3 (bandOf t) a b) := by
  refine band_of (xM m c) (yM m c) (fun t => iblk m c 0 t) (fun t => iblk m c 1 t) (outsAt0 m c) (Cert.Kernel5Ideal.Dffn2.read0 (xM m c)) (Cert.Kernel5Ideal.Dffn2.read1 (yM m c)) (fun t h => ?_) (fun t h => ?_) (fun t h => ?_) t h a b
  · rw [outsAt0_A m c t h (by omega) (by omega)]
    frame_out
    rfl
  · by_cases h2 : t.val % 4 = 3
    · rw [outsAt0_C m c t h (by omega) h2]
      frame_out
      exact congrArg (k0_pay3 (F := Ideal) _ _) (Memref.IsWhole.read_unread _ _)
    · rw [outsAt0_B m c t h (by omega) h2]
      frame_out
      exact congrArg (k0_pay3 (F := Ideal) _ _) (Memref.IsWhole.read_unread _ _)
  · rw [outsAt0_C m c t (by omega) (by omega) h]
    frame_out
    rfl

/-- The buffer at the end. -/
theorem arr2 : (dats m 0 c).arrAt 2 cfg0.N = Shards.put 6 (gradR (xM m c) (yM m c)) (zM m c) := by
  refine Shards.arr_put 6 _ _ _ (cfg0.win 2).flush (fun t => ((cfg0.win 2).blk t).view.emb) (fun t => (outsAt0 m c t.val t.isLt).1) flush0_2 emb2 (band m c) (fun h t y hf => ?_) fun i h => ?_
  · exact (dats m 0 c).arrAt_apply_of_mem 2 (Shards.put 6 (gradR (xM m c) (yM m c)) (zM m c)) (fun t hf => (Value.flushed2 m c t).trans (h t hf)) _ t _ t.isLt hf (((cfg0.win 2).blk t).view.emb_mem_set y)
  · refine (Value.entry2 m c i fun t hf hm => (Finset.mem_map.mp hm).elim fun y hy => h t hf y hy.2).trans (congrFun (g := zM m c) ?_ i)
    show StableHlo.after hostOps0 (fun b => m (c, b)) main_v0 = _
    after_results
    rfl

/-- The kernel and the reference end with equal results. -/
theorem algebraic : Cert.algebraic_Kernel9Ideal_Reference9Ideal := by
  intro m g m' g' _ hargs
  refine ⟨fun c => Shards.put 6 (gradR (xM m c) (yM m c)) (zM m c), ?_, ?_⟩
  · exact (θ_run _ _ _).mono (fun r h c => ⟨(h c).1.trans (arr2 m c), (h c).2⟩) (Value.run_blocks m g)
  · refine (θ_run _ _ _).mono (fun r h c => ?_) (Cert.Reference9Ideal.Value.run m' g')
    obtain ⟨h0, ha⟩ := h c
    have e0 : m' ((c.tc : Thread Cert.Reference9Ideal.nD Cert.Reference9Ideal.τ).loc Cert.Reference9Ideal.main_arg0) = xM m c := (hargs c).1
    have e1 : m' ((c.tc : Thread Cert.Reference9Ideal.nD Cert.Reference9Ideal.τ).loc Cert.Reference9Ideal.main_arg1) = yM m c := (hargs c).2.1
    have e2 : m' ((c.tc : Thread Cert.Reference9Ideal.nD Cert.Reference9Ideal.τ).loc Cert.Reference9Ideal.main_arg2) = zM m c := (hargs c).2.2
    rw [e0, e1, e2] at h0
    exact ⟨h0.trans (bufR_eq _ _ _), ha⟩

/-- The reference's frame: no operation writes an argument, and the program declares no counter. -/
theorem frame_reference : Cert.quiescent_Reference9Ideal := fun m g _ =>
  (θ_run _ _ _).mono (fun r h => ⟨fun c => (h c).2, sem_eq_zero_of_no_sems (by decide) r.2⟩) (Cert.Reference9Ideal.Value.run m g)

end Cert.Kernel9Ideal.Dffn2

/-! ## Layer 1 -/

namespace Cert.Kernel11Ideal.Dffn2

open Cert.Kernel11Ideal Cert.Kernel11Ideal.Gen
open Idealize.ShloMosaic Idealize.ShloMosaic.TcCoe Idealize.SL.Sem
open Cert.Kernel5Ideal.Dffn2 (X Y B gradR bandOf band_of)

/-- The reference's result: the buffer with the gradient written in. -/
theorem bufR_eq (x : X) (y : Y) (z : B) : Host.dynamicUpdateSlice z (gradR x y) (fun k => (((![constantI Cert.Reference11Ideal.S_ 32 0#32, constantI Cert.Reference11Ideal.S_ 32 5120#32, constantI Cert.Reference11Ideal.S_ 32 0#32] : Fin 3 → (⟨Cert.Reference11Ideal.S_, .i32⟩ : BufTy).Contents (Elt Ideal)) k) (Shape.Idx.first Cert.Reference11Ideal.Gen.h_S_)).toInt) Cert.Reference11Ideal.Gen.updateFits_S4x13312x1024_S4x1024x1024
    = Shards.put 5 (gradR x y) z :=
  Host.dynamicUpdateSlice_eq_updateSlice _ _ _ _ _ (by decide) _

theorem index2 : ∀ t : Fin cfg0.N, (cfg0.win 2).index t = ![t.val / 4, 5, 0] := (by decide +kernel : ∀ t : Fin grid0.N, win0_2.index t = ![t.val / 4, 5, 0])
theorem emb2 (t : Fin cfg0.N) (a b : Fin 1024) : ((cfg0.win 2).blk t).view.emb (ix3 0 a b) = ix3 (bandOf t) (Shards.row 5 a) b := Shards.place 5 t a b ((cfg0.win 2).rect_emb_val t (ix3 0 a b)) (index2 t)

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)
abbrev zM : B := m ((c.tc : Thread nD τ).loc main_arg2)

/-- What the launch writes out is the gradient's band. -/
theorem band (t : Fin cfg0.N) (h : t.val % 4 = 3) (a b : Fin 1024) : (outsAt0 m c t.val t.isLt).1 (ix3 0 a b) = gradR (xM m c) (yM m c) (ix3 (bandOf t) a b) := by
  refine band_of (xM m c) (yM m c) (fun t => iblk m c 0 t) (fun t => iblk m c 1 t) (outsAt0 m c) (Cert.Kernel5Ideal.Dffn2.read0 (xM m c)) (Cert.Kernel5Ideal.Dffn2.read1 (yM m c)) (fun t h => ?_) (fun t h => ?_) (fun t h => ?_) t h a b
  · rw [outsAt0_A m c t h (by omega) (by omega)]
    frame_out
    rfl
  · by_cases h2 : t.val % 4 = 3
    · rw [outsAt0_C m c t h (by omega) h2]
      frame_out
      exact congrArg (k0_pay3 (F := Ideal) _ _) (Memref.IsWhole.read_unread _ _)
    · rw [outsAt0_B m c t h (by omega) h2]
      frame_out
      exact congrArg (k0_pay3 (F := Ideal) _ _) (Memref.IsWhole.read_unread _ _)
  · rw [outsAt0_C m c t (by omega) (by omega) h]
    frame_out
    rfl

/-- The buffer at the end. -/
theorem arr2 : (dats m 0 c).arrAt 2 cfg0.N = Shards.put 5 (gradR (xM m c) (yM m c)) (zM m c) := by
  refine Shards.arr_put 5 _ _ _ (cfg0.win 2).flush (fun t => ((cfg0.win 2).blk t).view.emb) (fun t => (outsAt0 m c t.val t.isLt).1) flush0_2 emb2 (band m c) (fun h t y hf => ?_) fun i h => ?_
  · exact (dats m 0 c).arrAt_apply_of_mem 2 (Shards.put 5 (gradR (xM m c) (yM m c)) (zM m c)) (fun t hf => (Value.flushed2 m c t).trans (h t hf)) _ t _ t.isLt hf (((cfg0.win 2).blk t).view.emb_mem_set y)
  · refine (Value.entry2 m c i fun t hf hm => (Finset.mem_map.mp hm).elim fun y hy => h t hf y hy.2).trans (congrFun (g := zM m c) ?_ i)
    show StableHlo.after hostOps0 (fun b => m (c, b)) main_v0 = _
    after_results
    rfl

/-- The kernel and the reference end with equal results. -/
theorem algebraic : Cert.algebraic_Kernel11Ideal_Reference11Ideal := by
  intro m g m' g' _ hargs
  refine ⟨fun c => Shards.put 5 (gradR (xM m c) (yM m c)) (zM m c), ?_, ?_⟩
  · exact (θ_run _ _ _).mono (fun r h c => ⟨(h c).1.trans (arr2 m c), (h c).2⟩) (Value.run_blocks m g)
  · refine (θ_run _ _ _).mono (fun r h c => ?_) (Cert.Reference11Ideal.Value.run m' g')
    obtain ⟨h0, ha⟩ := h c
    have e0 : m' ((c.tc : Thread Cert.Reference11Ideal.nD Cert.Reference11Ideal.τ).loc Cert.Reference11Ideal.main_arg0) = xM m c := (hargs c).1
    have e1 : m' ((c.tc : Thread Cert.Reference11Ideal.nD Cert.Reference11Ideal.τ).loc Cert.Reference11Ideal.main_arg1) = yM m c := (hargs c).2.1
    have e2 : m' ((c.tc : Thread Cert.Reference11Ideal.nD Cert.Reference11Ideal.τ).loc Cert.Reference11Ideal.main_arg2) = zM m c := (hargs c).2.2
    rw [e0, e1, e2] at h0
    exact ⟨h0.trans (bufR_eq _ _ _), ha⟩

/-- The reference's frame: no operation writes an argument, and the program declares no counter. -/
theorem frame_reference : Cert.quiescent_Reference11Ideal := fun m g _ =>
  (θ_run _ _ _).mono (fun r h => ⟨fun c => (h c).2, sem_eq_zero_of_no_sems (by decide) r.2⟩) (Cert.Reference11Ideal.Value.run m g)

end Cert.Kernel11Ideal.Dffn2

/-! ## Layer 0 -/

namespace Cert.Kernel13Ideal.Dffn2

open Cert.Kernel13Ideal Cert.Kernel13Ideal.Gen
open Idealize.ShloMosaic Idealize.ShloMosaic.TcCoe Idealize.SL.Sem
open Cert.Kernel5Ideal.Dffn2 (X Y B gradR bandOf band_of)

/-- The reference's result: the buffer with the gradient written in. -/
theorem bufR_eq (x : X) (y : Y) (z : B) : Host.dynamicUpdateSlice z (gradR x y) (fun k => (((![constantI Cert.Reference13Ideal.S_ 32 0#32, constantI Cert.Reference13Ideal.S_ 32 4096#32, constantI Cert.Reference13Ideal.S_ 32 0#32] : Fin 3 → (⟨Cert.Reference13Ideal.S_, .i32⟩ : BufTy).Contents (Elt Ideal)) k) (Shape.Idx.first Cert.Reference13Ideal.Gen.h_S_)).toInt) Cert.Reference13Ideal.Gen.updateFits_S4x13312x1024_S4x1024x1024
    = Shards.put 4 (gradR x y) z :=
  Host.dynamicUpdateSlice_eq_updateSlice _ _ _ _ _ (by decide) _

theorem index2 : ∀ t : Fin cfg0.N, (cfg0.win 2).index t = ![t.val / 4, 4, 0] := (by decide +kernel : ∀ t : Fin grid0.N, win0_2.index t = ![t.val / 4, 4, 0])
theorem emb2 (t : Fin cfg0.N) (a b : Fin 1024) : ((cfg0.win 2).blk t).view.emb (ix3 0 a b) = ix3 (bandOf t) (Shards.row 4 a) b := Shards.place 4 t a b ((cfg0.win 2).rect_emb_val t (ix3 0 a b)) (index2 t)

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)
abbrev zM : B := m ((c.tc : Thread nD τ).loc main_arg2)

/-- What the launch writes out is the gradient's band. -/
theorem band (t : Fin cfg0.N) (h : t.val % 4 = 3) (a b : Fin 1024) : (outsAt0 m c t.val t.isLt).1 (ix3 0 a b) = gradR (xM m c) (yM m c) (ix3 (bandOf t) a b) := by
  refine band_of (xM m c) (yM m c) (fun t => iblk m c 0 t) (fun t => iblk m c 1 t) (outsAt0 m c) (Cert.Kernel5Ideal.Dffn2.read0 (xM m c)) (Cert.Kernel5Ideal.Dffn2.read1 (yM m c)) (fun t h => ?_) (fun t h => ?_) (fun t h => ?_) t h a b
  · rw [outsAt0_A m c t h (by omega) (by omega)]
    frame_out
    rfl
  · by_cases h2 : t.val % 4 = 3
    · rw [outsAt0_C m c t h (by omega) h2]
      frame_out
      exact congrArg (k0_pay3 (F := Ideal) _ _) (Memref.IsWhole.read_unread _ _)
    · rw [outsAt0_B m c t h (by omega) h2]
      frame_out
      exact congrArg (k0_pay3 (F := Ideal) _ _) (Memref.IsWhole.read_unread _ _)
  · rw [outsAt0_C m c t (by omega) (by omega) h]
    frame_out
    rfl

/-- The buffer at the end. -/
theorem arr2 : (dats m 0 c).arrAt 2 cfg0.N = Shards.put 4 (gradR (xM m c) (yM m c)) (zM m c) := by
  refine Shards.arr_put 4 _ _ _ (cfg0.win 2).flush (fun t => ((cfg0.win 2).blk t).view.emb) (fun t => (outsAt0 m c t.val t.isLt).1) flush0_2 emb2 (band m c) (fun h t y hf => ?_) fun i h => ?_
  · exact (dats m 0 c).arrAt_apply_of_mem 2 (Shards.put 4 (gradR (xM m c) (yM m c)) (zM m c)) (fun t hf => (Value.flushed2 m c t).trans (h t hf)) _ t _ t.isLt hf (((cfg0.win 2).blk t).view.emb_mem_set y)
  · refine (Value.entry2 m c i fun t hf hm => (Finset.mem_map.mp hm).elim fun y hy => h t hf y hy.2).trans (congrFun (g := zM m c) ?_ i)
    show StableHlo.after hostOps0 (fun b => m (c, b)) main_v0 = _
    after_results
    rfl

/-- The kernel and the reference end with equal results. -/
theorem algebraic : Cert.algebraic_Kernel13Ideal_Reference13Ideal := by
  intro m g m' g' _ hargs
  refine ⟨fun c => Shards.put 4 (gradR (xM m c) (yM m c)) (zM m c), ?_, ?_⟩
  · exact (θ_run _ _ _).mono (fun r h c => ⟨(h c).1.trans (arr2 m c), (h c).2⟩) (Value.run_blocks m g)
  · refine (θ_run _ _ _).mono (fun r h c => ?_) (Cert.Reference13Ideal.Value.run m' g')
    obtain ⟨h0, ha⟩ := h c
    have e0 : m' ((c.tc : Thread Cert.Reference13Ideal.nD Cert.Reference13Ideal.τ).loc Cert.Reference13Ideal.main_arg0) = xM m c := (hargs c).1
    have e1 : m' ((c.tc : Thread Cert.Reference13Ideal.nD Cert.Reference13Ideal.τ).loc Cert.Reference13Ideal.main_arg1) = yM m c := (hargs c).2.1
    have e2 : m' ((c.tc : Thread Cert.Reference13Ideal.nD Cert.Reference13Ideal.τ).loc Cert.Reference13Ideal.main_arg2) = zM m c := (hargs c).2.2
    rw [e0, e1, e2] at h0
    exact ⟨h0.trans (bufR_eq _ _ _), ha⟩

/-- The reference's frame: no operation writes an argument, and the program declares no counter. -/
theorem frame_reference : Cert.quiescent_Reference13Ideal := fun m g _ =>
  (θ_run _ _ _).mono (fun r h => ⟨fun c => (h c).2, sem_eq_zero_of_no_sems (by decide) r.2⟩) (Cert.Reference13Ideal.Value.run m g)

end Cert.Kernel13Ideal.Dffn2

end
-- ==== Proof.Dffn1Layers.lean ====
module

public import proofs.«01_k».proof.Proof.Dffn1
public import proofs.«01_k».proof.Proof.Gen.Kernel10Ideal.Value
public import proofs.«01_k».proof.Proof.Gen.Reference10Ideal.Run
public import proofs.«01_k».proof.Proof.Gen.Kernel12Ideal.Value
public import proofs.«01_k».proof.Proof.Gen.Reference12Ideal.Run
public import proofs.«01_k».proof.Proof.Gen.Kernel14Ideal.Value
public import proofs.«01_k».proof.Proof.Gen.Reference14Ideal.Run

/-! The first feed-forward weight's gradient in the layers before the last: the same tiles in other rows of the packed buffer. -/

@[expose] public section

set_option maxRecDepth 16384
noncomputable section

/-! ## Layer 2 -/

namespace Cert.Kernel10Ideal.Dffn1

open Cert.Kernel10Ideal Cert.Kernel10Ideal.Gen
open Idealize.ShloMosaic Idealize.ShloMosaic.TcCoe Idealize.SL.Sem
open Cert.Kernel6Ideal.Dffn1 (X Y B gradR bandOf band_of)

/-- The reference's result: the buffer with the gradient written in. -/
theorem bufR_eq (x : X) (y : Y) (z : B) : Host.dynamicUpdateSlice z (gradR x y) (fun k => (((![constantI Cert.Reference10Ideal.S_ 32 0#32, constantI Cert.Reference10Ideal.S_ 32 2048#32, constantI Cert.Reference10Ideal.S_ 32 0#32] : Fin 3 → (⟨Cert.Reference10Ideal.S_, .i32⟩ : BufTy).Contents (Elt Ideal)) k) (Shape.Idx.first Cert.Reference10Ideal.Gen.h_S_)).toInt) Cert.Reference10Ideal.Gen.updateFits_S4x13312x1024_S4x1024x1024
    = Shards.put 2 (gradR x y) z :=
  Host.dynamicUpdateSlice_eq_updateSlice _ _ _ _ _ (by decide) _

theorem index2 : ∀ t : Fin cfg0.N, (cfg0.win 2).index t = ![t.val / 4, 2, 0] := (by decide +kernel : ∀ t : Fin grid0.N, win0_2.index t = ![t.val / 4, 2, 0])
theorem emb2 (t : Fin cfg0.N) (a b : Fin 1024) : ((cfg0.win 2).blk t).view.emb (ix3 0 a b) = ix3 (bandOf t) (Shards.row 2 a) b := Shards.place 2 t a b ((cfg0.win 2).rect_emb_val t (ix3 0 a b)) (index2 t)

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)
abbrev zM : B := m ((c.tc : Thread nD τ).loc main_arg2)

/-- What the launch writes out is the gradient's band. -/
theorem band (t : Fin cfg0.N) (h : t.val % 4 = 3) (a b : Fin 1024) : (outsAt0 m c t.val t.isLt).1 (ix3 0 a b) = gradR (xM m c) (yM m c) (ix3 (bandOf t) a b) := by
  refine band_of (xM m c) (yM m c) (fun t => iblk m c 0 t) (fun t => iblk m c 1 t) (outsAt0 m c) (Cert.Kernel6Ideal.Dffn1.read0 (xM m c)) (Cert.Kernel6Ideal.Dffn1.read1 (yM m c)) (fun t h => ?_) (fun t h => ?_) (fun t h => ?_) t h a b
  · rw [outsAt0_A m c t h (by omega) (by omega)]
    frame_out
    rfl
  · by_cases h2 : t.val % 4 = 3
    · rw [outsAt0_C m c t h (by omega) h2]
      frame_out
      exact congrArg (k0_pay3 (F := Ideal) _ _) (Memref.IsWhole.read_unread _ _)
    · rw [outsAt0_B m c t h (by omega) h2]
      frame_out
      exact congrArg (k0_pay3 (F := Ideal) _ _) (Memref.IsWhole.read_unread _ _)
  · rw [outsAt0_C m c t (by omega) (by omega) h]
    frame_out
    rfl

/-- The buffer at the end. -/
theorem arr2 : (dats m 0 c).arrAt 2 cfg0.N = Shards.put 2 (gradR (xM m c) (yM m c)) (zM m c) := by
  refine Shards.arr_put 2 _ _ _ (cfg0.win 2).flush (fun t => ((cfg0.win 2).blk t).view.emb) (fun t => (outsAt0 m c t.val t.isLt).1) flush0_2 emb2 (band m c) (fun h t y hf => ?_) fun i h => ?_
  · exact (dats m 0 c).arrAt_apply_of_mem 2 (Shards.put 2 (gradR (xM m c) (yM m c)) (zM m c)) (fun t hf => (Value.flushed2 m c t).trans (h t hf)) _ t _ t.isLt hf (((cfg0.win 2).blk t).view.emb_mem_set y)
  · refine (Value.entry2 m c i fun t hf hm => (Finset.mem_map.mp hm).elim fun y hy => h t hf y hy.2).trans (congrFun (g := zM m c) ?_ i)
    show StableHlo.after hostOps0 (fun b => m (c, b)) main_v0 = _
    after_results
    rfl

/-- The kernel and the reference end with equal results. -/
theorem algebraic : Cert.algebraic_Kernel10Ideal_Reference10Ideal := by
  intro m g m' g' _ hargs
  refine ⟨fun c => Shards.put 2 (gradR (xM m c) (yM m c)) (zM m c), ?_, ?_⟩
  · exact (θ_run _ _ _).mono (fun r h c => ⟨(h c).1.trans (arr2 m c), (h c).2⟩) (Value.run_blocks m g)
  · refine (θ_run _ _ _).mono (fun r h c => ?_) (Cert.Reference10Ideal.Value.run m' g')
    obtain ⟨h0, ha⟩ := h c
    have e0 : m' ((c.tc : Thread Cert.Reference10Ideal.nD Cert.Reference10Ideal.τ).loc Cert.Reference10Ideal.main_arg0) = xM m c := (hargs c).1
    have e1 : m' ((c.tc : Thread Cert.Reference10Ideal.nD Cert.Reference10Ideal.τ).loc Cert.Reference10Ideal.main_arg1) = yM m c := (hargs c).2.1
    have e2 : m' ((c.tc : Thread Cert.Reference10Ideal.nD Cert.Reference10Ideal.τ).loc Cert.Reference10Ideal.main_arg2) = zM m c := (hargs c).2.2
    rw [e0, e1, e2] at h0
    exact ⟨h0.trans (bufR_eq _ _ _), ha⟩

/-- The reference's frame: no operation writes an argument, and the program declares no counter. -/
theorem frame_reference : Cert.quiescent_Reference10Ideal := fun m g _ =>
  (θ_run _ _ _).mono (fun r h => ⟨fun c => (h c).2, sem_eq_zero_of_no_sems (by decide) r.2⟩) (Cert.Reference10Ideal.Value.run m g)

end Cert.Kernel10Ideal.Dffn1

/-! ## Layer 1 -/

namespace Cert.Kernel12Ideal.Dffn1

open Cert.Kernel12Ideal Cert.Kernel12Ideal.Gen
open Idealize.ShloMosaic Idealize.ShloMosaic.TcCoe Idealize.SL.Sem
open Cert.Kernel6Ideal.Dffn1 (X Y B gradR bandOf band_of)

/-- The reference's result: the buffer with the gradient written in. -/
theorem bufR_eq (x : X) (y : Y) (z : B) : Host.dynamicUpdateSlice z (gradR x y) (fun k => (((![constantI Cert.Reference12Ideal.S_ 32 0#32, constantI Cert.Reference12Ideal.S_ 32 1024#32, constantI Cert.Reference12Ideal.S_ 32 0#32] : Fin 3 → (⟨Cert.Reference12Ideal.S_, .i32⟩ : BufTy).Contents (Elt Ideal)) k) (Shape.Idx.first Cert.Reference12Ideal.Gen.h_S_)).toInt) Cert.Reference12Ideal.Gen.updateFits_S4x13312x1024_S4x1024x1024
    = Shards.put 1 (gradR x y) z :=
  Host.dynamicUpdateSlice_eq_updateSlice _ _ _ _ _ (by decide) _

theorem index2 : ∀ t : Fin cfg0.N, (cfg0.win 2).index t = ![t.val / 4, 1, 0] := (by decide +kernel : ∀ t : Fin grid0.N, win0_2.index t = ![t.val / 4, 1, 0])
theorem emb2 (t : Fin cfg0.N) (a b : Fin 1024) : ((cfg0.win 2).blk t).view.emb (ix3 0 a b) = ix3 (bandOf t) (Shards.row 1 a) b := Shards.place 1 t a b ((cfg0.win 2).rect_emb_val t (ix3 0 a b)) (index2 t)

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)
abbrev zM : B := m ((c.tc : Thread nD τ).loc main_arg2)

/-- What the launch writes out is the gradient's band. -/
theorem band (t : Fin cfg0.N) (h : t.val % 4 = 3) (a b : Fin 1024) : (outsAt0 m c t.val t.isLt).1 (ix3 0 a b) = gradR (xM m c) (yM m c) (ix3 (bandOf t) a b) := by
  refine band_of (xM m c) (yM m c) (fun t => iblk m c 0 t) (fun t => iblk m c 1 t) (outsAt0 m c) (Cert.Kernel6Ideal.Dffn1.read0 (xM m c)) (Cert.Kernel6Ideal.Dffn1.read1 (yM m c)) (fun t h => ?_) (fun t h => ?_) (fun t h => ?_) t h a b
  · rw [outsAt0_A m c t h (by omega) (by omega)]
    frame_out
    rfl
  · by_cases h2 : t.val % 4 = 3
    · rw [outsAt0_C m c t h (by omega) h2]
      frame_out
      exact congrArg (k0_pay3 (F := Ideal) _ _) (Memref.IsWhole.read_unread _ _)
    · rw [outsAt0_B m c t h (by omega) h2]
      frame_out
      exact congrArg (k0_pay3 (F := Ideal) _ _) (Memref.IsWhole.read_unread _ _)
  · rw [outsAt0_C m c t (by omega) (by omega) h]
    frame_out
    rfl

/-- The buffer at the end. -/
theorem arr2 : (dats m 0 c).arrAt 2 cfg0.N = Shards.put 1 (gradR (xM m c) (yM m c)) (zM m c) := by
  refine Shards.arr_put 1 _ _ _ (cfg0.win 2).flush (fun t => ((cfg0.win 2).blk t).view.emb) (fun t => (outsAt0 m c t.val t.isLt).1) flush0_2 emb2 (band m c) (fun h t y hf => ?_) fun i h => ?_
  · exact (dats m 0 c).arrAt_apply_of_mem 2 (Shards.put 1 (gradR (xM m c) (yM m c)) (zM m c)) (fun t hf => (Value.flushed2 m c t).trans (h t hf)) _ t _ t.isLt hf (((cfg0.win 2).blk t).view.emb_mem_set y)
  · refine (Value.entry2 m c i fun t hf hm => (Finset.mem_map.mp hm).elim fun y hy => h t hf y hy.2).trans (congrFun (g := zM m c) ?_ i)
    show StableHlo.after hostOps0 (fun b => m (c, b)) main_v0 = _
    after_results
    rfl

/-- The kernel and the reference end with equal results. -/
theorem algebraic : Cert.algebraic_Kernel12Ideal_Reference12Ideal := by
  intro m g m' g' _ hargs
  refine ⟨fun c => Shards.put 1 (gradR (xM m c) (yM m c)) (zM m c), ?_, ?_⟩
  · exact (θ_run _ _ _).mono (fun r h c => ⟨(h c).1.trans (arr2 m c), (h c).2⟩) (Value.run_blocks m g)
  · refine (θ_run _ _ _).mono (fun r h c => ?_) (Cert.Reference12Ideal.Value.run m' g')
    obtain ⟨h0, ha⟩ := h c
    have e0 : m' ((c.tc : Thread Cert.Reference12Ideal.nD Cert.Reference12Ideal.τ).loc Cert.Reference12Ideal.main_arg0) = xM m c := (hargs c).1
    have e1 : m' ((c.tc : Thread Cert.Reference12Ideal.nD Cert.Reference12Ideal.τ).loc Cert.Reference12Ideal.main_arg1) = yM m c := (hargs c).2.1
    have e2 : m' ((c.tc : Thread Cert.Reference12Ideal.nD Cert.Reference12Ideal.τ).loc Cert.Reference12Ideal.main_arg2) = zM m c := (hargs c).2.2
    rw [e0, e1, e2] at h0
    exact ⟨h0.trans (bufR_eq _ _ _), ha⟩

/-- The reference's frame: no operation writes an argument, and the program declares no counter. -/
theorem frame_reference : Cert.quiescent_Reference12Ideal := fun m g _ =>
  (θ_run _ _ _).mono (fun r h => ⟨fun c => (h c).2, sem_eq_zero_of_no_sems (by decide) r.2⟩) (Cert.Reference12Ideal.Value.run m g)

end Cert.Kernel12Ideal.Dffn1

/-! ## Layer 0 -/

namespace Cert.Kernel14Ideal.Dffn1

open Cert.Kernel14Ideal Cert.Kernel14Ideal.Gen
open Idealize.ShloMosaic Idealize.ShloMosaic.TcCoe Idealize.SL.Sem
open Cert.Kernel6Ideal.Dffn1 (X Y B gradR bandOf band_of)

/-- The reference's result: the buffer with the gradient written in. -/
theorem bufR_eq (x : X) (y : Y) (z : B) : Host.dynamicUpdateSlice z (gradR x y) (fun k => (((![constantI Cert.Reference14Ideal.S_ 32 0#32, constantI Cert.Reference14Ideal.S_ 32 0#32, constantI Cert.Reference14Ideal.S_ 32 0#32] : Fin 3 → (⟨Cert.Reference14Ideal.S_, .i32⟩ : BufTy).Contents (Elt Ideal)) k) (Shape.Idx.first Cert.Reference14Ideal.Gen.h_S_)).toInt) Cert.Reference14Ideal.Gen.updateFits_S4x13312x1024_S4x1024x1024
    = Shards.put 0 (gradR x y) z :=
  Host.dynamicUpdateSlice_eq_updateSlice _ _ _ _ _ (by decide) _

theorem index2 : ∀ t : Fin cfg0.N, (cfg0.win 2).index t = ![t.val / 4, 0, 0] := (by decide +kernel : ∀ t : Fin grid0.N, win0_2.index t = ![t.val / 4, 0, 0])
theorem emb2 (t : Fin cfg0.N) (a b : Fin 1024) : ((cfg0.win 2).blk t).view.emb (ix3 0 a b) = ix3 (bandOf t) (Shards.row 0 a) b := Shards.place 0 t a b ((cfg0.win 2).rect_emb_val t (ix3 0 a b)) (index2 t)

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)
abbrev zM : B := m ((c.tc : Thread nD τ).loc main_arg2)

/-- What the launch writes out is the gradient's band. -/
theorem band (t : Fin cfg0.N) (h : t.val % 4 = 3) (a b : Fin 1024) : (outsAt0 m c t.val t.isLt).1 (ix3 0 a b) = gradR (xM m c) (yM m c) (ix3 (bandOf t) a b) := by
  refine band_of (xM m c) (yM m c) (fun t => iblk m c 0 t) (fun t => iblk m c 1 t) (outsAt0 m c) (Cert.Kernel6Ideal.Dffn1.read0 (xM m c)) (Cert.Kernel6Ideal.Dffn1.read1 (yM m c)) (fun t h => ?_) (fun t h => ?_) (fun t h => ?_) t h a b
  · rw [outsAt0_A m c t h (by omega) (by omega)]
    frame_out
    rfl
  · by_cases h2 : t.val % 4 = 3
    · rw [outsAt0_C m c t h (by omega) h2]
      frame_out
      exact congrArg (k0_pay3 (F := Ideal) _ _) (Memref.IsWhole.read_unread _ _)
    · rw [outsAt0_B m c t h (by omega) h2]
      frame_out
      exact congrArg (k0_pay3 (F := Ideal) _ _) (Memref.IsWhole.read_unread _ _)
  · rw [outsAt0_C m c t (by omega) (by omega) h]
    frame_out
    rfl

/-- The buffer at the end. -/
theorem arr2 : (dats m 0 c).arrAt 2 cfg0.N = Shards.put 0 (gradR (xM m c) (yM m c)) (zM m c) := by
  refine Shards.arr_put 0 _ _ _ (cfg0.win 2).flush (fun t => ((cfg0.win 2).blk t).view.emb) (fun t => (outsAt0 m c t.val t.isLt).1) flush0_2 emb2 (band m c) (fun h t y hf => ?_) fun i h => ?_
  · exact (dats m 0 c).arrAt_apply_of_mem 2 (Shards.put 0 (gradR (xM m c) (yM m c)) (zM m c)) (fun t hf => (Value.flushed2 m c t).trans (h t hf)) _ t _ t.isLt hf (((cfg0.win 2).blk t).view.emb_mem_set y)
  · refine (Value.entry2 m c i fun t hf hm => (Finset.mem_map.mp hm).elim fun y hy => h t hf y hy.2).trans (congrFun (g := zM m c) ?_ i)
    show StableHlo.after hostOps0 (fun b => m (c, b)) main_v0 = _
    after_results
    rfl

/-- The kernel and the reference end with equal results. -/
theorem algebraic : Cert.algebraic_Kernel14Ideal_Reference14Ideal := by
  intro m g m' g' _ hargs
  refine ⟨fun c => Shards.put 0 (gradR (xM m c) (yM m c)) (zM m c), ?_, ?_⟩
  · exact (θ_run _ _ _).mono (fun r h c => ⟨(h c).1.trans (arr2 m c), (h c).2⟩) (Value.run_blocks m g)
  · refine (θ_run _ _ _).mono (fun r h c => ?_) (Cert.Reference14Ideal.Value.run m' g')
    obtain ⟨h0, ha⟩ := h c
    have e0 : m' ((c.tc : Thread Cert.Reference14Ideal.nD Cert.Reference14Ideal.τ).loc Cert.Reference14Ideal.main_arg0) = xM m c := (hargs c).1
    have e1 : m' ((c.tc : Thread Cert.Reference14Ideal.nD Cert.Reference14Ideal.τ).loc Cert.Reference14Ideal.main_arg1) = yM m c := (hargs c).2.1
    have e2 : m' ((c.tc : Thread Cert.Reference14Ideal.nD Cert.Reference14Ideal.τ).loc Cert.Reference14Ideal.main_arg2) = zM m c := (hargs c).2.2
    rw [e0, e1, e2] at h0
    exact ⟨h0.trans (bufR_eq _ _ _), ha⟩

/-- The reference's frame: no operation writes an argument, and the program declares no counter. -/
theorem frame_reference : Cert.quiescent_Reference14Ideal := fun m g _ =>
  (θ_run _ _ _).mono (fun r h => ⟨fun c => (h c).2, sem_eq_zero_of_no_sems (by decide) r.2⟩) (Cert.Reference14Ideal.Value.run m g)

end Cert.Kernel14Ideal.Dffn1

end
-- ==== Proof.Square.lean ====
module

public import proofs.«01_k».proof.Defs
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import Idealize.ShloMosaic.Lib.IdealHost
public import Idealize.ShloMosaic.Lib.Claim
public import Idealize.ShloMosaic.Lib.Pointwise
public import Idealize.ShloMosaic.Lib.ValueIdx

/-! The products of all tokens with a square matrix or its transpose: eight bands of rows, one above the other the reference's array.
The bands and the tokens' reads are the same in all four programs and are stated once, for the first. -/

@[expose] public section

set_option maxRecDepth 16384
noncomputable section

/-! ## The bands -/

namespace Cert.Square

open Cert.Kernel15Ideal Cert.Kernel15Ideal.Gen
open Idealize.ShloMosaic Idealize.ShloMosaic.TcCoe Idealize.SL.Sem
open scoped BigOperators

/-- The tokens, and a square matrix or tile. -/
abbrev X := FVec Ideal S8192x1024 .bf16
abbrev W := FVec Ideal S1024x1024 .bf16

/-- A band's row in the whole. -/
def row (t : Fin cfg0.N) (a : Fin 1024) : Fin 8192 := ⟨t.val * 1024 + a.val, by have := t.isLt; have : cfg0.N = 8 := rfl; omega⟩

theorem zero_block (b : Fin 1024) : 0 * 1024 + b.val = b.val := by omega
theorem zeros : (![0, 0] : Fin 2 → ℕ) = fun _ => 0 := by decide

/-- A place is given by its row and column. -/
theorem ext2 {n k : ℕ} {i : Shape.Idx ⟨2, ![n, k]⟩} {a : Fin n} {b : Fin k} (h0 : (i 0).val = a.val) (h1 : (i 1).val = b.val) : i = ix2 a b := by
  funext z
  refine Fin.ext ?_
  match z with
  | ⟨0, _⟩ => exact h0
  | ⟨1, _⟩ => exact h1

/-- Every place lies in some band. -/
theorem place (i : S8192x1024.Idx) : ∃ (t : Fin cfg0.N) (a b : Fin 1024), i = ix2 (row t a) b := by
  have h0 : (i 0).val < 8192 := (i 0).isLt
  refine ⟨⟨(i 0).val / 1024, by show _ < 8; omega⟩, ⟨(i 0).val % 1024, by omega⟩, i 1, ext2 ?_ rfl⟩
  show (i 0).val = (i 0).val / 1024 * 1024 + (i 0).val % 1024
  omega

theorem index0 : ∀ t : Fin cfg0.N, (cfg0.win 0).index t = ![t.val, 0] := (by decide +kernel : ∀ t : Fin grid0.N, win0_0.index t = ![t.val, 0])
theorem index1 : ∀ t : Fin cfg0.N, (cfg0.win 1).index t = ![0, 0] := (by decide +kernel : ∀ t : Fin grid0.N, win0_1.index t = ![0, 0])
theorem index2 : ∀ t : Fin cfg0.N, (cfg0.win 2).index t = ![t.val, 0] := (by decide +kernel : ∀ t : Fin grid0.N, win0_2.index t = ![t.val, 0])

theorem emb0 (t : Fin cfg0.N) (a k : Fin 1024) : ((cfg0.win 0).blk t).view.emb (ix2 a k) = ix2 (row t a) k :=
  ext2 (((cfg0.win 0).rect_emb_val t (ix2 a k) 0).trans (by rw [index0]; rfl)) (((cfg0.win 0).rect_emb_val t (ix2 a k) 1).trans (by rw [index0]; exact zero_block k))
theorem emb1 (t : Fin cfg0.N) (a b : Fin 1024) : ((cfg0.win 1).blk t).view.emb (ix2 a b) = ix2 a b :=
  ext2 (((cfg0.win 1).rect_emb_val t (ix2 a b) 0).trans (by rw [index1]; exact zero_block a)) (((cfg0.win 1).rect_emb_val t (ix2 a b) 1).trans (by rw [index1]; exact zero_block b))
theorem emb2 (t : Fin cfg0.N) (a b : Fin 1024) : ((cfg0.win 2).blk t).view.emb (ix2 a b) = ix2 (row t a) b :=
  ext2 (((cfg0.win 2).rect_emb_val t (ix2 a b) 0).trans (by rw [index2]; rfl)) (((cfg0.win 2).rect_emb_val t (ix2 a b) 1).trans (by rw [index2]; exact zero_block b))

/-- A band of the tokens, and the whole matrix. -/
theorem read0 (x : X) (t : Fin cfg0.N) (a k : Fin 1024) : ((cfg0.win 0).blk t).view.read (Elt Ideal) x (ix2 a k) = x (ix2 (row t a) k) := congrArg x (emb0 t a k)
theorem read1 (w : W) (t : Fin cfg0.N) : ((cfg0.win 1).blk t).view.read (Elt Ideal) w = w := by
  funext y
  exact congrArg w ((congrArg _ (ext2 rfl rfl : y = ix2 (y 0) (y 1))).trans ((emb1 t (y 0) (y 1)).trans (ext2 rfl rfl : y = ix2 (y 0) (y 1)).symm))

/-- Every place of the result lies in a block of it. -/
theorem cover (i : S8192x1024.Idx) : ∃ t : Fin cfg0.N, i ∈ ((cfg0.win 2).blk t).view.set := by
  obtain ⟨t, a, b, rfl⟩ := place i
  exact ⟨t, emb2 t a b ▸ ((cfg0.win 2).blk t).view.emb_mem_set (ix2 a b)⟩

/-- Two functions that agree where the tile's rows are the band's rows of the tokens: a band's tile is the whole's block. -/
theorem band {e : FTy} (f : W → W → FVec Ideal S1024x1024 e) (F : X → W → FVec Ideal S8192x1024 e)
    (h : ∀ (x' : W) (x : X) (w : W) (r : Fin 8192) (a b : Fin 1024), (∀ k, x' (ix2 a k) = x (ix2 r k)) → f x' w (ix2 a b) = F x w (ix2 r b))
    (x : X) (w w' : W) (hw : w' = w) (t : Fin cfg0.N) (y : S1024x1024.Idx) :
    f (((cfg0.win 0).blk t).view.read (Elt Ideal) x) w' y = F x w (((cfg0.win 2).blk t).view.emb y) := by
  subst hw
  obtain ⟨a, b, rfl⟩ : ∃ a b, y = ix2 a b := ⟨y 0, y 1, ext2 rfl rfl⟩
  exact (h _ x w' (row t a) a b (read0 x t a)).trans (congrArg (F x w') (emb2 t a b).symm)

end Cert.Square

/-! ## The embeddings' gate -/

namespace Cert.Kernel15Ideal.Gate

open Cert.Kernel15Ideal Cert.Kernel15Ideal.Gen Cert.Square
open Idealize.ShloMosaic Idealize.ShloMosaic.TcCoe Idealize.SL.Sem
open scoped BigOperators

/-- The reference's result. -/
def yR (x : X) (w : W) : FVec Ideal S8192x1024 .f32 := Host.dotGeneral (F := Ideal) Cert.Reference15Ideal.dot_S8192x1024_S1024x1024_S8192x1024_1_0_0_1_n_n none (extf .f32 x Cert.Reference15Ideal.Gen.bitsLt_bf16_f32) (extf .f32 w Cert.Reference15Ideal.Gen.bitsLt_bf16_f32)
/-- A row of a tile is the reference's row of the same token. -/
theorem tile (x' : W) (x : X) (w : W) (r : Fin 8192) (a b : Fin 1024) (h : ∀ k, x' (ix2 a k) = x (ix2 r k)) : k0_pay1 (F := Ideal) x' w (ix2 a b) = yR x w (ix2 r b) := by
  have hk : k0_pay1 (F := Ideal) x' w (ix2 a b) = ∑ k, x' (ix2 a k) * w (ix2 k b) := by pointwise [k0_pay1]
  have hr : yR x w (ix2 r b) = ∑ k, x (ix2 r k) * w (ix2 k b) := by pointwise [yR]
  rw [hk, hr]
  exact Finset.sum_congr rfl fun k _ => congrArg (· * _) (h k)

variable (m : (ℓ : Loc nD τ sig) → Buf (Elt Ideal) ℓ) (c : Dev nD)

/-- The arguments as launched. -/
abbrev xM : X := m ((c.tc : Thread nD τ).loc main_arg0)
abbrev wM : W := m ((c.tc : Thread nD τ).loc main_arg1)

/-- The array at the end. -/
theorem arr2 : (dats m 0 c).arrAt 2 cfg0.N = yR (xM m c) (wM m c) := by
  refine (dats m 0 c).arrAt_eq_of_cover 2 (yR (xM m c) (wM m c)) (fun t _ => ?_) fun i => ?_
  · rw [Value.flushed2]
    funext y
    show out0_2 (iblk m c 0 t) (iblk m c 1 t) y = _
    unfold out0_2 r0_0
    rw [View.canon_unit_zero zeros, View.ld_unit_zero zeros, View.ld_unit_zero zeros]
    exact band (k0_pay1 (F := Ideal)) yR tile (xM m c) (wM m c) _ (read1 (wM m c) t) t y
  · obtain ⟨t, h⟩ := cover i
    exact ⟨t, flush0_2 t, h⟩

/-- The kernel and the reference end with equal results. -/
theorem algebraic : Cert.algebraic_Kernel15Ideal_Reference15Ideal := by
  intro m g m' g' _ hargs
  refine ⟨fun c => yR (xM m c) (wM m c), ?_, ?_⟩
  · exact (θ_run _ _ _).mono (fun r h c => ⟨(h c).1.trans (arr2 m c), (h c).2⟩) (Value.run_blocks m g)
  · refine (θ_run _ _ _).mono (fun r h c => ?_) (Cert.Reference15Ideal.Value.run m' g')
    have e0 : m' ((c.tc : Thread Cert.Reference15Ideal.nD Cert.Reference15Ideal.τ).loc Cert.Reference15Ideal.main_arg0) = xM m c := (hargs c).1
    have e1 : m' ((c.tc : Thread Cert.Reference15Ideal.nD Cert.Reference15Ideal.τ).loc Cert.Reference15Ideal.main_arg1) = wM m c := (hargs c).2
    obtain ⟨h0, ha⟩ := h c
    rw [e0, e1] at h0
    exact ⟨h0, ha⟩

/-- The reference's frame: no operation writes an argument, and the program declares no counter. -/
theorem frame_reference : Cert.quiescent_Reference15Ideal := fun m g _ =>
  (θ_run _ _ _).mono (fun r h => ⟨fun c => (h c).2, sem_eq_zero_of_no_sems (by decide) r.2⟩) (Cert.Reference15Ideal.Value.run m g)

end Cert.Kernel15Ideal.Gate

/-! ## The queries -/

namespace Cert.Kernel16Ideal.Query

open Cert.Kernel16Ideal Cert.Kernel16Ideal.Gen Cert.Square
open Idealize.ShloMosaic Idealize.ShloMosaic.TcCoe Idealize.SL.Sem
open Cert.Kernel15Ideal (Gate.yR Gate.tile)

/-- The reference's result: the product scaled and rounded. -/
def yR (x : X) (w : W) : FVec Ideal S8192x1024 .bf16 := truncf .bf16 (mulf (Gate.yR x w) (broadcastInDim S8192x1024 ![] Cert.Reference16Ideal.Gen.bcast_S_S8192x1024 (constant Cert.Reference16Ideal.S_ .f32 0x3E000000#32))) Cert.Reference16Ideal.Gen.bitsLt_bf16_f32
theorem tile (x' : W) (x : X) (w : W) (r : Fin 8192) (a b : Fin 1024) (h : ∀ k, x' (ix2 a k) = x (ix2 r k)) : k0_pay1 (F := Ideal) x' w (ix2 a b) = yR x w (ix2 r b) :=
  congrArg (· * Ideal.ofBits .f32 0x3E000000#32) (Gate.tile x' x w r a b h)

variable (m : (ℓ : Loc nD τ sig) → Buf (Elt Ideal) ℓ) (c : Dev nD)

/-- The arguments as launched. -/
abbrev xM : X := m ((c.tc : Thread nD τ).loc main_arg0)
abbrev wM : W := m ((c.tc : Thread nD τ).loc main_arg1)

theorem arr2 : (dats m 0 c).arrAt 2 cfg0.N = yR (xM m c) (wM m c) := by
  refine (dats m 0 c).arrAt_eq_of_cover 2 (yR (xM m c) (wM m c)) (fun t _ => ?_) fun i => (cover i).imp fun t h => ⟨flush0_2 t, h⟩
  rw [Value.flushed2]
  funext y
  show out0_2 (iblk m c 0 t) (iblk m c 1 t) y = _
  unfold out0_2 r0_0
  rw [View.canon_unit_zero zeros, View.ld_unit_zero zeros, View.ld_unit_zero zeros]
  exact band (k0_pay1 (F := Ideal)) yR tile (xM m c) (wM m c) _ (read1 (wM m c) t) t y

/-- The kernel and the reference end with equal results. -/
theorem algebraic : Cert.algebraic_Kernel16Ideal_Reference16Ideal := by
  intro m g m' g' _ hargs
  refine ⟨fun c => yR (xM m c) (wM m c), (θ_run _ _ _).mono (fun r h c => ⟨(h c).1.trans (arr2 m c), (h c).2⟩) (Value.run_blocks m g), (θ_run _ _ _).mono (fun r h c => ⟨?_, (h c).2⟩) (Cert.Reference16Ideal.Value.run m' g')⟩
  exact (h c).1.trans (congrArg₂ yR (hargs c).1 (hargs c).2)

/-- The reference's frame: no operation writes an argument, and the program declares no counter. -/
theorem frame_reference : Cert.quiescent_Reference16Ideal := fun m g _ =>
  (θ_run _ _ _).mono (fun r h => ⟨fun c => (h c).2, sem_eq_zero_of_no_sems (by decide) r.2⟩) (Cert.Reference16Ideal.Value.run m g)

end Cert.Kernel16Ideal.Query

/-! ## The gradient before the attention's output matrix -/

namespace Cert.Kernel19Ideal.Do

open Cert.Kernel19Ideal Cert.Kernel19Ideal.Gen Cert.Square
open Idealize.ShloMosaic Idealize.ShloMosaic.TcCoe Idealize.SL.Sem
open scoped BigOperators

/-- The reference's result, the product with the transpose rounded. -/
def yR (x : X) (w : W) : FVec Ideal S8192x1024 .bf16 := truncf .bf16 (Host.dotGeneral (F := Ideal) Cert.Reference19Ideal.dot_S8192x1024_S1024x1024_S8192x1024_1_1_0_0_n_n none (extf .f32 x Cert.Reference19Ideal.Gen.bitsLt_bf16_f32) (extf .f32 w Cert.Reference19Ideal.Gen.bitsLt_bf16_f32)) Cert.Reference19Ideal.Gen.bitsLt_bf16_f32
theorem tile (x' : W) (x : X) (w : W) (r : Fin 8192) (a b : Fin 1024) (h : ∀ k, x' (ix2 a k) = x (ix2 r k)) : k0_pay1 (F := Ideal) x' w (ix2 a b) = yR x w (ix2 r b) := by
  have hk : k0_pay1 (F := Ideal) x' w (ix2 a b) = ∑ k, x' (ix2 a k) * w (ix2 b k) := by pointwise [k0_pay1]
  have hr : yR x w (ix2 r b) = ∑ k, x (ix2 r k) * w (ix2 b k) := by pointwise [yR]
  rw [hk, hr]
  exact Finset.sum_congr rfl fun k _ => congrArg (· * _) (h k)

theorem index1 : ∀ t : Fin cfg0.N, (cfg0.win 1).index t = ![0, 0] := (by decide +kernel : ∀ t : Fin grid0.N, win0_1.index t = ![0, 0])
theorem read1 (w : W) (t : Fin cfg0.N) : ((cfg0.win 1).blk t).view.read (Elt Ideal) w = w := by
  funext y
  refine congrArg w (funext fun z => Fin.ext (((cfg0.win 1).rect_emb_val t y z).trans ?_))
  rw [index1]
  match z with
  | ⟨0, _⟩ => exact zero_block (y 0)
  | ⟨1, _⟩ => exact zero_block (y 1)

variable (m : (ℓ : Loc nD τ sig) → Buf (Elt Ideal) ℓ) (c : Dev nD)

/-- The arguments as launched. -/
abbrev xM : X := m ((c.tc : Thread nD τ).loc main_arg0)
abbrev wM : W := m ((c.tc : Thread nD τ).loc main_arg1)

theorem arr2 : (dats m 0 c).arrAt 2 cfg0.N = yR (xM m c) (wM m c) := by
  refine (dats m 0 c).arrAt_eq_of_cover 2 (yR (xM m c) (wM m c)) (fun t _ => ?_) fun i => (cover i).imp fun t h => ⟨flush0_2 t, h⟩
  rw [Value.flushed2]
  funext y
  show out0_2 (iblk m c 0 t) (iblk m c 1 t) y = _
  unfold out0_2 r0_0
  rw [View.canon_unit_zero zeros, View.ld_unit_zero zeros, View.ld_unit_zero zeros]
  exact band (k0_pay1 (F := Ideal)) yR tile (xM m c) (wM m c) _ (read1 (wM m c) t) t y

/-- The kernel and the reference end with equal results. -/
theorem algebraic : Cert.algebraic_Kernel19Ideal_Reference19Ideal := by
  intro m g m' g' _ hargs
  refine ⟨fun c => yR (xM m c) (wM m c), (θ_run _ _ _).mono (fun r h c => ⟨(h c).1.trans (arr2 m c), (h c).2⟩) (Value.run_blocks m g), (θ_run _ _ _).mono (fun r h c => ⟨?_, (h c).2⟩) (Cert.Reference19Ideal.Value.run m' g')⟩
  exact (h c).1.trans (congrArg₂ yR (hargs c).1 (hargs c).2)

/-- The reference's frame: no operation writes an argument, and the program declares no counter. -/
theorem frame_reference : Cert.quiescent_Reference19Ideal := fun m g _ =>
  (θ_run _ _ _).mono (fun r h => ⟨fun c => (h c).2, sem_eq_zero_of_no_sems (by decide) r.2⟩) (Cert.Reference19Ideal.Value.run m g)

end Cert.Kernel19Ideal.Do

/-! ## The gradient before the convolution's last matrix -/

namespace Cert.Kernel20Ideal.Dsw

open Cert.Kernel20Ideal Cert.Kernel20Ideal.Gen Cert.Square
open Idealize.ShloMosaic Idealize.ShloMosaic.TcCoe Idealize.SL.Sem
open Cert.Kernel19Ideal (Do.tile Do.read1)

/-- The reference's result, not rounded. -/
def yR (x : X) (w : W) : FVec Ideal S8192x1024 .f32 := Host.dotGeneral (F := Ideal) Cert.Reference20Ideal.dot_S8192x1024_S1024x1024_S8192x1024_1_1_0_0_n_n none (extf .f32 x Cert.Reference20Ideal.Gen.bitsLt_bf16_f32) (extf .f32 w Cert.Reference20Ideal.Gen.bitsLt_bf16_f32)

variable (m : (ℓ : Loc nD τ sig) → Buf (Elt Ideal) ℓ) (c : Dev nD)

/-- The arguments as launched. -/
abbrev xM : X := m ((c.tc : Thread nD τ).loc main_arg0)
abbrev wM : W := m ((c.tc : Thread nD τ).loc main_arg1)

theorem arr2 : (dats m 0 c).arrAt 2 cfg0.N = yR (xM m c) (wM m c) := by
  refine (dats m 0 c).arrAt_eq_of_cover 2 (yR (xM m c) (wM m c)) (fun t _ => ?_) fun i => (cover i).imp fun t h => ⟨flush0_2 t, h⟩
  rw [Value.flushed2]
  funext y
  show out0_2 (iblk m c 0 t) (iblk m c 1 t) y = _
  unfold out0_2 r0_0
  rw [View.canon_unit_zero zeros, View.ld_unit_zero zeros, View.ld_unit_zero zeros]
  exact band (k0_pay1 (F := Ideal)) yR Do.tile (xM m c) (wM m c) _ (Do.read1 (wM m c) t) t y

/-- The kernel and the reference end with equal results. -/
theorem algebraic : Cert.algebraic_Kernel20Ideal_Reference20Ideal := by
  intro m g m' g' _ hargs
  refine ⟨fun c => yR (xM m c) (wM m c), (θ_run _ _ _).mono (fun r h c => ⟨(h c).1.trans (arr2 m c), (h c).2⟩) (Value.run_blocks m g), (θ_run _ _ _).mono (fun r h c => ⟨?_, (h c).2⟩) (Cert.Reference20Ideal.Value.run m' g')⟩
  exact (h c).1.trans (congrArg₂ yR (hargs c).1 (hargs c).2)

/-- The reference's frame: no operation writes an argument, and the program declares no counter. -/
theorem frame_reference : Cert.quiescent_Reference20Ideal := fun m g _ =>
  (θ_run _ _ _).mono (fun r h => ⟨fun c => (h c).2, sem_eq_zero_of_no_sems (by decide) r.2⟩) (Cert.Reference20Ideal.Value.run m g)

end Cert.Kernel20Ideal.Dsw

end
-- ==== Proof.Wide.lean ====
module

public import proofs.«01_k».proof.Proof.Square
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run

/-! The products of all tokens with a matrix of two square halves side by side: eight bands of rows by two halves of the columns. -/

@[expose] public section

set_option maxRecDepth 16384
noncomputable section

/-! ## Keys and values -/

namespace Cert.Kernel17Ideal.Kv

open Cert.Kernel17Ideal Cert.Kernel17Ideal.Gen
open Cert.Square (X ext2 zero_block zeros)
open Idealize.ShloMosaic Idealize.ShloMosaic.TcCoe Idealize.SL.Sem
open scoped BigOperators

/-- The wide matrix, and a tile. -/
abbrev W := FVec Ideal S1024x2048 .bf16
abbrev T := FVec Ideal S1024x1024 .bf16

/-- A tile's row and column in the whole. -/
def row (t : Fin cfg0.N) (a : Fin 1024) : Fin 8192 := ⟨t.val / 2 * 1024 + a.val, by have := t.isLt; have : cfg0.N = 16 := rfl; omega⟩
def col (t : Fin cfg0.N) (b : Fin 1024) : Fin 2048 := ⟨t.val % 2 * 1024 + b.val, by omega⟩

theorem index0 : ∀ t : Fin cfg0.N, (cfg0.win 0).index t = ![t.val / 2, 0] := (by decide +kernel : ∀ t : Fin grid0.N, win0_0.index t = ![t.val / 2, 0])
theorem index1 : ∀ t : Fin cfg0.N, (cfg0.win 1).index t = ![0, t.val % 2] := (by decide +kernel : ∀ t : Fin grid0.N, win0_1.index t = ![0, t.val % 2])
theorem index2 : ∀ t : Fin cfg0.N, (cfg0.win 2).index t = ![t.val / 2, t.val % 2] := (by decide +kernel : ∀ t : Fin grid0.N, win0_2.index t = ![t.val / 2, t.val % 2])

theorem emb2 (t : Fin cfg0.N) (a b : Fin 1024) : ((cfg0.win 2).blk t).view.emb (ix2 a b) = ix2 (row t a) (col t b) :=
  ext2 (((cfg0.win 2).rect_emb_val t (ix2 a b) 0).trans (by rw [index2]; rfl)) (((cfg0.win 2).rect_emb_val t (ix2 a b) 1).trans (by rw [index2]; rfl))
theorem read0 (x : X) (t : Fin cfg0.N) (a k : Fin 1024) : ((cfg0.win 0).blk t).view.read (Elt Ideal) x (ix2 a k) = x (ix2 (row t a) k) :=
  congrArg x (ext2 (((cfg0.win 0).rect_emb_val t (ix2 a k) 0).trans (by rw [index0]; rfl)) (((cfg0.win 0).rect_emb_val t (ix2 a k) 1).trans (by rw [index0]; exact zero_block k)))
theorem read1 (w : W) (t : Fin cfg0.N) (k b : Fin 1024) : ((cfg0.win 1).blk t).view.read (Elt Ideal) w (ix2 k b) = w (ix2 k (col t b)) :=
  congrArg w (ext2 (((cfg0.win 1).rect_emb_val t (ix2 k b) 0).trans (by rw [index1]; exact zero_block k)) (((cfg0.win 1).rect_emb_val t (ix2 k b) 1).trans (by rw [index1]; rfl)))

/-- Every place of the result lies in a block of it. -/
theorem cover (i : S8192x2048.Idx) : ∃ t : Fin cfg0.N, i ∈ ((cfg0.win 2).blk t).view.set := by
  have h0 : (i 0).val < 8192 := (i 0).isLt
  have h1 : (i 1).val < 2048 := (i 1).isLt
  refine ⟨⟨(i 0).val / 1024 * 2 + (i 1).val / 1024, by show _ < 16; omega⟩, ?_⟩
  have h : i = ix2 (row ⟨(i 0).val / 1024 * 2 + (i 1).val / 1024, by show _ < 16; omega⟩ ⟨(i 0).val % 1024, by omega⟩) (col ⟨(i 0).val / 1024 * 2 + (i 1).val / 1024, by show _ < 16; omega⟩ ⟨(i 1).val % 1024, by omega⟩) := by
    refine ext2 ?_ ?_
    · show (i 0).val = ((i 0).val / 1024 * 2 + (i 1).val / 1024) / 2 * 1024 + (i 0).val % 1024; omega
    · show (i 1).val = ((i 0).val / 1024 * 2 + (i 1).val / 1024) % 2 * 1024 + (i 1).val % 1024; omega
  exact (congrArg (· ∈ _) (h.trans (emb2 _ _ _).symm)).mpr (((cfg0.win 2).blk _).view.emb_mem_set _)

/-- The product of the reference, and its rounded result. -/
def dotR (x : X) (w : W) : FVec Ideal S8192x2048 .f32 := Host.dotGeneral (F := Ideal) Cert.Reference17Ideal.dot_S8192x1024_S1024x2048_S8192x2048_1_0_0_1_n_n none (extf .f32 x Cert.Reference17Ideal.Gen.bitsLt_bf16_f32) (extf .f32 w Cert.Reference17Ideal.Gen.bitsLt_bf16_f32)
def yR (x : X) (w : W) : FVec Ideal S8192x2048 .bf16 := truncf .bf16 (dotR x w) Cert.Reference17Ideal.Gen.bitsLt_bf16_f32

/-- A tile of the product is the reference's. -/
theorem tile (x : X) (w : W) (t : Fin cfg0.N) (a b : Fin 1024) : k0_pay1 (F := Ideal) (((cfg0.win 0).blk t).view.read (Elt Ideal) x) (((cfg0.win 1).blk t).view.read (Elt Ideal) w) (ix2 a b) = dotR x w (ix2 (row t a) (col t b)) := by
  have hk (x' w' : T) : k0_pay1 (F := Ideal) x' w' (ix2 a b) = ∑ k, x' (ix2 a k) * w' (ix2 k b) := by pointwise [k0_pay1]
  have hr (r : Fin 8192) (s : Fin 2048) : dotR x w (ix2 r s) = ∑ k, x (ix2 r k) * w (ix2 k s) := by pointwise [dotR]
  rw [hk, hr]
  exact Finset.sum_congr rfl fun k _ => congrArg₂ (· * ·) (read0 x t a k) (read1 w t k b)

variable (m : (ℓ : Loc nD τ sig) → Buf (Elt Ideal) ℓ) (c : Dev nD)

/-- The arguments as launched. -/
abbrev xM : X := m ((c.tc : Thread nD τ).loc main_arg0)
abbrev wM : W := m ((c.tc : Thread nD τ).loc main_arg1)

theorem arr2 : (dats m 0 c).arrAt 2 cfg0.N = yR (xM m c) (wM m c) := by
  refine (dats m 0 c).arrAt_eq_of_cover 2 (yR (xM m c) (wM m c)) (fun t _ => ?_) fun i => (cover i).imp fun t h => ⟨flush0_2 t, h⟩
  rw [Value.flushed2]
  funext y
  obtain ⟨a, b, rfl⟩ : ∃ a b : Fin 1024, y = ix2 a b := ⟨y 0, y 1, ext2 rfl rfl⟩
  show out0_2 (iblk m c 0 t) (iblk m c 1 t) (ix2 a b) = yR (xM m c) (wM m c) (((cfg0.win 2).blk t).view.emb (ix2 a b))
  unfold out0_2 r0_0
  rw [emb2, View.canon_unit_zero zeros, View.ld_unit_zero zeros, View.ld_unit_zero zeros]
  exact tile (xM m c) (wM m c) t a b

/-- The kernel and the reference end with equal results. -/
theorem algebraic : Cert.algebraic_Kernel17Ideal_Reference17Ideal := by
  intro m g m' g' _ hargs
  refine ⟨fun c => yR (xM m c) (wM m c), (θ_run _ _ _).mono (fun r h c => ⟨(h c).1.trans (arr2 m c), (h c).2⟩) (Value.run_blocks m g), (θ_run _ _ _).mono (fun r h c => ⟨?_, (h c).2⟩) (Cert.Reference17Ideal.Value.run m' g')⟩
  exact (h c).1.trans (congrArg₂ yR (hargs c).1 (hargs c).2)

/-- The reference's frame: no operation writes an argument, and the program declares no counter. -/
theorem frame_reference : Cert.quiescent_Reference17Ideal := fun m g _ =>
  (θ_run _ _ _).mono (fun r h => ⟨fun c => (h c).2, sem_eq_zero_of_no_sems (by decide) r.2⟩) (Cert.Reference17Ideal.Value.run m g)

end Cert.Kernel17Ideal.Kv

/-! ## The convolution's first product, with its bias -/

namespace Cert.Kernel18Ideal.Pw1

open Cert.Kernel18Ideal Cert.Kernel18Ideal.Gen
open Cert.Square (X ext2 zero_block zeros)
open Cert.Kernel17Ideal.Kv (W T row col)
open Idealize.ShloMosaic Idealize.ShloMosaic.TcCoe Idealize.SL.Sem

/-- The bias row. -/
abbrev V := FVec Ideal S1x2048 .f32

/-- The reference's result. -/
def yR (x : X) (w : W) (v : V) : FVec Ideal S8192x2048 .f32 := addf (Cert.Kernel17Ideal.Kv.dotR x w) (broadcastInDim S8192x2048 ![0, 1] Cert.Reference18Ideal.Gen.bcast_S1x2048_S8192x2048_0_1 v)
theorem yR_apply (x : X) (w : W) (v : V) (a : Fin 8192) (b : Fin 2048) : yR x w v (ix2 a b) = Cert.Kernel17Ideal.Kv.dotR x w (ix2 a b) + v (ix2 0 b) := by
  pointwise [yR]
/-- A tile is the product's tile and the bias. -/
theorem tile_apply (x w : T) (v : FVec Ideal S1x1024 .f32) (a b : Fin 1024) : k0_pay1 (F := Ideal) x w v (ix2 a b) = Cert.Kernel17Ideal.Gen.k0_pay1 (F := Ideal) x w (ix2 a b) + v (ix2 0 b) := by
  pointwise [k0_pay1, Cert.Kernel17Ideal.Gen.k0_pay1]

theorem index2 : ∀ t : Fin cfg0.N, (cfg0.win 2).index t = ![0, t.val % 2] := (by decide +kernel : ∀ t : Fin grid0.N, win0_2.index t = ![0, t.val % 2])
theorem read2 (v : V) (t : Fin cfg0.N) (b : Fin 1024) : ((cfg0.win 2).blk t).view.read (Elt Ideal) v (ix2 0 b) = v (ix2 0 (col t b)) :=
  congrArg v (ext2 (((cfg0.win 2).rect_emb_val t (ix2 0 b) 0).trans (by rw [index2]; rfl)) (((cfg0.win 2).rect_emb_val t (ix2 0 b) 1).trans (by rw [index2]; rfl)))

variable (m : (ℓ : Loc nD τ sig) → Buf (Elt Ideal) ℓ) (c : Dev nD)

/-- The arguments as launched. -/
abbrev xM : X := m ((c.tc : Thread nD τ).loc main_arg0)
abbrev wM : W := m ((c.tc : Thread nD τ).loc main_arg1)
abbrev vM : V := m ((c.tc : Thread nD τ).loc main_arg2)

theorem arr3 : (dats m 0 c).arrAt 3 cfg0.N = yR (xM m c) (wM m c) (vM m c) := by
  refine (dats m 0 c).arrAt_eq_of_cover 3 (yR (xM m c) (wM m c) (vM m c)) (fun t _ => ?_) fun i => (Cert.Kernel17Ideal.Kv.cover i).imp fun t h => ⟨flush0_3 t, h⟩
  rw [Value.flushed3]
  funext y
  obtain ⟨a, b, rfl⟩ : ∃ a b : Fin 1024, y = ix2 a b := ⟨y 0, y 1, ext2 rfl rfl⟩
  show out0_3 (iblk m c 0 t) (iblk m c 1 t) (iblk m c 2 t) (ix2 a b) = yR (xM m c) (wM m c) (vM m c) (((cfg0.win 3).blk t).view.emb (ix2 a b))
  refine Eq.trans ?_ (congrArg (yR (xM m c) (wM m c) (vM m c)) (Cert.Kernel17Ideal.Kv.emb2 t a b).symm)
  unfold out0_3 r0_0 r0_1
  rw [yR_apply, View.canon_unit_zero zeros, View.ld_unit_zero zeros, View.ld_unit_zero zeros, View.ld_unit_zero zeros]
  exact (tile_apply _ _ _ a b).trans (congrArg₂ (· + ·) (Cert.Kernel17Ideal.Kv.tile (xM m c) (wM m c) t a b) (read2 (vM m c) t b))

/-- The kernel and the reference end with equal results. -/
theorem algebraic : Cert.algebraic_Kernel18Ideal_Reference18Ideal := by
  intro m g m' g' _ hargs
  refine ⟨fun c => yR (xM m c) (wM m c) (vM m c), (θ_run _ _ _).mono (fun r h c => ⟨(h c).1.trans (arr3 m c), (h c).2⟩) (Value.run_blocks m g), (θ_run _ _ _).mono (fun r h c => ⟨?_, (h c).2⟩) (Cert.Reference18Ideal.Value.run m' g')⟩
  exact (h c).1.trans (show yR _ _ _ = yR _ _ _ from congr (congrArg₂ yR (hargs c).1 (hargs c).2.1) (hargs c).2.2)

/-- The reference's frame: no operation writes an argument, and the program declares no counter. -/
theorem frame_reference : Cert.quiescent_Reference18Ideal := fun m g _ =>
  (θ_run _ _ _).mono (fun r h => ⟨fun c => (h c).2, sem_eq_zero_of_no_sems (by decide) r.2⟩) (Cert.Reference18Ideal.Value.run m g)

end Cert.Kernel18Ideal.Pw1

end
-- ==== Proof.Weights.lean ====
module

public import proofs.«01_k».proof.Proof.Square
public import proofs.«01_k».proof.Proof.Dffn2
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run

/-! The gradients of the matrices after a norm: the sum over all tokens of the normed token times the gradient, in four runs of
2048 tokens, for one square matrix and for one of two square halves. -/

@[expose] public section

set_option maxRecDepth 16384
noncomputable section

namespace Cert.Weights

open Idealize.ShloMosaic Idealize.ShloMosaic.TcCoe Idealize.SL.Sem
open Cert.Kernel5Ideal.Dffn2 (I T part part_apply)
open scoped BigOperators

/-- A run of a grid's points: at every fourth point the accumulator is the tile's product, at every other it is added to.
After four it is the sum over all tokens. -/
theorem sum_of {N : ℕ} (xb yb : Fin N → I) (o : (n : ℕ) → n < N → T) (f : Fin 8192 → EReal) (a b : Fin 1024)
    (h0 : ∀ (t : Fin N) i, t.val % 4 = 0 → o t.val t.isLt i = part (xb t) (yb t) i)
    (h1 : ∀ (t : Fin N) i, ¬t.val % 4 = 0 → o t.val t.isLt i = o (t.val - 1) (Nat.lt_of_le_of_lt (Nat.sub_le _ _) t.isLt) i + part (xb t) (yb t) i)
    (t : Fin N) (h : t.val % 4 = 3)
    (hf : ∀ (t' : Fin N) (r : Fin 2048) (l : Fin 8192), t'.val / 4 = t.val / 4 → l.val = t'.val % 4 * 2048 + r.val → xb t' (ix2 r a) * yb t' (ix2 r b) = f l) :
    o t.val t.isLt (ix2 a b) = ∑ l, f l := by
  have acc : o t.val t.isLt (ix2 a b) = 0 + ∑ s : Fin 4, part (xb ⟨4 * (t.val / 4) + s.val, Pipeline.run_point_lt_of_flush t h s⟩) (yb ⟨4 * (t.val / 4) + s.val, Pipeline.run_point_lt_of_flush t h s⟩) (ix2 a b) :=
    Pipeline.eq_sum_fin_of_reset_step_apply_of_flush o 4 (fun _ => 0) (fun t => part (xb t) (yb t)) (fun t h i => (h0 t i h).trans (zero_add _).symm) (fun t h i => h1 t i h) t h (ix2 a b)
  rw [acc, zero_add]
  simp only [part_apply]
  refine Fin.sum_mul_add_congr fun s r hl => hf _ r ⟨s.val * 2048 + r.val, hl⟩ ?_ ?_
  · show (4 * (t.val / 4) + s.val) / 4 = t.val / 4; omega
  · show s.val * 2048 + r.val = (4 * (t.val / 4) + s.val) % 4 * 2048 + r.val; omega

end Cert.Weights

/-! ## The convolution's first matrix -/

namespace Cert.Kernel22Ideal.Dpw1

open Cert.Kernel22Ideal Cert.Kernel22Ideal.Gen
open Cert.Square (X ext2 zero_block)
open Idealize.ShloMosaic Idealize.ShloMosaic.TcCoe Idealize.SL.Sem
open scoped BigOperators

/-- The gradient before the matrix. -/
abbrev Y := FVec Ideal S8192x2048 .bf16

/-- The reference's result. -/
def gradR (x : X) (y : Y) : FVec Ideal S1024x2048 .bf16 :=
  truncf .bf16 (transpose S1024x2048 [1, 0] (Host.dotGeneral (F := Ideal) Cert.Reference22Ideal.dot_S8192x2048_S8192x1024_S2048x1024_0_0_1_1_n_n none (extf .f32 y Cert.Reference22Ideal.Gen.bitsLt_bf16_f32) (extf .f32 x Cert.Reference22Ideal.Gen.bitsLt_bf16_f32)) Cert.Reference22Ideal.Gen.transposes_S2048x1024_S1024x2048_1_0) Cert.Reference22Ideal.Gen.bitsLt_bf16_f32
theorem gradR_apply (x : X) (y : Y) (a : Fin 1024) (b : Fin 2048) : gradR x y (ix2 a b) = ∑ l, x (ix2 l a) * y (ix2 l b) := by
  pointwise [gradR]
  exact Finset.sum_congr rfl fun _ _ => mul_comm _ _

/-- A run's token, and a tile's column in the whole. -/
def tok (t : Fin cfg0.N) (r : Fin 2048) : Fin 8192 := ⟨t.val % 4 * 2048 + r.val, by omega⟩
def col (t : Fin cfg0.N) (b : Fin 1024) : Fin 2048 := ⟨t.val / 4 * 1024 + b.val, by have := t.isLt; have : cfg0.N = 8 := rfl; omega⟩

theorem index0 : ∀ t : Fin cfg0.N, (cfg0.win 0).index t = ![t.val % 4, 0] := (by decide +kernel : ∀ t : Fin grid0.N, win0_0.index t = ![t.val % 4, 0])
theorem index1 : ∀ t : Fin cfg0.N, (cfg0.win 1).index t = ![t.val % 4, t.val / 4] := (by decide +kernel : ∀ t : Fin grid0.N, win0_1.index t = ![t.val % 4, t.val / 4])
theorem index2 : ∀ t : Fin cfg0.N, (cfg0.win 2).index t = ![0, t.val / 4] := (by decide +kernel : ∀ t : Fin grid0.N, win0_2.index t = ![0, t.val / 4])

theorem emb2 (t : Fin cfg0.N) (a b : Fin 1024) : ((cfg0.win 2).blk t).view.emb (ix2 a b) = ix2 a (col t b) :=
  ext2 (((cfg0.win 2).rect_emb_val t (ix2 a b) 0).trans (by rw [index2]; exact zero_block a)) (((cfg0.win 2).rect_emb_val t (ix2 a b) 1).trans (by rw [index2]; rfl))
theorem read0 (x : X) (t : Fin cfg0.N) (r : Fin 2048) (a : Fin 1024) : ((cfg0.win 0).blk t).view.read (Elt Ideal) x (ix2 r a) = x (ix2 (tok t r) a) :=
  congrArg x (ext2 (((cfg0.win 0).rect_emb_val t (ix2 r a) 0).trans (by rw [index0]; rfl)) (((cfg0.win 0).rect_emb_val t (ix2 r a) 1).trans (by rw [index0]; exact zero_block a)))
theorem read1 (y : Y) (t : Fin cfg0.N) (r : Fin 2048) (b : Fin 1024) : ((cfg0.win 1).blk t).view.read (Elt Ideal) y (ix2 r b) = y (ix2 (tok t r) (col t b)) :=
  congrArg y (ext2 (((cfg0.win 1).rect_emb_val t (ix2 r b) 0).trans (by rw [index1]; rfl)) (((cfg0.win 1).rect_emb_val t (ix2 r b) 1).trans (by rw [index1]; rfl)))

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)

/-- What the last point of a run writes out. -/
theorem block (t : Fin cfg0.N) (h : t.val % 4 = 3) (a b : Fin 1024) : (outsAt0 m c t.val t.isLt).1 (ix2 a b) = gradR (xM m c) (yM m c) (ix2 a (col t b)) := by
  have hs : (outsAt0 m c t.val t.isLt).2 (ix2 a b) = gradR (xM m c) (yM m c) (ix2 a (col t b)) := by
    rw [gradR_apply]
    refine Weights.sum_of (fun t => iblk m c 0 t) (fun t => iblk m c 1 t) (fun n h => (outsAt0 m c n h).2) _ a b (fun t i h => ?_) (fun t i h => ?_) t h fun t' r l hq hl => ?_
    · refine Eq.trans (congrFun ?_ i) (Cert.Kernel5Ideal.Dffn2.pay2_apply _ _ i)
      rw [outsAt0_A m c t h (by omega) (by omega)]
      frame_out
      rfl
    · refine Eq.trans (congrFun ?_ i) (Cert.Kernel5Ideal.Dffn2.pay3_apply _ _ _ i)
      by_cases h2 : t.val % 4 = 3
      · rw [outsAt0_C m c t h (by omega) h2]
        frame_out
        exact congrArg (k0_pay3 (F := Ideal) _ _) (Memref.IsWhole.read_unread _ _)
      · rw [outsAt0_B m c t h (by omega) h2]
        frame_out
        exact congrArg (k0_pay3 (F := Ideal) _ _) (Memref.IsWhole.read_unread _ _)
    · have ht : tok t' r = l := Fin.ext hl.symm
      have hc : col t' b = col t b := Fin.ext (by show t'.val / 4 * 1024 + b.val = t.val / 4 * 1024 + b.val; rw [hq])
      exact congrArg₂ (· * ·) ((read0 (xM m c) t' r a).trans (by rw [ht])) ((read1 (yM m c) t' r b).trans (by rw [ht, hc]))
  refine Eq.trans (congrFun ?_ _) hs
  rw [outsAt0_C m c t (by omega) (by omega) h]
  frame_out
  rfl

/-- The array at the end. -/
theorem arr2 : (dats m 0 c).arrAt 2 cfg0.N = gradR (xM m c) (yM m c) := by
  refine (dats m 0 c).arrAt_eq_of_cover 2 (gradR (xM m c) (yM m c)) (fun t hf => ?_) fun i => ?_
  · rw [Value.flushed2]
    funext y
    obtain ⟨a, b, rfl⟩ : ∃ a b : Fin 1024, y = ix2 a b := ⟨y 0, y 1, ext2 rfl rfl⟩
    exact (block m c t ((flush0_2 t).mp hf) a b).trans (congrArg (gradR (xM m c) (yM m c)) (emb2 t a b).symm)
  · have h1 : (i 1).val < 2048 := (i 1).isLt
    obtain ⟨t, ht⟩ : ∃ t : Fin cfg0.N, t.val = (i 1).val / 1024 * 4 + 3 := ⟨⟨(i 1).val / 1024 * 4 + 3, by show _ < 8; omega⟩, rfl⟩
    have h : i = ix2 (i 0) (col t ⟨(i 1).val % 1024, by omega⟩) := ext2 rfl (by show (i 1).val = t.val / 4 * 1024 + (i 1).val % 1024; omega)
    exact ⟨t, (flush0_2 t).mpr (by omega), (congrArg (· ∈ _) (h.trans (emb2 t _ _).symm)).mpr (((cfg0.win 2).blk t).view.emb_mem_set _)⟩

/-- The kernel and the reference end with equal results. -/
theorem algebraic : Cert.algebraic_Kernel22Ideal_Reference22Ideal := by
  intro m g m' g' _ hargs
  refine ⟨fun c => gradR (xM m c) (yM m c), (θ_run _ _ _).mono (fun r h c => ⟨(h c).1.trans (arr2 m c), (h c).2⟩) (Value.run_blocks m g), (θ_run _ _ _).mono (fun r h c => ⟨?_, (h c).2⟩) (Cert.Reference22Ideal.Value.run m' g')⟩
  exact (h c).1.trans (congrArg₂ gradR (hargs c).1 (hargs c).2)

/-- The reference's frame: no operation writes an argument, and the program declares no counter. -/
theorem frame_reference : Cert.quiescent_Reference22Ideal := fun m g _ =>
  (θ_run _ _ _).mono (fun r h => ⟨fun c => (h c).2, sem_eq_zero_of_no_sems (by decide) r.2⟩) (Cert.Reference22Ideal.Value.run m g)

end Cert.Kernel22Ideal.Dpw1

/-! ## The keys' and the values' matrices -/

namespace Cert.Kernel21Ideal.Dwk

open Cert.Kernel21Ideal Cert.Kernel21Ideal.Gen
open Cert.Square (X ext2 zero_block)
open Idealize.ShloMosaic Idealize.ShloMosaic.TcCoe Idealize.SL.Sem
open scoped BigOperators

/-- The gradient before the matrix, not yet rounded. -/
abbrev Y := FVec Ideal S8192x1024 .f32

/-- The reference's result. -/
def gradR (x : X) (y : Y) : FVec Ideal S1024x1024 .bf16 :=
  truncf .bf16 (transpose S1024x1024 [1, 0] (Host.dotGeneral (F := Ideal) Cert.Reference21Ideal.dot_S8192x1024_S8192x1024_S1024x1024_0_0_1_1_n_n none y (extf .f32 x Cert.Reference21Ideal.Gen.bitsLt_bf16_f32)) Cert.Reference21Ideal.Gen.transposes_S1024x1024_S1024x1024_1_0) Cert.Reference21Ideal.Gen.bitsLt_bf16_f32
theorem gradR_apply (x : X) (y : Y) (a b : Fin 1024) : gradR x y (ix2 a b) = ∑ l, x (ix2 l a) * y (ix2 l b) := by
  pointwise [gradR]
  exact Finset.sum_congr rfl fun _ _ => mul_comm _ _

theorem lt (t : Fin cfg0.N) : t.val < 4 := t.isLt
/-- A run's token. -/
def tok (t : Fin cfg0.N) (r : Fin 2048) : Fin 8192 := ⟨t.val * 2048 + r.val, by have := lt t; omega⟩

theorem index0 : ∀ t : Fin cfg0.N, (cfg0.win 0).index t = ![t.val, 0] := (by decide +kernel : ∀ t : Fin grid0.N, win0_0.index t = ![t.val, 0])
theorem index1 : ∀ t : Fin cfg0.N, (cfg0.win 1).index t = ![t.val, 0] := (by decide +kernel : ∀ t : Fin grid0.N, win0_1.index t = ![t.val, 0])
theorem index2 : ∀ t : Fin cfg0.N, (cfg0.win 2).index t = ![0, 0] := (by decide +kernel : ∀ t : Fin grid0.N, win0_2.index t = ![0, 0])

theorem emb2 (t : Fin cfg0.N) (a b : Fin 1024) : ((cfg0.win 2).blk t).view.emb (ix2 a b) = ix2 a b :=
  ext2 (((cfg0.win 2).rect_emb_val t (ix2 a b) 0).trans (by rw [index2]; exact zero_block a)) (((cfg0.win 2).rect_emb_val t (ix2 a b) 1).trans (by rw [index2]; exact zero_block b))
theorem read0 (x : X) (t : Fin cfg0.N) (r : Fin 2048) (a : Fin 1024) : ((cfg0.win 0).blk t).view.read (Elt Ideal) x (ix2 r a) = x (ix2 (tok t r) a) :=
  congrArg x (ext2 (((cfg0.win 0).rect_emb_val t (ix2 r a) 0).trans (by rw [index0]; rfl)) (((cfg0.win 0).rect_emb_val t (ix2 r a) 1).trans (by rw [index0]; exact zero_block a)))
theorem read1 (y : Y) (t : Fin cfg0.N) (r : Fin 2048) (b : Fin 1024) : ((cfg0.win 1).blk t).view.read (Elt Ideal) y (ix2 r b) = y (ix2 (tok t r) b) :=
  congrArg y (ext2 (((cfg0.win 1).rect_emb_val t (ix2 r b) 0).trans (by rw [index1]; rfl)) (((cfg0.win 1).rect_emb_val t (ix2 r b) 1).trans (by rw [index1]; exact zero_block b)))

variable (m : (ℓ : Loc nD τ sig) → Buf (Elt Ideal) ℓ) (c : Dev nD)

/-- The arguments as launched. -/
abbrev xM : X := m ((c.tc : Thread nD τ).loc main_arg0)
abbrev yM : Y := m ((c.tc : Thread nD τ).loc main_arg1)

/-- What the last point writes out. -/
theorem block (t : Fin cfg0.N) (h : t.val % 4 = 3) (a b : Fin 1024) : (outsAt0 m c t.val t.isLt).1 (ix2 a b) = gradR (xM m c) (yM m c) (ix2 a b) := by
  have hs : (outsAt0 m c t.val t.isLt).2 (ix2 a b) = gradR (xM m c) (yM m c) (ix2 a b) := by
    rw [gradR_apply]
    refine Weights.sum_of (fun t => iblk m c 0 t) (fun t => iblk m c 1 t) (fun n h => (outsAt0 m c n h).2) _ a b (fun t i h => ?_) (fun t i h => ?_) t h fun t' r l hq hl => ?_
    · refine Eq.trans (congrFun ?_ i) (Cert.Kernel5Ideal.Dffn2.pay2_apply _ _ i)
      have := lt t
      rw [outsAt0_A m c t h (by omega) (by omega)]
      frame_out
      rfl
    · refine Eq.trans (congrFun ?_ i) (Cert.Kernel5Ideal.Dffn2.pay3_apply _ _ _ i)
      by_cases h2 : t.val % 4 = 3
      · rw [outsAt0_C m c t h (by omega) h2]
        frame_out
        exact congrArg (k0_pay3 (F := Ideal) _ _) (Memref.IsWhole.read_unread _ _)
      · rw [outsAt0_B m c t h (by omega) h2]
        frame_out
        exact congrArg (k0_pay3 (F := Ideal) _ _) (Memref.IsWhole.read_unread _ _)
    · have ht : tok t' r = l := Fin.ext (by have := lt t'; show t'.val * 2048 + r.val = l.val; omega)
      exact congrArg₂ (· * ·) ((read0 (xM m c) t' r a).trans (by rw [ht])) ((read1 (yM m c) t' r b).trans (by rw [ht]))
  refine Eq.trans (congrFun ?_ _) hs
  rw [outsAt0_C m c t (by omega) (by omega) h]
  frame_out
  rfl

/-- The array at the end. -/
theorem arr2 : (dats m 0 c).arrAt 2 cfg0.N = gradR (xM m c) (yM m c) := by
  refine (dats m 0 c).arrAt_eq_of_cover 2 (gradR (xM m c) (yM m c)) (fun t hf => ?_) fun i => ?_
  · rw [Value.flushed2]
    funext y
    obtain ⟨a, b, rfl⟩ : ∃ a b : Fin 1024, y = ix2 a b := ⟨y 0, y 1, ext2 rfl rfl⟩
    exact (block m c t ((flush0_2 t).mp hf) a b).trans (congrArg (gradR (xM m c) (yM m c)) (emb2 t a b).symm)
  · have h : i = ix2 (i 0) (i 1) := ext2 rfl rfl
    exact ⟨⟨3, by decide⟩, (flush0_2 _).mpr (by decide), (congrArg (· ∈ _) (h.trans (emb2 _ _ _).symm)).mpr (((cfg0.win 2).blk _).view.emb_mem_set _)⟩

/-- The kernel and the reference end with equal results. -/
theorem algebraic : Cert.algebraic_Kernel21Ideal_Reference21Ideal := by
  intro m g m' g' _ hargs
  refine ⟨fun c => gradR (xM m c) (yM m c), (θ_run _ _ _).mono (fun r h c => ⟨(h c).1.trans (arr2 m c), (h c).2⟩) (Value.run_blocks m g), (θ_run _ _ _).mono (fun r h c => ⟨?_, (h c).2⟩) (Cert.Reference21Ideal.Value.run m' g')⟩
  exact (h c).1.trans (congrArg₂ gradR (hargs c).1 (hargs c).2)

/-- The reference's frame: no operation writes an argument, and the program declares no counter. -/
theorem frame_reference : Cert.quiescent_Reference21Ideal := fun m g _ =>
  (θ_run _ _ _).mono (fun r h => ⟨fun c => (h c).2, sem_eq_zero_of_no_sems (by decide) r.2⟩) (Cert.Reference21Ideal.Value.run m g)

end Cert.Kernel21Ideal.Dwk

end
-- ==== Proof.Dn3.lean ====
module

public import proofs.«01_k».proof.Proof.Dhn2
public import proofs.«01_k».proof.Proof.Square
public import proofs.«01_k».proof.Proof.Gen.Pre_finite23
public import proofs.«01_k».proof.Proof.Gen.Kernel23Ideal.Value
public import proofs.«01_k».proof.Proof.Gen.Reference23Ideal.Run

/-! The gradient through the gate's product and the norm before it: the same bands and the same norm as before the feed-forward
product, with a square matrix in place of the wide one. -/

@[expose] public section

set_option maxRecDepth 16384
noncomputable section

namespace Cert.Kernel23Ideal.Dn3

open Cert.Kernel23Ideal Cert.Kernel23Ideal.Gen Cert.Rms
open Idealize.ShloMosaic Idealize.ShloMosaic.TcCoe Idealize.SL.Sem
open Cert.KernelIdeal.Att (real_of_lt)
open Cert.Kernel7Ideal.Dhn2 (H G HT dxR dgR dxR_apply dgR_apply rowOf place place1)
open scoped BigOperators

/-- The gradient of the gate, the matrix, and a band of rows. -/
abbrev Z := FVec Ideal S8192x1024 .bf16
abbrev W := FVec Ideal S1024x1024 .bf16
abbrev ZT := FVec Ideal S512x1024 .bf16

/-- The reference's product, and it times the norm's scale. -/
def dotR (z : Z) (w : W) : H := Host.dotGeneral (F := Ideal) Cert.Reference23Ideal.dot_S8192x1024_S1024x1024_S8192x1024_1_1_0_0_n_n none (extf .f32 z Cert.Reference23Ideal.Gen.bitsLt_bf16_f32) (extf .f32 w Cert.Reference23Ideal.Gen.bitsLt_bf16_f32)
def prodR (z : Z) (w : W) (g : G) : H := mulf (dotR z w) (broadcastInDim Cert.Reference23Ideal.S8192x1024 ![0, 1] Cert.Reference23Ideal.Gen.bcast_S1x1024_S8192x1024_0_1 g)
theorem dotR_apply (z : Z) (w : W) (a : Fin 8192) (b : Fin 1024) : dotR z w (ix2 a b) = ∑ l, z (ix2 a l) * w (ix2 b l) := by
  pointwise [dotR]
theorem prodR_apply (z : Z) (w : W) (g : G) (a : Fin 8192) (b : Fin 1024) : prodR z w g (ix2 a b) = (∑ l, z (ix2 a l) * w (ix2 b l)) * g (ix2 0 b) := by
  pointwise [prodR, dotR]

/-- A band's inverse roots, product and scaled rows. -/
theorem rmsT_apply (x : HT) (a : Fin 512) : k0_pay3 (F := Ideal) x (ix2 a 0) = rms fun k => x (ix2 a k) := Cert.Kernel7Ideal.Dhn2.rmsT_apply x a
theorem unitT_apply (x : HT) (a : Fin 512) (b : Fin 1024) : k0_pay4 (F := Ideal) x (ix2 a b) = x (ix2 a b) * rms fun k => x (ix2 a k) := Cert.Kernel7Ideal.Dhn2.unitT_apply x a b
theorem dotT_apply (z : ZT) (w : W) (a : Fin 512) (b : Fin 1024) : k0_pay2 (F := Ideal) z w (ix2 a b) = ∑ l, z (ix2 a l) * w (ix2 b l) := by
  pointwise [k0_pay2]
/-- A band's gradient of the rows, and its part of the gradient of the scale. -/
theorem dxT_apply (z : ZT) (w : W) (x d : HT) (g : G) (a : Fin 512) (b : Fin 1024) :
    k0_pay5 (F := Ideal) z w x d g (ix2 a b) = rowK (fun k => x (ix2 a k)) (fun k => (∑ l, z (ix2 a l) * w (ix2 k l)) * g (ix2 0 k)) (fun k => d (ix2 a k)) b := by
  pointwise [k0_pay5]
  simp only [rmsT_apply, dotT_apply, unitT_apply]
  rfl
theorem dgT_apply (z : ZT) (w : W) (x : HT) (b : Fin 1024) : k0_pay6 (F := Ideal) z w x (ix2 0 b) = ∑ r, (∑ l, z (ix2 r l) * w (ix2 b l)) * (x (ix2 r b) * rms fun k => x (ix2 r k)) := by
  pointwise [k0_pay6]
  simp only [dotT_apply, unitT_apply]

theorem index0 : ∀ t : Fin cfg0.N, (cfg0.win 0).index t = ![t.val, 0] := (by decide +kernel : ∀ t : Fin grid0.N, win0_0.index t = ![t.val, 0])
theorem index1 : ∀ t : Fin cfg0.N, (cfg0.win 1).index t = ![0, 0] := (by decide +kernel : ∀ t : Fin grid0.N, win0_1.index t = ![0, 0])
theorem read0 (x : Z) (t : Fin cfg0.N) (a : Fin 512) (k : Fin 1024) : ((cfg0.win 0).blk t).view.read (Elt Ideal) x (ix2 a k) = x (ix2 (rowOf t a) k) :=
  congrArg x (Square.ext2 (((cfg0.win 0).rect_emb_val t (ix2 a k) 0).trans (by rw [index0]; rfl)) (((cfg0.win 0).rect_emb_val t (ix2 a k) 1).trans (by rw [index0]; exact Square.zero_block k)))
theorem read1 (w : W) (t : Fin cfg0.N) (b k : Fin 1024) : ((cfg0.win 1).blk t).view.read (Elt Ideal) w (ix2 b k) = w (ix2 b k) :=
  congrArg w (Square.ext2 (((cfg0.win 1).rect_emb_val t (ix2 b k) 0).trans (by rw [index1]; exact Square.zero_block b)) (((cfg0.win 1).rect_emb_val t (ix2 b k) 1).trans (by rw [index1]; exact Square.zero_block k)))
/-- The other windows are those of the feed-forward product. -/
theorem read2 (h : H) (t : Fin cfg0.N) (a : Fin 512) (b : Fin 1024) : ((cfg0.win 2).blk t).view.read (Elt Ideal) h (ix2 a b) = h (ix2 (rowOf t a) b) := Cert.Kernel7Ideal.Dhn2.read2 h t a b
theorem read3 (h : H) (t : Fin cfg0.N) (a : Fin 512) (b : Fin 1024) : ((cfg0.win 3).blk t).view.read (Elt Ideal) h (ix2 a b) = h (ix2 (rowOf t a) b) := Cert.Kernel7Ideal.Dhn2.read3 h t a b
theorem read4 (g : G) (t : Fin cfg0.N) (b : Fin 1024) : ((cfg0.win 4).blk t).view.read (Elt Ideal) g (ix2 0 b) = g (ix2 0 b) := Cert.Kernel7Ideal.Dhn2.read4 g t b
theorem emb5 (t : Fin cfg0.N) (a : Fin 512) (b : Fin 1024) : ((cfg0.win 5).blk t).view.emb (ix2 a b) = ix2 (rowOf t a) b := Cert.Kernel7Ideal.Dhn2.emb5 t a b
theorem emb6 (t : Fin cfg0.N) (a : Fin 512) (b : Fin 1024) : ((cfg0.win 6).blk t).view.emb (ix2 a b) = ix2 (rowOf t a) b := Cert.Kernel7Ideal.Dhn2.emb6 t a b
theorem emb7 (t : Fin cfg0.N) (b : Fin 1024) : ((cfg0.win 7).blk t).view.emb (ix2 0 b) = ix2 0 b := Cert.Kernel7Ideal.Dhn2.emb7 t b

variable (m : (ℓ : Loc nD τ sig) → Buf (Elt Ideal) ℓ) (c : Dev nD)

/-- The arguments as launched. -/
abbrev zM : Z := m ((c.tc : Thread nD τ).loc main_arg0)
abbrev wM : W := m ((c.tc : Thread nD τ).loc main_arg1)
abbrev xM : H := m ((c.tc : Thread nD τ).loc main_arg2)
abbrev dM : H := m ((c.tc : Thread nD τ).loc main_arg3)
abbrev gM : G := m ((c.tc : Thread nD τ).loc main_arg4)
/-- The reference's three results on them. -/
abbrev dxM : H := dxR (xM m c) (prodR (zM m c) (wM m c) (gM m c)) (dM m c)
abbrev dyM : FVec Ideal S8192x1024 .bf16 := truncf .bf16 (dxM m c) bitsLt_bf16_f32
abbrev dgM : G := dgR (xM m c) (dotR (zM m c) (wM m c))

/-- A point's gradient of its rows, and its part of the gradient of the scale. -/
abbrev dxT (t : Fin cfg0.N) : HT := k0_pay5 (F := Ideal) (iblk m c 0 t : ZT) (iblk m c 1 t : W) (iblk m c 2 t : HT) (iblk m c 3 t : HT) (iblk m c 4 t : G)
abbrev dgT (t : Fin cfg0.N) : G := k0_pay6 (F := Ideal) (iblk m c 0 t : ZT) (iblk m c 1 t : W) (iblk m c 2 t : HT)

/-- What a point leaves: its rows, and the sum so far. -/
theorem outs56 (t : Fin cfg0.N) : (outsAt0 m c t.val t.isLt).1 = dxT m c t ∧ (outsAt0 m c t.val t.isLt).2.1 = truncf .bf16 (dxT m c t) bitsLt_bf16_f32 := by
  by_cases h : t.val % 16 = 0
  · rw [outsAt0_A m c t h (by have : t.val < 16 := t.isLt; omega)]
    constructor
    · frame_out
    · frame_out
      rfl
  · rw [outsAt0_B m c t h (by omega)]
    constructor
    · frame_out
    · frame_out
      rfl
theorem outs7 (t : Fin cfg0.N) (h : t.val % 16 = 15) (i : S1x1024.Idx) : (outsAt0 m c t.val t.isLt).2.2 i = 0 + ∑ s : Fin 16, dgT m c ⟨16 * (t.val / 16) + s.val, Pipeline.run_point_lt_of_flush t h s⟩ i := by
  refine Pipeline.eq_sum_fin_of_reset_step_apply_of_flush (fun n h => (outsAt0 m c n h).2.2) 16 (fun _ => 0) (fun t => dgT m c t) (fun t h i => ?_) (fun t h i => ?_) t h i
  · rw [outsAt0_A m c t h (by have : t.val < 16 := t.isLt; omega), zero_add]
    frame_out
  · rw [outsAt0_B m c t h (by omega)]
    frame_out
    exact Cert.Kernel7Ideal.Dhn2.pay1_apply _ _ i

/-- A point's rows are the reference's, the arguments being real. -/
theorem dx_band (hz : ∀ i, zM m c i = ((zM m c i : EReal).toReal : EReal)) (hw : ∀ i, wM m c i = ((wM m c i : EReal).toReal : EReal)) (hx : ∀ i, xM m c i = ((xM m c i : EReal).toReal : EReal)) (hd : ∀ i, dM m c i = ((dM m c i : EReal).toReal : EReal)) (hg : ∀ i, gM m c i = ((gM m c i : EReal).toReal : EReal))
    (t : Fin cfg0.N) (a : Fin 512) (b : Fin 1024) : dxT m c t (ix2 a b) = dxM m c (ix2 (rowOf t a) b) := by
  refine (dxT_apply _ _ _ _ _ a b).trans (Eq.trans ?_ (dxR_apply _ _ _ _ b).symm)
  refine Eq.trans (congrFun (congr (congrArg₂ rowK (funext fun k => read2 (xM m c) t a k) (funext fun k => ?_)) (funext fun k => read3 (dM m c) t a k)) b) (row_eq_of _ (fun k => prodR (zM m c) (wM m c) (gM m c) (ix2 (rowOf t a) k)) _ ⟨_, fun k => hx _⟩ ?_ ⟨_, fun k => hd _⟩ b)
  · refine Eq.trans ?_ (prodR_apply _ _ _ _ k).symm
    exact congrArg₂ (· * ·) (Finset.sum_congr rfl fun l _ => congrArg₂ (· * ·) (read0 (zM m c) t a l) (read1 (wM m c) t k l)) (read4 (gM m c) t k)
  · obtain ⟨r, hr⟩ := prod_real (z := fun l => zM m c (ix2 (rowOf t a) l)) (w := fun k l => wM m c (ix2 k l)) (g := fun k => gM m c (ix2 0 k)) (fun l => hz _) (fun k l => hw _) (fun k => hg _)
    exact ⟨r, fun k => (prodR_apply _ _ _ _ k).trans (hr k)⟩
/-- The points' parts make the reference's sum. -/
theorem dg_band (t : Fin cfg0.N) (h : t.val % 16 = 15) (b : Fin 1024) : (outsAt0 m c t.val t.isLt).2.2 (ix2 0 b) = dgM m c (ix2 0 b) := by
  rw [outs7 m c t h, zero_add]
  refine Eq.trans ?_ (dgR_apply _ _ b).symm
  simp only [dgT_apply]
  refine Fin.sum_mul_add_congr fun s r hl => ?_
  have e : rowOf ⟨16 * (t.val / 16) + s.val, Pipeline.run_point_lt_of_flush t h s⟩ r = ⟨s.val * 512 + r.val, hl⟩ := Fin.ext (by have : t.val < 16 := t.isLt; show (16 * (t.val / 16) + s.val) * 512 + r.val = s.val * 512 + r.val; omega)
  rw [dotR_apply, ← e]
  exact congrArg₂ (· * ·) (Finset.sum_congr rfl fun l _ => congrArg₂ (· * ·) (read0 (zM m c) _ r l) (read1 (wM m c) _ b l)) (congrArg₂ (· * ·) (read2 (xM m c) _ r b) (congrArg rms (funext fun k => read2 (xM m c) _ r k)))

theorem arr5 (h : ∀ t a b, dxT m c t (ix2 a b) = dxM m c (ix2 (rowOf t a) b)) : (dats m 0 c).arrAt 5 cfg0.N = dxM m c := by
  refine (dats m 0 c).arrAt_eq_of_cover 5 (dxM m c) (fun t _ => ?_) fun i => ?_
  · rw [Value.flushed5]
    funext y
    obtain ⟨a, b, rfl⟩ : ∃ (a : Fin 512) (b : Fin 1024), y = ix2 a b := ⟨y 0, y 1, Square.ext2 rfl rfl⟩
    show (outsAt0 m c t.val t.isLt).1 (ix2 a b) = dxM m c (((cfg0.win 5).blk t).view.emb (ix2 a b))
    rw [emb5, (outs56 m c t).1]
    exact h t a b
  · obtain ⟨t, a, b, rfl⟩ := place i
    exact ⟨t, flush0_5 t, emb5 t a b ▸ ((cfg0.win 5).blk t).view.emb_mem_set _⟩
theorem arr6 (h : ∀ t a b, dxT m c t (ix2 a b) = dxM m c (ix2 (rowOf t a) b)) : (dats m 0 c).arrAt 6 cfg0.N = dyM m c := by
  refine (dats m 0 c).arrAt_eq_of_cover 6 (dyM m c) (fun t _ => ?_) fun i => ?_
  · rw [Value.flushed6]
    funext y
    obtain ⟨a, b, rfl⟩ : ∃ (a : Fin 512) (b : Fin 1024), y = ix2 a b := ⟨y 0, y 1, Square.ext2 rfl rfl⟩
    show (outsAt0 m c t.val t.isLt).2.1 (ix2 a b) = dyM m c (((cfg0.win 6).blk t).view.emb (ix2 a b))
    rw [emb6, (outs56 m c t).2]
    exact h t a b
  · obtain ⟨t, a, b, rfl⟩ := place i
    exact ⟨t, flush0_6 t, emb6 t a b ▸ ((cfg0.win 6).blk t).view.emb_mem_set _⟩
theorem arr7 : (dats m 0 c).arrAt 7 cfg0.N = dgM m c := by
  refine (dats m 0 c).arrAt_eq_of_cover 7 (dgM m c) (fun t hf => ?_) fun i => ?_
  · rw [Value.flushed7]
    funext y
    obtain ⟨b, rfl⟩ := place1 y
    show (outsAt0 m c t.val t.isLt).2.2 (ix2 0 b) = dgM m c (((cfg0.win 7).blk t).view.emb (ix2 0 b))
    rw [emb7]
    exact dg_band m c t ((flush0_7 t).mp hf) b
  · obtain ⟨b, rfl⟩ := place1 i
    exact ⟨⟨15, by show _ < 16; omega⟩, (flush0_7 _).mpr rfl, emb7 ⟨15, by show _ < 16; omega⟩ b ▸ ((cfg0.win 7).blk _).view.emb_mem_set _⟩

/-- The kernel and the reference end with equal results. -/
theorem algebraic : Cert.algebraic_Kernel23Ideal_Reference23Ideal_pre_finite23 := by
  intro m g m' g' hpre hargs
  refine ⟨fun c => dxM m c, fun c => dyM m c, fun c => dgM m c, ?_, ?_⟩
  · refine (θ_run _ _ _).mono (fun r h c => ?_) (Value.run_blocks m g)
    have hb := dx_band m c (fun i => real_of_lt (congrFun (hpre c).1 i)) (fun i => real_of_lt (congrFun (hpre c).2.1 i)) (fun i => real_of_lt (congrFun (hpre c).2.2.1 i)) (fun i => real_of_lt (congrFun (hpre c).2.2.2.1 i)) (fun i => real_of_lt (congrFun (hpre c).2.2.2.2 i))
    exact ⟨(h c).1.trans (arr5 m c hb), (h c).2.1.trans (arr6 m c hb), (h c).2.2.1.trans (arr7 m c), (h c).2.2.2⟩
  · refine (θ_run _ _ _).mono (fun r h c => ?_) (Cert.Reference23Ideal.Value.run m' g')
    obtain ⟨h0, h1, h2, ha⟩ := h c
    have e0 : m' ((c.tc : Thread Cert.Reference23Ideal.nD Cert.Reference23Ideal.τ).loc Cert.Reference23Ideal.main_arg0) = zM m c := (hargs c).1
    have e1 : m' ((c.tc : Thread Cert.Reference23Ideal.nD Cert.Reference23Ideal.τ).loc Cert.Reference23Ideal.main_arg1) = wM m c := (hargs c).2.1
    have e2 : m' ((c.tc : Thread Cert.Reference23Ideal.nD Cert.Reference23Ideal.τ).loc Cert.Reference23Ideal.main_arg2) = xM m c := (hargs c).2.2.1
    have e3 : m' ((c.tc : Thread Cert.Reference23Ideal.nD Cert.Reference23Ideal.τ).loc Cert.Reference23Ideal.main_arg3) = dM m c := (hargs c).2.2.2.1
    have e4 : m' ((c.tc : Thread Cert.Reference23Ideal.nD Cert.Reference23Ideal.τ).loc Cert.Reference23Ideal.main_arg4) = gM m c := (hargs c).2.2.2.2
    rw [e2, e0, e1] at h2
    unfold Cert.Reference23Ideal.Value.res_main_v38 at h0
    rw [e0, e1, e2, e3, e4] at h0
    unfold Cert.Reference23Ideal.Value.res_main_v39 at h1
    rw [e0, e1, e2, e3, e4] at h1
    exact ⟨h0, h1, h2, ha⟩

/-- The reference's frame: no operation writes an argument, and the program declares no counter. -/
theorem frame_reference : Cert.quiescent_Reference23Ideal := fun m g _ =>
  (θ_run _ _ _).mono (fun r h => ⟨fun c => (h c).2.2.2, sem_eq_zero_of_no_sems (by decide) r.2⟩) (Cert.Reference23Ideal.Value.run m g)
theorem frame_reference_pre : Cert.quiescent_Reference23Ideal_pre_finite23 := fun m g _ =>
  (θ_run _ _ _).mono (fun r h => ⟨fun c => (h c).2.2.2, sem_eq_zero_of_no_sems (by decide) r.2⟩) (Cert.Reference23Ideal.Value.run m g)

end Cert.Kernel23Ideal.Dn3

end
-- ==== Proof.lean ====
module

public import proofs.«01_k».proof.Proof.Frames
public import proofs.«01_k».proof.Proof.Value
public import proofs.«01_k».proof.Proof.Dz
public import proofs.«01_k».proof.Proof.Gen.Kernel2.Frame
public import proofs.«01_k».proof.Proof.Ffn1
public import proofs.«01_k».proof.Proof.Gen.Kernel3.Frame
public import proofs.«01_k».proof.Proof.Ffn2
public import proofs.«01_k».proof.Proof.Gen.Kernel4.Frame
public import proofs.«01_k».proof.Proof.Dffn2
public import proofs.«01_k».proof.Proof.Gen.Kernel5.Frame
public import proofs.«01_k».proof.Proof.Dffn1
public import proofs.«01_k».proof.Proof.Gen.Kernel6.Frame
public import proofs.«01_k».proof.Proof.Dhn2
public import proofs.«01_k».proof.Proof.Gen.Kernel7.Frame
public import proofs.«01_k».proof.Proof.Dhn2Bias
public import proofs.«01_k».proof.Proof.Gen.Kernel8.Frame
public import proofs.«01_k».proof.Proof.Dffn2Layers
public import proofs.«01_k».proof.Proof.Dffn1Layers
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Square
public import proofs.«01_k».proof.Proof.Wide
public import proofs.«01_k».proof.Proof.Weights
public import proofs.«01_k».proof.Proof.Dn3
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame

/-! The claim, put together. -/

@[expose] public section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Pre_finite.Gen.facts, Cert.Pre_finite7.Gen.facts, Cert.Pre_finite23.Gen.facts,
  Cert.Att.frame_kernel, Cert.Att.frame_ideal, fun m g _ => Cert.Att.frame_ideal m g trivial,
  Cert.Att.frame_reference, fun m g _ => Cert.Att.frame_reference m g trivial,
  fun m g _ => Cert.Kernel2.Gen.frame m g, fun m g _ => Cert.Kernel2Ideal.Gen.frame m g, Cert.Kernel2Ideal.Dz.frame_reference,
  fun m g _ => Cert.Kernel3.Gen.frame m g, fun m g _ => Cert.Kernel3Ideal.Gen.frame m g, Cert.Kernel3Ideal.Ffn1.frame_reference,
  fun m g _ => Cert.Kernel4.Gen.frame m g, fun m g _ => Cert.Kernel4Ideal.Gen.frame m g, Cert.Kernel4Ideal.Ffn2.frame_reference,
  fun m g _ => Cert.Kernel5.Gen.frame m g, fun m g _ => Cert.Kernel5Ideal.Gen.frame m g, Cert.Kernel5Ideal.Dffn2.frame_reference,
  fun m g _ => Cert.Kernel6.Gen.frame m g, fun m g _ => Cert.Kernel6Ideal.Gen.frame m g, Cert.Kernel6Ideal.Dffn1.frame_reference,
  fun m g _ => Cert.Kernel7.Gen.frame m g, fun m g _ => Cert.Kernel7Ideal.Gen.frame m g, fun m g _ => Cert.Kernel7Ideal.Gen.frame m g,
  Cert.Kernel7Ideal.Dhn2.frame_reference, Cert.Kernel7Ideal.Dhn2.frame_reference_pre,
  fun m g _ => Cert.Kernel8.Gen.frame m g, fun m g _ => Cert.Kernel8Ideal.Gen.frame m g, fun m g _ => Cert.Kernel8Ideal.Gen.frame m g,
  Cert.Kernel8Ideal.Dhn2Bias.frame_reference, Cert.Kernel8Ideal.Dhn2Bias.frame_reference_pre,
  fun m g _ => Cert.Kernel9.Gen.frame m g, fun m g _ => Cert.Kernel9Ideal.Gen.frame m g, Cert.Kernel9Ideal.Dffn2.frame_reference,
  fun m g _ => Cert.Kernel10.Gen.frame m g, fun m g _ => Cert.Kernel10Ideal.Gen.frame m g, Cert.Kernel10Ideal.Dffn1.frame_reference,
  fun m g _ => Cert.Kernel11.Gen.frame m g, fun m g _ => Cert.Kernel11Ideal.Gen.frame m g, Cert.Kernel11Ideal.Dffn2.frame_reference,
  fun m g _ => Cert.Kernel12.Gen.frame m g, fun m g _ => Cert.Kernel12Ideal.Gen.frame m g, Cert.Kernel12Ideal.Dffn1.frame_reference,
  fun m g _ => Cert.Kernel13.Gen.frame m g, fun m g _ => Cert.Kernel13Ideal.Gen.frame m g, Cert.Kernel13Ideal.Dffn2.frame_reference,
  fun m g _ => Cert.Kernel14.Gen.frame m g, fun m g _ => Cert.Kernel14Ideal.Gen.frame m g, Cert.Kernel14Ideal.Dffn1.frame_reference,
  fun m g _ => Cert.Kernel15.Gen.frame m g, fun m g _ => Cert.Kernel15Ideal.Gen.frame m g, Cert.Kernel15Ideal.Gate.frame_reference,
  fun m g _ => Cert.Kernel16.Gen.frame m g, fun m g _ => Cert.Kernel16Ideal.Gen.frame m g, Cert.Kernel16Ideal.Query.frame_reference,
  fun m g _ => Cert.Kernel17.Gen.frame m g, fun m g _ => Cert.Kernel17Ideal.Gen.frame m g, Cert.Kernel17Ideal.Kv.frame_reference,
  fun m g _ => Cert.Kernel18.Gen.frame m g, fun m g _ => Cert.Kernel18Ideal.Gen.frame m g, Cert.Kernel18Ideal.Pw1.frame_reference,
  fun m g _ => Cert.Kernel19.Gen.frame m g, fun m g _ => Cert.Kernel19Ideal.Gen.frame m g, Cert.Kernel19Ideal.Do.frame_reference,
  fun m g _ => Cert.Kernel20.Gen.frame m g, fun m g _ => Cert.Kernel20Ideal.Gen.frame m g, Cert.Kernel20Ideal.Dsw.frame_reference,
  fun m g _ => Cert.Kernel21.Gen.frame m g, fun m g _ => Cert.Kernel21Ideal.Gen.frame m g, Cert.Kernel21Ideal.Dwk.frame_reference,
  fun m g _ => Cert.Kernel22.Gen.frame m g, fun m g _ => Cert.Kernel22Ideal.Gen.frame m g, Cert.Kernel22Ideal.Dpw1.frame_reference,
  fun m g _ => Cert.Kernel23.Gen.frame m g, fun m g _ => Cert.Kernel23Ideal.Gen.frame m g, fun m g _ => Cert.Kernel23Ideal.Gen.frame m g,
  Cert.Kernel23Ideal.Dn3.frame_reference, Cert.Kernel23Ideal.Dn3.frame_reference_pre,
  Cert.Att.preserves, Cert.KernelIdeal.Att.algebraic, trivial, Cert.Kernel2Ideal.Dz.algebraic,
  trivial, Cert.Kernel3Ideal.Ffn1.algebraic, trivial, Cert.Kernel4Ideal.Ffn2.algebraic,
  trivial, Cert.Kernel5Ideal.Dffn2.algebraic, trivial, Cert.Kernel6Ideal.Dffn1.algebraic,
  trivial, Cert.Kernel7Ideal.Dhn2.algebraic, trivial, Cert.Kernel8Ideal.Dhn2Bias.algebraic,
  trivial, Cert.Kernel9Ideal.Dffn2.algebraic, trivial, Cert.Kernel10Ideal.Dffn1.algebraic,
  trivial, Cert.Kernel11Ideal.Dffn2.algebraic, trivial, Cert.Kernel12Ideal.Dffn1.algebraic,
  trivial, Cert.Kernel13Ideal.Dffn2.algebraic, trivial, Cert.Kernel14Ideal.Dffn1.algebraic,
  trivial, Cert.Kernel15Ideal.Gate.algebraic, trivial, Cert.Kernel16Ideal.Query.algebraic,
  trivial, Cert.Kernel17Ideal.Kv.algebraic, trivial, Cert.Kernel18Ideal.Pw1.algebraic,
  trivial, Cert.Kernel19Ideal.Do.algebraic, trivial, Cert.Kernel20Ideal.Dsw.algebraic,
  trivial, Cert.Kernel21Ideal.Dwk.algebraic, trivial, Cert.Kernel22Ideal.Dpw1.algebraic,
  trivial, Cert.Kernel23Ideal.Dn3.algebraic⟩

end Cert.Proof

end
